-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v113)) (v1 : (c : Dev Cert.KernelIdeal.nD) → Buf (Elt Ideal) ((c.tc : Thread Cert.KernelIdeal.nD Cert.KernelIdeal.τ).loc Cert.KernelIdeal.main_v115)) (v2 : (c : Dev Cert.KernelIdeal.nD) → Buf (Elt Ideal) ((c.tc : Thread Cert.KernelIdeal.nD Cert.KernelIdeal.τ).loc Cert.KernelIdeal.main_v116)) (v3 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_v115) = v1 c
          ∧ r.2.mem ((c.tc : Thread Cert.KernelIdeal.nD Cert.KernelIdeal.τ).loc Cert.KernelIdeal.main_v116) = v2 c
          ∧ r.2.mem ((c.tc : Thread Cert.KernelIdeal.nD Cert.KernelIdeal.τ).loc Cert.KernelIdeal.main_v114) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x128 : Shape := ⟨2, ![512, 128]⟩
abbrev S64x128 : Shape := ⟨2, ![64, 128]⟩
abbrev S64 : Shape := ⟨1, ![64]⟩
abbrev S32x128 : Shape := ⟨2, ![32, 128]⟩
abbrev S32 : Shape := ⟨1, ![32]⟩
abbrev S2x32 : Shape := ⟨2, ![2, 32]⟩
abbrev S2 : Shape := ⟨1, ![2]⟩
abbrev S64x64 : Shape := ⟨2, ![64, 64]⟩
abbrev S1x64 : Shape := ⟨2, ![1, 64]⟩
abbrev S1 : Shape := ⟨1, ![1]⟩
abbrev S2x64 : Shape := ⟨2, ![2, 64]⟩
abbrev S1x2 : Shape := ⟨2, ![1, 2]⟩
abbrev S_ : Shape := ⟨0, ![]⟩
abbrev S2x1 : Shape := ⟨2, ![2, 1]⟩
abbrev S2x2 : Shape := ⟨2, ![2, 2]⟩
abbrev S1x1 : Shape := ⟨2, ![1, 1]⟩
abbrev S261632x2 : Shape := ⟨2, ![261632, 2]⟩
abbrev S261632x1 : Shape := ⟨2, ![261632, 1]⟩
abbrev S261632 : Shape := ⟨1, ![261632]⟩
abbrev S511x1 : Shape := ⟨2, ![511, 1]⟩
abbrev S511x512 : Shape := ⟨2, ![511, 512]⟩
abbrev S511x513 : Shape := ⟨2, ![511, 513]⟩
abbrev S262143 : Shape := ⟨1, ![262143]⟩
abbrev S262144 : Shape := ⟨1, ![262144]⟩
abbrev S512x512 : Shape := ⟨2, ![512, 512]⟩
abbrev S1x32 : Shape := ⟨2, ![1, 32]⟩
abbrev S64x1x64x1 : Shape := ⟨4, ![64, 1, 64, 1]⟩
abbrev S1x1x1x32 : Shape := ⟨4, ![1, 1, 1, 32]⟩
abbrev S64x1x64x32 : Shape := ⟨4, ![64, 1, 64, 32]⟩
abbrev S64x2048 : Shape := ⟨2, ![64, 2048]⟩
abbrev S128x2048 : Shape := ⟨2, ![128, 2048]⟩
abbrev S125x64 : Shape := ⟨2, ![125, 64]⟩
abbrev S128x64 : Shape := ⟨2, ![128, 64]⟩
abbrev S125 : Shape := ⟨1, ![125]⟩
abbrev S128 : Shape := ⟨1, ![128]⟩
abbrev S128x512 : Shape := ⟨2, ![128, 512]⟩
abbrev S64x1 : Shape := ⟨2, ![64, 1]⟩
abbrev S32x64 : Shape := ⟨2, ![32, 64]⟩
abbrev S64x32 : Shape := ⟨2, ![64, 32]⟩
abbrev S1x128 : Shape := ⟨2, ![1, 128]⟩
abbrev S512x64 : Shape := ⟨2, ![512, 64]⟩
abbrev S64x512 : Shape := ⟨2, ![64, 512]⟩
abbrev S512x32 : Shape := ⟨2, ![512, 32]⟩
abbrev S32x512 : Shape := ⟨2, ![32, 512]⟩
abbrev S64x32x1 : Shape := ⟨3, ![64, 32, 1]⟩
abbrev S1x32x512 : Shape := ⟨3, ![1, 32, 512]⟩
abbrev S64x32x512 : Shape := ⟨3, ![64, 32, 512]⟩
abbrev S2048x512 : Shape := ⟨2, ![2048, 512]⟩
abbrev S512x2 : Shape := ⟨2, ![512, 2]⟩
abbrev S1x512x2 : Shape := ⟨3, ![1, 512, 2]⟩
abbrev S512x1 : Shape := ⟨2, ![512, 1]⟩

abbrev nBuf : Space → Nat
  | .hbm => 938
  | .vmem => 33
  | .smem => 0
  | _ => 0

abbrev hbmTy0_0 (i : Nat) : BufTy := match i % 128 with
  | 0 => ⟨S512x128, .f32⟩
  | 1 => ⟨S64x128, .f32⟩
  | 2 => ⟨S64, .f32⟩
  | 3 => ⟨S32x128, .f32⟩
  | 4 => ⟨S32, .f32⟩
  | 5 => ⟨S2x32, .f32⟩
  | 6 => ⟨S2, .f32⟩
  | 7 => ⟨S32x128, .f32⟩
  | 8 => ⟨S32, .f32⟩
  | 9 => ⟨S2x32, .f32⟩
  | 10 => ⟨S2, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S1x64, .f32⟩
  | 20 => ⟨S1, .f32⟩
  | 21 => ⟨S2x64, .f32⟩
  | 22 => ⟨S2, .f32⟩
  | 23 => ⟨S1x2, .f32⟩
  | 24 => ⟨S_, .i32⟩
  | 25 => ⟨S_, .i32⟩
  | 26 => ⟨S_, .i32⟩
  | 27 => ⟨S_, .i32⟩
  | 28 => ⟨S1, .i32⟩
  | 29 => ⟨S_, .i32⟩
  | 30 => ⟨S_, .i32⟩
  | 31 => ⟨S_, .i32⟩
  | 32 => ⟨S1, .i32⟩
  | 33 => ⟨S2, .i32⟩
  | 34 => ⟨S1, .i32⟩
  | 35 => ⟨S_, .i32⟩
  | 36 => ⟨S1, .i32⟩
  | 37 => ⟨S_, .i32⟩
  | 38 => ⟨S2, .i64⟩
  | 39 => ⟨S_, .i64⟩
  | 40 => ⟨S2, .i64⟩
  | 41 => ⟨S2, .i64⟩
  | 42 => ⟨S_, .i64⟩
  | 43 => ⟨S2, .i64⟩
  | 44 => ⟨S2, .i64⟩
  | 45 => ⟨S2, .i32⟩
  | 46 => ⟨S2, .i32⟩
  | 47 => ⟨S_, .i32⟩
  | 48 => ⟨S_, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S512x128, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S512x128, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2x1, .i32⟩
  | 14 => ⟨S2x1, .i32⟩
  | 15 => ⟨S2x2, .i32⟩
  | 16 => ⟨S1x2, .i32⟩
  | 17 => ⟨S2, .i32⟩
  | 18 => ⟨S1x2, .i32⟩
  | 19 => ⟨S2, .i32⟩
  | 20 => ⟨S_, .f32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S261632x2, .i64⟩
  | 31 => ⟨S261632x2, .i64⟩
  | 32 => ⟨S_, .i64⟩
  | 33 => ⟨S261632x2, .i64⟩
  | 34 => ⟨S261632x2, .i64⟩
  | 35 => ⟨S_, .i64⟩
  | 36 => ⟨S261632x2, .i64⟩
  | 37 => ⟨S261632x2, .i64⟩
  | 38 => ⟨S261632x2, .i64⟩
  | 39 => ⟨S_, .i64⟩
  | 40 => ⟨S261632x2, .i64⟩
  | 41 => ⟨S261632x2, .i64⟩
  | 42 => ⟨S261632x2, .i32⟩
  | 43 => ⟨S261632x2, .i32⟩
  | 44 => ⟨S_, .i32⟩
  | 45 => ⟨S_, .i32⟩
  | 46 => ⟨S_, .i32⟩
  | 47 => ⟨S261632x2, .i32⟩
  | 48 => ⟨S261632x2, .i32⟩
  | 49 => ⟨S261632x2, .i32⟩
  | 50 => ⟨S261632x2, .i32⟩
  | 51 => ⟨S261632x2, .i32⟩
  | 52 => ⟨S_, .i32⟩
  | 53 => ⟨S261632x2, .i32⟩
  | 54 => ⟨S261632x2, .i32⟩
  | 55 => ⟨S_, .i32⟩
  | 56 => ⟨S261632x2, .i32⟩
  | 57 => ⟨S261632x2, .i32⟩
  | 58 => ⟨S261632x2, .i32⟩
  | 59 => ⟨S261632x2, .i32⟩
  | 60 => ⟨S261632x2, .i32⟩
  | 61 => ⟨S_, .i32⟩
  | 62 => ⟨S261632x2, .i32⟩
  | 63 => ⟨S261632x2, .i32⟩
  | 64 => ⟨S_, .i32⟩
  | 65 => ⟨S261632x2, .i32⟩
  | 66 => ⟨S261632x2, .i32⟩
  | 67 => ⟨S261632x2, .i32⟩
  | 68 => ⟨S261632x2, .i32⟩
  | 69 => ⟨S261632x2, .i32⟩
  | 70 => ⟨S_, .i32⟩
  | 71 => ⟨S261632x2, .i32⟩
  | 72 => ⟨S261632x2, .i32⟩
  | 73 => ⟨S_, .i32⟩
  | 74 => ⟨S261632x2, .i32⟩
  | 75 => ⟨S261632x2, .i32⟩
  | 76 => ⟨S261632x2, .i32⟩
  | 77 => ⟨S261632x2, .i32⟩
  | 78 => ⟨S261632x2, .i32⟩
  | 79 => ⟨S_, .i32⟩
  | 80 => ⟨S261632x2, .i32⟩
  | 81 => ⟨S261632x2, .i32⟩
  | 82 => ⟨S_, .i32⟩
  | 83 => ⟨S261632x2, .i32⟩
  | 84 => ⟨S261632x2, .i32⟩
  | 85 => ⟨S261632x2, .i32⟩
  | 86 => ⟨S261632x2, .i32⟩
  | 87 => ⟨S261632x2, .i32⟩
  | 88 => ⟨S261632x2, .i32⟩
  | 89 => ⟨S261632x2, .i32⟩
  | 90 => ⟨S261632x2, .i32⟩
  | 91 => ⟨S_, .i32⟩
  | 92 => ⟨S261632x2, .i32⟩
  | 93 => ⟨S261632x2, .i32⟩
  | 94 => ⟨S261632x2, .i32⟩
  | 95 => ⟨S_, .i32⟩
  | 96 => ⟨S261632x2, .i32⟩
  | 97 => ⟨S261632x2, .i32⟩
  | 98 => ⟨S_, .i32⟩
  | 99 => ⟨S261632x2, .i32⟩
  | 100 => ⟨S261632x2, .i32⟩
  | 101 => ⟨S261632x2, .i32⟩
  | 102 => ⟨S261632x2, .i32⟩
  | 103 => ⟨S261632x2, .i32⟩
  | 104 => ⟨S_, .i32⟩
  | 105 => ⟨S261632x2, .i32⟩
  | 106 => ⟨S261632x2, .i32⟩
  | 107 => ⟨S_, .i32⟩
  | 108 => ⟨S261632x2, .i32⟩
  | 109 => ⟨S261632x2, .i32⟩
  | 110 => ⟨S261632x2, .i32⟩
  | 111 => ⟨S261632x2, .i32⟩
  | 112 => ⟨S261632x2, .i32⟩
  | 113 => ⟨S_, .i32⟩
  | 114 => ⟨S261632x2, .i32⟩
  | 115 => ⟨S261632x2, .i32⟩
  | 116 => ⟨S_, .i32⟩
  | 117 => ⟨S261632x2, .i32⟩
  | 118 => ⟨S261632x2, .i32⟩
  | 119 => ⟨S261632x2, .i32⟩
  | 120 => ⟨S261632x2, .i32⟩
  | 121 => ⟨S261632x2, .i32⟩
  | 122 => ⟨S_, .i32⟩
  | 123 => ⟨S261632x2, .i32⟩
  | 124 => ⟨S261632x2, .i32⟩
  | 125 => ⟨S_, .i32⟩
  | 126 => ⟨S261632x2, .i32⟩
  | 127 => ⟨S261632x2, .i32⟩
  | _ => ⟨S512x128, .f32⟩

abbrev hbmTy0_3 (i : Nat) : BufTy := match i % 128 with
  | 0 => ⟨S261632x2, .i32⟩
  | 1 => ⟨S261632x2, .i32⟩
  | 2 => ⟨S261632x2, .i32⟩
  | 3 => ⟨S261632x2, .i32⟩
  | 4 => ⟨S261632x2, .i32⟩
  | 5 => ⟨S261632x2, .i32⟩
  | 6 => ⟨S_, .i32⟩
  | 7 => ⟨S261632x2, .i32⟩
  | 8 => ⟨S261632x2, .i32⟩
  | 9 => ⟨S261632x2, .i32⟩
  | 10 => ⟨S_, .i32⟩
  | 11 => ⟨S261632x2, .i32⟩
  | 12 => ⟨S261632x2, .i32⟩
  | 13 => ⟨S_, .i32⟩
  | 14 => ⟨S261632x2, .i32⟩
  | 15 => ⟨S261632x2, .i32⟩
  | 16 => ⟨S261632x2, .i32⟩
  | 17 => ⟨S261632x2, .i32⟩
  | 18 => ⟨S261632x2, .i32⟩
  | 19 => ⟨S_, .i32⟩
  | 20 => ⟨S261632x2, .i32⟩
  | 21 => ⟨S261632x2, .i32⟩
  | 22 => ⟨S_, .i32⟩
  | 23 => ⟨S261632x2, .i32⟩
  | 24 => ⟨S261632x2, .i32⟩
  | 25 => ⟨S261632x2, .i32⟩
  | 26 => ⟨S261632x2, .i32⟩
  | 27 => ⟨S261632x2, .i32⟩
  | 28 => ⟨S_, .i32⟩
  | 29 => ⟨S261632x2, .i32⟩
  | 30 => ⟨S261632x2, .i32⟩
  | 31 => ⟨S_, .i32⟩
  | 32 => ⟨S261632x2, .i32⟩
  | 33 => ⟨S261632x2, .i32⟩
  | 34 => ⟨S261632x2, .i32⟩
  | 35 => ⟨S261632x2, .i32⟩
  | 36 => ⟨S261632x2, .i32⟩
  | 37 => ⟨S_, .i32⟩
  | 38 => ⟨S261632x2, .i32⟩
  | 39 => ⟨S261632x2, .i32⟩
  | 40 => ⟨S_, .i32⟩
  | 41 => ⟨S261632x2, .i32⟩
  | 42 => ⟨S261632x2, .i32⟩
  | 43 => ⟨S261632x2, .i32⟩
  | 44 => ⟨S261632x2, .i32⟩
  | 45 => ⟨S261632x2, .i32⟩
  | 46 => ⟨S261632x2, .i32⟩
  | 47 => ⟨S261632x2, .i32⟩
  | 48 => ⟨S261632x2, .i32⟩
  | 49 => ⟨S_, .i32⟩
  | 50 => ⟨S261632x2, .i32⟩
  | 51 => ⟨S261632x2, .i32⟩
  | 52 => ⟨S261632x2, .i32⟩
  | 53 => ⟨S_, .i32⟩
  | 54 => ⟨S261632x2, .i32⟩
  | 55 => ⟨S261632x2, .i32⟩
  | 56 => ⟨S_, .i32⟩
  | 57 => ⟨S261632x2, .i32⟩
  | 58 => ⟨S261632x2, .i32⟩
  | 59 => ⟨S261632x2, .i32⟩
  | 60 => ⟨S261632x2, .i32⟩
  | 61 => ⟨S261632x2, .i32⟩
  | 62 => ⟨S_, .i32⟩
  | 63 => ⟨S261632x2, .i32⟩
  | 64 => ⟨S261632x2, .i32⟩
  | 65 => ⟨S_, .i32⟩
  | 66 => ⟨S261632x2, .i32⟩
  | 67 => ⟨S261632x2, .i32⟩
  | 68 => ⟨S261632x2, .i32⟩
  | 69 => ⟨S261632x2, .i32⟩
  | 70 => ⟨S261632x2, .i32⟩
  | 71 => ⟨S_, .i32⟩
  | 72 => ⟨S261632x2, .i32⟩
  | 73 => ⟨S261632x2, .i32⟩
  | 74 => ⟨S_, .i32⟩
  | 75 => ⟨S261632x2, .i32⟩
  | 76 => ⟨S261632x2, .i32⟩
  | 77 => ⟨S261632x2, .i32⟩
  | 78 => ⟨S261632x2, .i32⟩
  | 79 => ⟨S261632x2, .i32⟩
  | 80 => ⟨S_, .i32⟩
  | 81 => ⟨S261632x2, .i32⟩
  | 82 => ⟨S261632x2, .i32⟩
  | 83 => ⟨S_, .i32⟩
  | 84 => ⟨S261632x2, .i32⟩
  | 85 => ⟨S261632x2, .i32⟩
  | 86 => ⟨S261632x2, .i32⟩
  | 87 => ⟨S261632x2, .i32⟩
  | 88 => ⟨S261632x2, .i32⟩
  | 89 => ⟨S261632x2, .i32⟩
  | 90 => ⟨S261632x2, .i32⟩
  | 91 => ⟨S261632x2, .i32⟩
  | 92 => ⟨S_, .i32⟩
  | 93 => ⟨S261632x2, .i32⟩
  | 94 => ⟨S261632x2, .i32⟩
  | 95 => ⟨S261632x2, .i32⟩
  | 96 => ⟨S_, .i32⟩
  | 97 => ⟨S261632x2, .i32⟩
  | 98 => ⟨S261632x2, .i32⟩
  | 99 => ⟨S_, .i32⟩
  | 100 => ⟨S261632x2, .i32⟩
  | 101 => ⟨S261632x2, .i32⟩
  | 102 => ⟨S261632x2, .i32⟩
  | 103 => ⟨S261632x2, .i32⟩
  | 104 => ⟨S261632x2, .i32⟩
  | 105 => ⟨S_, .i32⟩
  | 106 => ⟨S261632x2, .i32⟩
  | 107 => ⟨S261632x2, .i32⟩
  | 108 => ⟨S_, .i32⟩
  | 109 => ⟨S261632x2, .i32⟩
  | 110 => ⟨S261632x2, .i32⟩
  | 111 => ⟨S261632x2, .i32⟩
  | 112 => ⟨S261632x2, .i32⟩
  | 113 => ⟨S261632x2, .i32⟩
  | 114 => ⟨S_, .i32⟩
  | 115 => ⟨S261632x2, .i32⟩
  | 116 => ⟨S261632x2, .i32⟩
  | 117 => ⟨S_, .i32⟩
  | 118 => ⟨S261632x2, .i32⟩
  | 119 => ⟨S261632x2, .i32⟩
  | 120 => ⟨S261632x2, .i32⟩
  | 121 => ⟨S261632x2, .i32⟩
  | 122 => ⟨S261632x2, .i32⟩
  | 123 => ⟨S_, .i32⟩
  | 124 => ⟨S261632x2, .i32⟩
  | 125 => ⟨S261632x2, .i32⟩
  | 126 => ⟨S_, .i32⟩
  | 127 => ⟨S261632x2, .i32⟩
  | _ => ⟨S512x128, .f32⟩

abbrev hbmTy0_4 (i : Nat) : BufTy := match i % 128 with
  | 0 => ⟨S261632x2, .i32⟩
  | 1 => ⟨S261632x2, .i32⟩
  | 2 => ⟨S261632x2, .i32⟩
  | 3 => ⟨S261632x2, .i32⟩
  | 4 => ⟨S261632x2, .i32⟩
  | 5 => ⟨S261632x2, .i32⟩
  | 6 => ⟨S261632x2, .i32⟩
  | 7 => ⟨S_, .i32⟩
  | 8 => ⟨S261632x2, .i32⟩
  | 9 => ⟨S261632x2, .i32⟩
  | 10 => ⟨S261632x2, .i32⟩
  | 11 => ⟨S_, .i32⟩
  | 12 => ⟨S261632x2, .i32⟩
  | 13 => ⟨S261632x2, .i32⟩
  | 14 => ⟨S_, .i32⟩
  | 15 => ⟨S261632x2, .i32⟩
  | 16 => ⟨S261632x2, .i32⟩
  | 17 => ⟨S261632x2, .f32⟩
  | 18 => ⟨S_, .f32⟩
  | 19 => ⟨S261632x2, .f32⟩
  | 20 => ⟨S261632x2, .f32⟩
  | 21 => ⟨S1x1, .f32⟩
  | 22 => ⟨S261632x2, .f32⟩
  | 23 => ⟨S261632x2, .f32⟩
  | 24 => ⟨S261632x2, .f32⟩
  | 25 => ⟨S261632x2, .f32⟩
  | 26 => ⟨S261632x2, .f32⟩
  | 27 => ⟨S261632x2, .f32⟩
  | 28 => ⟨S261632x2, .f32⟩
  | 29 => ⟨S261632x2, .f32⟩
  | 30 => ⟨S261632x2, .f32⟩
  | 31 => ⟨S261632x2, .f32⟩
  | 32 => ⟨S261632x1, .f32⟩
  | 33 => ⟨S261632, .f32⟩
  | 34 => ⟨S_, .f32⟩
  | 35 => ⟨S511x1, .f32⟩
  | 36 => ⟨S511x512, .f32⟩
  | 37 => ⟨S511x513, .f32⟩
  | 38 => ⟨S262143, .f32⟩
  | 39 => ⟨S_, .f32⟩
  | 40 => ⟨S1, .f32⟩
  | 41 => ⟨S262144, .f32⟩
  | 42 => ⟨S512x512, .f32⟩
  | 43 => ⟨S261632x1, .f32⟩
  | 44 => ⟨S261632, .f32⟩
  | 45 => ⟨S_, .f32⟩
  | 46 => ⟨S511x1, .f32⟩
  | 47 => ⟨S511x512, .f32⟩
  | 48 => ⟨S511x513, .f32⟩
  | 49 => ⟨S262143, .f32⟩
  | 50 => ⟨S_, .f32⟩
  | 51 => ⟨S1, .f32⟩
  | 52 => ⟨S262144, .f32⟩
  | 53 => ⟨S512x512, .f32⟩
  | 54 => ⟨S_, .f32⟩
  | 55 => ⟨S_, .f32⟩
  | 56 => ⟨S_, .f32⟩
  | 57 => ⟨S_, .f32⟩
  | 58 => ⟨S1x1, .f32⟩
  | 59 => ⟨S1x1, .f32⟩
  | 60 => ⟨S1, .i32⟩
  | 61 => ⟨S_, .i32⟩
  | 62 => ⟨S1, .i32⟩
  | 63 => ⟨S_, .i32⟩
  | 64 => ⟨S261632x2, .i64⟩
  | 65 => ⟨S261632x2, .i64⟩
  | 66 => ⟨S_, .i64⟩
  | 67 => ⟨S261632x2, .i64⟩
  | 68 => ⟨S261632x2, .i64⟩
  | 69 => ⟨S_, .i64⟩
  | 70 => ⟨S261632x2, .i64⟩
  | 71 => ⟨S261632x2, .i64⟩
  | 72 => ⟨S261632x2, .i64⟩
  | 73 => ⟨S_, .i64⟩
  | 74 => ⟨S261632x2, .i64⟩
  | 75 => ⟨S261632x2, .i64⟩
  | 76 => ⟨S261632x2, .i32⟩
  | 77 => ⟨S261632x2, .i32⟩
  | 78 => ⟨S_, .i32⟩
  | 79 => ⟨S_, .i32⟩
  | 80 => ⟨S_, .i32⟩
  | 81 => ⟨S261632x2, .i32⟩
  | 82 => ⟨S261632x2, .i32⟩
  | 83 => ⟨S261632x2, .i32⟩
  | 84 => ⟨S261632x2, .i32⟩
  | 85 => ⟨S261632x2, .i32⟩
  | 86 => ⟨S_, .i32⟩
  | 87 => ⟨S261632x2, .i32⟩
  | 88 => ⟨S261632x2, .i32⟩
  | 89 => ⟨S_, .i32⟩
  | 90 => ⟨S261632x2, .i32⟩
  | 91 => ⟨S261632x2, .i32⟩
  | 92 => ⟨S261632x2, .i32⟩
  | 93 => ⟨S261632x2, .i32⟩
  | 94 => ⟨S261632x2, .i32⟩
  | 95 => ⟨S_, .i32⟩
  | 96 => ⟨S261632x2, .i32⟩
  | 97 => ⟨S261632x2, .i32⟩
  | 98 => ⟨S_, .i32⟩
  | 99 => ⟨S261632x2, .i32⟩
  | 100 => ⟨S261632x2, .i32⟩
  | 101 => ⟨S261632x2, .i32⟩
  | 102 => ⟨S261632x2, .i32⟩
  | 103 => ⟨S261632x2, .i32⟩
  | 104 => ⟨S_, .i32⟩
  | 105 => ⟨S261632x2, .i32⟩
  | 106 => ⟨S261632x2, .i32⟩
  | 107 => ⟨S_, .i32⟩
  | 108 => ⟨S261632x2, .i32⟩
  | 109 => ⟨S261632x2, .i32⟩
  | 110 => ⟨S261632x2, .i32⟩
  | 111 => ⟨S261632x2, .i32⟩
  | 112 => ⟨S261632x2, .i32⟩
  | 113 => ⟨S_, .i32⟩
  | 114 => ⟨S261632x2, .i32⟩
  | 115 => ⟨S261632x2, .i32⟩
  | 116 => ⟨S_, .i32⟩
  | 117 => ⟨S261632x2, .i32⟩
  | 118 => ⟨S261632x2, .i32⟩
  | 119 => ⟨S261632x2, .i32⟩
  | 120 => ⟨S261632x2, .i32⟩
  | 121 => ⟨S261632x2, .i32⟩
  | 122 => ⟨S261632x2, .i32⟩
  | 123 => ⟨S261632x2, .i32⟩
  | 124 => ⟨S261632x2, .i32⟩
  | 125 => ⟨S_, .i32⟩
  | 126 => ⟨S261632x2, .i32⟩
  | 127 => ⟨S261632x2, .i32⟩
  | _ => ⟨S512x128, .f32⟩

abbrev hbmTy0_5 (i : Nat) : BufTy := match i % 128 with
  | 0 => ⟨S261632x2, .i32⟩
  | 1 => ⟨S_, .i32⟩
  | 2 => ⟨S261632x2, .i32⟩
  | 3 => ⟨S261632x2, .i32⟩
  | 4 => ⟨S_, .i32⟩
  | 5 => ⟨S261632x2, .i32⟩
  | 6 => ⟨S261632x2, .i32⟩
  | 7 => ⟨S261632x2, .i32⟩
  | 8 => ⟨S261632x2, .i32⟩
  | 9 => ⟨S261632x2, .i32⟩
  | 10 => ⟨S_, .i32⟩
  | 11 => ⟨S261632x2, .i32⟩
  | 12 => ⟨S261632x2, .i32⟩
  | 13 => ⟨S_, .i32⟩
  | 14 => ⟨S261632x2, .i32⟩
  | 15 => ⟨S261632x2, .i32⟩
  | 16 => ⟨S261632x2, .i32⟩
  | 17 => ⟨S261632x2, .i32⟩
  | 18 => ⟨S261632x2, .i32⟩
  | 19 => ⟨S_, .i32⟩
  | 20 => ⟨S261632x2, .i32⟩
  | 21 => ⟨S261632x2, .i32⟩
  | 22 => ⟨S_, .i32⟩
  | 23 => ⟨S261632x2, .i32⟩
  | 24 => ⟨S261632x2, .i32⟩
  | 25 => ⟨S261632x2, .i32⟩
  | 26 => ⟨S261632x2, .i32⟩
  | 27 => ⟨S261632x2, .i32⟩
  | 28 => ⟨S_, .i32⟩
  | 29 => ⟨S261632x2, .i32⟩
  | 30 => ⟨S261632x2, .i32⟩
  | 31 => ⟨S_, .i32⟩
  | 32 => ⟨S261632x2, .i32⟩
  | 33 => ⟨S261632x2, .i32⟩
  | 34 => ⟨S261632x2, .i32⟩
  | 35 => ⟨S261632x2, .i32⟩
  | 36 => ⟨S261632x2, .i32⟩
  | 37 => ⟨S261632x2, .i32⟩
  | 38 => ⟨S261632x2, .i32⟩
  | 39 => ⟨S261632x2, .i32⟩
  | 40 => ⟨S_, .i32⟩
  | 41 => ⟨S261632x2, .i32⟩
  | 42 => ⟨S261632x2, .i32⟩
  | 43 => ⟨S261632x2, .i32⟩
  | 44 => ⟨S_, .i32⟩
  | 45 => ⟨S261632x2, .i32⟩
  | 46 => ⟨S261632x2, .i32⟩
  | 47 => ⟨S_, .i32⟩
  | 48 => ⟨S261632x2, .i32⟩
  | 49 => ⟨S261632x2, .i32⟩
  | 50 => ⟨S261632x2, .i32⟩
  | 51 => ⟨S261632x2, .i32⟩
  | 52 => ⟨S261632x2, .i32⟩
  | 53 => ⟨S_, .i32⟩
  | 54 => ⟨S261632x2, .i32⟩
  | 55 => ⟨S261632x2, .i32⟩
  | 56 => ⟨S_, .i32⟩
  | 57 => ⟨S261632x2, .i32⟩
  | 58 => ⟨S261632x2, .i32⟩
  | 59 => ⟨S261632x2, .i32⟩
  | 60 => ⟨S261632x2, .i32⟩
  | 61 => ⟨S261632x2, .i32⟩
  | 62 => ⟨S_, .i32⟩
  | 63 => ⟨S261632x2, .i32⟩
  | 64 => ⟨S261632x2, .i32⟩
  | 65 => ⟨S_, .i32⟩
  | 66 => ⟨S261632x2, .i32⟩
  | 67 => ⟨S261632x2, .i32⟩
  | 68 => ⟨S261632x2, .i32⟩
  | 69 => ⟨S261632x2, .i32⟩
  | 70 => ⟨S261632x2, .i32⟩
  | 71 => ⟨S_, .i32⟩
  | 72 => ⟨S261632x2, .i32⟩
  | 73 => ⟨S261632x2, .i32⟩
  | 74 => ⟨S_, .i32⟩
  | 75 => ⟨S261632x2, .i32⟩
  | 76 => ⟨S261632x2, .i32⟩
  | 77 => ⟨S261632x2, .i32⟩
  | 78 => ⟨S261632x2, .i32⟩
  | 79 => ⟨S261632x2, .i32⟩
  | 80 => ⟨S261632x2, .i32⟩
  | 81 => ⟨S261632x2, .i32⟩
  | 82 => ⟨S261632x2, .i32⟩
  | 83 => ⟨S_, .i32⟩
  | 84 => ⟨S261632x2, .i32⟩
  | 85 => ⟨S261632x2, .i32⟩
  | 86 => ⟨S261632x2, .i32⟩
  | 87 => ⟨S_, .i32⟩
  | 88 => ⟨S261632x2, .i32⟩
  | 89 => ⟨S261632x2, .i32⟩
  | 90 => ⟨S_, .i32⟩
  | 91 => ⟨S261632x2, .i32⟩
  | 92 => ⟨S261632x2, .i32⟩
  | 93 => ⟨S261632x2, .i32⟩
  | 94 => ⟨S261632x2, .i32⟩
  | 95 => ⟨S261632x2, .i32⟩
  | 96 => ⟨S_, .i32⟩
  | 97 => ⟨S261632x2, .i32⟩
  | 98 => ⟨S261632x2, .i32⟩
  | 99 => ⟨S_, .i32⟩
  | 100 => ⟨S261632x2, .i32⟩
  | 101 => ⟨S261632x2, .i32⟩
  | 102 => ⟨S261632x2, .i32⟩
  | 103 => ⟨S261632x2, .i32⟩
  | 104 => ⟨S261632x2, .i32⟩
  | 105 => ⟨S_, .i32⟩
  | 106 => ⟨S261632x2, .i32⟩
  | 107 => ⟨S261632x2, .i32⟩
  | 108 => ⟨S_, .i32⟩
  | 109 => ⟨S261632x2, .i32⟩
  | 110 => ⟨S261632x2, .i32⟩
  | 111 => ⟨S261632x2, .i32⟩
  | 112 => ⟨S261632x2, .i32⟩
  | 113 => ⟨S261632x2, .i32⟩
  | 114 => ⟨S_, .i32⟩
  | 115 => ⟨S261632x2, .i32⟩
  | 116 => ⟨S261632x2, .i32⟩
  | 117 => ⟨S_, .i32⟩
  | 118 => ⟨S261632x2, .i32⟩
  | 119 => ⟨S261632x2, .i32⟩
  | 120 => ⟨S261632x2, .i32⟩
  | 121 => ⟨S261632x2, .i32⟩
  | 122 => ⟨S261632x2, .i32⟩
  | 123 => ⟨S261632x2, .i32⟩
  | 124 => ⟨S261632x2, .i32⟩
  | 125 => ⟨S261632x2, .i32⟩
  | 126 => ⟨S_, .i32⟩
  | 127 => ⟨S261632x2, .i32⟩
  | _ => ⟨S512x128, .f32⟩

abbrev hbmTy0_6 (i : Nat) : BufTy := match i % 128 with
  | 0 => ⟨S261632x2, .i32⟩
  | 1 => ⟨S261632x2, .i32⟩
  | 2 => ⟨S_, .i32⟩
  | 3 => ⟨S261632x2, .i32⟩
  | 4 => ⟨S261632x2, .i32⟩
  | 5 => ⟨S_, .i32⟩
  | 6 => ⟨S261632x2, .i32⟩
  | 7 => ⟨S261632x2, .i32⟩
  | 8 => ⟨S261632x2, .i32⟩
  | 9 => ⟨S261632x2, .i32⟩
  | 10 => ⟨S261632x2, .i32⟩
  | 11 => ⟨S_, .i32⟩
  | 12 => ⟨S261632x2, .i32⟩
  | 13 => ⟨S261632x2, .i32⟩
  | 14 => ⟨S_, .i32⟩
  | 15 => ⟨S261632x2, .i32⟩
  | 16 => ⟨S261632x2, .i32⟩
  | 17 => ⟨S261632x2, .i32⟩
  | 18 => ⟨S261632x2, .i32⟩
  | 19 => ⟨S261632x2, .i32⟩
  | 20 => ⟨S_, .i32⟩
  | 21 => ⟨S261632x2, .i32⟩
  | 22 => ⟨S261632x2, .i32⟩
  | 23 => ⟨S_, .i32⟩
  | 24 => ⟨S261632x2, .i32⟩
  | 25 => ⟨S261632x2, .i32⟩
  | 26 => ⟨S261632x2, .i32⟩
  | 27 => ⟨S261632x2, .i32⟩
  | 28 => ⟨S261632x2, .i32⟩
  | 29 => ⟨S_, .i32⟩
  | 30 => ⟨S261632x2, .i32⟩
  | 31 => ⟨S261632x2, .i32⟩
  | 32 => ⟨S_, .i32⟩
  | 33 => ⟨S261632x2, .i32⟩
  | 34 => ⟨S261632x2, .i32⟩
  | 35 => ⟨S261632x2, .i32⟩
  | 36 => ⟨S261632x2, .i32⟩
  | 37 => ⟨S261632x2, .i32⟩
  | 38 => ⟨S261632x2, .i32⟩
  | 39 => ⟨S261632x2, .i32⟩
  | 40 => ⟨S261632x2, .i32⟩
  | 41 => ⟨S_, .i32⟩
  | 42 => ⟨S261632x2, .i32⟩
  | 43 => ⟨S261632x2, .i32⟩
  | 44 => ⟨S261632x2, .i32⟩
  | 45 => ⟨S_, .i32⟩
  | 46 => ⟨S261632x2, .i32⟩
  | 47 => ⟨S261632x2, .i32⟩
  | 48 => ⟨S_, .i32⟩
  | 49 => ⟨S261632x2, .i32⟩
  | 50 => ⟨S261632x2, .i32⟩
  | 51 => ⟨S261632x2, .f32⟩
  | 52 => ⟨S_, .f32⟩
  | 53 => ⟨S261632x2, .f32⟩
  | 54 => ⟨S261632x2, .f32⟩
  | 55 => ⟨S1x1, .f32⟩
  | 56 => ⟨S261632x2, .f32⟩
  | 57 => ⟨S261632x2, .f32⟩
  | 58 => ⟨S261632x2, .f32⟩
  | 59 => ⟨S261632x2, .f32⟩
  | 60 => ⟨S261632x2, .f32⟩
  | 61 => ⟨S261632x2, .f32⟩
  | 62 => ⟨S261632x2, .f32⟩
  | 63 => ⟨S261632x2, .f32⟩
  | 64 => ⟨S261632x2, .f32⟩
  | 65 => ⟨S261632x2, .f32⟩
  | 66 => ⟨S261632x1, .f32⟩
  | 67 => ⟨S261632, .f32⟩
  | 68 => ⟨S_, .f32⟩
  | 69 => ⟨S511x1, .f32⟩
  | 70 => ⟨S511x512, .f32⟩
  | 71 => ⟨S511x513, .f32⟩
  | 72 => ⟨S262143, .f32⟩
  | 73 => ⟨S_, .f32⟩
  | 74 => ⟨S1, .f32⟩
  | 75 => ⟨S262144, .f32⟩
  | 76 => ⟨S512x512, .f32⟩
  | 77 => ⟨S261632x1, .f32⟩
  | 78 => ⟨S261632, .f32⟩
  | 79 => ⟨S_, .f32⟩
  | 80 => ⟨S511x1, .f32⟩
  | 81 => ⟨S511x512, .f32⟩
  | 82 => ⟨S511x513, .f32⟩
  | 83 => ⟨S262143, .f32⟩
  | 84 => ⟨S_, .f32⟩
  | 85 => ⟨S1, .f32⟩
  | 86 => ⟨S262144, .f32⟩
  | 87 => ⟨S512x512, .f32⟩
  | 88 => ⟨S64x64, .i32⟩
  | 89 => ⟨S64x64, .i32⟩
  | 90 => ⟨S_, .i32⟩
  | 91 => ⟨S64x64, .i32⟩
  | 92 => ⟨S64x64, .i32⟩
  | 93 => ⟨S64x64, .i1⟩
  | 94 => ⟨S64x64, .f32⟩
  | 95 => ⟨S1x32, .f32⟩
  | 96 => ⟨S32, .f32⟩
  | 97 => ⟨S1x32, .f32⟩
  | 98 => ⟨S64x1x64x1, .f32⟩
  | 99 => ⟨S1x1x1x32, .f32⟩
  | 100 => ⟨S64x1x64x32, .f32⟩
  | 101 => ⟨S64x1x64x32, .f32⟩
  | 102 => ⟨S64x1x64x32, .f32⟩
  | 103 => ⟨S64x2048, .f32⟩
  | 104 => ⟨S1x32, .f32⟩
  | 105 => ⟨S32, .f32⟩
  | 106 => ⟨S1x32, .f32⟩
  | 107 => ⟨S64x1x64x1, .f32⟩
  | 108 => ⟨S1x1x1x32, .f32⟩
  | 109 => ⟨S64x1x64x32, .f32⟩
  | 110 => ⟨S64x1x64x32, .f32⟩
  | 111 => ⟨S64x1x64x32, .f32⟩
  | 112 => ⟨S64x2048, .f32⟩
  | 113 => ⟨S128x2048, .f32⟩
  | 114 => ⟨S1x32, .f32⟩
  | 115 => ⟨S32, .f32⟩
  | 116 => ⟨S1x32, .f32⟩
  | 117 => ⟨S64x1x64x1, .f32⟩
  | 118 => ⟨S1x1x1x32, .f32⟩
  | 119 => ⟨S64x1x64x32, .f32⟩
  | 120 => ⟨S64x1x64x32, .f32⟩
  | 121 => ⟨S64x1x64x32, .f32⟩
  | 122 => ⟨S64x2048, .f32⟩
  | 123 => ⟨S1x32, .f32⟩
  | 124 => ⟨S32, .f32⟩
  | 125 => ⟨S1x32, .f32⟩
  | 126 => ⟨S64x1x64x1, .f32⟩
  | 127 => ⟨S1x1x1x32, .f32⟩
  | _ => ⟨S512x128, .f32⟩

abbrev hbmTy0_7 (i : Nat) : BufTy := match i % 128 with
  | 0 => ⟨S64x1x64x32, .f32⟩
  | 1 => ⟨S64x1x64x32, .f32⟩
  | 2 => ⟨S64x1x64x32, .f32⟩
  | 3 => ⟨S64x2048, .f32⟩
  | 4 => ⟨S128x2048, .f32⟩
  | 5 => ⟨S_, .f32⟩
  | 6 => ⟨S125x64, .f32⟩
  | 7 => ⟨S128x64, .f32⟩
  | 8 => ⟨S_, .f32⟩
  | 9 => ⟨S125, .f32⟩
  | 10 => ⟨S128, .f32⟩
  | 11 => ⟨S128x512, .f32⟩
  | 12 => ⟨S128x64, .f32⟩
  | 13 => ⟨S1x64, .f32⟩
  | 14 => ⟨S64x1, .f32⟩
  | 15 => ⟨S32x64, .f32⟩
  | 16 => ⟨S64x32, .f32⟩
  | 17 => ⟨S32x64, .f32⟩
  | 18 => ⟨S1x32, .f32⟩
  | 19 => ⟨S1x2, .f32⟩
  | 20 => ⟨S32x64, .f32⟩
  | 21 => ⟨S64x32, .f32⟩
  | 22 => ⟨S32x64, .f32⟩
  | 23 => ⟨S1x32, .f32⟩
  | 24 => ⟨S1x2, .f32⟩
  | 25 => ⟨S64x64, .f32⟩
  | 26 => ⟨S1x64, .f32⟩
  | 27 => ⟨S64x1, .f32⟩
  | 28 => ⟨S64x64, .f32⟩
  | 29 => ⟨S1x64, .f32⟩
  | 30 => ⟨S64x64, .f32⟩
  | 31 => ⟨S1x64, .f32⟩
  | 32 => ⟨S64x64, .f32⟩
  | 33 => ⟨S1x64, .f32⟩
  | 34 => ⟨S64x128, .f32⟩
  | 35 => ⟨S1x128, .f32⟩
  | 36 => ⟨S512x128, .f32⟩
  | 37 => ⟨S512x2, .f32⟩
  | 38 => ⟨S1x512x2, .f32⟩
  | 39 => ⟨S512x1, .f32⟩
  | 40 => ⟨S1x512x2, .f32⟩
  | 41 => ⟨S1x512x2, .f32⟩
  | _ => ⟨S512x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S512x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S128x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S128x64, .f32⟩
  | .local _ .vmem, ⟨7, _⟩ => ⟨S64x128, .f32⟩
  | .local _ .vmem, ⟨8, _⟩ => ⟨S1x64, .f32⟩
  | .local _ .vmem, ⟨9, _⟩ => ⟨S64x1, .f32⟩
  | .local _ .vmem, ⟨10, _⟩ => ⟨S64x32, .f32⟩
  | .local _ .vmem, ⟨11, _⟩ => ⟨S32x64, .f32⟩
  | .local _ .vmem, ⟨12, _⟩ => ⟨S1x32, .f32⟩
  | .local _ .vmem, ⟨13, _⟩ => ⟨S128x2048, .f32⟩
  | .local _ .vmem, ⟨14, _⟩ => ⟨S1x2, .f32⟩
  | .local _ .vmem, ⟨15, _⟩ => ⟨S64x32, .f32⟩
  | .local _ .vmem, ⟨16, _⟩ => ⟨S32x64, .f32⟩
  | .local _ .vmem, ⟨17, _⟩ => ⟨S1x32, .f32⟩
  | .local _ .vmem, ⟨18, _⟩ => ⟨S128x2048, .f32⟩
  | .local _ .vmem, ⟨19, _⟩ => ⟨S1x2, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S64x1, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S64x128, .f32⟩
  | .local _ .vmem, ⟨31, _⟩ => ⟨S1x128, .f32⟩
  | .local _ .vmem, ⟨32, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_c_0 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c_1 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c : Ref sig .tc := ⟨.hbm, 39, rfl⟩
abbrev main_call0_v5 : Ref sig .tc := ⟨.hbm, 40, rfl⟩
abbrev main_call0_v6 : Ref sig .tc := ⟨.hbm, 41, rfl⟩
abbrev main_call0_c_0 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_call0_v0 : Ref sig .tc := ⟨.hbm, 47, rfl⟩
abbrev main_call0_call0_c : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_c_0 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_c_1 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_call0_v12 : Ref sig .tc := ⟨.hbm, 62, rfl⟩
abbrev main_call0_call0_v13 : Ref sig .tc := ⟨.hbm, 63, rfl⟩
abbrev main_call0_call0_c_2 : Ref sig .tc := ⟨.hbm, 64, rfl⟩
abbrev main_call0_call0_v14 : Ref sig .tc := ⟨.hbm, 65, rfl⟩
abbrev main_call0_call0_v15 : Ref sig .tc := ⟨.hbm, 66, rfl⟩
abbrev main_call0_call0_c_3 : Ref sig .tc := ⟨.hbm, 67, rfl⟩
abbrev main_call0_call0_v16 : Ref sig .tc := ⟨.hbm, 68, rfl⟩
abbrev main_call0_call0_v17 : Ref sig .tc := ⟨.hbm, 69, rfl⟩
abbrev main_call0_call0_v18 : Ref sig .tc := ⟨.hbm, 70, rfl⟩
abbrev main_call0_call0_v19 : Ref sig .tc := ⟨.hbm, 71, rfl⟩
abbrev main_call0_call0_v20 : Ref sig .tc := ⟨.hbm, 72, rfl⟩
abbrev main_call0_call0_c_4 : Ref sig .tc := ⟨.hbm, 73, rfl⟩
abbrev main_call0_call0_v21 : Ref sig .tc := ⟨.hbm, 74, rfl⟩
abbrev main_call0_call0_v22 : Ref sig .tc := ⟨.hbm, 75, rfl⟩
abbrev main_call0_call0_c_5 : Ref sig .tc := ⟨.hbm, 76, rfl⟩
abbrev main_call0_call0_v23 : Ref sig .tc := ⟨.hbm, 77, rfl⟩
abbrev main_call0_call0_v24 : Ref sig .tc := ⟨.hbm, 78, rfl⟩
abbrev main_call0_call0_v25 : Ref sig .tc := ⟨.hbm, 79, rfl⟩
abbrev main_call0_call0_v26 : Ref sig .tc := ⟨.hbm, 80, rfl⟩
abbrev main_call0_call0_v27 : Ref sig .tc := ⟨.hbm, 81, rfl⟩
abbrev main_call0_call0_c_6 : Ref sig .tc := ⟨.hbm, 82, rfl⟩
abbrev main_call0_call0_v28 : Ref sig .tc := ⟨.hbm, 83, rfl⟩
abbrev main_call0_call0_v29 : Ref sig .tc := ⟨.hbm, 84, rfl⟩
abbrev main_call0_call0_c_7 : Ref sig .tc := ⟨.hbm, 85, rfl⟩
abbrev main_call0_call0_v30 : Ref sig .tc := ⟨.hbm, 86, rfl⟩
abbrev main_call0_call0_v31 : Ref sig .tc := ⟨.hbm, 87, rfl⟩
abbrev main_call0_call0_v32 : Ref sig .tc := ⟨.hbm, 88, rfl⟩
abbrev main_call0_call0_v33 : Ref sig .tc := ⟨.hbm, 89, rfl⟩
abbrev main_call0_call0_v34 : Ref sig .tc := ⟨.hbm, 90, rfl⟩
abbrev main_call0_call0_v35 : Ref sig .tc := ⟨.hbm, 91, rfl⟩
abbrev main_call0_call0_v36 : Ref sig .tc := ⟨.hbm, 92, rfl⟩
abbrev main_call0_call0_v37 : Ref sig .tc := ⟨.hbm, 93, rfl⟩
abbrev main_call0_call0_c_8 : Ref sig .tc := ⟨.hbm, 94, rfl⟩
abbrev main_call0_call0_v38 : Ref sig .tc := ⟨.hbm, 95, rfl⟩
abbrev main_call0_call0_v39 : Ref sig .tc := ⟨.hbm, 96, rfl⟩
abbrev main_call0_call0_v40 : Ref sig .tc := ⟨.hbm, 97, rfl⟩
abbrev main_call0_call0_c_9 : Ref sig .tc := ⟨.hbm, 98, rfl⟩
abbrev main_call0_call0_v41 : Ref sig .tc := ⟨.hbm, 99, rfl⟩
abbrev main_call0_call0_v42 : Ref sig .tc := ⟨.hbm, 100, rfl⟩
abbrev main_call0_call0_c_10 : Ref sig .tc := ⟨.hbm, 101, rfl⟩
abbrev main_call0_call0_v43 : Ref sig .tc := ⟨.hbm, 102, rfl⟩
abbrev main_call0_call0_v44 : Ref sig .tc := ⟨.hbm, 103, rfl⟩
abbrev main_call0_call0_v45 : Ref sig .tc := ⟨.hbm, 104, rfl⟩
abbrev main_call0_call0_v46 : Ref sig .tc := ⟨.hbm, 105, rfl⟩
abbrev main_call0_call0_v47 : Ref sig .tc := ⟨.hbm, 106, rfl⟩
abbrev main_call0_call0_c_11 : Ref sig .tc := ⟨.hbm, 107, rfl⟩
abbrev main_call0_call0_v48 : Ref sig .tc := ⟨.hbm, 108, rfl⟩
abbrev main_call0_call0_v49 : Ref sig .tc := ⟨.hbm, 109, rfl⟩
abbrev main_call0_call0_c_12 : Ref sig .tc := ⟨.hbm, 110, rfl⟩
abbrev main_call0_call0_v50 : Ref sig .tc := ⟨.hbm, 111, rfl⟩
abbrev main_call0_call0_v51 : Ref sig .tc := ⟨.hbm, 112, rfl⟩
abbrev main_call0_call0_v52 : Ref sig .tc := ⟨.hbm, 113, rfl⟩
abbrev main_call0_call0_v53 : Ref sig .tc := ⟨.hbm, 114, rfl⟩
abbrev main_call0_call0_v54 : Ref sig .tc := ⟨.hbm, 115, rfl⟩
abbrev main_call0_call0_c_13 : Ref sig .tc := ⟨.hbm, 116, rfl⟩
abbrev main_call0_call0_v55 : Ref sig .tc := ⟨.hbm, 117, rfl⟩
abbrev main_call0_call0_v56 : Ref sig .tc := ⟨.hbm, 118, rfl⟩
abbrev main_call0_call0_c_14 : Ref sig .tc := ⟨.hbm, 119, rfl⟩
abbrev main_call0_call0_v57 : Ref sig .tc := ⟨.hbm, 120, rfl⟩
abbrev main_call0_call0_v58 : Ref sig .tc := ⟨.hbm, 121, rfl⟩
abbrev main_call0_call0_v59 : Ref sig .tc := ⟨.hbm, 122, rfl⟩
abbrev main_call0_call0_v60 : Ref sig .tc := ⟨.hbm, 123, rfl⟩
abbrev main_call0_call0_v61 : Ref sig .tc := ⟨.hbm, 124, rfl⟩
abbrev main_call0_call0_c_15 : Ref sig .tc := ⟨.hbm, 125, rfl⟩
abbrev main_call0_call0_v62 : Ref sig .tc := ⟨.hbm, 126, rfl⟩
abbrev main_call0_call0_v63 : Ref sig .tc := ⟨.hbm, 127, rfl⟩
abbrev main_call0_call0_c_16 : Ref sig .tc := ⟨.hbm, 128, rfl⟩
abbrev main_call0_call0_v64 : Ref sig .tc := ⟨.hbm, 129, rfl⟩
abbrev main_call0_call0_v65 : Ref sig .tc := ⟨.hbm, 130, rfl⟩
abbrev main_call0_call0_v66 : Ref sig .tc := ⟨.hbm, 131, rfl⟩
abbrev main_call0_call0_v67 : Ref sig .tc := ⟨.hbm, 132, rfl⟩
abbrev main_call0_call0_v68 : Ref sig .tc := ⟨.hbm, 133, rfl⟩
abbrev main_call0_call0_v69 : Ref sig .tc := ⟨.hbm, 134, rfl⟩
abbrev main_call0_call0_v70 : Ref sig .tc := ⟨.hbm, 135, rfl⟩
abbrev main_call0_call0_v71 : Ref sig .tc := ⟨.hbm, 136, rfl⟩
abbrev main_call0_call0_c_17 : Ref sig .tc := ⟨.hbm, 137, rfl⟩
abbrev main_call0_call0_v72 : Ref sig .tc := ⟨.hbm, 138, rfl⟩
abbrev main_call0_call0_v73 : Ref sig .tc := ⟨.hbm, 139, rfl⟩
abbrev main_call0_call0_v74 : Ref sig .tc := ⟨.hbm, 140, rfl⟩
abbrev main_call0_call0_c_18 : Ref sig .tc := ⟨.hbm, 141, rfl⟩
abbrev main_call0_call0_v75 : Ref sig .tc := ⟨.hbm, 142, rfl⟩
abbrev main_call0_call0_v76 : Ref sig .tc := ⟨.hbm, 143, rfl⟩
abbrev main_call0_call0_c_19 : Ref sig .tc := ⟨.hbm, 144, rfl⟩
abbrev main_call0_call0_v77 : Ref sig .tc := ⟨.hbm, 145, rfl⟩
abbrev main_call0_call0_v78 : Ref sig .tc := ⟨.hbm, 146, rfl⟩
abbrev main_call0_call0_v79 : Ref sig .tc := ⟨.hbm, 147, rfl⟩
abbrev main_call0_call0_v80 : Ref sig .tc := ⟨.hbm, 148, rfl⟩
abbrev main_call0_call0_v81 : Ref sig .tc := ⟨.hbm, 149, rfl⟩
abbrev main_call0_call0_c_20 : Ref sig .tc := ⟨.hbm, 150, rfl⟩
abbrev main_call0_call0_v82 : Ref sig .tc := ⟨.hbm, 151, rfl⟩
abbrev main_call0_call0_v83 : Ref sig .tc := ⟨.hbm, 152, rfl⟩
abbrev main_call0_call0_c_21 : Ref sig .tc := ⟨.hbm, 153, rfl⟩
abbrev main_call0_call0_v84 : Ref sig .tc := ⟨.hbm, 154, rfl⟩
abbrev main_call0_call0_v85 : Ref sig .tc := ⟨.hbm, 155, rfl⟩
abbrev main_call0_call0_v86 : Ref sig .tc := ⟨.hbm, 156, rfl⟩
abbrev main_call0_call0_v87 : Ref sig .tc := ⟨.hbm, 157, rfl⟩
abbrev main_call0_call0_v88 : Ref sig .tc := ⟨.hbm, 158, rfl⟩
abbrev main_call0_call0_c_22 : Ref sig .tc := ⟨.hbm, 159, rfl⟩
abbrev main_call0_call0_v89 : Ref sig .tc := ⟨.hbm, 160, rfl⟩
abbrev main_call0_call0_v90 : Ref sig .tc := ⟨.hbm, 161, rfl⟩
abbrev main_call0_call0_c_23 : Ref sig .tc := ⟨.hbm, 162, rfl⟩
abbrev main_call0_call0_v91 : Ref sig .tc := ⟨.hbm, 163, rfl⟩
abbrev main_call0_call0_v92 : Ref sig .tc := ⟨.hbm, 164, rfl⟩
abbrev main_call0_call0_v93 : Ref sig .tc := ⟨.hbm, 165, rfl⟩
abbrev main_call0_call0_v94 : Ref sig .tc := ⟨.hbm, 166, rfl⟩
abbrev main_call0_call0_v95 : Ref sig .tc := ⟨.hbm, 167, rfl⟩
abbrev main_call0_call0_c_24 : Ref sig .tc := ⟨.hbm, 168, rfl⟩
abbrev main_call0_call0_v96 : Ref sig .tc := ⟨.hbm, 169, rfl⟩
abbrev main_call0_call0_v97 : Ref sig .tc := ⟨.hbm, 170, rfl⟩
abbrev main_call0_call0_c_25 : Ref sig .tc := ⟨.hbm, 171, rfl⟩
abbrev main_call0_call0_v98 : Ref sig .tc := ⟨.hbm, 172, rfl⟩
abbrev main_call0_call0_v99 : Ref sig .tc := ⟨.hbm, 173, rfl⟩
abbrev main_call0_call0_v100 : Ref sig .tc := ⟨.hbm, 174, rfl⟩
abbrev main_call0_call0_v101 : Ref sig .tc := ⟨.hbm, 175, rfl⟩
abbrev main_call0_call0_v102 : Ref sig .tc := ⟨.hbm, 176, rfl⟩
abbrev main_call0_call0_v103 : Ref sig .tc := ⟨.hbm, 177, rfl⟩
abbrev main_call0_call0_v104 : Ref sig .tc := ⟨.hbm, 178, rfl⟩
abbrev main_call0_call0_v105 : Ref sig .tc := ⟨.hbm, 179, rfl⟩
abbrev main_call0_call0_c_26 : Ref sig .tc := ⟨.hbm, 180, rfl⟩
abbrev main_call0_call0_v106 : Ref sig .tc := ⟨.hbm, 181, rfl⟩
abbrev main_call0_call0_v107 : Ref sig .tc := ⟨.hbm, 182, rfl⟩
abbrev main_call0_call0_v108 : Ref sig .tc := ⟨.hbm, 183, rfl⟩
abbrev main_call0_call0_c_27 : Ref sig .tc := ⟨.hbm, 184, rfl⟩
abbrev main_call0_call0_v109 : Ref sig .tc := ⟨.hbm, 185, rfl⟩
abbrev main_call0_call0_v110 : Ref sig .tc := ⟨.hbm, 186, rfl⟩
abbrev main_call0_call0_c_28 : Ref sig .tc := ⟨.hbm, 187, rfl⟩
abbrev main_call0_call0_v111 : Ref sig .tc := ⟨.hbm, 188, rfl⟩
abbrev main_call0_call0_v112 : Ref sig .tc := ⟨.hbm, 189, rfl⟩
abbrev main_call0_call0_v113 : Ref sig .tc := ⟨.hbm, 190, rfl⟩
abbrev main_call0_call0_v114 : Ref sig .tc := ⟨.hbm, 191, rfl⟩
abbrev main_call0_call0_v115 : Ref sig .tc := ⟨.hbm, 192, rfl⟩
abbrev main_call0_call0_c_29 : Ref sig .tc := ⟨.hbm, 193, rfl⟩
abbrev main_call0_call0_v116 : Ref sig .tc := ⟨.hbm, 194, rfl⟩
abbrev main_call0_call0_v117 : Ref sig .tc := ⟨.hbm, 195, rfl⟩
abbrev main_call0_call0_c_30 : Ref sig .tc := ⟨.hbm, 196, rfl⟩
abbrev main_call0_call0_v118 : Ref sig .tc := ⟨.hbm, 197, rfl⟩
abbrev main_call0_call0_v119 : Ref sig .tc := ⟨.hbm, 198, rfl⟩
abbrev main_call0_call0_v120 : Ref sig .tc := ⟨.hbm, 199, rfl⟩
abbrev main_call0_call0_v121 : Ref sig .tc := ⟨.hbm, 200, rfl⟩
abbrev main_call0_call0_v122 : Ref sig .tc := ⟨.hbm, 201, rfl⟩
abbrev main_call0_call0_c_31 : Ref sig .tc := ⟨.hbm, 202, rfl⟩
abbrev main_call0_call0_v123 : Ref sig .tc := ⟨.hbm, 203, rfl⟩
abbrev main_call0_call0_v124 : Ref sig .tc := ⟨.hbm, 204, rfl⟩
abbrev main_call0_call0_c_32 : Ref sig .tc := ⟨.hbm, 205, rfl⟩
abbrev main_call0_call0_v125 : Ref sig .tc := ⟨.hbm, 206, rfl⟩
abbrev main_call0_call0_v126 : Ref sig .tc := ⟨.hbm, 207, rfl⟩
abbrev main_call0_call0_v127 : Ref sig .tc := ⟨.hbm, 208, rfl⟩
abbrev main_call0_call0_v128 : Ref sig .tc := ⟨.hbm, 209, rfl⟩
abbrev main_call0_call0_v129 : Ref sig .tc := ⟨.hbm, 210, rfl⟩
abbrev main_call0_call0_c_33 : Ref sig .tc := ⟨.hbm, 211, rfl⟩
abbrev main_call0_call0_v130 : Ref sig .tc := ⟨.hbm, 212, rfl⟩
abbrev main_call0_call0_v131 : Ref sig .tc := ⟨.hbm, 213, rfl⟩
abbrev main_call0_call0_c_34 : Ref sig .tc := ⟨.hbm, 214, rfl⟩
abbrev main_call0_call0_v132 : Ref sig .tc := ⟨.hbm, 215, rfl⟩
abbrev main_call0_call0_v133 : Ref sig .tc := ⟨.hbm, 216, rfl⟩
abbrev main_call0_call0_v134 : Ref sig .tc := ⟨.hbm, 217, rfl⟩
abbrev main_call0_call0_v135 : Ref sig .tc := ⟨.hbm, 218, rfl⟩
abbrev main_call0_call0_v136 : Ref sig .tc := ⟨.hbm, 219, rfl⟩
abbrev main_call0_call0_v137 : Ref sig .tc := ⟨.hbm, 220, rfl⟩
abbrev main_call0_call0_v138 : Ref sig .tc := ⟨.hbm, 221, rfl⟩
abbrev main_call0_call0_v139 : Ref sig .tc := ⟨.hbm, 222, rfl⟩
abbrev main_call0_call0_c_35 : Ref sig .tc := ⟨.hbm, 223, rfl⟩
abbrev main_call0_call0_v140 : Ref sig .tc := ⟨.hbm, 224, rfl⟩
abbrev main_call0_call0_v141 : Ref sig .tc := ⟨.hbm, 225, rfl⟩
abbrev main_call0_call0_v142 : Ref sig .tc := ⟨.hbm, 226, rfl⟩
abbrev main_call0_call0_c_36 : Ref sig .tc := ⟨.hbm, 227, rfl⟩
abbrev main_call0_call0_v143 : Ref sig .tc := ⟨.hbm, 228, rfl⟩
abbrev main_call0_call0_v144 : Ref sig .tc := ⟨.hbm, 229, rfl⟩
abbrev main_call0_call0_c_37 : Ref sig .tc := ⟨.hbm, 230, rfl⟩
abbrev main_call0_call0_v145 : Ref sig .tc := ⟨.hbm, 231, rfl⟩
abbrev main_call0_call0_v146 : Ref sig .tc := ⟨.hbm, 232, rfl⟩
abbrev main_call0_call0_v147 : Ref sig .tc := ⟨.hbm, 233, rfl⟩
abbrev main_call0_call0_v148 : Ref sig .tc := ⟨.hbm, 234, rfl⟩
abbrev main_call0_call0_v149 : Ref sig .tc := ⟨.hbm, 235, rfl⟩
abbrev main_call0_call0_c_38 : Ref sig .tc := ⟨.hbm, 236, rfl⟩
abbrev main_call0_call0_v150 : Ref sig .tc := ⟨.hbm, 237, rfl⟩
abbrev main_call0_call0_v151 : Ref sig .tc := ⟨.hbm, 238, rfl⟩
abbrev main_call0_call0_c_39 : Ref sig .tc := ⟨.hbm, 239, rfl⟩
abbrev main_call0_call0_v152 : Ref sig .tc := ⟨.hbm, 240, rfl⟩
abbrev main_call0_call0_v153 : Ref sig .tc := ⟨.hbm, 241, rfl⟩
abbrev main_call0_call0_v154 : Ref sig .tc := ⟨.hbm, 242, rfl⟩
abbrev main_call0_call0_v155 : Ref sig .tc := ⟨.hbm, 243, rfl⟩
abbrev main_call0_call0_v156 : Ref sig .tc := ⟨.hbm, 244, rfl⟩
abbrev main_call0_call0_c_40 : Ref sig .tc := ⟨.hbm, 245, rfl⟩
abbrev main_call0_call0_v157 : Ref sig .tc := ⟨.hbm, 246, rfl⟩
abbrev main_call0_call0_v158 : Ref sig .tc := ⟨.hbm, 247, rfl⟩
abbrev main_call0_call0_c_41 : Ref sig .tc := ⟨.hbm, 248, rfl⟩
abbrev main_call0_call0_v159 : Ref sig .tc := ⟨.hbm, 249, rfl⟩
abbrev main_call0_call0_v160 : Ref sig .tc := ⟨.hbm, 250, rfl⟩
abbrev main_call0_call0_v161 : Ref sig .tc := ⟨.hbm, 251, rfl⟩
abbrev main_call0_call0_v162 : Ref sig .tc := ⟨.hbm, 252, rfl⟩
abbrev main_call0_call0_v163 : Ref sig .tc := ⟨.hbm, 253, rfl⟩
abbrev main_call0_call0_c_42 : Ref sig .tc := ⟨.hbm, 254, rfl⟩
abbrev main_call0_call0_v164 : Ref sig .tc := ⟨.hbm, 255, rfl⟩
abbrev main_call0_call0_v165 : Ref sig .tc := ⟨.hbm, 256, rfl⟩
abbrev main_call0_call0_c_43 : Ref sig .tc := ⟨.hbm, 257, rfl⟩
abbrev main_call0_call0_v166 : Ref sig .tc := ⟨.hbm, 258, rfl⟩
abbrev main_call0_call0_v167 : Ref sig .tc := ⟨.hbm, 259, rfl⟩
abbrev main_call0_call0_v168 : Ref sig .tc := ⟨.hbm, 260, rfl⟩
abbrev main_call0_call0_v169 : Ref sig .tc := ⟨.hbm, 261, rfl⟩
abbrev main_call0_call0_v170 : Ref sig .tc := ⟨.hbm, 262, rfl⟩
abbrev main_call0_v11_0 : Ref sig .tc := ⟨.hbm, 263, rfl⟩
abbrev main_call0_call0_v172 : Ref sig .tc := ⟨.hbm, 264, rfl⟩
abbrev main_call0_call0_v173 : Ref sig .tc := ⟨.hbm, 265, rfl⟩
abbrev main_call0_call0_c_44 : Ref sig .tc := ⟨.hbm, 266, rfl⟩
abbrev main_call0_call0_v174 : Ref sig .tc := ⟨.hbm, 267, rfl⟩
abbrev main_call0_v11_1 : Ref sig .tc := ⟨.hbm, 268, rfl⟩
abbrev main_call0_v12 : Ref sig .tc := ⟨.hbm, 269, rfl⟩
abbrev main_call0_v13 : Ref sig .tc := ⟨.hbm, 270, rfl⟩
abbrev main_v7 : Ref sig .tc := ⟨.hbm, 271, rfl⟩
abbrev main_v8 : Ref sig .tc := ⟨.hbm, 272, rfl⟩
abbrev main_v9 : Ref sig .tc := ⟨.hbm, 273, rfl⟩
abbrev main_v10 : Ref sig .tc := ⟨.hbm, 274, rfl⟩
abbrev main_v11 : Ref sig .tc := ⟨.hbm, 275, rfl⟩
abbrev main_cst : Ref sig .tc := ⟨.hbm, 276, rfl⟩
abbrev main_cst_2 : Ref sig .tc := ⟨.hbm, 277, rfl⟩
abbrev main_call1_v0 : Ref sig .tc := ⟨.hbm, 278, rfl⟩
abbrev main_call1_v1 : Ref sig .tc := ⟨.hbm, 279, rfl⟩
abbrev main_call1_v2 : Ref sig .tc := ⟨.hbm, 280, rfl⟩
abbrev main_call1_v3 : Ref sig .tc := ⟨.hbm, 281, rfl⟩
abbrev main_call1_v4 : Ref sig .tc := ⟨.hbm, 282, rfl⟩
abbrev main_call1_v5 : Ref sig .tc := ⟨.hbm, 283, rfl⟩
abbrev main_call1_v6 : Ref sig .tc := ⟨.hbm, 284, rfl⟩
abbrev main_call1_v7 : Ref sig .tc := ⟨.hbm, 285, rfl⟩
abbrev main_call1_v8 : Ref sig .tc := ⟨.hbm, 286, rfl⟩
abbrev main_call1_v9 : Ref sig .tc := ⟨.hbm, 287, rfl⟩
abbrev main_call1_c : Ref sig .tc := ⟨.hbm, 288, rfl⟩
abbrev main_call1_v10 : Ref sig .tc := ⟨.hbm, 289, rfl⟩
abbrev main_call1_v11 : Ref sig .tc := ⟨.hbm, 290, rfl⟩
abbrev main_call1_c_0 : Ref sig .tc := ⟨.hbm, 291, rfl⟩
abbrev main_call1_v12 : Ref sig .tc := ⟨.hbm, 292, rfl⟩
abbrev main_call1_v13 : Ref sig .tc := ⟨.hbm, 293, rfl⟩
abbrev main_call1_v14 : Ref sig .tc := ⟨.hbm, 294, rfl⟩
abbrev main_call1_c_1 : Ref sig .tc := ⟨.hbm, 295, rfl⟩
abbrev main_call1_v15 : Ref sig .tc := ⟨.hbm, 296, rfl⟩
abbrev main_call1_v16 : Ref sig .tc := ⟨.hbm, 297, rfl⟩
abbrev main_call1_v17 : Ref sig .tc := ⟨.hbm, 298, rfl⟩
abbrev main_call1_v18 : Ref sig .tc := ⟨.hbm, 299, rfl⟩
abbrev main_call1_call0_v0 : Ref sig .tc := ⟨.hbm, 300, rfl⟩
abbrev main_call1_call0_c : Ref sig .tc := ⟨.hbm, 301, rfl⟩
abbrev main_call1_call0_v1 : Ref sig .tc := ⟨.hbm, 302, rfl⟩
abbrev main_call1_call0_v2 : Ref sig .tc := ⟨.hbm, 303, rfl⟩
abbrev main_call1_call0_v3 : Ref sig .tc := ⟨.hbm, 304, rfl⟩
abbrev main_call1_call0_v4 : Ref sig .tc := ⟨.hbm, 305, rfl⟩
abbrev main_call1_call0_v5 : Ref sig .tc := ⟨.hbm, 306, rfl⟩
abbrev main_call1_call0_v6 : Ref sig .tc := ⟨.hbm, 307, rfl⟩
abbrev main_call1_call0_c_0 : Ref sig .tc := ⟨.hbm, 308, rfl⟩
abbrev main_call1_call0_v7 : Ref sig .tc := ⟨.hbm, 309, rfl⟩
abbrev main_call1_call0_v8 : Ref sig .tc := ⟨.hbm, 310, rfl⟩
abbrev main_call1_call0_c_1 : Ref sig .tc := ⟨.hbm, 311, rfl⟩
abbrev main_call1_call0_v9 : Ref sig .tc := ⟨.hbm, 312, rfl⟩
abbrev main_call1_call0_v10 : Ref sig .tc := ⟨.hbm, 313, rfl⟩
abbrev main_call1_call0_v11 : Ref sig .tc := ⟨.hbm, 314, rfl⟩
abbrev main_call1_call0_v12 : Ref sig .tc := ⟨.hbm, 315, rfl⟩
abbrev main_call1_call0_v13 : Ref sig .tc := ⟨.hbm, 316, rfl⟩
abbrev main_call1_call0_c_2 : Ref sig .tc := ⟨.hbm, 317, rfl⟩
abbrev main_call1_call0_v14 : Ref sig .tc := ⟨.hbm, 318, rfl⟩
abbrev main_call1_call0_v15 : Ref sig .tc := ⟨.hbm, 319, rfl⟩
abbrev main_call1_call0_c_3 : Ref sig .tc := ⟨.hbm, 320, rfl⟩
abbrev main_call1_call0_v16 : Ref sig .tc := ⟨.hbm, 321, rfl⟩
abbrev main_call1_call0_v17 : Ref sig .tc := ⟨.hbm, 322, rfl⟩
abbrev main_call1_call0_v18 : Ref sig .tc := ⟨.hbm, 323, rfl⟩
abbrev main_call1_call0_v19 : Ref sig .tc := ⟨.hbm, 324, rfl⟩
abbrev main_call1_call0_v20 : Ref sig .tc := ⟨.hbm, 325, rfl⟩
abbrev main_call1_call0_c_4 : Ref sig .tc := ⟨.hbm, 326, rfl⟩
abbrev main_call1_call0_v21 : Ref sig .tc := ⟨.hbm, 327, rfl⟩
abbrev main_call1_call0_v22 : Ref sig .tc := ⟨.hbm, 328, rfl⟩
abbrev main_call1_call0_c_5 : Ref sig .tc := ⟨.hbm, 329, rfl⟩
abbrev main_call1_call0_v23 : Ref sig .tc := ⟨.hbm, 330, rfl⟩
abbrev main_call1_call0_v24 : Ref sig .tc := ⟨.hbm, 331, rfl⟩
abbrev main_call1_call0_v25 : Ref sig .tc := ⟨.hbm, 332, rfl⟩
abbrev main_call1_call0_v26 : Ref sig .tc := ⟨.hbm, 333, rfl⟩
abbrev main_call1_call0_v27 : Ref sig .tc := ⟨.hbm, 334, rfl⟩
abbrev main_call1_call0_c_6 : Ref sig .tc := ⟨.hbm, 335, rfl⟩
abbrev main_call1_call0_v28 : Ref sig .tc := ⟨.hbm, 336, rfl⟩
abbrev main_call1_call0_v29 : Ref sig .tc := ⟨.hbm, 337, rfl⟩
abbrev main_call1_call0_c_7 : Ref sig .tc := ⟨.hbm, 338, rfl⟩
abbrev main_call1_call0_v30 : Ref sig .tc := ⟨.hbm, 339, rfl⟩
abbrev main_call1_call0_v31 : Ref sig .tc := ⟨.hbm, 340, rfl⟩
abbrev main_call1_call0_v32 : Ref sig .tc := ⟨.hbm, 341, rfl⟩
abbrev main_call1_call0_v33 : Ref sig .tc := ⟨.hbm, 342, rfl⟩
abbrev main_call1_call0_v34 : Ref sig .tc := ⟨.hbm, 343, rfl⟩
abbrev main_call1_call0_v35 : Ref sig .tc := ⟨.hbm, 344, rfl⟩
abbrev main_call1_call0_v36 : Ref sig .tc := ⟨.hbm, 345, rfl⟩
abbrev main_call1_call0_v37 : Ref sig .tc := ⟨.hbm, 346, rfl⟩
abbrev main_call1_call0_c_8 : Ref sig .tc := ⟨.hbm, 347, rfl⟩
abbrev main_call1_call0_v38 : Ref sig .tc := ⟨.hbm, 348, rfl⟩
abbrev main_call1_call0_v39 : Ref sig .tc := ⟨.hbm, 349, rfl⟩
abbrev main_call1_call0_v40 : Ref sig .tc := ⟨.hbm, 350, rfl⟩
abbrev main_call1_call0_c_9 : Ref sig .tc := ⟨.hbm, 351, rfl⟩
abbrev main_call1_call0_v41 : Ref sig .tc := ⟨.hbm, 352, rfl⟩
abbrev main_call1_call0_v42 : Ref sig .tc := ⟨.hbm, 353, rfl⟩
abbrev main_call1_call0_c_10 : Ref sig .tc := ⟨.hbm, 354, rfl⟩
abbrev main_call1_call0_v43 : Ref sig .tc := ⟨.hbm, 355, rfl⟩
abbrev main_call1_call0_v44 : Ref sig .tc := ⟨.hbm, 356, rfl⟩
abbrev main_call1_call0_v45 : Ref sig .tc := ⟨.hbm, 357, rfl⟩
abbrev main_call1_call0_v46 : Ref sig .tc := ⟨.hbm, 358, rfl⟩
abbrev main_call1_call0_v47 : Ref sig .tc := ⟨.hbm, 359, rfl⟩
abbrev main_call1_call0_c_11 : Ref sig .tc := ⟨.hbm, 360, rfl⟩
abbrev main_call1_call0_v48 : Ref sig .tc := ⟨.hbm, 361, rfl⟩
abbrev main_call1_call0_v49 : Ref sig .tc := ⟨.hbm, 362, rfl⟩
abbrev main_call1_call0_c_12 : Ref sig .tc := ⟨.hbm, 363, rfl⟩
abbrev main_call1_call0_v50 : Ref sig .tc := ⟨.hbm, 364, rfl⟩
abbrev main_call1_call0_v51 : Ref sig .tc := ⟨.hbm, 365, rfl⟩
abbrev main_call1_call0_v52 : Ref sig .tc := ⟨.hbm, 366, rfl⟩
abbrev main_call1_call0_v53 : Ref sig .tc := ⟨.hbm, 367, rfl⟩
abbrev main_call1_call0_v54 : Ref sig .tc := ⟨.hbm, 368, rfl⟩
abbrev main_call1_call0_c_13 : Ref sig .tc := ⟨.hbm, 369, rfl⟩
abbrev main_call1_call0_v55 : Ref sig .tc := ⟨.hbm, 370, rfl⟩
abbrev main_call1_call0_v56 : Ref sig .tc := ⟨.hbm, 371, rfl⟩
abbrev main_call1_call0_c_14 : Ref sig .tc := ⟨.hbm, 372, rfl⟩
abbrev main_call1_call0_v57 : Ref sig .tc := ⟨.hbm, 373, rfl⟩
abbrev main_call1_call0_v58 : Ref sig .tc := ⟨.hbm, 374, rfl⟩
abbrev main_call1_call0_v59 : Ref sig .tc := ⟨.hbm, 375, rfl⟩
abbrev main_call1_call0_v60 : Ref sig .tc := ⟨.hbm, 376, rfl⟩
abbrev main_call1_call0_v61 : Ref sig .tc := ⟨.hbm, 377, rfl⟩
abbrev main_call1_call0_c_15 : Ref sig .tc := ⟨.hbm, 378, rfl⟩
abbrev main_call1_call0_v62 : Ref sig .tc := ⟨.hbm, 379, rfl⟩
abbrev main_call1_call0_v63 : Ref sig .tc := ⟨.hbm, 380, rfl⟩
abbrev main_call1_call0_c_16 : Ref sig .tc := ⟨.hbm, 381, rfl⟩
abbrev main_call1_call0_v64 : Ref sig .tc := ⟨.hbm, 382, rfl⟩
abbrev main_call1_call0_v65 : Ref sig .tc := ⟨.hbm, 383, rfl⟩
abbrev main_call1_call0_v66 : Ref sig .tc := ⟨.hbm, 384, rfl⟩
abbrev main_call1_call0_v67 : Ref sig .tc := ⟨.hbm, 385, rfl⟩
abbrev main_call1_call0_v68 : Ref sig .tc := ⟨.hbm, 386, rfl⟩
abbrev main_call1_call0_v69 : Ref sig .tc := ⟨.hbm, 387, rfl⟩
abbrev main_call1_call0_v70 : Ref sig .tc := ⟨.hbm, 388, rfl⟩
abbrev main_call1_call0_v71 : Ref sig .tc := ⟨.hbm, 389, rfl⟩
abbrev main_call1_call0_c_17 : Ref sig .tc := ⟨.hbm, 390, rfl⟩
abbrev main_call1_call0_v72 : Ref sig .tc := ⟨.hbm, 391, rfl⟩
abbrev main_call1_call0_v73 : Ref sig .tc := ⟨.hbm, 392, rfl⟩
abbrev main_call1_call0_v74 : Ref sig .tc := ⟨.hbm, 393, rfl⟩
abbrev main_call1_call0_c_18 : Ref sig .tc := ⟨.hbm, 394, rfl⟩
abbrev main_call1_call0_v75 : Ref sig .tc := ⟨.hbm, 395, rfl⟩
abbrev main_call1_call0_v76 : Ref sig .tc := ⟨.hbm, 396, rfl⟩
abbrev main_call1_call0_c_19 : Ref sig .tc := ⟨.hbm, 397, rfl⟩
abbrev main_call1_call0_v77 : Ref sig .tc := ⟨.hbm, 398, rfl⟩
abbrev main_call1_call0_v78 : Ref sig .tc := ⟨.hbm, 399, rfl⟩
abbrev main_call1_call0_v79 : Ref sig .tc := ⟨.hbm, 400, rfl⟩
abbrev main_call1_call0_v80 : Ref sig .tc := ⟨.hbm, 401, rfl⟩
abbrev main_call1_call0_v81 : Ref sig .tc := ⟨.hbm, 402, rfl⟩
abbrev main_call1_call0_c_20 : Ref sig .tc := ⟨.hbm, 403, rfl⟩
abbrev main_call1_call0_v82 : Ref sig .tc := ⟨.hbm, 404, rfl⟩
abbrev main_call1_call0_v83 : Ref sig .tc := ⟨.hbm, 405, rfl⟩
abbrev main_call1_call0_c_21 : Ref sig .tc := ⟨.hbm, 406, rfl⟩
abbrev main_call1_call0_v84 : Ref sig .tc := ⟨.hbm, 407, rfl⟩
abbrev main_call1_call0_v85 : Ref sig .tc := ⟨.hbm, 408, rfl⟩
abbrev main_call1_call0_v86 : Ref sig .tc := ⟨.hbm, 409, rfl⟩
abbrev main_call1_call0_v87 : Ref sig .tc := ⟨.hbm, 410, rfl⟩
abbrev main_call1_call0_v88 : Ref sig .tc := ⟨.hbm, 411, rfl⟩
abbrev main_call1_call0_c_22 : Ref sig .tc := ⟨.hbm, 412, rfl⟩
abbrev main_call1_call0_v89 : Ref sig .tc := ⟨.hbm, 413, rfl⟩
abbrev main_call1_call0_v90 : Ref sig .tc := ⟨.hbm, 414, rfl⟩
abbrev main_call1_call0_c_23 : Ref sig .tc := ⟨.hbm, 415, rfl⟩
abbrev main_call1_call0_v91 : Ref sig .tc := ⟨.hbm, 416, rfl⟩
abbrev main_call1_call0_v92 : Ref sig .tc := ⟨.hbm, 417, rfl⟩
abbrev main_call1_call0_v93 : Ref sig .tc := ⟨.hbm, 418, rfl⟩
abbrev main_call1_call0_v94 : Ref sig .tc := ⟨.hbm, 419, rfl⟩
abbrev main_call1_call0_v95 : Ref sig .tc := ⟨.hbm, 420, rfl⟩
abbrev main_call1_call0_c_24 : Ref sig .tc := ⟨.hbm, 421, rfl⟩
abbrev main_call1_call0_v96 : Ref sig .tc := ⟨.hbm, 422, rfl⟩
abbrev main_call1_call0_v97 : Ref sig .tc := ⟨.hbm, 423, rfl⟩
abbrev main_call1_call0_c_25 : Ref sig .tc := ⟨.hbm, 424, rfl⟩
abbrev main_call1_call0_v98 : Ref sig .tc := ⟨.hbm, 425, rfl⟩
abbrev main_call1_call0_v99 : Ref sig .tc := ⟨.hbm, 426, rfl⟩
abbrev main_call1_call0_v100 : Ref sig .tc := ⟨.hbm, 427, rfl⟩
abbrev main_call1_call0_v101 : Ref sig .tc := ⟨.hbm, 428, rfl⟩
abbrev main_call1_call0_v102 : Ref sig .tc := ⟨.hbm, 429, rfl⟩
abbrev main_call1_call0_v103 : Ref sig .tc := ⟨.hbm, 430, rfl⟩
abbrev main_call1_call0_v104 : Ref sig .tc := ⟨.hbm, 431, rfl⟩
abbrev main_call1_call0_v105 : Ref sig .tc := ⟨.hbm, 432, rfl⟩
abbrev main_call1_call0_c_26 : Ref sig .tc := ⟨.hbm, 433, rfl⟩
abbrev main_call1_call0_v106 : Ref sig .tc := ⟨.hbm, 434, rfl⟩
abbrev main_call1_call0_v107 : Ref sig .tc := ⟨.hbm, 435, rfl⟩
abbrev main_call1_call0_v108 : Ref sig .tc := ⟨.hbm, 436, rfl⟩
abbrev main_call1_call0_c_27 : Ref sig .tc := ⟨.hbm, 437, rfl⟩
abbrev main_call1_call0_v109 : Ref sig .tc := ⟨.hbm, 438, rfl⟩
abbrev main_call1_call0_v110 : Ref sig .tc := ⟨.hbm, 439, rfl⟩
abbrev main_call1_call0_c_28 : Ref sig .tc := ⟨.hbm, 440, rfl⟩
abbrev main_call1_call0_v111 : Ref sig .tc := ⟨.hbm, 441, rfl⟩
abbrev main_call1_call0_v112 : Ref sig .tc := ⟨.hbm, 442, rfl⟩
abbrev main_call1_call0_v113 : Ref sig .tc := ⟨.hbm, 443, rfl⟩
abbrev main_call1_call0_v114 : Ref sig .tc := ⟨.hbm, 444, rfl⟩
abbrev main_call1_call0_v115 : Ref sig .tc := ⟨.hbm, 445, rfl⟩
abbrev main_call1_call0_c_29 : Ref sig .tc := ⟨.hbm, 446, rfl⟩
abbrev main_call1_call0_v116 : Ref sig .tc := ⟨.hbm, 447, rfl⟩
abbrev main_call1_call0_v117 : Ref sig .tc := ⟨.hbm, 448, rfl⟩
abbrev main_call1_call0_c_30 : Ref sig .tc := ⟨.hbm, 449, rfl⟩
abbrev main_call1_call0_v118 : Ref sig .tc := ⟨.hbm, 450, rfl⟩
abbrev main_call1_call0_v119 : Ref sig .tc := ⟨.hbm, 451, rfl⟩
abbrev main_call1_call0_v120 : Ref sig .tc := ⟨.hbm, 452, rfl⟩
abbrev main_call1_call0_v121 : Ref sig .tc := ⟨.hbm, 453, rfl⟩
abbrev main_call1_call0_v122 : Ref sig .tc := ⟨.hbm, 454, rfl⟩
abbrev main_call1_call0_c_31 : Ref sig .tc := ⟨.hbm, 455, rfl⟩
abbrev main_call1_call0_v123 : Ref sig .tc := ⟨.hbm, 456, rfl⟩
abbrev main_call1_call0_v124 : Ref sig .tc := ⟨.hbm, 457, rfl⟩
abbrev main_call1_call0_c_32 : Ref sig .tc := ⟨.hbm, 458, rfl⟩
abbrev main_call1_call0_v125 : Ref sig .tc := ⟨.hbm, 459, rfl⟩
abbrev main_call1_call0_v126 : Ref sig .tc := ⟨.hbm, 460, rfl⟩
abbrev main_call1_call0_v127 : Ref sig .tc := ⟨.hbm, 461, rfl⟩
abbrev main_call1_call0_v128 : Ref sig .tc := ⟨.hbm, 462, rfl⟩
abbrev main_call1_call0_v129 : Ref sig .tc := ⟨.hbm, 463, rfl⟩
abbrev main_call1_call0_c_33 : Ref sig .tc := ⟨.hbm, 464, rfl⟩
abbrev main_call1_call0_v130 : Ref sig .tc := ⟨.hbm, 465, rfl⟩
abbrev main_call1_call0_v131 : Ref sig .tc := ⟨.hbm, 466, rfl⟩
abbrev main_call1_call0_c_34 : Ref sig .tc := ⟨.hbm, 467, rfl⟩
abbrev main_call1_call0_v132 : Ref sig .tc := ⟨.hbm, 468, rfl⟩
abbrev main_call1_call0_v133 : Ref sig .tc := ⟨.hbm, 469, rfl⟩
abbrev main_call1_call0_v134 : Ref sig .tc := ⟨.hbm, 470, rfl⟩
abbrev main_call1_call0_v135 : Ref sig .tc := ⟨.hbm, 471, rfl⟩
abbrev main_call1_call0_v136 : Ref sig .tc := ⟨.hbm, 472, rfl⟩
abbrev main_call1_call0_v137 : Ref sig .tc := ⟨.hbm, 473, rfl⟩
abbrev main_call1_call0_v138 : Ref sig .tc := ⟨.hbm, 474, rfl⟩
abbrev main_call1_call0_v139 : Ref sig .tc := ⟨.hbm, 475, rfl⟩
abbrev main_call1_call0_c_35 : Ref sig .tc := ⟨.hbm, 476, rfl⟩
abbrev main_call1_call0_v140 : Ref sig .tc := ⟨.hbm, 477, rfl⟩
abbrev main_call1_call0_v141 : Ref sig .tc := ⟨.hbm, 478, rfl⟩
abbrev main_call1_call0_v142 : Ref sig .tc := ⟨.hbm, 479, rfl⟩
abbrev main_call1_call0_c_36 : Ref sig .tc := ⟨.hbm, 480, rfl⟩
abbrev main_call1_call0_v143 : Ref sig .tc := ⟨.hbm, 481, rfl⟩
abbrev main_call1_call0_v144 : Ref sig .tc := ⟨.hbm, 482, rfl⟩
abbrev main_call1_call0_c_37 : Ref sig .tc := ⟨.hbm, 483, rfl⟩
abbrev main_call1_call0_v145 : Ref sig .tc := ⟨.hbm, 484, rfl⟩
abbrev main_call1_call0_v146 : Ref sig .tc := ⟨.hbm, 485, rfl⟩
abbrev main_call1_call0_v147 : Ref sig .tc := ⟨.hbm, 486, rfl⟩
abbrev main_call1_call0_v148 : Ref sig .tc := ⟨.hbm, 487, rfl⟩
abbrev main_call1_call0_v149 : Ref sig .tc := ⟨.hbm, 488, rfl⟩
abbrev main_call1_call0_c_38 : Ref sig .tc := ⟨.hbm, 489, rfl⟩
abbrev main_call1_call0_v150 : Ref sig .tc := ⟨.hbm, 490, rfl⟩
abbrev main_call1_call0_v151 : Ref sig .tc := ⟨.hbm, 491, rfl⟩
abbrev main_call1_call0_c_39 : Ref sig .tc := ⟨.hbm, 492, rfl⟩
abbrev main_call1_call0_v152 : Ref sig .tc := ⟨.hbm, 493, rfl⟩
abbrev main_call1_call0_v153 : Ref sig .tc := ⟨.hbm, 494, rfl⟩
abbrev main_call1_call0_v154 : Ref sig .tc := ⟨.hbm, 495, rfl⟩
abbrev main_call1_call0_v155 : Ref sig .tc := ⟨.hbm, 496, rfl⟩
abbrev main_call1_call0_v156 : Ref sig .tc := ⟨.hbm, 497, rfl⟩
abbrev main_call1_call0_c_40 : Ref sig .tc := ⟨.hbm, 498, rfl⟩
abbrev main_call1_call0_v157 : Ref sig .tc := ⟨.hbm, 499, rfl⟩
abbrev main_call1_call0_v158 : Ref sig .tc := ⟨.hbm, 500, rfl⟩
abbrev main_call1_call0_c_41 : Ref sig .tc := ⟨.hbm, 501, rfl⟩
abbrev main_call1_call0_v159 : Ref sig .tc := ⟨.hbm, 502, rfl⟩
abbrev main_call1_call0_v160 : Ref sig .tc := ⟨.hbm, 503, rfl⟩
abbrev main_call1_call0_v161 : Ref sig .tc := ⟨.hbm, 504, rfl⟩
abbrev main_call1_call0_v162 : Ref sig .tc := ⟨.hbm, 505, rfl⟩
abbrev main_call1_call0_v163 : Ref sig .tc := ⟨.hbm, 506, rfl⟩
abbrev main_call1_call0_c_42 : Ref sig .tc := ⟨.hbm, 507, rfl⟩
abbrev main_call1_call0_v164 : Ref sig .tc := ⟨.hbm, 508, rfl⟩
abbrev main_call1_call0_v165 : Ref sig .tc := ⟨.hbm, 509, rfl⟩
abbrev main_call1_call0_c_43 : Ref sig .tc := ⟨.hbm, 510, rfl⟩
abbrev main_call1_call0_v166 : Ref sig .tc := ⟨.hbm, 511, rfl⟩
abbrev main_call1_call0_v167 : Ref sig .tc := ⟨.hbm, 512, rfl⟩
abbrev main_call1_call0_v168 : Ref sig .tc := ⟨.hbm, 513, rfl⟩
abbrev main_call1_call0_v169 : Ref sig .tc := ⟨.hbm, 514, rfl⟩
abbrev main_call1_call0_v170 : Ref sig .tc := ⟨.hbm, 515, rfl⟩
abbrev main_call1_v19_0 : Ref sig .tc := ⟨.hbm, 516, rfl⟩
abbrev main_call1_call0_v172 : Ref sig .tc := ⟨.hbm, 517, rfl⟩
abbrev main_call1_call0_v173 : Ref sig .tc := ⟨.hbm, 518, rfl⟩
abbrev main_call1_call0_c_44 : Ref sig .tc := ⟨.hbm, 519, rfl⟩
abbrev main_call1_call0_v174 : Ref sig .tc := ⟨.hbm, 520, rfl⟩
abbrev main_call1_v19_1 : Ref sig .tc := ⟨.hbm, 521, rfl⟩
abbrev main_call1_v20 : Ref sig .tc := ⟨.hbm, 522, rfl⟩
abbrev main_call1_c_2 : Ref sig .tc := ⟨.hbm, 523, rfl⟩
abbrev main_call1_v21 : Ref sig .tc := ⟨.hbm, 524, rfl⟩
abbrev main_call1_v22 : Ref sig .tc := ⟨.hbm, 525, rfl⟩
abbrev main_call1_c_3 : Ref sig .tc := ⟨.hbm, 526, rfl⟩
abbrev main_call1_v23 : Ref sig .tc := ⟨.hbm, 527, rfl⟩
abbrev main_call1_v24 : Ref sig .tc := ⟨.hbm, 528, rfl⟩
abbrev main_call1_v25 : Ref sig .tc := ⟨.hbm, 529, rfl⟩
abbrev main_call1_cst : Ref sig .tc := ⟨.hbm, 530, rfl⟩
abbrev main_call1_v26 : Ref sig .tc := ⟨.hbm, 531, rfl⟩
abbrev main_call1_v27 : Ref sig .tc := ⟨.hbm, 532, rfl⟩
abbrev main_call1_v28 : Ref sig .tc := ⟨.hbm, 533, rfl⟩
abbrev main_call1_v29 : Ref sig .tc := ⟨.hbm, 534, rfl⟩
abbrev main_call1_v30 : Ref sig .tc := ⟨.hbm, 535, rfl⟩
abbrev main_call1_v31 : Ref sig .tc := ⟨.hbm, 536, rfl⟩
abbrev main_call1_v32 : Ref sig .tc := ⟨.hbm, 537, rfl⟩
abbrev main_call1_v33 : Ref sig .tc := ⟨.hbm, 538, rfl⟩
abbrev main_v12 : Ref sig .tc := ⟨.hbm, 539, rfl⟩
abbrev main_v13 : Ref sig .tc := ⟨.hbm, 540, rfl⟩
abbrev main_v14 : Ref sig .tc := ⟨.hbm, 541, rfl⟩
abbrev main_v15 : Ref sig .tc := ⟨.hbm, 542, rfl⟩
abbrev main_v16 : Ref sig .tc := ⟨.hbm, 543, rfl⟩
abbrev main_v17 : Ref sig .tc := ⟨.hbm, 544, rfl⟩
abbrev main_v18 : Ref sig .tc := ⟨.hbm, 545, rfl⟩
abbrev main_cst_3 : Ref sig .tc := ⟨.hbm, 546, rfl⟩
abbrev main_v19 : Ref sig .tc := ⟨.hbm, 547, rfl⟩
abbrev main_v20 : Ref sig .tc := ⟨.hbm, 548, rfl⟩
abbrev main_v21 : Ref sig .tc := ⟨.hbm, 549, rfl⟩
abbrev main_v22 : Ref sig .tc := ⟨.hbm, 550, rfl⟩
abbrev main_cst_4 : Ref sig .tc := ⟨.hbm, 551, rfl⟩
abbrev main_v23 : Ref sig .tc := ⟨.hbm, 552, rfl⟩
abbrev main_v24 : Ref sig .tc := ⟨.hbm, 553, rfl⟩
abbrev main_v25 : Ref sig .tc := ⟨.hbm, 554, rfl⟩
abbrev main_v26 : Ref sig .tc := ⟨.hbm, 555, rfl⟩
abbrev main_v27 : Ref sig .tc := ⟨.hbm, 556, rfl⟩
abbrev main_cst_5 : Ref sig .tc := ⟨.hbm, 557, rfl⟩
abbrev main_v28 : Ref sig .tc := ⟨.hbm, 558, rfl⟩
abbrev main_v29 : Ref sig .tc := ⟨.hbm, 559, rfl⟩
abbrev main_v30 : Ref sig .tc := ⟨.hbm, 560, rfl⟩
abbrev main_v31 : Ref sig .tc := ⟨.hbm, 561, rfl⟩
abbrev main_cst_6 : Ref sig .tc := ⟨.hbm, 562, rfl⟩
abbrev main_v32 : Ref sig .tc := ⟨.hbm, 563, rfl⟩
abbrev main_v33 : Ref sig .tc := ⟨.hbm, 564, rfl⟩
abbrev main_v34 : Ref sig .tc := ⟨.hbm, 565, rfl⟩
abbrev main_cst_7 : Ref sig .tc := ⟨.hbm, 566, rfl⟩
abbrev main_cst_8 : Ref sig .tc := ⟨.hbm, 567, rfl⟩
abbrev main_call2_v0 : Ref sig .tc := ⟨.hbm, 568, rfl⟩
abbrev main_call2_v1 : Ref sig .tc := ⟨.hbm, 569, rfl⟩
abbrev main_call2_v2 : Ref sig .tc := ⟨.hbm, 570, rfl⟩
abbrev main_call2_v3 : Ref sig .tc := ⟨.hbm, 571, rfl⟩
abbrev main_call2_v4 : Ref sig .tc := ⟨.hbm, 572, rfl⟩
abbrev main_call2_v5 : Ref sig .tc := ⟨.hbm, 573, rfl⟩
abbrev main_call2_v6 : Ref sig .tc := ⟨.hbm, 574, rfl⟩
abbrev main_call2_v7 : Ref sig .tc := ⟨.hbm, 575, rfl⟩
abbrev main_call2_v8 : Ref sig .tc := ⟨.hbm, 576, rfl⟩
abbrev main_call2_v9 : Ref sig .tc := ⟨.hbm, 577, rfl⟩
abbrev main_call2_c : Ref sig .tc := ⟨.hbm, 578, rfl⟩
abbrev main_call2_v10 : Ref sig .tc := ⟨.hbm, 579, rfl⟩
abbrev main_call2_v11 : Ref sig .tc := ⟨.hbm, 580, rfl⟩
abbrev main_call2_c_0 : Ref sig .tc := ⟨.hbm, 581, rfl⟩
abbrev main_call2_v12 : Ref sig .tc := ⟨.hbm, 582, rfl⟩
abbrev main_call2_v13 : Ref sig .tc := ⟨.hbm, 583, rfl⟩
abbrev main_call2_v14 : Ref sig .tc := ⟨.hbm, 584, rfl⟩
abbrev main_call2_c_1 : Ref sig .tc := ⟨.hbm, 585, rfl⟩
abbrev main_call2_v15 : Ref sig .tc := ⟨.hbm, 586, rfl⟩
abbrev main_call2_v16 : Ref sig .tc := ⟨.hbm, 587, rfl⟩
abbrev main_call2_v17 : Ref sig .tc := ⟨.hbm, 588, rfl⟩
abbrev main_call2_v18 : Ref sig .tc := ⟨.hbm, 589, rfl⟩
abbrev main_call2_call0_v0 : Ref sig .tc := ⟨.hbm, 590, rfl⟩
abbrev main_call2_call0_c : Ref sig .tc := ⟨.hbm, 591, rfl⟩
abbrev main_call2_call0_v1 : Ref sig .tc := ⟨.hbm, 592, rfl⟩
abbrev main_call2_call0_v2 : Ref sig .tc := ⟨.hbm, 593, rfl⟩
abbrev main_call2_call0_v3 : Ref sig .tc := ⟨.hbm, 594, rfl⟩
abbrev main_call2_call0_v4 : Ref sig .tc := ⟨.hbm, 595, rfl⟩
abbrev main_call2_call0_v5 : Ref sig .tc := ⟨.hbm, 596, rfl⟩
abbrev main_call2_call0_v6 : Ref sig .tc := ⟨.hbm, 597, rfl⟩
abbrev main_call2_call0_c_0 : Ref sig .tc := ⟨.hbm, 598, rfl⟩
abbrev main_call2_call0_v7 : Ref sig .tc := ⟨.hbm, 599, rfl⟩
abbrev main_call2_call0_v8 : Ref sig .tc := ⟨.hbm, 600, rfl⟩
abbrev main_call2_call0_c_1 : Ref sig .tc := ⟨.hbm, 601, rfl⟩
abbrev main_call2_call0_v9 : Ref sig .tc := ⟨.hbm, 602, rfl⟩
abbrev main_call2_call0_v10 : Ref sig .tc := ⟨.hbm, 603, rfl⟩
abbrev main_call2_call0_v11 : Ref sig .tc := ⟨.hbm, 604, rfl⟩
abbrev main_call2_call0_v12 : Ref sig .tc := ⟨.hbm, 605, rfl⟩
abbrev main_call2_call0_v13 : Ref sig .tc := ⟨.hbm, 606, rfl⟩
abbrev main_call2_call0_c_2 : Ref sig .tc := ⟨.hbm, 607, rfl⟩
abbrev main_call2_call0_v14 : Ref sig .tc := ⟨.hbm, 608, rfl⟩
abbrev main_call2_call0_v15 : Ref sig .tc := ⟨.hbm, 609, rfl⟩
abbrev main_call2_call0_c_3 : Ref sig .tc := ⟨.hbm, 610, rfl⟩
abbrev main_call2_call0_v16 : Ref sig .tc := ⟨.hbm, 611, rfl⟩
abbrev main_call2_call0_v17 : Ref sig .tc := ⟨.hbm, 612, rfl⟩
abbrev main_call2_call0_v18 : Ref sig .tc := ⟨.hbm, 613, rfl⟩
abbrev main_call2_call0_v19 : Ref sig .tc := ⟨.hbm, 614, rfl⟩
abbrev main_call2_call0_v20 : Ref sig .tc := ⟨.hbm, 615, rfl⟩
abbrev main_call2_call0_c_4 : Ref sig .tc := ⟨.hbm, 616, rfl⟩
abbrev main_call2_call0_v21 : Ref sig .tc := ⟨.hbm, 617, rfl⟩
abbrev main_call2_call0_v22 : Ref sig .tc := ⟨.hbm, 618, rfl⟩
abbrev main_call2_call0_c_5 : Ref sig .tc := ⟨.hbm, 619, rfl⟩
abbrev main_call2_call0_v23 : Ref sig .tc := ⟨.hbm, 620, rfl⟩
abbrev main_call2_call0_v24 : Ref sig .tc := ⟨.hbm, 621, rfl⟩
abbrev main_call2_call0_v25 : Ref sig .tc := ⟨.hbm, 622, rfl⟩
abbrev main_call2_call0_v26 : Ref sig .tc := ⟨.hbm, 623, rfl⟩
abbrev main_call2_call0_v27 : Ref sig .tc := ⟨.hbm, 624, rfl⟩
abbrev main_call2_call0_c_6 : Ref sig .tc := ⟨.hbm, 625, rfl⟩
abbrev main_call2_call0_v28 : Ref sig .tc := ⟨.hbm, 626, rfl⟩
abbrev main_call2_call0_v29 : Ref sig .tc := ⟨.hbm, 627, rfl⟩
abbrev main_call2_call0_c_7 : Ref sig .tc := ⟨.hbm, 628, rfl⟩
abbrev main_call2_call0_v30 : Ref sig .tc := ⟨.hbm, 629, rfl⟩
abbrev main_call2_call0_v31 : Ref sig .tc := ⟨.hbm, 630, rfl⟩
abbrev main_call2_call0_v32 : Ref sig .tc := ⟨.hbm, 631, rfl⟩
abbrev main_call2_call0_v33 : Ref sig .tc := ⟨.hbm, 632, rfl⟩
abbrev main_call2_call0_v34 : Ref sig .tc := ⟨.hbm, 633, rfl⟩
abbrev main_call2_call0_v35 : Ref sig .tc := ⟨.hbm, 634, rfl⟩
abbrev main_call2_call0_v36 : Ref sig .tc := ⟨.hbm, 635, rfl⟩
abbrev main_call2_call0_v37 : Ref sig .tc := ⟨.hbm, 636, rfl⟩
abbrev main_call2_call0_c_8 : Ref sig .tc := ⟨.hbm, 637, rfl⟩
abbrev main_call2_call0_v38 : Ref sig .tc := ⟨.hbm, 638, rfl⟩
abbrev main_call2_call0_v39 : Ref sig .tc := ⟨.hbm, 639, rfl⟩
abbrev main_call2_call0_v40 : Ref sig .tc := ⟨.hbm, 640, rfl⟩
abbrev main_call2_call0_c_9 : Ref sig .tc := ⟨.hbm, 641, rfl⟩
abbrev main_call2_call0_v41 : Ref sig .tc := ⟨.hbm, 642, rfl⟩
abbrev main_call2_call0_v42 : Ref sig .tc := ⟨.hbm, 643, rfl⟩
abbrev main_call2_call0_c_10 : Ref sig .tc := ⟨.hbm, 644, rfl⟩
abbrev main_call2_call0_v43 : Ref sig .tc := ⟨.hbm, 645, rfl⟩
abbrev main_call2_call0_v44 : Ref sig .tc := ⟨.hbm, 646, rfl⟩
abbrev main_call2_call0_v45 : Ref sig .tc := ⟨.hbm, 647, rfl⟩
abbrev main_call2_call0_v46 : Ref sig .tc := ⟨.hbm, 648, rfl⟩
abbrev main_call2_call0_v47 : Ref sig .tc := ⟨.hbm, 649, rfl⟩
abbrev main_call2_call0_c_11 : Ref sig .tc := ⟨.hbm, 650, rfl⟩
abbrev main_call2_call0_v48 : Ref sig .tc := ⟨.hbm, 651, rfl⟩
abbrev main_call2_call0_v49 : Ref sig .tc := ⟨.hbm, 652, rfl⟩
abbrev main_call2_call0_c_12 : Ref sig .tc := ⟨.hbm, 653, rfl⟩
abbrev main_call2_call0_v50 : Ref sig .tc := ⟨.hbm, 654, rfl⟩
abbrev main_call2_call0_v51 : Ref sig .tc := ⟨.hbm, 655, rfl⟩
abbrev main_call2_call0_v52 : Ref sig .tc := ⟨.hbm, 656, rfl⟩
abbrev main_call2_call0_v53 : Ref sig .tc := ⟨.hbm, 657, rfl⟩
abbrev main_call2_call0_v54 : Ref sig .tc := ⟨.hbm, 658, rfl⟩
abbrev main_call2_call0_c_13 : Ref sig .tc := ⟨.hbm, 659, rfl⟩
abbrev main_call2_call0_v55 : Ref sig .tc := ⟨.hbm, 660, rfl⟩
abbrev main_call2_call0_v56 : Ref sig .tc := ⟨.hbm, 661, rfl⟩
abbrev main_call2_call0_c_14 : Ref sig .tc := ⟨.hbm, 662, rfl⟩
abbrev main_call2_call0_v57 : Ref sig .tc := ⟨.hbm, 663, rfl⟩
abbrev main_call2_call0_v58 : Ref sig .tc := ⟨.hbm, 664, rfl⟩
abbrev main_call2_call0_v59 : Ref sig .tc := ⟨.hbm, 665, rfl⟩
abbrev main_call2_call0_v60 : Ref sig .tc := ⟨.hbm, 666, rfl⟩
abbrev main_call2_call0_v61 : Ref sig .tc := ⟨.hbm, 667, rfl⟩
abbrev main_call2_call0_c_15 : Ref sig .tc := ⟨.hbm, 668, rfl⟩
abbrev main_call2_call0_v62 : Ref sig .tc := ⟨.hbm, 669, rfl⟩
abbrev main_call2_call0_v63 : Ref sig .tc := ⟨.hbm, 670, rfl⟩
abbrev main_call2_call0_c_16 : Ref sig .tc := ⟨.hbm, 671, rfl⟩
abbrev main_call2_call0_v64 : Ref sig .tc := ⟨.hbm, 672, rfl⟩
abbrev main_call2_call0_v65 : Ref sig .tc := ⟨.hbm, 673, rfl⟩
abbrev main_call2_call0_v66 : Ref sig .tc := ⟨.hbm, 674, rfl⟩
abbrev main_call2_call0_v67 : Ref sig .tc := ⟨.hbm, 675, rfl⟩
abbrev main_call2_call0_v68 : Ref sig .tc := ⟨.hbm, 676, rfl⟩
abbrev main_call2_call0_v69 : Ref sig .tc := ⟨.hbm, 677, rfl⟩
abbrev main_call2_call0_v70 : Ref sig .tc := ⟨.hbm, 678, rfl⟩
abbrev main_call2_call0_v71 : Ref sig .tc := ⟨.hbm, 679, rfl⟩
abbrev main_call2_call0_c_17 : Ref sig .tc := ⟨.hbm, 680, rfl⟩
abbrev main_call2_call0_v72 : Ref sig .tc := ⟨.hbm, 681, rfl⟩
abbrev main_call2_call0_v73 : Ref sig .tc := ⟨.hbm, 682, rfl⟩
abbrev main_call2_call0_v74 : Ref sig .tc := ⟨.hbm, 683, rfl⟩
abbrev main_call2_call0_c_18 : Ref sig .tc := ⟨.hbm, 684, rfl⟩
abbrev main_call2_call0_v75 : Ref sig .tc := ⟨.hbm, 685, rfl⟩
abbrev main_call2_call0_v76 : Ref sig .tc := ⟨.hbm, 686, rfl⟩
abbrev main_call2_call0_c_19 : Ref sig .tc := ⟨.hbm, 687, rfl⟩
abbrev main_call2_call0_v77 : Ref sig .tc := ⟨.hbm, 688, rfl⟩
abbrev main_call2_call0_v78 : Ref sig .tc := ⟨.hbm, 689, rfl⟩
abbrev main_call2_call0_v79 : Ref sig .tc := ⟨.hbm, 690, rfl⟩
abbrev main_call2_call0_v80 : Ref sig .tc := ⟨.hbm, 691, rfl⟩
abbrev main_call2_call0_v81 : Ref sig .tc := ⟨.hbm, 692, rfl⟩
abbrev main_call2_call0_c_20 : Ref sig .tc := ⟨.hbm, 693, rfl⟩
abbrev main_call2_call0_v82 : Ref sig .tc := ⟨.hbm, 694, rfl⟩
abbrev main_call2_call0_v83 : Ref sig .tc := ⟨.hbm, 695, rfl⟩
abbrev main_call2_call0_c_21 : Ref sig .tc := ⟨.hbm, 696, rfl⟩
abbrev main_call2_call0_v84 : Ref sig .tc := ⟨.hbm, 697, rfl⟩
abbrev main_call2_call0_v85 : Ref sig .tc := ⟨.hbm, 698, rfl⟩
abbrev main_call2_call0_v86 : Ref sig .tc := ⟨.hbm, 699, rfl⟩
abbrev main_call2_call0_v87 : Ref sig .tc := ⟨.hbm, 700, rfl⟩
abbrev main_call2_call0_v88 : Ref sig .tc := ⟨.hbm, 701, rfl⟩
abbrev main_call2_call0_c_22 : Ref sig .tc := ⟨.hbm, 702, rfl⟩
abbrev main_call2_call0_v89 : Ref sig .tc := ⟨.hbm, 703, rfl⟩
abbrev main_call2_call0_v90 : Ref sig .tc := ⟨.hbm, 704, rfl⟩
abbrev main_call2_call0_c_23 : Ref sig .tc := ⟨.hbm, 705, rfl⟩
abbrev main_call2_call0_v91 : Ref sig .tc := ⟨.hbm, 706, rfl⟩
abbrev main_call2_call0_v92 : Ref sig .tc := ⟨.hbm, 707, rfl⟩
abbrev main_call2_call0_v93 : Ref sig .tc := ⟨.hbm, 708, rfl⟩
abbrev main_call2_call0_v94 : Ref sig .tc := ⟨.hbm, 709, rfl⟩
abbrev main_call2_call0_v95 : Ref sig .tc := ⟨.hbm, 710, rfl⟩
abbrev main_call2_call0_c_24 : Ref sig .tc := ⟨.hbm, 711, rfl⟩
abbrev main_call2_call0_v96 : Ref sig .tc := ⟨.hbm, 712, rfl⟩
abbrev main_call2_call0_v97 : Ref sig .tc := ⟨.hbm, 713, rfl⟩
abbrev main_call2_call0_c_25 : Ref sig .tc := ⟨.hbm, 714, rfl⟩
abbrev main_call2_call0_v98 : Ref sig .tc := ⟨.hbm, 715, rfl⟩
abbrev main_call2_call0_v99 : Ref sig .tc := ⟨.hbm, 716, rfl⟩
abbrev main_call2_call0_v100 : Ref sig .tc := ⟨.hbm, 717, rfl⟩
abbrev main_call2_call0_v101 : Ref sig .tc := ⟨.hbm, 718, rfl⟩
abbrev main_call2_call0_v102 : Ref sig .tc := ⟨.hbm, 719, rfl⟩
abbrev main_call2_call0_v103 : Ref sig .tc := ⟨.hbm, 720, rfl⟩
abbrev main_call2_call0_v104 : Ref sig .tc := ⟨.hbm, 721, rfl⟩
abbrev main_call2_call0_v105 : Ref sig .tc := ⟨.hbm, 722, rfl⟩
abbrev main_call2_call0_c_26 : Ref sig .tc := ⟨.hbm, 723, rfl⟩
abbrev main_call2_call0_v106 : Ref sig .tc := ⟨.hbm, 724, rfl⟩
abbrev main_call2_call0_v107 : Ref sig .tc := ⟨.hbm, 725, rfl⟩
abbrev main_call2_call0_v108 : Ref sig .tc := ⟨.hbm, 726, rfl⟩
abbrev main_call2_call0_c_27 : Ref sig .tc := ⟨.hbm, 727, rfl⟩
abbrev main_call2_call0_v109 : Ref sig .tc := ⟨.hbm, 728, rfl⟩
abbrev main_call2_call0_v110 : Ref sig .tc := ⟨.hbm, 729, rfl⟩
abbrev main_call2_call0_c_28 : Ref sig .tc := ⟨.hbm, 730, rfl⟩
abbrev main_call2_call0_v111 : Ref sig .tc := ⟨.hbm, 731, rfl⟩
abbrev main_call2_call0_v112 : Ref sig .tc := ⟨.hbm, 732, rfl⟩
abbrev main_call2_call0_v113 : Ref sig .tc := ⟨.hbm, 733, rfl⟩
abbrev main_call2_call0_v114 : Ref sig .tc := ⟨.hbm, 734, rfl⟩
abbrev main_call2_call0_v115 : Ref sig .tc := ⟨.hbm, 735, rfl⟩
abbrev main_call2_call0_c_29 : Ref sig .tc := ⟨.hbm, 736, rfl⟩
abbrev main_call2_call0_v116 : Ref sig .tc := ⟨.hbm, 737, rfl⟩
abbrev main_call2_call0_v117 : Ref sig .tc := ⟨.hbm, 738, rfl⟩
abbrev main_call2_call0_c_30 : Ref sig .tc := ⟨.hbm, 739, rfl⟩
abbrev main_call2_call0_v118 : Ref sig .tc := ⟨.hbm, 740, rfl⟩
abbrev main_call2_call0_v119 : Ref sig .tc := ⟨.hbm, 741, rfl⟩
abbrev main_call2_call0_v120 : Ref sig .tc := ⟨.hbm, 742, rfl⟩
abbrev main_call2_call0_v121 : Ref sig .tc := ⟨.hbm, 743, rfl⟩
abbrev main_call2_call0_v122 : Ref sig .tc := ⟨.hbm, 744, rfl⟩
abbrev main_call2_call0_c_31 : Ref sig .tc := ⟨.hbm, 745, rfl⟩
abbrev main_call2_call0_v123 : Ref sig .tc := ⟨.hbm, 746, rfl⟩
abbrev main_call2_call0_v124 : Ref sig .tc := ⟨.hbm, 747, rfl⟩
abbrev main_call2_call0_c_32 : Ref sig .tc := ⟨.hbm, 748, rfl⟩
abbrev main_call2_call0_v125 : Ref sig .tc := ⟨.hbm, 749, rfl⟩
abbrev main_call2_call0_v126 : Ref sig .tc := ⟨.hbm, 750, rfl⟩
abbrev main_call2_call0_v127 : Ref sig .tc := ⟨.hbm, 751, rfl⟩
abbrev main_call2_call0_v128 : Ref sig .tc := ⟨.hbm, 752, rfl⟩
abbrev main_call2_call0_v129 : Ref sig .tc := ⟨.hbm, 753, rfl⟩
abbrev main_call2_call0_c_33 : Ref sig .tc := ⟨.hbm, 754, rfl⟩
abbrev main_call2_call0_v130 : Ref sig .tc := ⟨.hbm, 755, rfl⟩
abbrev main_call2_call0_v131 : Ref sig .tc := ⟨.hbm, 756, rfl⟩
abbrev main_call2_call0_c_34 : Ref sig .tc := ⟨.hbm, 757, rfl⟩
abbrev main_call2_call0_v132 : Ref sig .tc := ⟨.hbm, 758, rfl⟩
abbrev main_call2_call0_v133 : Ref sig .tc := ⟨.hbm, 759, rfl⟩
abbrev main_call2_call0_v134 : Ref sig .tc := ⟨.hbm, 760, rfl⟩
abbrev main_call2_call0_v135 : Ref sig .tc := ⟨.hbm, 761, rfl⟩
abbrev main_call2_call0_v136 : Ref sig .tc := ⟨.hbm, 762, rfl⟩
abbrev main_call2_call0_v137 : Ref sig .tc := ⟨.hbm, 763, rfl⟩
abbrev main_call2_call0_v138 : Ref sig .tc := ⟨.hbm, 764, rfl⟩
abbrev main_call2_call0_v139 : Ref sig .tc := ⟨.hbm, 765, rfl⟩
abbrev main_call2_call0_c_35 : Ref sig .tc := ⟨.hbm, 766, rfl⟩
abbrev main_call2_call0_v140 : Ref sig .tc := ⟨.hbm, 767, rfl⟩
abbrev main_call2_call0_v141 : Ref sig .tc := ⟨.hbm, 768, rfl⟩
abbrev main_call2_call0_v142 : Ref sig .tc := ⟨.hbm, 769, rfl⟩
abbrev main_call2_call0_c_36 : Ref sig .tc := ⟨.hbm, 770, rfl⟩
abbrev main_call2_call0_v143 : Ref sig .tc := ⟨.hbm, 771, rfl⟩
abbrev main_call2_call0_v144 : Ref sig .tc := ⟨.hbm, 772, rfl⟩
abbrev main_call2_call0_c_37 : Ref sig .tc := ⟨.hbm, 773, rfl⟩
abbrev main_call2_call0_v145 : Ref sig .tc := ⟨.hbm, 774, rfl⟩
abbrev main_call2_call0_v146 : Ref sig .tc := ⟨.hbm, 775, rfl⟩
abbrev main_call2_call0_v147 : Ref sig .tc := ⟨.hbm, 776, rfl⟩
abbrev main_call2_call0_v148 : Ref sig .tc := ⟨.hbm, 777, rfl⟩
abbrev main_call2_call0_v149 : Ref sig .tc := ⟨.hbm, 778, rfl⟩
abbrev main_call2_call0_c_38 : Ref sig .tc := ⟨.hbm, 779, rfl⟩
abbrev main_call2_call0_v150 : Ref sig .tc := ⟨.hbm, 780, rfl⟩
abbrev main_call2_call0_v151 : Ref sig .tc := ⟨.hbm, 781, rfl⟩
abbrev main_call2_call0_c_39 : Ref sig .tc := ⟨.hbm, 782, rfl⟩
abbrev main_call2_call0_v152 : Ref sig .tc := ⟨.hbm, 783, rfl⟩
abbrev main_call2_call0_v153 : Ref sig .tc := ⟨.hbm, 784, rfl⟩
abbrev main_call2_call0_v154 : Ref sig .tc := ⟨.hbm, 785, rfl⟩
abbrev main_call2_call0_v155 : Ref sig .tc := ⟨.hbm, 786, rfl⟩
abbrev main_call2_call0_v156 : Ref sig .tc := ⟨.hbm, 787, rfl⟩
abbrev main_call2_call0_c_40 : Ref sig .tc := ⟨.hbm, 788, rfl⟩
abbrev main_call2_call0_v157 : Ref sig .tc := ⟨.hbm, 789, rfl⟩
abbrev main_call2_call0_v158 : Ref sig .tc := ⟨.hbm, 790, rfl⟩
abbrev main_call2_call0_c_41 : Ref sig .tc := ⟨.hbm, 791, rfl⟩
abbrev main_call2_call0_v159 : Ref sig .tc := ⟨.hbm, 792, rfl⟩
abbrev main_call2_call0_v160 : Ref sig .tc := ⟨.hbm, 793, rfl⟩
abbrev main_call2_call0_v161 : Ref sig .tc := ⟨.hbm, 794, rfl⟩
abbrev main_call2_call0_v162 : Ref sig .tc := ⟨.hbm, 795, rfl⟩
abbrev main_call2_call0_v163 : Ref sig .tc := ⟨.hbm, 796, rfl⟩
abbrev main_call2_call0_c_42 : Ref sig .tc := ⟨.hbm, 797, rfl⟩
abbrev main_call2_call0_v164 : Ref sig .tc := ⟨.hbm, 798, rfl⟩
abbrev main_call2_call0_v165 : Ref sig .tc := ⟨.hbm, 799, rfl⟩
abbrev main_call2_call0_c_43 : Ref sig .tc := ⟨.hbm, 800, rfl⟩
abbrev main_call2_call0_v166 : Ref sig .tc := ⟨.hbm, 801, rfl⟩
abbrev main_call2_call0_v167 : Ref sig .tc := ⟨.hbm, 802, rfl⟩
abbrev main_call2_call0_v168 : Ref sig .tc := ⟨.hbm, 803, rfl⟩
abbrev main_call2_call0_v169 : Ref sig .tc := ⟨.hbm, 804, rfl⟩
abbrev main_call2_call0_v170 : Ref sig .tc := ⟨.hbm, 805, rfl⟩
abbrev main_call2_v19_0 : Ref sig .tc := ⟨.hbm, 806, rfl⟩
abbrev main_call2_call0_v172 : Ref sig .tc := ⟨.hbm, 807, rfl⟩
abbrev main_call2_call0_v173 : Ref sig .tc := ⟨.hbm, 808, rfl⟩
abbrev main_call2_call0_c_44 : Ref sig .tc := ⟨.hbm, 809, rfl⟩
abbrev main_call2_call0_v174 : Ref sig .tc := ⟨.hbm, 810, rfl⟩
abbrev main_call2_v19_1 : Ref sig .tc := ⟨.hbm, 811, rfl⟩
abbrev main_call2_v20 : Ref sig .tc := ⟨.hbm, 812, rfl⟩
abbrev main_call2_c_2 : Ref sig .tc := ⟨.hbm, 813, rfl⟩
abbrev main_call2_v21 : Ref sig .tc := ⟨.hbm, 814, rfl⟩
abbrev main_call2_v22 : Ref sig .tc := ⟨.hbm, 815, rfl⟩
abbrev main_call2_c_3 : Ref sig .tc := ⟨.hbm, 816, rfl⟩
abbrev main_call2_v23 : Ref sig .tc := ⟨.hbm, 817, rfl⟩
abbrev main_call2_v24 : Ref sig .tc := ⟨.hbm, 818, rfl⟩
abbrev main_call2_v25 : Ref sig .tc := ⟨.hbm, 819, rfl⟩
abbrev main_call2_cst : Ref sig .tc := ⟨.hbm, 820, rfl⟩
abbrev main_call2_v26 : Ref sig .tc := ⟨.hbm, 821, rfl⟩
abbrev main_call2_v27 : Ref sig .tc := ⟨.hbm, 822, rfl⟩
abbrev main_call2_v28 : Ref sig .tc := ⟨.hbm, 823, rfl⟩
abbrev main_call2_v29 : Ref sig .tc := ⟨.hbm, 824, rfl⟩
abbrev main_call2_v30 : Ref sig .tc := ⟨.hbm, 825, rfl⟩
abbrev main_call2_v31 : Ref sig .tc := ⟨.hbm, 826, rfl⟩
abbrev main_call2_v32 : Ref sig .tc := ⟨.hbm, 827, rfl⟩
abbrev main_call2_v33 : Ref sig .tc := ⟨.hbm, 828, rfl⟩
abbrev main_v35 : Ref sig .tc := ⟨.hbm, 829, rfl⟩
abbrev main_v36 : Ref sig .tc := ⟨.hbm, 830, rfl⟩
abbrev main_v37 : Ref sig .tc := ⟨.hbm, 831, rfl⟩
abbrev main_v38 : Ref sig .tc := ⟨.hbm, 832, rfl⟩
abbrev main_v39 : Ref sig .tc := ⟨.hbm, 833, rfl⟩
abbrev main_v40 : Ref sig .tc := ⟨.hbm, 834, rfl⟩
abbrev main_v41 : Ref sig .tc := ⟨.hbm, 835, rfl⟩
abbrev main_cst_9 : Ref sig .tc := ⟨.hbm, 836, rfl⟩
abbrev main_v42 : Ref sig .tc := ⟨.hbm, 837, rfl⟩
abbrev main_v43 : Ref sig .tc := ⟨.hbm, 838, rfl⟩
abbrev main_v44 : Ref sig .tc := ⟨.hbm, 839, rfl⟩
abbrev main_v45 : Ref sig .tc := ⟨.hbm, 840, rfl⟩
abbrev main_cst_10 : Ref sig .tc := ⟨.hbm, 841, rfl⟩
abbrev main_v46 : Ref sig .tc := ⟨.hbm, 842, rfl⟩
abbrev main_v47 : Ref sig .tc := ⟨.hbm, 843, rfl⟩
abbrev main_v48 : Ref sig .tc := ⟨.hbm, 844, rfl⟩
abbrev main_v49 : Ref sig .tc := ⟨.hbm, 845, rfl⟩
abbrev main_v50 : Ref sig .tc := ⟨.hbm, 846, rfl⟩
abbrev main_cst_11 : Ref sig .tc := ⟨.hbm, 847, rfl⟩
abbrev main_v51 : Ref sig .tc := ⟨.hbm, 848, rfl⟩
abbrev main_v52 : Ref sig .tc := ⟨.hbm, 849, rfl⟩
abbrev main_v53 : Ref sig .tc := ⟨.hbm, 850, rfl⟩
abbrev main_v54 : Ref sig .tc := ⟨.hbm, 851, rfl⟩
abbrev main_cst_12 : Ref sig .tc := ⟨.hbm, 852, rfl⟩
abbrev main_v55 : Ref sig .tc := ⟨.hbm, 853, rfl⟩
abbrev main_v56 : Ref sig .tc := ⟨.hbm, 854, rfl⟩
abbrev main_v57 : Ref sig .tc := ⟨.hbm, 855, rfl⟩
abbrev main_v58 : Ref sig .tc := ⟨.hbm, 856, rfl⟩
abbrev main_v59 : Ref sig .tc := ⟨.hbm, 857, rfl⟩
abbrev main_c_13 : Ref sig .tc := ⟨.hbm, 858, rfl⟩
abbrev main_v60 : Ref sig .tc := ⟨.hbm, 859, rfl⟩
abbrev main_v61 : Ref sig .tc := ⟨.hbm, 860, rfl⟩
abbrev main_v62 : Ref sig .tc := ⟨.hbm, 861, rfl⟩
abbrev main_v63 : Ref sig .tc := ⟨.hbm, 862, rfl⟩
abbrev main_v64 : Ref sig .tc := ⟨.hbm, 863, rfl⟩
abbrev main_v65 : Ref sig .tc := ⟨.hbm, 864, rfl⟩
abbrev main_v66 : Ref sig .tc := ⟨.hbm, 865, rfl⟩
abbrev main_call3_v0 : Ref sig .tc := ⟨.hbm, 866, rfl⟩
abbrev main_call3_v1 : Ref sig .tc := ⟨.hbm, 867, rfl⟩
abbrev main_call3_v2 : Ref sig .tc := ⟨.hbm, 868, rfl⟩
abbrev main_call3_v3 : Ref sig .tc := ⟨.hbm, 869, rfl⟩
abbrev main_call3_v4 : Ref sig .tc := ⟨.hbm, 870, rfl⟩
abbrev main_v67 : Ref sig .tc := ⟨.hbm, 871, rfl⟩
abbrev main_v68 : Ref sig .tc := ⟨.hbm, 872, rfl⟩
abbrev main_v69 : Ref sig .tc := ⟨.hbm, 873, rfl⟩
abbrev main_v70 : Ref sig .tc := ⟨.hbm, 874, rfl⟩
abbrev main_call4_v0 : Ref sig .tc := ⟨.hbm, 875, rfl⟩
abbrev main_call4_v1 : Ref sig .tc := ⟨.hbm, 876, rfl⟩
abbrev main_call4_v2 : Ref sig .tc := ⟨.hbm, 877, rfl⟩
abbrev main_call4_v3 : Ref sig .tc := ⟨.hbm, 878, rfl⟩
abbrev main_call4_v4 : Ref sig .tc := ⟨.hbm, 879, rfl⟩
abbrev main_v71 : Ref sig .tc := ⟨.hbm, 880, rfl⟩
abbrev main_v72 : Ref sig .tc := ⟨.hbm, 881, rfl⟩
abbrev main_v73 : Ref sig .tc := ⟨.hbm, 882, rfl⟩
abbrev main_v74 : Ref sig .tc := ⟨.hbm, 883, rfl⟩
abbrev main_v75 : Ref sig .tc := ⟨.hbm, 884, rfl⟩
abbrev main_call5_v0 : Ref sig .tc := ⟨.hbm, 885, rfl⟩
abbrev main_call5_v1 : Ref sig .tc := ⟨.hbm, 886, rfl⟩
abbrev main_call5_v2 : Ref sig .tc := ⟨.hbm, 887, rfl⟩
abbrev main_call5_v3 : Ref sig .tc := ⟨.hbm, 888, rfl⟩
abbrev main_call5_v4 : Ref sig .tc := ⟨.hbm, 889, rfl⟩
abbrev main_v76 : Ref sig .tc := ⟨.hbm, 890, rfl⟩
abbrev main_v77 : Ref sig .tc := ⟨.hbm, 891, rfl⟩
abbrev main_v78 : Ref sig .tc := ⟨.hbm, 892, rfl⟩
abbrev main_v79 : Ref sig .tc := ⟨.hbm, 893, rfl⟩
abbrev main_call6_v0 : Ref sig .tc := ⟨.hbm, 894, rfl⟩
abbrev main_call6_v1 : Ref sig .tc := ⟨.hbm, 895, rfl⟩
abbrev main_call6_v2 : Ref sig .tc := ⟨.hbm, 896, rfl⟩
abbrev main_call6_v3 : Ref sig .tc := ⟨.hbm, 897, rfl⟩
abbrev main_call6_v4 : Ref sig .tc := ⟨.hbm, 898, rfl⟩
abbrev main_v80 : Ref sig .tc := ⟨.hbm, 899, rfl⟩
abbrev main_v81 : Ref sig .tc := ⟨.hbm, 900, rfl⟩
abbrev main_cst_14 : Ref sig .tc := ⟨.hbm, 901, rfl⟩
abbrev main_v82 : Ref sig .tc := ⟨.hbm, 902, rfl⟩
abbrev main_v83 : Ref sig .tc := ⟨.hbm, 903, rfl⟩
abbrev main_cst_15 : Ref sig .tc := ⟨.hbm, 904, rfl⟩
abbrev main_v84 : Ref sig .tc := ⟨.hbm, 905, rfl⟩
abbrev main_v85 : Ref sig .tc := ⟨.hbm, 906, rfl⟩
abbrev main_v86 : Ref sig .tc := ⟨.hbm, 907, rfl⟩
abbrev main_v87 : Ref sig .tc := ⟨.hbm, 908, rfl⟩
abbrev main_v88 : Ref sig .tc := ⟨.hbm, 909, rfl⟩
abbrev main_v89 : Ref sig .tc := ⟨.hbm, 910, rfl⟩
abbrev main_v90 : Ref sig .tc := ⟨.hbm, 911, rfl⟩
abbrev main_v91 : Ref sig .tc := ⟨.hbm, 912, rfl⟩
abbrev main_v92 : Ref sig .tc := ⟨.hbm, 913, rfl⟩
abbrev main_v93 : Ref sig .tc := ⟨.hbm, 914, rfl⟩
abbrev main_v94 : Ref sig .tc := ⟨.hbm, 915, rfl⟩
abbrev main_v95 : Ref sig .tc := ⟨.hbm, 916, rfl⟩
abbrev main_v96 : Ref sig .tc := ⟨.hbm, 917, rfl⟩
abbrev main_v97 : Ref sig .tc := ⟨.hbm, 918, rfl⟩
abbrev main_v98 : Ref sig .tc := ⟨.hbm, 919, rfl⟩
abbrev main_v99 : Ref sig .tc := ⟨.hbm, 920, rfl⟩
abbrev main_v100 : Ref sig .tc := ⟨.hbm, 921, rfl⟩
abbrev main_v101 : Ref sig .tc := ⟨.hbm, 922, rfl⟩
abbrev main_v102 : Ref sig .tc := ⟨.hbm, 923, rfl⟩
abbrev main_v103 : Ref sig .tc := ⟨.hbm, 924, rfl⟩
abbrev main_v104 : Ref sig .tc := ⟨.hbm, 925, rfl⟩
abbrev main_v105 : Ref sig .tc := ⟨.hbm, 926, rfl⟩
abbrev main_v106 : Ref sig .tc := ⟨.hbm, 927, rfl⟩
abbrev main_v107 : Ref sig .tc := ⟨.hbm, 928, rfl⟩
abbrev main_v108 : Ref sig .tc := ⟨.hbm, 929, rfl⟩
abbrev main_v109 : Ref sig .tc := ⟨.hbm, 930, rfl⟩
abbrev main_v110 : Ref sig .tc := ⟨.hbm, 931, rfl⟩
abbrev main_v111 : Ref sig .tc := ⟨.hbm, 932, rfl⟩
abbrev main_v112 : Ref sig .tc := ⟨.hbm, 933, rfl⟩
abbrev main_v113 : Ref sig .tc := ⟨.hbm, 934, rfl⟩
abbrev main_v114 : Ref sig .tc := ⟨.hbm, 935, rfl⟩
abbrev main_v115 : Ref sig .tc := ⟨.hbm, 936, rfl⟩
abbrev main_v116 : Ref sig .tc := ⟨.hbm, 937, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S32x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S64x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S64x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S64x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S64x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S64x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S512x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
-- ==== ReferenceIdeal.lean ====
abbrev S512x128 : Shape := ⟨2, ![512, 128]⟩
abbrev S64x128 : Shape := ⟨2, ![64, 128]⟩
abbrev S64 : Shape := ⟨1, ![64]⟩
abbrev S32x128 : Shape := ⟨2, ![32, 128]⟩
abbrev S32 : Shape := ⟨1, ![32]⟩
abbrev S2x32 : Shape := ⟨2, ![2, 32]⟩
abbrev S2 : Shape := ⟨1, ![2]⟩
abbrev S64x64 : Shape := ⟨2, ![64, 64]⟩
abbrev S1x64 : Shape := ⟨2, ![1, 64]⟩
abbrev S1 : Shape := ⟨1, ![1]⟩
abbrev S2x64 : Shape := ⟨2, ![2, 64]⟩
abbrev S1x2 : Shape := ⟨2, ![1, 2]⟩
abbrev S512x511 : Shape := ⟨2, ![512, 511]⟩
abbrev S_ : Shape := ⟨0, ![]⟩
abbrev S261632 : Shape := ⟨1, ![261632]⟩
abbrev S128x64 : Shape := ⟨2, ![128, 64]⟩
abbrev S512x64 : Shape := ⟨2, ![512, 64]⟩
abbrev S2x1 : Shape := ⟨2, ![2, 1]⟩
abbrev S2x2 : Shape := ⟨2, ![2, 2]⟩
abbrev S261632x1 : Shape := ⟨2, ![261632, 1]⟩
abbrev S261632x64 : Shape := ⟨2, ![261632, 64]⟩
abbrev S261632x128 : Shape := ⟨2, ![261632, 128]⟩
abbrev S128x32 : Shape := ⟨2, ![128, 32]⟩
abbrev S261632x32 : Shape := ⟨2, ![261632, 32]⟩
abbrev S1x32 : Shape := ⟨2, ![1, 32]⟩
abbrev S32x2 : Shape := ⟨2, ![32, 2]⟩
abbrev S261632x2 : Shape := ⟨2, ![261632, 2]⟩
abbrev S1x1 : Shape := ⟨2, ![1, 1]⟩
abbrev S64x1 : Shape := ⟨2, ![64, 1]⟩
abbrev S512x1 : Shape := ⟨2, ![512, 1]⟩
abbrev S1x512x64 : Shape := ⟨3, ![1, 512, 64]⟩
abbrev S64x2 : Shape := ⟨2, ![64, 2]⟩
abbrev S1x512x2 : Shape := ⟨3, ![1, 512, 2]⟩
abbrev S1x1x2 : Shape := ⟨3, ![1, 1, 2]⟩

abbrev nBuf : Space → Nat
  | .hbm => 973
  | .vmem => 0
  | .smem => 0
  | _ => 0

abbrev hbmTy0_0 (i : Nat) : BufTy := match i % 128 with
  | 0 => ⟨S512x128, .f32⟩
  | 1 => ⟨S64x128, .f32⟩
  | 2 => ⟨S64, .f32⟩
  | 3 => ⟨S32x128, .f32⟩
  | 4 => ⟨S32, .f32⟩
  | 5 => ⟨S2x32, .f32⟩
  | 6 => ⟨S2, .f32⟩
  | 7 => ⟨S32x128, .f32⟩
  | 8 => ⟨S32, .f32⟩
  | 9 => ⟨S2x32, .f32⟩
  | 10 => ⟨S2, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S1x64, .f32⟩
  | 20 => ⟨S1, .f32⟩
  | 21 => ⟨S2x64, .f32⟩
  | 22 => ⟨S2, .f32⟩
  | 23 => ⟨S1x2, .f32⟩
  | 24 => ⟨S512x511, .i32⟩
  | 25 => ⟨S512x511, .i32⟩
  | 26 => ⟨S512x511, .i1⟩
  | 27 => ⟨S_, .i32⟩
  | 28 => ⟨S512x511, .i32⟩
  | 29 => ⟨S512x511, .i32⟩
  | 30 => ⟨S512x511, .i32⟩
  | 31 => ⟨S261632, .i32⟩
  | 32 => ⟨S261632, .i32⟩
  | 33 => ⟨S128x64, .f32⟩
  | 34 => ⟨S512x64, .f32⟩
  | 35 => ⟨S1x64, .f32⟩
  | 36 => ⟨S512x64, .f32⟩
  | 37 => ⟨S512x64, .f32⟩
  | 38 => ⟨S512x64, .f32⟩
  | 39 => ⟨S_, .i32⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S1, .i32⟩
  | 48 => ⟨S2, .i32⟩
  | 49 => ⟨S1, .i32⟩
  | 50 => ⟨S_, .i32⟩
  | 51 => ⟨S1, .i32⟩
  | 52 => ⟨S_, .i32⟩
  | 53 => ⟨S2, .i64⟩
  | 54 => ⟨S_, .i64⟩
  | 55 => ⟨S2, .i64⟩
  | 56 => ⟨S2, .i64⟩
  | 57 => ⟨S_, .i64⟩
  | 58 => ⟨S2, .i64⟩
  | 59 => ⟨S2, .i64⟩
  | 60 => ⟨S2, .i32⟩
  | 61 => ⟨S2, .i32⟩
  | 62 => ⟨S_, .i32⟩
  | 63 => ⟨S_, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S512x128, .f32⟩

abbrev hbmTy0_1 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S512x128, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2x1, .i32⟩
  | 29 => ⟨S2x1, .i32⟩
  | 30 => ⟨S2x2, .i32⟩
  | 31 => ⟨S1x2, .i32⟩
  | 32 => ⟨S2, .i32⟩
  | 33 => ⟨S1x2, .i32⟩
  | 34 => ⟨S2, .i32⟩
  | 35 => ⟨S_, .i32⟩
  | 36 => ⟨S261632, .i32⟩
  | 37 => ⟨S261632, .i1⟩
  | 38 => ⟨S_, .i32⟩
  | 39 => ⟨S261632, .i32⟩
  | 40 => ⟨S261632, .i32⟩
  | 41 => ⟨S261632, .i32⟩
  | 42 => ⟨S261632x1, .i32⟩
  | 43 => ⟨S261632x64, .f32⟩
  | 44 => ⟨S_, .i32⟩
  | 45 => ⟨S261632, .i32⟩
  | 46 => ⟨S261632, .i1⟩
  | 47 => ⟨S_, .i32⟩
  | 48 => ⟨S261632, .i32⟩
  | 49 => ⟨S261632, .i32⟩
  | 50 => ⟨S261632, .i32⟩
  | 51 => ⟨S261632x1, .i32⟩
  | 52 => ⟨S261632x64, .f32⟩
  | 53 => ⟨S261632x128, .f32⟩
  | 54 => ⟨S128x32, .f32⟩
  | 55 => ⟨S261632x32, .f32⟩
  | 56 => ⟨S1x32, .f32⟩
  | 57 => ⟨S261632x32, .f32⟩
  | 58 => ⟨S261632x32, .f32⟩
  | 59 => ⟨S_, .f32⟩
  | 60 => ⟨S261632x32, .f32⟩
  | 61 => ⟨S261632x32, .f32⟩
  | 62 => ⟨S32x2, .f32⟩
  | 63 => ⟨S261632x2, .f32⟩
  | 64 => ⟨S1x2, .f32⟩
  | 65 => ⟨S261632x2, .f32⟩
  | 66 => ⟨S261632x2, .f32⟩
  | 67 => ⟨S_, .f32⟩
  | 68 => ⟨S_, .f32⟩
  | 69 => ⟨S_, .f32⟩
  | 70 => ⟨S_, .f32⟩
  | 71 => ⟨S1x1, .f32⟩
  | 72 => ⟨S1x1, .f32⟩
  | 73 => ⟨S1, .i32⟩
  | 74 => ⟨S_, .i32⟩
  | 75 => ⟨S1, .i32⟩
  | 76 => ⟨S_, .i32⟩
  | 77 => ⟨S261632x2, .i64⟩
  | 78 => ⟨S261632x2, .i64⟩
  | 79 => ⟨S_, .i64⟩
  | 80 => ⟨S261632x2, .i64⟩
  | 81 => ⟨S261632x2, .i64⟩
  | 82 => ⟨S_, .i64⟩
  | 83 => ⟨S261632x2, .i64⟩
  | 84 => ⟨S261632x2, .i64⟩
  | 85 => ⟨S261632x2, .i64⟩
  | 86 => ⟨S_, .i64⟩
  | 87 => ⟨S261632x2, .i64⟩
  | 88 => ⟨S261632x2, .i64⟩
  | 89 => ⟨S261632x2, .i32⟩
  | 90 => ⟨S261632x2, .i32⟩
  | 91 => ⟨S_, .i32⟩
  | 92 => ⟨S_, .i32⟩
  | 93 => ⟨S_, .i32⟩
  | 94 => ⟨S261632x2, .i32⟩
  | 95 => ⟨S261632x2, .i32⟩
  | 96 => ⟨S261632x2, .i32⟩
  | 97 => ⟨S261632x2, .i32⟩
  | 98 => ⟨S261632x2, .i32⟩
  | 99 => ⟨S_, .i32⟩
  | 100 => ⟨S261632x2, .i32⟩
  | 101 => ⟨S261632x2, .i32⟩
  | 102 => ⟨S_, .i32⟩
  | 103 => ⟨S261632x2, .i32⟩
  | 104 => ⟨S261632x2, .i32⟩
  | 105 => ⟨S261632x2, .i32⟩
  | 106 => ⟨S261632x2, .i32⟩
  | 107 => ⟨S261632x2, .i32⟩
  | 108 => ⟨S_, .i32⟩
  | 109 => ⟨S261632x2, .i32⟩
  | 110 => ⟨S261632x2, .i32⟩
  | 111 => ⟨S_, .i32⟩
  | 112 => ⟨S261632x2, .i32⟩
  | 113 => ⟨S261632x2, .i32⟩
  | 114 => ⟨S261632x2, .i32⟩
  | 115 => ⟨S261632x2, .i32⟩
  | 116 => ⟨S261632x2, .i32⟩
  | 117 => ⟨S_, .i32⟩
  | 118 => ⟨S261632x2, .i32⟩
  | 119 => ⟨S261632x2, .i32⟩
  | 120 => ⟨S_, .i32⟩
  | 121 => ⟨S261632x2, .i32⟩
  | 122 => ⟨S261632x2, .i32⟩
  | 123 => ⟨S261632x2, .i32⟩
  | 124 => ⟨S261632x2, .i32⟩
  | 125 => ⟨S261632x2, .i32⟩
  | 126 => ⟨S_, .i32⟩
  | 127 => ⟨S261632x2, .i32⟩
  | _ => ⟨S512x128, .f32⟩

abbrev hbmTy0_3 (i : Nat) : BufTy := match i % 128 with
  | 0 => ⟨S261632x2, .i32⟩
  | 1 => ⟨S_, .i32⟩
  | 2 => ⟨S261632x2, .i32⟩
  | 3 => ⟨S261632x2, .i32⟩
  | 4 => ⟨S261632x2, .i32⟩
  | 5 => ⟨S261632x2, .i32⟩
  | 6 => ⟨S261632x2, .i32⟩
  | 7 => ⟨S261632x2, .i32⟩
  | 8 => ⟨S261632x2, .i32⟩
  | 9 => ⟨S261632x2, .i32⟩
  | 10 => ⟨S_, .i32⟩
  | 11 => ⟨S261632x2, .i32⟩
  | 12 => ⟨S261632x2, .i32⟩
  | 13 => ⟨S261632x2, .i32⟩
  | 14 => ⟨S_, .i32⟩
  | 15 => ⟨S261632x2, .i32⟩
  | 16 => ⟨S261632x2, .i32⟩
  | 17 => ⟨S_, .i32⟩
  | 18 => ⟨S261632x2, .i32⟩
  | 19 => ⟨S261632x2, .i32⟩
  | 20 => ⟨S261632x2, .i32⟩
  | 21 => ⟨S261632x2, .i32⟩
  | 22 => ⟨S261632x2, .i32⟩
  | 23 => ⟨S_, .i32⟩
  | 24 => ⟨S261632x2, .i32⟩
  | 25 => ⟨S261632x2, .i32⟩
  | 26 => ⟨S_, .i32⟩
  | 27 => ⟨S261632x2, .i32⟩
  | 28 => ⟨S261632x2, .i32⟩
  | 29 => ⟨S261632x2, .i32⟩
  | 30 => ⟨S261632x2, .i32⟩
  | 31 => ⟨S261632x2, .i32⟩
  | 32 => ⟨S_, .i32⟩
  | 33 => ⟨S261632x2, .i32⟩
  | 34 => ⟨S261632x2, .i32⟩
  | 35 => ⟨S_, .i32⟩
  | 36 => ⟨S261632x2, .i32⟩
  | 37 => ⟨S261632x2, .i32⟩
  | 38 => ⟨S261632x2, .i32⟩
  | 39 => ⟨S261632x2, .i32⟩
  | 40 => ⟨S261632x2, .i32⟩
  | 41 => ⟨S_, .i32⟩
  | 42 => ⟨S261632x2, .i32⟩
  | 43 => ⟨S261632x2, .i32⟩
  | 44 => ⟨S_, .i32⟩
  | 45 => ⟨S261632x2, .i32⟩
  | 46 => ⟨S261632x2, .i32⟩
  | 47 => ⟨S261632x2, .i32⟩
  | 48 => ⟨S261632x2, .i32⟩
  | 49 => ⟨S261632x2, .i32⟩
  | 50 => ⟨S261632x2, .i32⟩
  | 51 => ⟨S261632x2, .i32⟩
  | 52 => ⟨S261632x2, .i32⟩
  | 53 => ⟨S_, .i32⟩
  | 54 => ⟨S261632x2, .i32⟩
  | 55 => ⟨S261632x2, .i32⟩
  | 56 => ⟨S261632x2, .i32⟩
  | 57 => ⟨S_, .i32⟩
  | 58 => ⟨S261632x2, .i32⟩
  | 59 => ⟨S261632x2, .i32⟩
  | 60 => ⟨S_, .i32⟩
  | 61 => ⟨S261632x2, .i32⟩
  | 62 => ⟨S261632x2, .i32⟩
  | 63 => ⟨S261632x2, .i32⟩
  | 64 => ⟨S261632x2, .i32⟩
  | 65 => ⟨S261632x2, .i32⟩
  | 66 => ⟨S_, .i32⟩
  | 67 => ⟨S261632x2, .i32⟩
  | 68 => ⟨S261632x2, .i32⟩
  | 69 => ⟨S_, .i32⟩
  | 70 => ⟨S261632x2, .i32⟩
  | 71 => ⟨S261632x2, .i32⟩
  | 72 => ⟨S261632x2, .i32⟩
  | 73 => ⟨S261632x2, .i32⟩
  | 74 => ⟨S261632x2, .i32⟩
  | 75 => ⟨S_, .i32⟩
  | 76 => ⟨S261632x2, .i32⟩
  | 77 => ⟨S261632x2, .i32⟩
  | 78 => ⟨S_, .i32⟩
  | 79 => ⟨S261632x2, .i32⟩
  | 80 => ⟨S261632x2, .i32⟩
  | 81 => ⟨S261632x2, .i32⟩
  | 82 => ⟨S261632x2, .i32⟩
  | 83 => ⟨S261632x2, .i32⟩
  | 84 => ⟨S_, .i32⟩
  | 85 => ⟨S261632x2, .i32⟩
  | 86 => ⟨S261632x2, .i32⟩
  | 87 => ⟨S_, .i32⟩
  | 88 => ⟨S261632x2, .i32⟩
  | 89 => ⟨S261632x2, .i32⟩
  | 90 => ⟨S261632x2, .i32⟩
  | 91 => ⟨S261632x2, .i32⟩
  | 92 => ⟨S261632x2, .i32⟩
  | 93 => ⟨S261632x2, .i32⟩
  | 94 => ⟨S261632x2, .i32⟩
  | 95 => ⟨S261632x2, .i32⟩
  | 96 => ⟨S_, .i32⟩
  | 97 => ⟨S261632x2, .i32⟩
  | 98 => ⟨S261632x2, .i32⟩
  | 99 => ⟨S261632x2, .i32⟩
  | 100 => ⟨S_, .i32⟩
  | 101 => ⟨S261632x2, .i32⟩
  | 102 => ⟨S261632x2, .i32⟩
  | 103 => ⟨S_, .i32⟩
  | 104 => ⟨S261632x2, .i32⟩
  | 105 => ⟨S261632x2, .i32⟩
  | 106 => ⟨S261632x2, .i32⟩
  | 107 => ⟨S261632x2, .i32⟩
  | 108 => ⟨S261632x2, .i32⟩
  | 109 => ⟨S_, .i32⟩
  | 110 => ⟨S261632x2, .i32⟩
  | 111 => ⟨S261632x2, .i32⟩
  | 112 => ⟨S_, .i32⟩
  | 113 => ⟨S261632x2, .i32⟩
  | 114 => ⟨S261632x2, .i32⟩
  | 115 => ⟨S261632x2, .i32⟩
  | 116 => ⟨S261632x2, .i32⟩
  | 117 => ⟨S261632x2, .i32⟩
  | 118 => ⟨S_, .i32⟩
  | 119 => ⟨S261632x2, .i32⟩
  | 120 => ⟨S261632x2, .i32⟩
  | 121 => ⟨S_, .i32⟩
  | 122 => ⟨S261632x2, .i32⟩
  | 123 => ⟨S261632x2, .i32⟩
  | 124 => ⟨S261632x2, .i32⟩
  | 125 => ⟨S261632x2, .i32⟩
  | 126 => ⟨S261632x2, .i32⟩
  | 127 => ⟨S_, .i32⟩
  | _ => ⟨S512x128, .f32⟩

abbrev hbmTy0_4 (i : Nat) : BufTy := match i % 128 with
  | 0 => ⟨S261632x2, .i32⟩
  | 1 => ⟨S261632x2, .i32⟩
  | 2 => ⟨S_, .i32⟩
  | 3 => ⟨S261632x2, .i32⟩
  | 4 => ⟨S261632x2, .i32⟩
  | 5 => ⟨S261632x2, .i32⟩
  | 6 => ⟨S261632x2, .i32⟩
  | 7 => ⟨S261632x2, .i32⟩
  | 8 => ⟨S261632x2, .i32⟩
  | 9 => ⟨S261632x2, .i32⟩
  | 10 => ⟨S261632x2, .i32⟩
  | 11 => ⟨S_, .i32⟩
  | 12 => ⟨S261632x2, .i32⟩
  | 13 => ⟨S261632x2, .i32⟩
  | 14 => ⟨S261632x2, .i32⟩
  | 15 => ⟨S_, .i32⟩
  | 16 => ⟨S261632x2, .i32⟩
  | 17 => ⟨S261632x2, .i32⟩
  | 18 => ⟨S_, .i32⟩
  | 19 => ⟨S261632x2, .i32⟩
  | 20 => ⟨S261632x2, .i32⟩
  | 21 => ⟨S261632x2, .i32⟩
  | 22 => ⟨S261632x2, .i32⟩
  | 23 => ⟨S261632x2, .i32⟩
  | 24 => ⟨S_, .i32⟩
  | 25 => ⟨S261632x2, .i32⟩
  | 26 => ⟨S261632x2, .i32⟩
  | 27 => ⟨S_, .i32⟩
  | 28 => ⟨S261632x2, .i32⟩
  | 29 => ⟨S261632x2, .i32⟩
  | 30 => ⟨S261632x2, .i32⟩
  | 31 => ⟨S261632x2, .i32⟩
  | 32 => ⟨S261632x2, .i32⟩
  | 33 => ⟨S_, .i32⟩
  | 34 => ⟨S261632x2, .i32⟩
  | 35 => ⟨S261632x2, .i32⟩
  | 36 => ⟨S_, .i32⟩
  | 37 => ⟨S261632x2, .i32⟩
  | 38 => ⟨S261632x2, .i32⟩
  | 39 => ⟨S261632x2, .i32⟩
  | 40 => ⟨S261632x2, .i32⟩
  | 41 => ⟨S261632x2, .i32⟩
  | 42 => ⟨S_, .i32⟩
  | 43 => ⟨S261632x2, .i32⟩
  | 44 => ⟨S261632x2, .i32⟩
  | 45 => ⟨S_, .i32⟩
  | 46 => ⟨S261632x2, .i32⟩
  | 47 => ⟨S261632x2, .i32⟩
  | 48 => ⟨S261632x2, .i32⟩
  | 49 => ⟨S261632x2, .i32⟩
  | 50 => ⟨S261632x2, .i32⟩
  | 51 => ⟨S261632x2, .i32⟩
  | 52 => ⟨S261632x2, .i32⟩
  | 53 => ⟨S261632x2, .i32⟩
  | 54 => ⟨S_, .i32⟩
  | 55 => ⟨S261632x2, .i32⟩
  | 56 => ⟨S261632x2, .i32⟩
  | 57 => ⟨S261632x2, .i32⟩
  | 58 => ⟨S_, .i32⟩
  | 59 => ⟨S261632x2, .i32⟩
  | 60 => ⟨S261632x2, .i32⟩
  | 61 => ⟨S_, .i32⟩
  | 62 => ⟨S261632x2, .i32⟩
  | 63 => ⟨S261632x2, .i32⟩
  | 64 => ⟨S261632x2, .f32⟩
  | 65 => ⟨S_, .f32⟩
  | 66 => ⟨S261632x2, .f32⟩
  | 67 => ⟨S261632x2, .f32⟩
  | 68 => ⟨S1x1, .f32⟩
  | 69 => ⟨S261632x2, .f32⟩
  | 70 => ⟨S261632x2, .f32⟩
  | 71 => ⟨S261632x2, .f32⟩
  | 72 => ⟨S261632x2, .f32⟩
  | 73 => ⟨S261632x2, .f32⟩
  | 74 => ⟨S261632x2, .f32⟩
  | 75 => ⟨S261632x2, .f32⟩
  | 76 => ⟨S261632x2, .f32⟩
  | 77 => ⟨S261632x2, .f32⟩
  | 78 => ⟨S261632x2, .f32⟩
  | 79 => ⟨S261632x2, .f32⟩
  | 80 => ⟨S261632x1, .f32⟩
  | 81 => ⟨S261632, .f32⟩
  | 82 => ⟨S261632x1, .f32⟩
  | 83 => ⟨S261632, .f32⟩
  | 84 => ⟨S261632, .i1⟩
  | 85 => ⟨S261632, .f32⟩
  | 86 => ⟨S64x64, .f32⟩
  | 87 => ⟨S512x64, .f32⟩
  | 88 => ⟨S261632x1, .f32⟩
  | 89 => ⟨S_, .i32⟩
  | 90 => ⟨S261632, .i32⟩
  | 91 => ⟨S261632, .i1⟩
  | 92 => ⟨S_, .i32⟩
  | 93 => ⟨S261632, .i32⟩
  | 94 => ⟨S261632, .i32⟩
  | 95 => ⟨S261632, .i32⟩
  | 96 => ⟨S261632x1, .i32⟩
  | 97 => ⟨S261632x64, .f32⟩
  | 98 => ⟨S261632x64, .f32⟩
  | 99 => ⟨S261632x64, .f32⟩
  | 100 => ⟨S_, .f32⟩
  | 101 => ⟨S512x64, .f32⟩
  | 102 => ⟨S261632x1, .i32⟩
  | 103 => ⟨S512x64, .f32⟩
  | 104 => ⟨S1x64, .f32⟩
  | 105 => ⟨S512x64, .f32⟩
  | 106 => ⟨S512x64, .f32⟩
  | 107 => ⟨S_, .i32⟩
  | 108 => ⟨S261632, .i32⟩
  | 109 => ⟨S261632, .i1⟩
  | 110 => ⟨S_, .i32⟩
  | 111 => ⟨S261632, .i32⟩
  | 112 => ⟨S261632, .i32⟩
  | 113 => ⟨S261632, .i32⟩
  | 114 => ⟨S261632x1, .i32⟩
  | 115 => ⟨S261632x64, .f32⟩
  | 116 => ⟨S_, .i32⟩
  | 117 => ⟨S261632, .i32⟩
  | 118 => ⟨S261632, .i1⟩
  | 119 => ⟨S_, .i32⟩
  | 120 => ⟨S261632, .i32⟩
  | 121 => ⟨S261632, .i32⟩
  | 122 => ⟨S261632, .i32⟩
  | 123 => ⟨S261632x1, .i32⟩
  | 124 => ⟨S261632x64, .f32⟩
  | 125 => ⟨S261632x128, .f32⟩
  | 126 => ⟨S128x32, .f32⟩
  | 127 => ⟨S261632x32, .f32⟩
  | _ => ⟨S512x128, .f32⟩

abbrev hbmTy0_5 (i : Nat) : BufTy := match i % 128 with
  | 0 => ⟨S1x32, .f32⟩
  | 1 => ⟨S261632x32, .f32⟩
  | 2 => ⟨S261632x32, .f32⟩
  | 3 => ⟨S_, .f32⟩
  | 4 => ⟨S261632x32, .f32⟩
  | 5 => ⟨S261632x32, .f32⟩
  | 6 => ⟨S32x2, .f32⟩
  | 7 => ⟨S261632x2, .f32⟩
  | 8 => ⟨S1x2, .f32⟩
  | 9 => ⟨S261632x2, .f32⟩
  | 10 => ⟨S261632x2, .f32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S261632x2, .i64⟩
  | 22 => ⟨S261632x2, .i64⟩
  | 23 => ⟨S_, .i64⟩
  | 24 => ⟨S261632x2, .i64⟩
  | 25 => ⟨S261632x2, .i64⟩
  | 26 => ⟨S_, .i64⟩
  | 27 => ⟨S261632x2, .i64⟩
  | 28 => ⟨S261632x2, .i64⟩
  | 29 => ⟨S261632x2, .i64⟩
  | 30 => ⟨S_, .i64⟩
  | 31 => ⟨S261632x2, .i64⟩
  | 32 => ⟨S261632x2, .i64⟩
  | 33 => ⟨S261632x2, .i32⟩
  | 34 => ⟨S261632x2, .i32⟩
  | 35 => ⟨S_, .i32⟩
  | 36 => ⟨S_, .i32⟩
  | 37 => ⟨S_, .i32⟩
  | 38 => ⟨S261632x2, .i32⟩
  | 39 => ⟨S261632x2, .i32⟩
  | 40 => ⟨S261632x2, .i32⟩
  | 41 => ⟨S261632x2, .i32⟩
  | 42 => ⟨S261632x2, .i32⟩
  | 43 => ⟨S_, .i32⟩
  | 44 => ⟨S261632x2, .i32⟩
  | 45 => ⟨S261632x2, .i32⟩
  | 46 => ⟨S_, .i32⟩
  | 47 => ⟨S261632x2, .i32⟩
  | 48 => ⟨S261632x2, .i32⟩
  | 49 => ⟨S261632x2, .i32⟩
  | 50 => ⟨S261632x2, .i32⟩
  | 51 => ⟨S261632x2, .i32⟩
  | 52 => ⟨S_, .i32⟩
  | 53 => ⟨S261632x2, .i32⟩
  | 54 => ⟨S261632x2, .i32⟩
  | 55 => ⟨S_, .i32⟩
  | 56 => ⟨S261632x2, .i32⟩
  | 57 => ⟨S261632x2, .i32⟩
  | 58 => ⟨S261632x2, .i32⟩
  | 59 => ⟨S261632x2, .i32⟩
  | 60 => ⟨S261632x2, .i32⟩
  | 61 => ⟨S_, .i32⟩
  | 62 => ⟨S261632x2, .i32⟩
  | 63 => ⟨S261632x2, .i32⟩
  | 64 => ⟨S_, .i32⟩
  | 65 => ⟨S261632x2, .i32⟩
  | 66 => ⟨S261632x2, .i32⟩
  | 67 => ⟨S261632x2, .i32⟩
  | 68 => ⟨S261632x2, .i32⟩
  | 69 => ⟨S261632x2, .i32⟩
  | 70 => ⟨S_, .i32⟩
  | 71 => ⟨S261632x2, .i32⟩
  | 72 => ⟨S261632x2, .i32⟩
  | 73 => ⟨S_, .i32⟩
  | 74 => ⟨S261632x2, .i32⟩
  | 75 => ⟨S261632x2, .i32⟩
  | 76 => ⟨S261632x2, .i32⟩
  | 77 => ⟨S261632x2, .i32⟩
  | 78 => ⟨S261632x2, .i32⟩
  | 79 => ⟨S261632x2, .i32⟩
  | 80 => ⟨S261632x2, .i32⟩
  | 81 => ⟨S261632x2, .i32⟩
  | 82 => ⟨S_, .i32⟩
  | 83 => ⟨S261632x2, .i32⟩
  | 84 => ⟨S261632x2, .i32⟩
  | 85 => ⟨S261632x2, .i32⟩
  | 86 => ⟨S_, .i32⟩
  | 87 => ⟨S261632x2, .i32⟩
  | 88 => ⟨S261632x2, .i32⟩
  | 89 => ⟨S_, .i32⟩
  | 90 => ⟨S261632x2, .i32⟩
  | 91 => ⟨S261632x2, .i32⟩
  | 92 => ⟨S261632x2, .i32⟩
  | 93 => ⟨S261632x2, .i32⟩
  | 94 => ⟨S261632x2, .i32⟩
  | 95 => ⟨S_, .i32⟩
  | 96 => ⟨S261632x2, .i32⟩
  | 97 => ⟨S261632x2, .i32⟩
  | 98 => ⟨S_, .i32⟩
  | 99 => ⟨S261632x2, .i32⟩
  | 100 => ⟨S261632x2, .i32⟩
  | 101 => ⟨S261632x2, .i32⟩
  | 102 => ⟨S261632x2, .i32⟩
  | 103 => ⟨S261632x2, .i32⟩
  | 104 => ⟨S_, .i32⟩
  | 105 => ⟨S261632x2, .i32⟩
  | 106 => ⟨S261632x2, .i32⟩
  | 107 => ⟨S_, .i32⟩
  | 108 => ⟨S261632x2, .i32⟩
  | 109 => ⟨S261632x2, .i32⟩
  | 110 => ⟨S261632x2, .i32⟩
  | 111 => ⟨S261632x2, .i32⟩
  | 112 => ⟨S261632x2, .i32⟩
  | 113 => ⟨S_, .i32⟩
  | 114 => ⟨S261632x2, .i32⟩
  | 115 => ⟨S261632x2, .i32⟩
  | 116 => ⟨S_, .i32⟩
  | 117 => ⟨S261632x2, .i32⟩
  | 118 => ⟨S261632x2, .i32⟩
  | 119 => ⟨S261632x2, .i32⟩
  | 120 => ⟨S261632x2, .i32⟩
  | 121 => ⟨S261632x2, .i32⟩
  | 122 => ⟨S261632x2, .i32⟩
  | 123 => ⟨S261632x2, .i32⟩
  | 124 => ⟨S261632x2, .i32⟩
  | 125 => ⟨S_, .i32⟩
  | 126 => ⟨S261632x2, .i32⟩
  | 127 => ⟨S261632x2, .i32⟩
  | _ => ⟨S512x128, .f32⟩

abbrev hbmTy0_6 (i : Nat) : BufTy := match i % 128 with
  | 0 => ⟨S261632x2, .i32⟩
  | 1 => ⟨S_, .i32⟩
  | 2 => ⟨S261632x2, .i32⟩
  | 3 => ⟨S261632x2, .i32⟩
  | 4 => ⟨S_, .i32⟩
  | 5 => ⟨S261632x2, .i32⟩
  | 6 => ⟨S261632x2, .i32⟩
  | 7 => ⟨S261632x2, .i32⟩
  | 8 => ⟨S261632x2, .i32⟩
  | 9 => ⟨S261632x2, .i32⟩
  | 10 => ⟨S_, .i32⟩
  | 11 => ⟨S261632x2, .i32⟩
  | 12 => ⟨S261632x2, .i32⟩
  | 13 => ⟨S_, .i32⟩
  | 14 => ⟨S261632x2, .i32⟩
  | 15 => ⟨S261632x2, .i32⟩
  | 16 => ⟨S261632x2, .i32⟩
  | 17 => ⟨S261632x2, .i32⟩
  | 18 => ⟨S261632x2, .i32⟩
  | 19 => ⟨S_, .i32⟩
  | 20 => ⟨S261632x2, .i32⟩
  | 21 => ⟨S261632x2, .i32⟩
  | 22 => ⟨S_, .i32⟩
  | 23 => ⟨S261632x2, .i32⟩
  | 24 => ⟨S261632x2, .i32⟩
  | 25 => ⟨S261632x2, .i32⟩
  | 26 => ⟨S261632x2, .i32⟩
  | 27 => ⟨S261632x2, .i32⟩
  | 28 => ⟨S_, .i32⟩
  | 29 => ⟨S261632x2, .i32⟩
  | 30 => ⟨S261632x2, .i32⟩
  | 31 => ⟨S_, .i32⟩
  | 32 => ⟨S261632x2, .i32⟩
  | 33 => ⟨S261632x2, .i32⟩
  | 34 => ⟨S261632x2, .i32⟩
  | 35 => ⟨S261632x2, .i32⟩
  | 36 => ⟨S261632x2, .i32⟩
  | 37 => ⟨S261632x2, .i32⟩
  | 38 => ⟨S261632x2, .i32⟩
  | 39 => ⟨S261632x2, .i32⟩
  | 40 => ⟨S_, .i32⟩
  | 41 => ⟨S261632x2, .i32⟩
  | 42 => ⟨S261632x2, .i32⟩
  | 43 => ⟨S261632x2, .i32⟩
  | 44 => ⟨S_, .i32⟩
  | 45 => ⟨S261632x2, .i32⟩
  | 46 => ⟨S261632x2, .i32⟩
  | 47 => ⟨S_, .i32⟩
  | 48 => ⟨S261632x2, .i32⟩
  | 49 => ⟨S261632x2, .i32⟩
  | 50 => ⟨S261632x2, .i32⟩
  | 51 => ⟨S261632x2, .i32⟩
  | 52 => ⟨S261632x2, .i32⟩
  | 53 => ⟨S_, .i32⟩
  | 54 => ⟨S261632x2, .i32⟩
  | 55 => ⟨S261632x2, .i32⟩
  | 56 => ⟨S_, .i32⟩
  | 57 => ⟨S261632x2, .i32⟩
  | 58 => ⟨S261632x2, .i32⟩
  | 59 => ⟨S261632x2, .i32⟩
  | 60 => ⟨S261632x2, .i32⟩
  | 61 => ⟨S261632x2, .i32⟩
  | 62 => ⟨S_, .i32⟩
  | 63 => ⟨S261632x2, .i32⟩
  | 64 => ⟨S261632x2, .i32⟩
  | 65 => ⟨S_, .i32⟩
  | 66 => ⟨S261632x2, .i32⟩
  | 67 => ⟨S261632x2, .i32⟩
  | 68 => ⟨S261632x2, .i32⟩
  | 69 => ⟨S261632x2, .i32⟩
  | 70 => ⟨S261632x2, .i32⟩
  | 71 => ⟨S_, .i32⟩
  | 72 => ⟨S261632x2, .i32⟩
  | 73 => ⟨S261632x2, .i32⟩
  | 74 => ⟨S_, .i32⟩
  | 75 => ⟨S261632x2, .i32⟩
  | 76 => ⟨S261632x2, .i32⟩
  | 77 => ⟨S261632x2, .i32⟩
  | 78 => ⟨S261632x2, .i32⟩
  | 79 => ⟨S261632x2, .i32⟩
  | 80 => ⟨S261632x2, .i32⟩
  | 81 => ⟨S261632x2, .i32⟩
  | 82 => ⟨S261632x2, .i32⟩
  | 83 => ⟨S_, .i32⟩
  | 84 => ⟨S261632x2, .i32⟩
  | 85 => ⟨S261632x2, .i32⟩
  | 86 => ⟨S261632x2, .i32⟩
  | 87 => ⟨S_, .i32⟩
  | 88 => ⟨S261632x2, .i32⟩
  | 89 => ⟨S261632x2, .i32⟩
  | 90 => ⟨S_, .i32⟩
  | 91 => ⟨S261632x2, .i32⟩
  | 92 => ⟨S261632x2, .i32⟩
  | 93 => ⟨S261632x2, .i32⟩
  | 94 => ⟨S261632x2, .i32⟩
  | 95 => ⟨S261632x2, .i32⟩
  | 96 => ⟨S_, .i32⟩
  | 97 => ⟨S261632x2, .i32⟩
  | 98 => ⟨S261632x2, .i32⟩
  | 99 => ⟨S_, .i32⟩
  | 100 => ⟨S261632x2, .i32⟩
  | 101 => ⟨S261632x2, .i32⟩
  | 102 => ⟨S261632x2, .i32⟩
  | 103 => ⟨S261632x2, .i32⟩
  | 104 => ⟨S261632x2, .i32⟩
  | 105 => ⟨S_, .i32⟩
  | 106 => ⟨S261632x2, .i32⟩
  | 107 => ⟨S261632x2, .i32⟩
  | 108 => ⟨S_, .i32⟩
  | 109 => ⟨S261632x2, .i32⟩
  | 110 => ⟨S261632x2, .i32⟩
  | 111 => ⟨S261632x2, .i32⟩
  | 112 => ⟨S261632x2, .i32⟩
  | 113 => ⟨S261632x2, .i32⟩
  | 114 => ⟨S_, .i32⟩
  | 115 => ⟨S261632x2, .i32⟩
  | 116 => ⟨S261632x2, .i32⟩
  | 117 => ⟨S_, .i32⟩
  | 118 => ⟨S261632x2, .i32⟩
  | 119 => ⟨S261632x2, .i32⟩
  | 120 => ⟨S261632x2, .i32⟩
  | 121 => ⟨S261632x2, .i32⟩
  | 122 => ⟨S261632x2, .i32⟩
  | 123 => ⟨S261632x2, .i32⟩
  | 124 => ⟨S261632x2, .i32⟩
  | 125 => ⟨S261632x2, .i32⟩
  | 126 => ⟨S_, .i32⟩
  | 127 => ⟨S261632x2, .i32⟩
  | _ => ⟨S512x128, .f32⟩

abbrev hbmTy0_7 (i : Nat) : BufTy := match i % 128 with
  | 0 => ⟨S261632x2, .i32⟩
  | 1 => ⟨S261632x2, .i32⟩
  | 2 => ⟨S_, .i32⟩
  | 3 => ⟨S261632x2, .i32⟩
  | 4 => ⟨S261632x2, .i32⟩
  | 5 => ⟨S_, .i32⟩
  | 6 => ⟨S261632x2, .i32⟩
  | 7 => ⟨S261632x2, .i32⟩
  | 8 => ⟨S261632x2, .f32⟩
  | 9 => ⟨S_, .f32⟩
  | 10 => ⟨S261632x2, .f32⟩
  | 11 => ⟨S261632x2, .f32⟩
  | 12 => ⟨S1x1, .f32⟩
  | 13 => ⟨S261632x2, .f32⟩
  | 14 => ⟨S261632x2, .f32⟩
  | 15 => ⟨S261632x2, .f32⟩
  | 16 => ⟨S261632x2, .f32⟩
  | 17 => ⟨S261632x2, .f32⟩
  | 18 => ⟨S261632x2, .f32⟩
  | 19 => ⟨S261632x2, .f32⟩
  | 20 => ⟨S261632x2, .f32⟩
  | 21 => ⟨S261632x2, .f32⟩
  | 22 => ⟨S261632x2, .f32⟩
  | 23 => ⟨S261632x2, .f32⟩
  | 24 => ⟨S261632x1, .f32⟩
  | 25 => ⟨S261632, .f32⟩
  | 26 => ⟨S261632x1, .f32⟩
  | 27 => ⟨S261632, .f32⟩
  | 28 => ⟨S261632, .i1⟩
  | 29 => ⟨S261632, .f32⟩
  | 30 => ⟨S64x64, .f32⟩
  | 31 => ⟨S512x64, .f32⟩
  | 32 => ⟨S261632x1, .f32⟩
  | 33 => ⟨S_, .i32⟩
  | 34 => ⟨S261632, .i32⟩
  | 35 => ⟨S261632, .i1⟩
  | 36 => ⟨S_, .i32⟩
  | 37 => ⟨S261632, .i32⟩
  | 38 => ⟨S261632, .i32⟩
  | 39 => ⟨S261632, .i32⟩
  | 40 => ⟨S261632x1, .i32⟩
  | 41 => ⟨S261632x64, .f32⟩
  | 42 => ⟨S261632x64, .f32⟩
  | 43 => ⟨S261632x64, .f32⟩
  | 44 => ⟨S_, .f32⟩
  | 45 => ⟨S512x64, .f32⟩
  | 46 => ⟨S261632x1, .i32⟩
  | 47 => ⟨S512x64, .f32⟩
  | 48 => ⟨S1x64, .f32⟩
  | 49 => ⟨S512x64, .f32⟩
  | 50 => ⟨S512x64, .f32⟩
  | 51 => ⟨S64x64, .f32⟩
  | 52 => ⟨S512x64, .f32⟩
  | 53 => ⟨S1x64, .f32⟩
  | 54 => ⟨S512x64, .f32⟩
  | 55 => ⟨S512x64, .f32⟩
  | 56 => ⟨S64x64, .f32⟩
  | 57 => ⟨S512x64, .f32⟩
  | 58 => ⟨S1x64, .f32⟩
  | 59 => ⟨S512x64, .f32⟩
  | 60 => ⟨S512x64, .f32⟩
  | 61 => ⟨S512x64, .f32⟩
  | 62 => ⟨S512x64, .f32⟩
  | 63 => ⟨S512x64, .f32⟩
  | 64 => ⟨S64x1, .f32⟩
  | 65 => ⟨S512x1, .f32⟩
  | 66 => ⟨S1x1, .f32⟩
  | 67 => ⟨S512x1, .f32⟩
  | 68 => ⟨S512x1, .f32⟩
  | 69 => ⟨S1x512x64, .f32⟩
  | 70 => ⟨S64x2, .f32⟩
  | 71 => ⟨S1x512x2, .f32⟩
  | 72 => ⟨S1x1x2, .f32⟩
  | 73 => ⟨S1x512x2, .f32⟩
  | 74 => ⟨S1x512x2, .f32⟩
  | 75 => ⟨S1x512x2, .f32⟩
  | 76 => ⟨S1x512x2, .f32⟩
  | _ => ⟨S512x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_0 : Ref sig .tc := ⟨.hbm, 39, rfl⟩
abbrev main_c_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c : Ref sig .tc := ⟨.hbm, 54, rfl⟩
abbrev main_call1_v5 : Ref sig .tc := ⟨.hbm, 55, rfl⟩
abbrev main_call1_v6 : Ref sig .tc := ⟨.hbm, 56, rfl⟩
abbrev main_call1_c_0 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_call0_v0 : Ref sig .tc := ⟨.hbm, 62, rfl⟩
abbrev main_call1_call0_c : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_c_0 : Ref sig .tc := ⟨.hbm, 70, rfl⟩
abbrev main_call1_call0_v7 : Ref sig .tc := ⟨.hbm, 71, rfl⟩
abbrev main_call1_call0_v8 : Ref sig .tc := ⟨.hbm, 72, rfl⟩
abbrev main_call1_call0_c_1 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_call0_v12 : Ref sig .tc := ⟨.hbm, 77, rfl⟩
abbrev main_call1_call0_v13 : Ref sig .tc := ⟨.hbm, 78, rfl⟩
abbrev main_call1_call0_c_2 : Ref sig .tc := ⟨.hbm, 79, rfl⟩
abbrev main_call1_call0_v14 : Ref sig .tc := ⟨.hbm, 80, rfl⟩
abbrev main_call1_call0_v15 : Ref sig .tc := ⟨.hbm, 81, rfl⟩
abbrev main_call1_call0_c_3 : Ref sig .tc := ⟨.hbm, 82, rfl⟩
abbrev main_call1_call0_v16 : Ref sig .tc := ⟨.hbm, 83, rfl⟩
abbrev main_call1_call0_v17 : Ref sig .tc := ⟨.hbm, 84, rfl⟩
abbrev main_call1_call0_v18 : Ref sig .tc := ⟨.hbm, 85, rfl⟩
abbrev main_call1_call0_v19 : Ref sig .tc := ⟨.hbm, 86, rfl⟩
abbrev main_call1_call0_v20 : Ref sig .tc := ⟨.hbm, 87, rfl⟩
abbrev main_call1_call0_c_4 : Ref sig .tc := ⟨.hbm, 88, rfl⟩
abbrev main_call1_call0_v21 : Ref sig .tc := ⟨.hbm, 89, rfl⟩
abbrev main_call1_call0_v22 : Ref sig .tc := ⟨.hbm, 90, rfl⟩
abbrev main_call1_call0_c_5 : Ref sig .tc := ⟨.hbm, 91, rfl⟩
abbrev main_call1_call0_v23 : Ref sig .tc := ⟨.hbm, 92, rfl⟩
abbrev main_call1_call0_v24 : Ref sig .tc := ⟨.hbm, 93, rfl⟩
abbrev main_call1_call0_v25 : Ref sig .tc := ⟨.hbm, 94, rfl⟩
abbrev main_call1_call0_v26 : Ref sig .tc := ⟨.hbm, 95, rfl⟩
abbrev main_call1_call0_v27 : Ref sig .tc := ⟨.hbm, 96, rfl⟩
abbrev main_call1_call0_c_6 : Ref sig .tc := ⟨.hbm, 97, rfl⟩
abbrev main_call1_call0_v28 : Ref sig .tc := ⟨.hbm, 98, rfl⟩
abbrev main_call1_call0_v29 : Ref sig .tc := ⟨.hbm, 99, rfl⟩
abbrev main_call1_call0_c_7 : Ref sig .tc := ⟨.hbm, 100, rfl⟩
abbrev main_call1_call0_v30 : Ref sig .tc := ⟨.hbm, 101, rfl⟩
abbrev main_call1_call0_v31 : Ref sig .tc := ⟨.hbm, 102, rfl⟩
abbrev main_call1_call0_v32 : Ref sig .tc := ⟨.hbm, 103, rfl⟩
abbrev main_call1_call0_v33 : Ref sig .tc := ⟨.hbm, 104, rfl⟩
abbrev main_call1_call0_v34 : Ref sig .tc := ⟨.hbm, 105, rfl⟩
abbrev main_call1_call0_v35 : Ref sig .tc := ⟨.hbm, 106, rfl⟩
abbrev main_call1_call0_v36 : Ref sig .tc := ⟨.hbm, 107, rfl⟩
abbrev main_call1_call0_v37 : Ref sig .tc := ⟨.hbm, 108, rfl⟩
abbrev main_call1_call0_c_8 : Ref sig .tc := ⟨.hbm, 109, rfl⟩
abbrev main_call1_call0_v38 : Ref sig .tc := ⟨.hbm, 110, rfl⟩
abbrev main_call1_call0_v39 : Ref sig .tc := ⟨.hbm, 111, rfl⟩
abbrev main_call1_call0_v40 : Ref sig .tc := ⟨.hbm, 112, rfl⟩
abbrev main_call1_call0_c_9 : Ref sig .tc := ⟨.hbm, 113, rfl⟩
abbrev main_call1_call0_v41 : Ref sig .tc := ⟨.hbm, 114, rfl⟩
abbrev main_call1_call0_v42 : Ref sig .tc := ⟨.hbm, 115, rfl⟩
abbrev main_call1_call0_c_10 : Ref sig .tc := ⟨.hbm, 116, rfl⟩
abbrev main_call1_call0_v43 : Ref sig .tc := ⟨.hbm, 117, rfl⟩
abbrev main_call1_call0_v44 : Ref sig .tc := ⟨.hbm, 118, rfl⟩
abbrev main_call1_call0_v45 : Ref sig .tc := ⟨.hbm, 119, rfl⟩
abbrev main_call1_call0_v46 : Ref sig .tc := ⟨.hbm, 120, rfl⟩
abbrev main_call1_call0_v47 : Ref sig .tc := ⟨.hbm, 121, rfl⟩
abbrev main_call1_call0_c_11 : Ref sig .tc := ⟨.hbm, 122, rfl⟩
abbrev main_call1_call0_v48 : Ref sig .tc := ⟨.hbm, 123, rfl⟩
abbrev main_call1_call0_v49 : Ref sig .tc := ⟨.hbm, 124, rfl⟩
abbrev main_call1_call0_c_12 : Ref sig .tc := ⟨.hbm, 125, rfl⟩
abbrev main_call1_call0_v50 : Ref sig .tc := ⟨.hbm, 126, rfl⟩
abbrev main_call1_call0_v51 : Ref sig .tc := ⟨.hbm, 127, rfl⟩
abbrev main_call1_call0_v52 : Ref sig .tc := ⟨.hbm, 128, rfl⟩
abbrev main_call1_call0_v53 : Ref sig .tc := ⟨.hbm, 129, rfl⟩
abbrev main_call1_call0_v54 : Ref sig .tc := ⟨.hbm, 130, rfl⟩
abbrev main_call1_call0_c_13 : Ref sig .tc := ⟨.hbm, 131, rfl⟩
abbrev main_call1_call0_v55 : Ref sig .tc := ⟨.hbm, 132, rfl⟩
abbrev main_call1_call0_v56 : Ref sig .tc := ⟨.hbm, 133, rfl⟩
abbrev main_call1_call0_c_14 : Ref sig .tc := ⟨.hbm, 134, rfl⟩
abbrev main_call1_call0_v57 : Ref sig .tc := ⟨.hbm, 135, rfl⟩
abbrev main_call1_call0_v58 : Ref sig .tc := ⟨.hbm, 136, rfl⟩
abbrev main_call1_call0_v59 : Ref sig .tc := ⟨.hbm, 137, rfl⟩
abbrev main_call1_call0_v60 : Ref sig .tc := ⟨.hbm, 138, rfl⟩
abbrev main_call1_call0_v61 : Ref sig .tc := ⟨.hbm, 139, rfl⟩
abbrev main_call1_call0_c_15 : Ref sig .tc := ⟨.hbm, 140, rfl⟩
abbrev main_call1_call0_v62 : Ref sig .tc := ⟨.hbm, 141, rfl⟩
abbrev main_call1_call0_v63 : Ref sig .tc := ⟨.hbm, 142, rfl⟩
abbrev main_call1_call0_c_16 : Ref sig .tc := ⟨.hbm, 143, rfl⟩
abbrev main_call1_call0_v64 : Ref sig .tc := ⟨.hbm, 144, rfl⟩
abbrev main_call1_call0_v65 : Ref sig .tc := ⟨.hbm, 145, rfl⟩
abbrev main_call1_call0_v66 : Ref sig .tc := ⟨.hbm, 146, rfl⟩
abbrev main_call1_call0_v67 : Ref sig .tc := ⟨.hbm, 147, rfl⟩
abbrev main_call1_call0_v68 : Ref sig .tc := ⟨.hbm, 148, rfl⟩
abbrev main_call1_call0_v69 : Ref sig .tc := ⟨.hbm, 149, rfl⟩
abbrev main_call1_call0_v70 : Ref sig .tc := ⟨.hbm, 150, rfl⟩
abbrev main_call1_call0_v71 : Ref sig .tc := ⟨.hbm, 151, rfl⟩
abbrev main_call1_call0_c_17 : Ref sig .tc := ⟨.hbm, 152, rfl⟩
abbrev main_call1_call0_v72 : Ref sig .tc := ⟨.hbm, 153, rfl⟩
abbrev main_call1_call0_v73 : Ref sig .tc := ⟨.hbm, 154, rfl⟩
abbrev main_call1_call0_v74 : Ref sig .tc := ⟨.hbm, 155, rfl⟩
abbrev main_call1_call0_c_18 : Ref sig .tc := ⟨.hbm, 156, rfl⟩
abbrev main_call1_call0_v75 : Ref sig .tc := ⟨.hbm, 157, rfl⟩
abbrev main_call1_call0_v76 : Ref sig .tc := ⟨.hbm, 158, rfl⟩
abbrev main_call1_call0_c_19 : Ref sig .tc := ⟨.hbm, 159, rfl⟩
abbrev main_call1_call0_v77 : Ref sig .tc := ⟨.hbm, 160, rfl⟩
abbrev main_call1_call0_v78 : Ref sig .tc := ⟨.hbm, 161, rfl⟩
abbrev main_call1_call0_v79 : Ref sig .tc := ⟨.hbm, 162, rfl⟩
abbrev main_call1_call0_v80 : Ref sig .tc := ⟨.hbm, 163, rfl⟩
abbrev main_call1_call0_v81 : Ref sig .tc := ⟨.hbm, 164, rfl⟩
abbrev main_call1_call0_c_20 : Ref sig .tc := ⟨.hbm, 165, rfl⟩
abbrev main_call1_call0_v82 : Ref sig .tc := ⟨.hbm, 166, rfl⟩
abbrev main_call1_call0_v83 : Ref sig .tc := ⟨.hbm, 167, rfl⟩
abbrev main_call1_call0_c_21 : Ref sig .tc := ⟨.hbm, 168, rfl⟩
abbrev main_call1_call0_v84 : Ref sig .tc := ⟨.hbm, 169, rfl⟩
abbrev main_call1_call0_v85 : Ref sig .tc := ⟨.hbm, 170, rfl⟩
abbrev main_call1_call0_v86 : Ref sig .tc := ⟨.hbm, 171, rfl⟩
abbrev main_call1_call0_v87 : Ref sig .tc := ⟨.hbm, 172, rfl⟩
abbrev main_call1_call0_v88 : Ref sig .tc := ⟨.hbm, 173, rfl⟩
abbrev main_call1_call0_c_22 : Ref sig .tc := ⟨.hbm, 174, rfl⟩
abbrev main_call1_call0_v89 : Ref sig .tc := ⟨.hbm, 175, rfl⟩
abbrev main_call1_call0_v90 : Ref sig .tc := ⟨.hbm, 176, rfl⟩
abbrev main_call1_call0_c_23 : Ref sig .tc := ⟨.hbm, 177, rfl⟩
abbrev main_call1_call0_v91 : Ref sig .tc := ⟨.hbm, 178, rfl⟩
abbrev main_call1_call0_v92 : Ref sig .tc := ⟨.hbm, 179, rfl⟩
abbrev main_call1_call0_v93 : Ref sig .tc := ⟨.hbm, 180, rfl⟩
abbrev main_call1_call0_v94 : Ref sig .tc := ⟨.hbm, 181, rfl⟩
abbrev main_call1_call0_v95 : Ref sig .tc := ⟨.hbm, 182, rfl⟩
abbrev main_call1_call0_c_24 : Ref sig .tc := ⟨.hbm, 183, rfl⟩
abbrev main_call1_call0_v96 : Ref sig .tc := ⟨.hbm, 184, rfl⟩
abbrev main_call1_call0_v97 : Ref sig .tc := ⟨.hbm, 185, rfl⟩
abbrev main_call1_call0_c_25 : Ref sig .tc := ⟨.hbm, 186, rfl⟩
abbrev main_call1_call0_v98 : Ref sig .tc := ⟨.hbm, 187, rfl⟩
abbrev main_call1_call0_v99 : Ref sig .tc := ⟨.hbm, 188, rfl⟩
abbrev main_call1_call0_v100 : Ref sig .tc := ⟨.hbm, 189, rfl⟩
abbrev main_call1_call0_v101 : Ref sig .tc := ⟨.hbm, 190, rfl⟩
abbrev main_call1_call0_v102 : Ref sig .tc := ⟨.hbm, 191, rfl⟩
abbrev main_call1_call0_v103 : Ref sig .tc := ⟨.hbm, 192, rfl⟩
abbrev main_call1_call0_v104 : Ref sig .tc := ⟨.hbm, 193, rfl⟩
abbrev main_call1_call0_v105 : Ref sig .tc := ⟨.hbm, 194, rfl⟩
abbrev main_call1_call0_c_26 : Ref sig .tc := ⟨.hbm, 195, rfl⟩
abbrev main_call1_call0_v106 : Ref sig .tc := ⟨.hbm, 196, rfl⟩
abbrev main_call1_call0_v107 : Ref sig .tc := ⟨.hbm, 197, rfl⟩
abbrev main_call1_call0_v108 : Ref sig .tc := ⟨.hbm, 198, rfl⟩
abbrev main_call1_call0_c_27 : Ref sig .tc := ⟨.hbm, 199, rfl⟩
abbrev main_call1_call0_v109 : Ref sig .tc := ⟨.hbm, 200, rfl⟩
abbrev main_call1_call0_v110 : Ref sig .tc := ⟨.hbm, 201, rfl⟩
abbrev main_call1_call0_c_28 : Ref sig .tc := ⟨.hbm, 202, rfl⟩
abbrev main_call1_call0_v111 : Ref sig .tc := ⟨.hbm, 203, rfl⟩
abbrev main_call1_call0_v112 : Ref sig .tc := ⟨.hbm, 204, rfl⟩
abbrev main_call1_call0_v113 : Ref sig .tc := ⟨.hbm, 205, rfl⟩
abbrev main_call1_call0_v114 : Ref sig .tc := ⟨.hbm, 206, rfl⟩
abbrev main_call1_call0_v115 : Ref sig .tc := ⟨.hbm, 207, rfl⟩
abbrev main_call1_call0_c_29 : Ref sig .tc := ⟨.hbm, 208, rfl⟩
abbrev main_call1_call0_v116 : Ref sig .tc := ⟨.hbm, 209, rfl⟩
abbrev main_call1_call0_v117 : Ref sig .tc := ⟨.hbm, 210, rfl⟩
abbrev main_call1_call0_c_30 : Ref sig .tc := ⟨.hbm, 211, rfl⟩
abbrev main_call1_call0_v118 : Ref sig .tc := ⟨.hbm, 212, rfl⟩
abbrev main_call1_call0_v119 : Ref sig .tc := ⟨.hbm, 213, rfl⟩
abbrev main_call1_call0_v120 : Ref sig .tc := ⟨.hbm, 214, rfl⟩
abbrev main_call1_call0_v121 : Ref sig .tc := ⟨.hbm, 215, rfl⟩
abbrev main_call1_call0_v122 : Ref sig .tc := ⟨.hbm, 216, rfl⟩
abbrev main_call1_call0_c_31 : Ref sig .tc := ⟨.hbm, 217, rfl⟩
abbrev main_call1_call0_v123 : Ref sig .tc := ⟨.hbm, 218, rfl⟩
abbrev main_call1_call0_v124 : Ref sig .tc := ⟨.hbm, 219, rfl⟩
abbrev main_call1_call0_c_32 : Ref sig .tc := ⟨.hbm, 220, rfl⟩
abbrev main_call1_call0_v125 : Ref sig .tc := ⟨.hbm, 221, rfl⟩
abbrev main_call1_call0_v126 : Ref sig .tc := ⟨.hbm, 222, rfl⟩
abbrev main_call1_call0_v127 : Ref sig .tc := ⟨.hbm, 223, rfl⟩
abbrev main_call1_call0_v128 : Ref sig .tc := ⟨.hbm, 224, rfl⟩
abbrev main_call1_call0_v129 : Ref sig .tc := ⟨.hbm, 225, rfl⟩
abbrev main_call1_call0_c_33 : Ref sig .tc := ⟨.hbm, 226, rfl⟩
abbrev main_call1_call0_v130 : Ref sig .tc := ⟨.hbm, 227, rfl⟩
abbrev main_call1_call0_v131 : Ref sig .tc := ⟨.hbm, 228, rfl⟩
abbrev main_call1_call0_c_34 : Ref sig .tc := ⟨.hbm, 229, rfl⟩
abbrev main_call1_call0_v132 : Ref sig .tc := ⟨.hbm, 230, rfl⟩
abbrev main_call1_call0_v133 : Ref sig .tc := ⟨.hbm, 231, rfl⟩
abbrev main_call1_call0_v134 : Ref sig .tc := ⟨.hbm, 232, rfl⟩
abbrev main_call1_call0_v135 : Ref sig .tc := ⟨.hbm, 233, rfl⟩
abbrev main_call1_call0_v136 : Ref sig .tc := ⟨.hbm, 234, rfl⟩
abbrev main_call1_call0_v137 : Ref sig .tc := ⟨.hbm, 235, rfl⟩
abbrev main_call1_call0_v138 : Ref sig .tc := ⟨.hbm, 236, rfl⟩
abbrev main_call1_call0_v139 : Ref sig .tc := ⟨.hbm, 237, rfl⟩
abbrev main_call1_call0_c_35 : Ref sig .tc := ⟨.hbm, 238, rfl⟩
abbrev main_call1_call0_v140 : Ref sig .tc := ⟨.hbm, 239, rfl⟩
abbrev main_call1_call0_v141 : Ref sig .tc := ⟨.hbm, 240, rfl⟩
abbrev main_call1_call0_v142 : Ref sig .tc := ⟨.hbm, 241, rfl⟩
abbrev main_call1_call0_c_36 : Ref sig .tc := ⟨.hbm, 242, rfl⟩
abbrev main_call1_call0_v143 : Ref sig .tc := ⟨.hbm, 243, rfl⟩
abbrev main_call1_call0_v144 : Ref sig .tc := ⟨.hbm, 244, rfl⟩
abbrev main_call1_call0_c_37 : Ref sig .tc := ⟨.hbm, 245, rfl⟩
abbrev main_call1_call0_v145 : Ref sig .tc := ⟨.hbm, 246, rfl⟩
abbrev main_call1_call0_v146 : Ref sig .tc := ⟨.hbm, 247, rfl⟩
abbrev main_call1_call0_v147 : Ref sig .tc := ⟨.hbm, 248, rfl⟩
abbrev main_call1_call0_v148 : Ref sig .tc := ⟨.hbm, 249, rfl⟩
abbrev main_call1_call0_v149 : Ref sig .tc := ⟨.hbm, 250, rfl⟩
abbrev main_call1_call0_c_38 : Ref sig .tc := ⟨.hbm, 251, rfl⟩
abbrev main_call1_call0_v150 : Ref sig .tc := ⟨.hbm, 252, rfl⟩
abbrev main_call1_call0_v151 : Ref sig .tc := ⟨.hbm, 253, rfl⟩
abbrev main_call1_call0_c_39 : Ref sig .tc := ⟨.hbm, 254, rfl⟩
abbrev main_call1_call0_v152 : Ref sig .tc := ⟨.hbm, 255, rfl⟩
abbrev main_call1_call0_v153 : Ref sig .tc := ⟨.hbm, 256, rfl⟩
abbrev main_call1_call0_v154 : Ref sig .tc := ⟨.hbm, 257, rfl⟩
abbrev main_call1_call0_v155 : Ref sig .tc := ⟨.hbm, 258, rfl⟩
abbrev main_call1_call0_v156 : Ref sig .tc := ⟨.hbm, 259, rfl⟩
abbrev main_call1_call0_c_40 : Ref sig .tc := ⟨.hbm, 260, rfl⟩
abbrev main_call1_call0_v157 : Ref sig .tc := ⟨.hbm, 261, rfl⟩
abbrev main_call1_call0_v158 : Ref sig .tc := ⟨.hbm, 262, rfl⟩
abbrev main_call1_call0_c_41 : Ref sig .tc := ⟨.hbm, 263, rfl⟩
abbrev main_call1_call0_v159 : Ref sig .tc := ⟨.hbm, 264, rfl⟩
abbrev main_call1_call0_v160 : Ref sig .tc := ⟨.hbm, 265, rfl⟩
abbrev main_call1_call0_v161 : Ref sig .tc := ⟨.hbm, 266, rfl⟩
abbrev main_call1_call0_v162 : Ref sig .tc := ⟨.hbm, 267, rfl⟩
abbrev main_call1_call0_v163 : Ref sig .tc := ⟨.hbm, 268, rfl⟩
abbrev main_call1_call0_c_42 : Ref sig .tc := ⟨.hbm, 269, rfl⟩
abbrev main_call1_call0_v164 : Ref sig .tc := ⟨.hbm, 270, rfl⟩
abbrev main_call1_call0_v165 : Ref sig .tc := ⟨.hbm, 271, rfl⟩
abbrev main_call1_call0_c_43 : Ref sig .tc := ⟨.hbm, 272, rfl⟩
abbrev main_call1_call0_v166 : Ref sig .tc := ⟨.hbm, 273, rfl⟩
abbrev main_call1_call0_v167 : Ref sig .tc := ⟨.hbm, 274, rfl⟩
abbrev main_call1_call0_v168 : Ref sig .tc := ⟨.hbm, 275, rfl⟩
abbrev main_call1_call0_v169 : Ref sig .tc := ⟨.hbm, 276, rfl⟩
abbrev main_call1_call0_v170 : Ref sig .tc := ⟨.hbm, 277, rfl⟩
abbrev main_call1_v11_0 : Ref sig .tc := ⟨.hbm, 278, rfl⟩
abbrev main_call1_call0_v172 : Ref sig .tc := ⟨.hbm, 279, rfl⟩
abbrev main_call1_call0_v173 : Ref sig .tc := ⟨.hbm, 280, rfl⟩
abbrev main_call1_call0_c_44 : Ref sig .tc := ⟨.hbm, 281, rfl⟩
abbrev main_call1_call0_v174 : Ref sig .tc := ⟨.hbm, 282, rfl⟩
abbrev main_call1_v11_1 : Ref sig .tc := ⟨.hbm, 283, rfl⟩
abbrev main_call1_v12 : Ref sig .tc := ⟨.hbm, 284, rfl⟩
abbrev main_call1_v13 : Ref sig .tc := ⟨.hbm, 285, rfl⟩
abbrev main_v21 : Ref sig .tc := ⟨.hbm, 286, rfl⟩
abbrev main_v22 : Ref sig .tc := ⟨.hbm, 287, rfl⟩
abbrev main_v23 : Ref sig .tc := ⟨.hbm, 288, rfl⟩
abbrev main_v24 : Ref sig .tc := ⟨.hbm, 289, rfl⟩
abbrev main_v25 : Ref sig .tc := ⟨.hbm, 290, rfl⟩
abbrev main_c_3 : Ref sig .tc := ⟨.hbm, 291, rfl⟩
abbrev main_v26 : Ref sig .tc := ⟨.hbm, 292, rfl⟩
abbrev main_v27 : Ref sig .tc := ⟨.hbm, 293, rfl⟩
abbrev main_c_4 : Ref sig .tc := ⟨.hbm, 294, rfl⟩
abbrev main_v28 : Ref sig .tc := ⟨.hbm, 295, rfl⟩
abbrev main_v29 : Ref sig .tc := ⟨.hbm, 296, rfl⟩
abbrev main_v30 : Ref sig .tc := ⟨.hbm, 297, rfl⟩
abbrev main_v31 : Ref sig .tc := ⟨.hbm, 298, rfl⟩
abbrev main_v32 : Ref sig .tc := ⟨.hbm, 299, rfl⟩
abbrev main_c_5 : Ref sig .tc := ⟨.hbm, 300, rfl⟩
abbrev main_v33 : Ref sig .tc := ⟨.hbm, 301, rfl⟩
abbrev main_v34 : Ref sig .tc := ⟨.hbm, 302, rfl⟩
abbrev main_c_6 : Ref sig .tc := ⟨.hbm, 303, rfl⟩
abbrev main_v35 : Ref sig .tc := ⟨.hbm, 304, rfl⟩
abbrev main_v36 : Ref sig .tc := ⟨.hbm, 305, rfl⟩
abbrev main_v37 : Ref sig .tc := ⟨.hbm, 306, rfl⟩
abbrev main_v38 : Ref sig .tc := ⟨.hbm, 307, rfl⟩
abbrev main_v39 : Ref sig .tc := ⟨.hbm, 308, rfl⟩
abbrev main_v40 : Ref sig .tc := ⟨.hbm, 309, rfl⟩
abbrev main_v41 : Ref sig .tc := ⟨.hbm, 310, rfl⟩
abbrev main_v42 : Ref sig .tc := ⟨.hbm, 311, rfl⟩
abbrev main_v43 : Ref sig .tc := ⟨.hbm, 312, rfl⟩
abbrev main_v44 : Ref sig .tc := ⟨.hbm, 313, rfl⟩
abbrev main_v45 : Ref sig .tc := ⟨.hbm, 314, rfl⟩
abbrev main_cst : Ref sig .tc := ⟨.hbm, 315, rfl⟩
abbrev main_v46 : Ref sig .tc := ⟨.hbm, 316, rfl⟩
abbrev main_v47 : Ref sig .tc := ⟨.hbm, 317, rfl⟩
abbrev main_v48 : Ref sig .tc := ⟨.hbm, 318, rfl⟩
abbrev main_v49 : Ref sig .tc := ⟨.hbm, 319, rfl⟩
abbrev main_v50 : Ref sig .tc := ⟨.hbm, 320, rfl⟩
abbrev main_v51 : Ref sig .tc := ⟨.hbm, 321, rfl⟩
abbrev main_v52 : Ref sig .tc := ⟨.hbm, 322, rfl⟩
abbrev main_cst_7 : Ref sig .tc := ⟨.hbm, 323, rfl⟩
abbrev main_cst_8 : Ref sig .tc := ⟨.hbm, 324, rfl⟩
abbrev main_call2_v0 : Ref sig .tc := ⟨.hbm, 325, rfl⟩
abbrev main_call2_v1 : Ref sig .tc := ⟨.hbm, 326, rfl⟩
abbrev main_call2_v2 : Ref sig .tc := ⟨.hbm, 327, rfl⟩
abbrev main_call2_v3 : Ref sig .tc := ⟨.hbm, 328, rfl⟩
abbrev main_call2_v4 : Ref sig .tc := ⟨.hbm, 329, rfl⟩
abbrev main_call2_v5 : Ref sig .tc := ⟨.hbm, 330, rfl⟩
abbrev main_call2_v6 : Ref sig .tc := ⟨.hbm, 331, rfl⟩
abbrev main_call2_v7 : Ref sig .tc := ⟨.hbm, 332, rfl⟩
abbrev main_call2_v8 : Ref sig .tc := ⟨.hbm, 333, rfl⟩
abbrev main_call2_v9 : Ref sig .tc := ⟨.hbm, 334, rfl⟩
abbrev main_call2_c : Ref sig .tc := ⟨.hbm, 335, rfl⟩
abbrev main_call2_v10 : Ref sig .tc := ⟨.hbm, 336, rfl⟩
abbrev main_call2_v11 : Ref sig .tc := ⟨.hbm, 337, rfl⟩
abbrev main_call2_c_0 : Ref sig .tc := ⟨.hbm, 338, rfl⟩
abbrev main_call2_v12 : Ref sig .tc := ⟨.hbm, 339, rfl⟩
abbrev main_call2_v13 : Ref sig .tc := ⟨.hbm, 340, rfl⟩
abbrev main_call2_v14 : Ref sig .tc := ⟨.hbm, 341, rfl⟩
abbrev main_call2_c_1 : Ref sig .tc := ⟨.hbm, 342, rfl⟩
abbrev main_call2_v15 : Ref sig .tc := ⟨.hbm, 343, rfl⟩
abbrev main_call2_v16 : Ref sig .tc := ⟨.hbm, 344, rfl⟩
abbrev main_call2_v17 : Ref sig .tc := ⟨.hbm, 345, rfl⟩
abbrev main_call2_v18 : Ref sig .tc := ⟨.hbm, 346, rfl⟩
abbrev main_call2_call0_v0 : Ref sig .tc := ⟨.hbm, 347, rfl⟩
abbrev main_call2_call0_c : Ref sig .tc := ⟨.hbm, 348, rfl⟩
abbrev main_call2_call0_v1 : Ref sig .tc := ⟨.hbm, 349, rfl⟩
abbrev main_call2_call0_v2 : Ref sig .tc := ⟨.hbm, 350, rfl⟩
abbrev main_call2_call0_v3 : Ref sig .tc := ⟨.hbm, 351, rfl⟩
abbrev main_call2_call0_v4 : Ref sig .tc := ⟨.hbm, 352, rfl⟩
abbrev main_call2_call0_v5 : Ref sig .tc := ⟨.hbm, 353, rfl⟩
abbrev main_call2_call0_v6 : Ref sig .tc := ⟨.hbm, 354, rfl⟩
abbrev main_call2_call0_c_0 : Ref sig .tc := ⟨.hbm, 355, rfl⟩
abbrev main_call2_call0_v7 : Ref sig .tc := ⟨.hbm, 356, rfl⟩
abbrev main_call2_call0_v8 : Ref sig .tc := ⟨.hbm, 357, rfl⟩
abbrev main_call2_call0_c_1 : Ref sig .tc := ⟨.hbm, 358, rfl⟩
abbrev main_call2_call0_v9 : Ref sig .tc := ⟨.hbm, 359, rfl⟩
abbrev main_call2_call0_v10 : Ref sig .tc := ⟨.hbm, 360, rfl⟩
abbrev main_call2_call0_v11 : Ref sig .tc := ⟨.hbm, 361, rfl⟩
abbrev main_call2_call0_v12 : Ref sig .tc := ⟨.hbm, 362, rfl⟩
abbrev main_call2_call0_v13 : Ref sig .tc := ⟨.hbm, 363, rfl⟩
abbrev main_call2_call0_c_2 : Ref sig .tc := ⟨.hbm, 364, rfl⟩
abbrev main_call2_call0_v14 : Ref sig .tc := ⟨.hbm, 365, rfl⟩
abbrev main_call2_call0_v15 : Ref sig .tc := ⟨.hbm, 366, rfl⟩
abbrev main_call2_call0_c_3 : Ref sig .tc := ⟨.hbm, 367, rfl⟩
abbrev main_call2_call0_v16 : Ref sig .tc := ⟨.hbm, 368, rfl⟩
abbrev main_call2_call0_v17 : Ref sig .tc := ⟨.hbm, 369, rfl⟩
abbrev main_call2_call0_v18 : Ref sig .tc := ⟨.hbm, 370, rfl⟩
abbrev main_call2_call0_v19 : Ref sig .tc := ⟨.hbm, 371, rfl⟩
abbrev main_call2_call0_v20 : Ref sig .tc := ⟨.hbm, 372, rfl⟩
abbrev main_call2_call0_c_4 : Ref sig .tc := ⟨.hbm, 373, rfl⟩
abbrev main_call2_call0_v21 : Ref sig .tc := ⟨.hbm, 374, rfl⟩
abbrev main_call2_call0_v22 : Ref sig .tc := ⟨.hbm, 375, rfl⟩
abbrev main_call2_call0_c_5 : Ref sig .tc := ⟨.hbm, 376, rfl⟩
abbrev main_call2_call0_v23 : Ref sig .tc := ⟨.hbm, 377, rfl⟩
abbrev main_call2_call0_v24 : Ref sig .tc := ⟨.hbm, 378, rfl⟩
abbrev main_call2_call0_v25 : Ref sig .tc := ⟨.hbm, 379, rfl⟩
abbrev main_call2_call0_v26 : Ref sig .tc := ⟨.hbm, 380, rfl⟩
abbrev main_call2_call0_v27 : Ref sig .tc := ⟨.hbm, 381, rfl⟩
abbrev main_call2_call0_c_6 : Ref sig .tc := ⟨.hbm, 382, rfl⟩
abbrev main_call2_call0_v28 : Ref sig .tc := ⟨.hbm, 383, rfl⟩
abbrev main_call2_call0_v29 : Ref sig .tc := ⟨.hbm, 384, rfl⟩
abbrev main_call2_call0_c_7 : Ref sig .tc := ⟨.hbm, 385, rfl⟩
abbrev main_call2_call0_v30 : Ref sig .tc := ⟨.hbm, 386, rfl⟩
abbrev main_call2_call0_v31 : Ref sig .tc := ⟨.hbm, 387, rfl⟩
abbrev main_call2_call0_v32 : Ref sig .tc := ⟨.hbm, 388, rfl⟩
abbrev main_call2_call0_v33 : Ref sig .tc := ⟨.hbm, 389, rfl⟩
abbrev main_call2_call0_v34 : Ref sig .tc := ⟨.hbm, 390, rfl⟩
abbrev main_call2_call0_v35 : Ref sig .tc := ⟨.hbm, 391, rfl⟩
abbrev main_call2_call0_v36 : Ref sig .tc := ⟨.hbm, 392, rfl⟩
abbrev main_call2_call0_v37 : Ref sig .tc := ⟨.hbm, 393, rfl⟩
abbrev main_call2_call0_c_8 : Ref sig .tc := ⟨.hbm, 394, rfl⟩
abbrev main_call2_call0_v38 : Ref sig .tc := ⟨.hbm, 395, rfl⟩
abbrev main_call2_call0_v39 : Ref sig .tc := ⟨.hbm, 396, rfl⟩
abbrev main_call2_call0_v40 : Ref sig .tc := ⟨.hbm, 397, rfl⟩
abbrev main_call2_call0_c_9 : Ref sig .tc := ⟨.hbm, 398, rfl⟩
abbrev main_call2_call0_v41 : Ref sig .tc := ⟨.hbm, 399, rfl⟩
abbrev main_call2_call0_v42 : Ref sig .tc := ⟨.hbm, 400, rfl⟩
abbrev main_call2_call0_c_10 : Ref sig .tc := ⟨.hbm, 401, rfl⟩
abbrev main_call2_call0_v43 : Ref sig .tc := ⟨.hbm, 402, rfl⟩
abbrev main_call2_call0_v44 : Ref sig .tc := ⟨.hbm, 403, rfl⟩
abbrev main_call2_call0_v45 : Ref sig .tc := ⟨.hbm, 404, rfl⟩
abbrev main_call2_call0_v46 : Ref sig .tc := ⟨.hbm, 405, rfl⟩
abbrev main_call2_call0_v47 : Ref sig .tc := ⟨.hbm, 406, rfl⟩
abbrev main_call2_call0_c_11 : Ref sig .tc := ⟨.hbm, 407, rfl⟩
abbrev main_call2_call0_v48 : Ref sig .tc := ⟨.hbm, 408, rfl⟩
abbrev main_call2_call0_v49 : Ref sig .tc := ⟨.hbm, 409, rfl⟩
abbrev main_call2_call0_c_12 : Ref sig .tc := ⟨.hbm, 410, rfl⟩
abbrev main_call2_call0_v50 : Ref sig .tc := ⟨.hbm, 411, rfl⟩
abbrev main_call2_call0_v51 : Ref sig .tc := ⟨.hbm, 412, rfl⟩
abbrev main_call2_call0_v52 : Ref sig .tc := ⟨.hbm, 413, rfl⟩
abbrev main_call2_call0_v53 : Ref sig .tc := ⟨.hbm, 414, rfl⟩
abbrev main_call2_call0_v54 : Ref sig .tc := ⟨.hbm, 415, rfl⟩
abbrev main_call2_call0_c_13 : Ref sig .tc := ⟨.hbm, 416, rfl⟩
abbrev main_call2_call0_v55 : Ref sig .tc := ⟨.hbm, 417, rfl⟩
abbrev main_call2_call0_v56 : Ref sig .tc := ⟨.hbm, 418, rfl⟩
abbrev main_call2_call0_c_14 : Ref sig .tc := ⟨.hbm, 419, rfl⟩
abbrev main_call2_call0_v57 : Ref sig .tc := ⟨.hbm, 420, rfl⟩
abbrev main_call2_call0_v58 : Ref sig .tc := ⟨.hbm, 421, rfl⟩
abbrev main_call2_call0_v59 : Ref sig .tc := ⟨.hbm, 422, rfl⟩
abbrev main_call2_call0_v60 : Ref sig .tc := ⟨.hbm, 423, rfl⟩
abbrev main_call2_call0_v61 : Ref sig .tc := ⟨.hbm, 424, rfl⟩
abbrev main_call2_call0_c_15 : Ref sig .tc := ⟨.hbm, 425, rfl⟩
abbrev main_call2_call0_v62 : Ref sig .tc := ⟨.hbm, 426, rfl⟩
abbrev main_call2_call0_v63 : Ref sig .tc := ⟨.hbm, 427, rfl⟩
abbrev main_call2_call0_c_16 : Ref sig .tc := ⟨.hbm, 428, rfl⟩
abbrev main_call2_call0_v64 : Ref sig .tc := ⟨.hbm, 429, rfl⟩
abbrev main_call2_call0_v65 : Ref sig .tc := ⟨.hbm, 430, rfl⟩
abbrev main_call2_call0_v66 : Ref sig .tc := ⟨.hbm, 431, rfl⟩
abbrev main_call2_call0_v67 : Ref sig .tc := ⟨.hbm, 432, rfl⟩
abbrev main_call2_call0_v68 : Ref sig .tc := ⟨.hbm, 433, rfl⟩
abbrev main_call2_call0_v69 : Ref sig .tc := ⟨.hbm, 434, rfl⟩
abbrev main_call2_call0_v70 : Ref sig .tc := ⟨.hbm, 435, rfl⟩
abbrev main_call2_call0_v71 : Ref sig .tc := ⟨.hbm, 436, rfl⟩
abbrev main_call2_call0_c_17 : Ref sig .tc := ⟨.hbm, 437, rfl⟩
abbrev main_call2_call0_v72 : Ref sig .tc := ⟨.hbm, 438, rfl⟩
abbrev main_call2_call0_v73 : Ref sig .tc := ⟨.hbm, 439, rfl⟩
abbrev main_call2_call0_v74 : Ref sig .tc := ⟨.hbm, 440, rfl⟩
abbrev main_call2_call0_c_18 : Ref sig .tc := ⟨.hbm, 441, rfl⟩
abbrev main_call2_call0_v75 : Ref sig .tc := ⟨.hbm, 442, rfl⟩
abbrev main_call2_call0_v76 : Ref sig .tc := ⟨.hbm, 443, rfl⟩
abbrev main_call2_call0_c_19 : Ref sig .tc := ⟨.hbm, 444, rfl⟩
abbrev main_call2_call0_v77 : Ref sig .tc := ⟨.hbm, 445, rfl⟩
abbrev main_call2_call0_v78 : Ref sig .tc := ⟨.hbm, 446, rfl⟩
abbrev main_call2_call0_v79 : Ref sig .tc := ⟨.hbm, 447, rfl⟩
abbrev main_call2_call0_v80 : Ref sig .tc := ⟨.hbm, 448, rfl⟩
abbrev main_call2_call0_v81 : Ref sig .tc := ⟨.hbm, 449, rfl⟩
abbrev main_call2_call0_c_20 : Ref sig .tc := ⟨.hbm, 450, rfl⟩
abbrev main_call2_call0_v82 : Ref sig .tc := ⟨.hbm, 451, rfl⟩
abbrev main_call2_call0_v83 : Ref sig .tc := ⟨.hbm, 452, rfl⟩
abbrev main_call2_call0_c_21 : Ref sig .tc := ⟨.hbm, 453, rfl⟩
abbrev main_call2_call0_v84 : Ref sig .tc := ⟨.hbm, 454, rfl⟩
abbrev main_call2_call0_v85 : Ref sig .tc := ⟨.hbm, 455, rfl⟩
abbrev main_call2_call0_v86 : Ref sig .tc := ⟨.hbm, 456, rfl⟩
abbrev main_call2_call0_v87 : Ref sig .tc := ⟨.hbm, 457, rfl⟩
abbrev main_call2_call0_v88 : Ref sig .tc := ⟨.hbm, 458, rfl⟩
abbrev main_call2_call0_c_22 : Ref sig .tc := ⟨.hbm, 459, rfl⟩
abbrev main_call2_call0_v89 : Ref sig .tc := ⟨.hbm, 460, rfl⟩
abbrev main_call2_call0_v90 : Ref sig .tc := ⟨.hbm, 461, rfl⟩
abbrev main_call2_call0_c_23 : Ref sig .tc := ⟨.hbm, 462, rfl⟩
abbrev main_call2_call0_v91 : Ref sig .tc := ⟨.hbm, 463, rfl⟩
abbrev main_call2_call0_v92 : Ref sig .tc := ⟨.hbm, 464, rfl⟩
abbrev main_call2_call0_v93 : Ref sig .tc := ⟨.hbm, 465, rfl⟩
abbrev main_call2_call0_v94 : Ref sig .tc := ⟨.hbm, 466, rfl⟩
abbrev main_call2_call0_v95 : Ref sig .tc := ⟨.hbm, 467, rfl⟩
abbrev main_call2_call0_c_24 : Ref sig .tc := ⟨.hbm, 468, rfl⟩
abbrev main_call2_call0_v96 : Ref sig .tc := ⟨.hbm, 469, rfl⟩
abbrev main_call2_call0_v97 : Ref sig .tc := ⟨.hbm, 470, rfl⟩
abbrev main_call2_call0_c_25 : Ref sig .tc := ⟨.hbm, 471, rfl⟩
abbrev main_call2_call0_v98 : Ref sig .tc := ⟨.hbm, 472, rfl⟩
abbrev main_call2_call0_v99 : Ref sig .tc := ⟨.hbm, 473, rfl⟩
abbrev main_call2_call0_v100 : Ref sig .tc := ⟨.hbm, 474, rfl⟩
abbrev main_call2_call0_v101 : Ref sig .tc := ⟨.hbm, 475, rfl⟩
abbrev main_call2_call0_v102 : Ref sig .tc := ⟨.hbm, 476, rfl⟩
abbrev main_call2_call0_v103 : Ref sig .tc := ⟨.hbm, 477, rfl⟩
abbrev main_call2_call0_v104 : Ref sig .tc := ⟨.hbm, 478, rfl⟩
abbrev main_call2_call0_v105 : Ref sig .tc := ⟨.hbm, 479, rfl⟩
abbrev main_call2_call0_c_26 : Ref sig .tc := ⟨.hbm, 480, rfl⟩
abbrev main_call2_call0_v106 : Ref sig .tc := ⟨.hbm, 481, rfl⟩
abbrev main_call2_call0_v107 : Ref sig .tc := ⟨.hbm, 482, rfl⟩
abbrev main_call2_call0_v108 : Ref sig .tc := ⟨.hbm, 483, rfl⟩
abbrev main_call2_call0_c_27 : Ref sig .tc := ⟨.hbm, 484, rfl⟩
abbrev main_call2_call0_v109 : Ref sig .tc := ⟨.hbm, 485, rfl⟩
abbrev main_call2_call0_v110 : Ref sig .tc := ⟨.hbm, 486, rfl⟩
abbrev main_call2_call0_c_28 : Ref sig .tc := ⟨.hbm, 487, rfl⟩
abbrev main_call2_call0_v111 : Ref sig .tc := ⟨.hbm, 488, rfl⟩
abbrev main_call2_call0_v112 : Ref sig .tc := ⟨.hbm, 489, rfl⟩
abbrev main_call2_call0_v113 : Ref sig .tc := ⟨.hbm, 490, rfl⟩
abbrev main_call2_call0_v114 : Ref sig .tc := ⟨.hbm, 491, rfl⟩
abbrev main_call2_call0_v115 : Ref sig .tc := ⟨.hbm, 492, rfl⟩
abbrev main_call2_call0_c_29 : Ref sig .tc := ⟨.hbm, 493, rfl⟩
abbrev main_call2_call0_v116 : Ref sig .tc := ⟨.hbm, 494, rfl⟩
abbrev main_call2_call0_v117 : Ref sig .tc := ⟨.hbm, 495, rfl⟩
abbrev main_call2_call0_c_30 : Ref sig .tc := ⟨.hbm, 496, rfl⟩
abbrev main_call2_call0_v118 : Ref sig .tc := ⟨.hbm, 497, rfl⟩
abbrev main_call2_call0_v119 : Ref sig .tc := ⟨.hbm, 498, rfl⟩
abbrev main_call2_call0_v120 : Ref sig .tc := ⟨.hbm, 499, rfl⟩
abbrev main_call2_call0_v121 : Ref sig .tc := ⟨.hbm, 500, rfl⟩
abbrev main_call2_call0_v122 : Ref sig .tc := ⟨.hbm, 501, rfl⟩
abbrev main_call2_call0_c_31 : Ref sig .tc := ⟨.hbm, 502, rfl⟩
abbrev main_call2_call0_v123 : Ref sig .tc := ⟨.hbm, 503, rfl⟩
abbrev main_call2_call0_v124 : Ref sig .tc := ⟨.hbm, 504, rfl⟩
abbrev main_call2_call0_c_32 : Ref sig .tc := ⟨.hbm, 505, rfl⟩
abbrev main_call2_call0_v125 : Ref sig .tc := ⟨.hbm, 506, rfl⟩
abbrev main_call2_call0_v126 : Ref sig .tc := ⟨.hbm, 507, rfl⟩
abbrev main_call2_call0_v127 : Ref sig .tc := ⟨.hbm, 508, rfl⟩
abbrev main_call2_call0_v128 : Ref sig .tc := ⟨.hbm, 509, rfl⟩
abbrev main_call2_call0_v129 : Ref sig .tc := ⟨.hbm, 510, rfl⟩
abbrev main_call2_call0_c_33 : Ref sig .tc := ⟨.hbm, 511, rfl⟩
abbrev main_call2_call0_v130 : Ref sig .tc := ⟨.hbm, 512, rfl⟩
abbrev main_call2_call0_v131 : Ref sig .tc := ⟨.hbm, 513, rfl⟩
abbrev main_call2_call0_c_34 : Ref sig .tc := ⟨.hbm, 514, rfl⟩
abbrev main_call2_call0_v132 : Ref sig .tc := ⟨.hbm, 515, rfl⟩
abbrev main_call2_call0_v133 : Ref sig .tc := ⟨.hbm, 516, rfl⟩
abbrev main_call2_call0_v134 : Ref sig .tc := ⟨.hbm, 517, rfl⟩
abbrev main_call2_call0_v135 : Ref sig .tc := ⟨.hbm, 518, rfl⟩
abbrev main_call2_call0_v136 : Ref sig .tc := ⟨.hbm, 519, rfl⟩
abbrev main_call2_call0_v137 : Ref sig .tc := ⟨.hbm, 520, rfl⟩
abbrev main_call2_call0_v138 : Ref sig .tc := ⟨.hbm, 521, rfl⟩
abbrev main_call2_call0_v139 : Ref sig .tc := ⟨.hbm, 522, rfl⟩
abbrev main_call2_call0_c_35 : Ref sig .tc := ⟨.hbm, 523, rfl⟩
abbrev main_call2_call0_v140 : Ref sig .tc := ⟨.hbm, 524, rfl⟩
abbrev main_call2_call0_v141 : Ref sig .tc := ⟨.hbm, 525, rfl⟩
abbrev main_call2_call0_v142 : Ref sig .tc := ⟨.hbm, 526, rfl⟩
abbrev main_call2_call0_c_36 : Ref sig .tc := ⟨.hbm, 527, rfl⟩
abbrev main_call2_call0_v143 : Ref sig .tc := ⟨.hbm, 528, rfl⟩
abbrev main_call2_call0_v144 : Ref sig .tc := ⟨.hbm, 529, rfl⟩
abbrev main_call2_call0_c_37 : Ref sig .tc := ⟨.hbm, 530, rfl⟩
abbrev main_call2_call0_v145 : Ref sig .tc := ⟨.hbm, 531, rfl⟩
abbrev main_call2_call0_v146 : Ref sig .tc := ⟨.hbm, 532, rfl⟩
abbrev main_call2_call0_v147 : Ref sig .tc := ⟨.hbm, 533, rfl⟩
abbrev main_call2_call0_v148 : Ref sig .tc := ⟨.hbm, 534, rfl⟩
abbrev main_call2_call0_v149 : Ref sig .tc := ⟨.hbm, 535, rfl⟩
abbrev main_call2_call0_c_38 : Ref sig .tc := ⟨.hbm, 536, rfl⟩
abbrev main_call2_call0_v150 : Ref sig .tc := ⟨.hbm, 537, rfl⟩
abbrev main_call2_call0_v151 : Ref sig .tc := ⟨.hbm, 538, rfl⟩
abbrev main_call2_call0_c_39 : Ref sig .tc := ⟨.hbm, 539, rfl⟩
abbrev main_call2_call0_v152 : Ref sig .tc := ⟨.hbm, 540, rfl⟩
abbrev main_call2_call0_v153 : Ref sig .tc := ⟨.hbm, 541, rfl⟩
abbrev main_call2_call0_v154 : Ref sig .tc := ⟨.hbm, 542, rfl⟩
abbrev main_call2_call0_v155 : Ref sig .tc := ⟨.hbm, 543, rfl⟩
abbrev main_call2_call0_v156 : Ref sig .tc := ⟨.hbm, 544, rfl⟩
abbrev main_call2_call0_c_40 : Ref sig .tc := ⟨.hbm, 545, rfl⟩
abbrev main_call2_call0_v157 : Ref sig .tc := ⟨.hbm, 546, rfl⟩
abbrev main_call2_call0_v158 : Ref sig .tc := ⟨.hbm, 547, rfl⟩
abbrev main_call2_call0_c_41 : Ref sig .tc := ⟨.hbm, 548, rfl⟩
abbrev main_call2_call0_v159 : Ref sig .tc := ⟨.hbm, 549, rfl⟩
abbrev main_call2_call0_v160 : Ref sig .tc := ⟨.hbm, 550, rfl⟩
abbrev main_call2_call0_v161 : Ref sig .tc := ⟨.hbm, 551, rfl⟩
abbrev main_call2_call0_v162 : Ref sig .tc := ⟨.hbm, 552, rfl⟩
abbrev main_call2_call0_v163 : Ref sig .tc := ⟨.hbm, 553, rfl⟩
abbrev main_call2_call0_c_42 : Ref sig .tc := ⟨.hbm, 554, rfl⟩
abbrev main_call2_call0_v164 : Ref sig .tc := ⟨.hbm, 555, rfl⟩
abbrev main_call2_call0_v165 : Ref sig .tc := ⟨.hbm, 556, rfl⟩
abbrev main_call2_call0_c_43 : Ref sig .tc := ⟨.hbm, 557, rfl⟩
abbrev main_call2_call0_v166 : Ref sig .tc := ⟨.hbm, 558, rfl⟩
abbrev main_call2_call0_v167 : Ref sig .tc := ⟨.hbm, 559, rfl⟩
abbrev main_call2_call0_v168 : Ref sig .tc := ⟨.hbm, 560, rfl⟩
abbrev main_call2_call0_v169 : Ref sig .tc := ⟨.hbm, 561, rfl⟩
abbrev main_call2_call0_v170 : Ref sig .tc := ⟨.hbm, 562, rfl⟩
abbrev main_call2_v19_0 : Ref sig .tc := ⟨.hbm, 563, rfl⟩
abbrev main_call2_call0_v172 : Ref sig .tc := ⟨.hbm, 564, rfl⟩
abbrev main_call2_call0_v173 : Ref sig .tc := ⟨.hbm, 565, rfl⟩
abbrev main_call2_call0_c_44 : Ref sig .tc := ⟨.hbm, 566, rfl⟩
abbrev main_call2_call0_v174 : Ref sig .tc := ⟨.hbm, 567, rfl⟩
abbrev main_call2_v19_1 : Ref sig .tc := ⟨.hbm, 568, rfl⟩
abbrev main_call2_v20 : Ref sig .tc := ⟨.hbm, 569, rfl⟩
abbrev main_call2_c_2 : Ref sig .tc := ⟨.hbm, 570, rfl⟩
abbrev main_call2_v21 : Ref sig .tc := ⟨.hbm, 571, rfl⟩
abbrev main_call2_v22 : Ref sig .tc := ⟨.hbm, 572, rfl⟩
abbrev main_call2_c_3 : Ref sig .tc := ⟨.hbm, 573, rfl⟩
abbrev main_call2_v23 : Ref sig .tc := ⟨.hbm, 574, rfl⟩
abbrev main_call2_v24 : Ref sig .tc := ⟨.hbm, 575, rfl⟩
abbrev main_call2_v25 : Ref sig .tc := ⟨.hbm, 576, rfl⟩
abbrev main_call2_cst : Ref sig .tc := ⟨.hbm, 577, rfl⟩
abbrev main_call2_v26 : Ref sig .tc := ⟨.hbm, 578, rfl⟩
abbrev main_call2_v27 : Ref sig .tc := ⟨.hbm, 579, rfl⟩
abbrev main_call2_v28 : Ref sig .tc := ⟨.hbm, 580, rfl⟩
abbrev main_call2_v29 : Ref sig .tc := ⟨.hbm, 581, rfl⟩
abbrev main_call2_v30 : Ref sig .tc := ⟨.hbm, 582, rfl⟩
abbrev main_call2_v31 : Ref sig .tc := ⟨.hbm, 583, rfl⟩
abbrev main_call2_v32 : Ref sig .tc := ⟨.hbm, 584, rfl⟩
abbrev main_call2_v33 : Ref sig .tc := ⟨.hbm, 585, rfl⟩
abbrev main_v53 : Ref sig .tc := ⟨.hbm, 586, rfl⟩
abbrev main_v54 : Ref sig .tc := ⟨.hbm, 587, rfl⟩
abbrev main_v55 : Ref sig .tc := ⟨.hbm, 588, rfl⟩
abbrev main_v56 : Ref sig .tc := ⟨.hbm, 589, rfl⟩
abbrev main_v57 : Ref sig .tc := ⟨.hbm, 590, rfl⟩
abbrev main_v58 : Ref sig .tc := ⟨.hbm, 591, rfl⟩
abbrev main_v59 : Ref sig .tc := ⟨.hbm, 592, rfl⟩
abbrev main_v60 : Ref sig .tc := ⟨.hbm, 593, rfl⟩
abbrev main_v61 : Ref sig .tc := ⟨.hbm, 594, rfl⟩
abbrev main_v62 : Ref sig .tc := ⟨.hbm, 595, rfl⟩
abbrev main_v63 : Ref sig .tc := ⟨.hbm, 596, rfl⟩
abbrev main_v64 : Ref sig .tc := ⟨.hbm, 597, rfl⟩
abbrev main_v65 : Ref sig .tc := ⟨.hbm, 598, rfl⟩
abbrev main_v66 : Ref sig .tc := ⟨.hbm, 599, rfl⟩
abbrev main_v67 : Ref sig .tc := ⟨.hbm, 600, rfl⟩
abbrev main_c_9 : Ref sig .tc := ⟨.hbm, 601, rfl⟩
abbrev main_v68 : Ref sig .tc := ⟨.hbm, 602, rfl⟩
abbrev main_v69 : Ref sig .tc := ⟨.hbm, 603, rfl⟩
abbrev main_c_10 : Ref sig .tc := ⟨.hbm, 604, rfl⟩
abbrev main_v70 : Ref sig .tc := ⟨.hbm, 605, rfl⟩
abbrev main_v71 : Ref sig .tc := ⟨.hbm, 606, rfl⟩
abbrev main_v72 : Ref sig .tc := ⟨.hbm, 607, rfl⟩
abbrev main_v73 : Ref sig .tc := ⟨.hbm, 608, rfl⟩
abbrev main_v74 : Ref sig .tc := ⟨.hbm, 609, rfl⟩
abbrev main_v75 : Ref sig .tc := ⟨.hbm, 610, rfl⟩
abbrev main_v76 : Ref sig .tc := ⟨.hbm, 611, rfl⟩
abbrev main_cst_11 : Ref sig .tc := ⟨.hbm, 612, rfl⟩
abbrev main_v77 : Ref sig .tc := ⟨.hbm, 613, rfl⟩
abbrev main_v78 : Ref sig .tc := ⟨.hbm, 614, rfl⟩
abbrev main_v79 : Ref sig .tc := ⟨.hbm, 615, rfl⟩
abbrev main_v80 : Ref sig .tc := ⟨.hbm, 616, rfl⟩
abbrev main_v81 : Ref sig .tc := ⟨.hbm, 617, rfl⟩
abbrev main_v82 : Ref sig .tc := ⟨.hbm, 618, rfl⟩
abbrev main_c_12 : Ref sig .tc := ⟨.hbm, 619, rfl⟩
abbrev main_v83 : Ref sig .tc := ⟨.hbm, 620, rfl⟩
abbrev main_v84 : Ref sig .tc := ⟨.hbm, 621, rfl⟩
abbrev main_c_13 : Ref sig .tc := ⟨.hbm, 622, rfl⟩
abbrev main_v85 : Ref sig .tc := ⟨.hbm, 623, rfl⟩
abbrev main_v86 : Ref sig .tc := ⟨.hbm, 624, rfl⟩
abbrev main_v87 : Ref sig .tc := ⟨.hbm, 625, rfl⟩
abbrev main_v88 : Ref sig .tc := ⟨.hbm, 626, rfl⟩
abbrev main_v89 : Ref sig .tc := ⟨.hbm, 627, rfl⟩
abbrev main_c_14 : Ref sig .tc := ⟨.hbm, 628, rfl⟩
abbrev main_v90 : Ref sig .tc := ⟨.hbm, 629, rfl⟩
abbrev main_v91 : Ref sig .tc := ⟨.hbm, 630, rfl⟩
abbrev main_c_15 : Ref sig .tc := ⟨.hbm, 631, rfl⟩
abbrev main_v92 : Ref sig .tc := ⟨.hbm, 632, rfl⟩
abbrev main_v93 : Ref sig .tc := ⟨.hbm, 633, rfl⟩
abbrev main_v94 : Ref sig .tc := ⟨.hbm, 634, rfl⟩
abbrev main_v95 : Ref sig .tc := ⟨.hbm, 635, rfl⟩
abbrev main_v96 : Ref sig .tc := ⟨.hbm, 636, rfl⟩
abbrev main_v97 : Ref sig .tc := ⟨.hbm, 637, rfl⟩
abbrev main_v98 : Ref sig .tc := ⟨.hbm, 638, rfl⟩
abbrev main_v99 : Ref sig .tc := ⟨.hbm, 639, rfl⟩
abbrev main_v100 : Ref sig .tc := ⟨.hbm, 640, rfl⟩
abbrev main_v101 : Ref sig .tc := ⟨.hbm, 641, rfl⟩
abbrev main_v102 : Ref sig .tc := ⟨.hbm, 642, rfl⟩
abbrev main_cst_16 : Ref sig .tc := ⟨.hbm, 643, rfl⟩
abbrev main_v103 : Ref sig .tc := ⟨.hbm, 644, rfl⟩
abbrev main_v104 : Ref sig .tc := ⟨.hbm, 645, rfl⟩
abbrev main_v105 : Ref sig .tc := ⟨.hbm, 646, rfl⟩
abbrev main_v106 : Ref sig .tc := ⟨.hbm, 647, rfl⟩
abbrev main_v107 : Ref sig .tc := ⟨.hbm, 648, rfl⟩
abbrev main_v108 : Ref sig .tc := ⟨.hbm, 649, rfl⟩
abbrev main_v109 : Ref sig .tc := ⟨.hbm, 650, rfl⟩
abbrev main_cst_17 : Ref sig .tc := ⟨.hbm, 651, rfl⟩
abbrev main_cst_18 : Ref sig .tc := ⟨.hbm, 652, rfl⟩
abbrev main_call3_v0 : Ref sig .tc := ⟨.hbm, 653, rfl⟩
abbrev main_call3_v1 : Ref sig .tc := ⟨.hbm, 654, rfl⟩
abbrev main_call3_v2 : Ref sig .tc := ⟨.hbm, 655, rfl⟩
abbrev main_call3_v3 : Ref sig .tc := ⟨.hbm, 656, rfl⟩
abbrev main_call3_v4 : Ref sig .tc := ⟨.hbm, 657, rfl⟩
abbrev main_call3_v5 : Ref sig .tc := ⟨.hbm, 658, rfl⟩
abbrev main_call3_v6 : Ref sig .tc := ⟨.hbm, 659, rfl⟩
abbrev main_call3_v7 : Ref sig .tc := ⟨.hbm, 660, rfl⟩
abbrev main_call3_v8 : Ref sig .tc := ⟨.hbm, 661, rfl⟩
abbrev main_call3_v9 : Ref sig .tc := ⟨.hbm, 662, rfl⟩
abbrev main_call3_c : Ref sig .tc := ⟨.hbm, 663, rfl⟩
abbrev main_call3_v10 : Ref sig .tc := ⟨.hbm, 664, rfl⟩
abbrev main_call3_v11 : Ref sig .tc := ⟨.hbm, 665, rfl⟩
abbrev main_call3_c_0 : Ref sig .tc := ⟨.hbm, 666, rfl⟩
abbrev main_call3_v12 : Ref sig .tc := ⟨.hbm, 667, rfl⟩
abbrev main_call3_v13 : Ref sig .tc := ⟨.hbm, 668, rfl⟩
abbrev main_call3_v14 : Ref sig .tc := ⟨.hbm, 669, rfl⟩
abbrev main_call3_c_1 : Ref sig .tc := ⟨.hbm, 670, rfl⟩
abbrev main_call3_v15 : Ref sig .tc := ⟨.hbm, 671, rfl⟩
abbrev main_call3_v16 : Ref sig .tc := ⟨.hbm, 672, rfl⟩
abbrev main_call3_v17 : Ref sig .tc := ⟨.hbm, 673, rfl⟩
abbrev main_call3_v18 : Ref sig .tc := ⟨.hbm, 674, rfl⟩
abbrev main_call3_call0_v0 : Ref sig .tc := ⟨.hbm, 675, rfl⟩
abbrev main_call3_call0_c : Ref sig .tc := ⟨.hbm, 676, rfl⟩
abbrev main_call3_call0_v1 : Ref sig .tc := ⟨.hbm, 677, rfl⟩
abbrev main_call3_call0_v2 : Ref sig .tc := ⟨.hbm, 678, rfl⟩
abbrev main_call3_call0_v3 : Ref sig .tc := ⟨.hbm, 679, rfl⟩
abbrev main_call3_call0_v4 : Ref sig .tc := ⟨.hbm, 680, rfl⟩
abbrev main_call3_call0_v5 : Ref sig .tc := ⟨.hbm, 681, rfl⟩
abbrev main_call3_call0_v6 : Ref sig .tc := ⟨.hbm, 682, rfl⟩
abbrev main_call3_call0_c_0 : Ref sig .tc := ⟨.hbm, 683, rfl⟩
abbrev main_call3_call0_v7 : Ref sig .tc := ⟨.hbm, 684, rfl⟩
abbrev main_call3_call0_v8 : Ref sig .tc := ⟨.hbm, 685, rfl⟩
abbrev main_call3_call0_c_1 : Ref sig .tc := ⟨.hbm, 686, rfl⟩
abbrev main_call3_call0_v9 : Ref sig .tc := ⟨.hbm, 687, rfl⟩
abbrev main_call3_call0_v10 : Ref sig .tc := ⟨.hbm, 688, rfl⟩
abbrev main_call3_call0_v11 : Ref sig .tc := ⟨.hbm, 689, rfl⟩
abbrev main_call3_call0_v12 : Ref sig .tc := ⟨.hbm, 690, rfl⟩
abbrev main_call3_call0_v13 : Ref sig .tc := ⟨.hbm, 691, rfl⟩
abbrev main_call3_call0_c_2 : Ref sig .tc := ⟨.hbm, 692, rfl⟩
abbrev main_call3_call0_v14 : Ref sig .tc := ⟨.hbm, 693, rfl⟩
abbrev main_call3_call0_v15 : Ref sig .tc := ⟨.hbm, 694, rfl⟩
abbrev main_call3_call0_c_3 : Ref sig .tc := ⟨.hbm, 695, rfl⟩
abbrev main_call3_call0_v16 : Ref sig .tc := ⟨.hbm, 696, rfl⟩
abbrev main_call3_call0_v17 : Ref sig .tc := ⟨.hbm, 697, rfl⟩
abbrev main_call3_call0_v18 : Ref sig .tc := ⟨.hbm, 698, rfl⟩
abbrev main_call3_call0_v19 : Ref sig .tc := ⟨.hbm, 699, rfl⟩
abbrev main_call3_call0_v20 : Ref sig .tc := ⟨.hbm, 700, rfl⟩
abbrev main_call3_call0_c_4 : Ref sig .tc := ⟨.hbm, 701, rfl⟩
abbrev main_call3_call0_v21 : Ref sig .tc := ⟨.hbm, 702, rfl⟩
abbrev main_call3_call0_v22 : Ref sig .tc := ⟨.hbm, 703, rfl⟩
abbrev main_call3_call0_c_5 : Ref sig .tc := ⟨.hbm, 704, rfl⟩
abbrev main_call3_call0_v23 : Ref sig .tc := ⟨.hbm, 705, rfl⟩
abbrev main_call3_call0_v24 : Ref sig .tc := ⟨.hbm, 706, rfl⟩
abbrev main_call3_call0_v25 : Ref sig .tc := ⟨.hbm, 707, rfl⟩
abbrev main_call3_call0_v26 : Ref sig .tc := ⟨.hbm, 708, rfl⟩
abbrev main_call3_call0_v27 : Ref sig .tc := ⟨.hbm, 709, rfl⟩
abbrev main_call3_call0_c_6 : Ref sig .tc := ⟨.hbm, 710, rfl⟩
abbrev main_call3_call0_v28 : Ref sig .tc := ⟨.hbm, 711, rfl⟩
abbrev main_call3_call0_v29 : Ref sig .tc := ⟨.hbm, 712, rfl⟩
abbrev main_call3_call0_c_7 : Ref sig .tc := ⟨.hbm, 713, rfl⟩
abbrev main_call3_call0_v30 : Ref sig .tc := ⟨.hbm, 714, rfl⟩
abbrev main_call3_call0_v31 : Ref sig .tc := ⟨.hbm, 715, rfl⟩
abbrev main_call3_call0_v32 : Ref sig .tc := ⟨.hbm, 716, rfl⟩
abbrev main_call3_call0_v33 : Ref sig .tc := ⟨.hbm, 717, rfl⟩
abbrev main_call3_call0_v34 : Ref sig .tc := ⟨.hbm, 718, rfl⟩
abbrev main_call3_call0_v35 : Ref sig .tc := ⟨.hbm, 719, rfl⟩
abbrev main_call3_call0_v36 : Ref sig .tc := ⟨.hbm, 720, rfl⟩
abbrev main_call3_call0_v37 : Ref sig .tc := ⟨.hbm, 721, rfl⟩
abbrev main_call3_call0_c_8 : Ref sig .tc := ⟨.hbm, 722, rfl⟩
abbrev main_call3_call0_v38 : Ref sig .tc := ⟨.hbm, 723, rfl⟩
abbrev main_call3_call0_v39 : Ref sig .tc := ⟨.hbm, 724, rfl⟩
abbrev main_call3_call0_v40 : Ref sig .tc := ⟨.hbm, 725, rfl⟩
abbrev main_call3_call0_c_9 : Ref sig .tc := ⟨.hbm, 726, rfl⟩
abbrev main_call3_call0_v41 : Ref sig .tc := ⟨.hbm, 727, rfl⟩
abbrev main_call3_call0_v42 : Ref sig .tc := ⟨.hbm, 728, rfl⟩
abbrev main_call3_call0_c_10 : Ref sig .tc := ⟨.hbm, 729, rfl⟩
abbrev main_call3_call0_v43 : Ref sig .tc := ⟨.hbm, 730, rfl⟩
abbrev main_call3_call0_v44 : Ref sig .tc := ⟨.hbm, 731, rfl⟩
abbrev main_call3_call0_v45 : Ref sig .tc := ⟨.hbm, 732, rfl⟩
abbrev main_call3_call0_v46 : Ref sig .tc := ⟨.hbm, 733, rfl⟩
abbrev main_call3_call0_v47 : Ref sig .tc := ⟨.hbm, 734, rfl⟩
abbrev main_call3_call0_c_11 : Ref sig .tc := ⟨.hbm, 735, rfl⟩
abbrev main_call3_call0_v48 : Ref sig .tc := ⟨.hbm, 736, rfl⟩
abbrev main_call3_call0_v49 : Ref sig .tc := ⟨.hbm, 737, rfl⟩
abbrev main_call3_call0_c_12 : Ref sig .tc := ⟨.hbm, 738, rfl⟩
abbrev main_call3_call0_v50 : Ref sig .tc := ⟨.hbm, 739, rfl⟩
abbrev main_call3_call0_v51 : Ref sig .tc := ⟨.hbm, 740, rfl⟩
abbrev main_call3_call0_v52 : Ref sig .tc := ⟨.hbm, 741, rfl⟩
abbrev main_call3_call0_v53 : Ref sig .tc := ⟨.hbm, 742, rfl⟩
abbrev main_call3_call0_v54 : Ref sig .tc := ⟨.hbm, 743, rfl⟩
abbrev main_call3_call0_c_13 : Ref sig .tc := ⟨.hbm, 744, rfl⟩
abbrev main_call3_call0_v55 : Ref sig .tc := ⟨.hbm, 745, rfl⟩
abbrev main_call3_call0_v56 : Ref sig .tc := ⟨.hbm, 746, rfl⟩
abbrev main_call3_call0_c_14 : Ref sig .tc := ⟨.hbm, 747, rfl⟩
abbrev main_call3_call0_v57 : Ref sig .tc := ⟨.hbm, 748, rfl⟩
abbrev main_call3_call0_v58 : Ref sig .tc := ⟨.hbm, 749, rfl⟩
abbrev main_call3_call0_v59 : Ref sig .tc := ⟨.hbm, 750, rfl⟩
abbrev main_call3_call0_v60 : Ref sig .tc := ⟨.hbm, 751, rfl⟩
abbrev main_call3_call0_v61 : Ref sig .tc := ⟨.hbm, 752, rfl⟩
abbrev main_call3_call0_c_15 : Ref sig .tc := ⟨.hbm, 753, rfl⟩
abbrev main_call3_call0_v62 : Ref sig .tc := ⟨.hbm, 754, rfl⟩
abbrev main_call3_call0_v63 : Ref sig .tc := ⟨.hbm, 755, rfl⟩
abbrev main_call3_call0_c_16 : Ref sig .tc := ⟨.hbm, 756, rfl⟩
abbrev main_call3_call0_v64 : Ref sig .tc := ⟨.hbm, 757, rfl⟩
abbrev main_call3_call0_v65 : Ref sig .tc := ⟨.hbm, 758, rfl⟩
abbrev main_call3_call0_v66 : Ref sig .tc := ⟨.hbm, 759, rfl⟩
abbrev main_call3_call0_v67 : Ref sig .tc := ⟨.hbm, 760, rfl⟩
abbrev main_call3_call0_v68 : Ref sig .tc := ⟨.hbm, 761, rfl⟩
abbrev main_call3_call0_v69 : Ref sig .tc := ⟨.hbm, 762, rfl⟩
abbrev main_call3_call0_v70 : Ref sig .tc := ⟨.hbm, 763, rfl⟩
abbrev main_call3_call0_v71 : Ref sig .tc := ⟨.hbm, 764, rfl⟩
abbrev main_call3_call0_c_17 : Ref sig .tc := ⟨.hbm, 765, rfl⟩
abbrev main_call3_call0_v72 : Ref sig .tc := ⟨.hbm, 766, rfl⟩
abbrev main_call3_call0_v73 : Ref sig .tc := ⟨.hbm, 767, rfl⟩
abbrev main_call3_call0_v74 : Ref sig .tc := ⟨.hbm, 768, rfl⟩
abbrev main_call3_call0_c_18 : Ref sig .tc := ⟨.hbm, 769, rfl⟩
abbrev main_call3_call0_v75 : Ref sig .tc := ⟨.hbm, 770, rfl⟩
abbrev main_call3_call0_v76 : Ref sig .tc := ⟨.hbm, 771, rfl⟩
abbrev main_call3_call0_c_19 : Ref sig .tc := ⟨.hbm, 772, rfl⟩
abbrev main_call3_call0_v77 : Ref sig .tc := ⟨.hbm, 773, rfl⟩
abbrev main_call3_call0_v78 : Ref sig .tc := ⟨.hbm, 774, rfl⟩
abbrev main_call3_call0_v79 : Ref sig .tc := ⟨.hbm, 775, rfl⟩
abbrev main_call3_call0_v80 : Ref sig .tc := ⟨.hbm, 776, rfl⟩
abbrev main_call3_call0_v81 : Ref sig .tc := ⟨.hbm, 777, rfl⟩
abbrev main_call3_call0_c_20 : Ref sig .tc := ⟨.hbm, 778, rfl⟩
abbrev main_call3_call0_v82 : Ref sig .tc := ⟨.hbm, 779, rfl⟩
abbrev main_call3_call0_v83 : Ref sig .tc := ⟨.hbm, 780, rfl⟩
abbrev main_call3_call0_c_21 : Ref sig .tc := ⟨.hbm, 781, rfl⟩
abbrev main_call3_call0_v84 : Ref sig .tc := ⟨.hbm, 782, rfl⟩
abbrev main_call3_call0_v85 : Ref sig .tc := ⟨.hbm, 783, rfl⟩
abbrev main_call3_call0_v86 : Ref sig .tc := ⟨.hbm, 784, rfl⟩
abbrev main_call3_call0_v87 : Ref sig .tc := ⟨.hbm, 785, rfl⟩
abbrev main_call3_call0_v88 : Ref sig .tc := ⟨.hbm, 786, rfl⟩
abbrev main_call3_call0_c_22 : Ref sig .tc := ⟨.hbm, 787, rfl⟩
abbrev main_call3_call0_v89 : Ref sig .tc := ⟨.hbm, 788, rfl⟩
abbrev main_call3_call0_v90 : Ref sig .tc := ⟨.hbm, 789, rfl⟩
abbrev main_call3_call0_c_23 : Ref sig .tc := ⟨.hbm, 790, rfl⟩
abbrev main_call3_call0_v91 : Ref sig .tc := ⟨.hbm, 791, rfl⟩
abbrev main_call3_call0_v92 : Ref sig .tc := ⟨.hbm, 792, rfl⟩
abbrev main_call3_call0_v93 : Ref sig .tc := ⟨.hbm, 793, rfl⟩
abbrev main_call3_call0_v94 : Ref sig .tc := ⟨.hbm, 794, rfl⟩
abbrev main_call3_call0_v95 : Ref sig .tc := ⟨.hbm, 795, rfl⟩
abbrev main_call3_call0_c_24 : Ref sig .tc := ⟨.hbm, 796, rfl⟩
abbrev main_call3_call0_v96 : Ref sig .tc := ⟨.hbm, 797, rfl⟩
abbrev main_call3_call0_v97 : Ref sig .tc := ⟨.hbm, 798, rfl⟩
abbrev main_call3_call0_c_25 : Ref sig .tc := ⟨.hbm, 799, rfl⟩
abbrev main_call3_call0_v98 : Ref sig .tc := ⟨.hbm, 800, rfl⟩
abbrev main_call3_call0_v99 : Ref sig .tc := ⟨.hbm, 801, rfl⟩
abbrev main_call3_call0_v100 : Ref sig .tc := ⟨.hbm, 802, rfl⟩
abbrev main_call3_call0_v101 : Ref sig .tc := ⟨.hbm, 803, rfl⟩
abbrev main_call3_call0_v102 : Ref sig .tc := ⟨.hbm, 804, rfl⟩
abbrev main_call3_call0_v103 : Ref sig .tc := ⟨.hbm, 805, rfl⟩
abbrev main_call3_call0_v104 : Ref sig .tc := ⟨.hbm, 806, rfl⟩
abbrev main_call3_call0_v105 : Ref sig .tc := ⟨.hbm, 807, rfl⟩
abbrev main_call3_call0_c_26 : Ref sig .tc := ⟨.hbm, 808, rfl⟩
abbrev main_call3_call0_v106 : Ref sig .tc := ⟨.hbm, 809, rfl⟩
abbrev main_call3_call0_v107 : Ref sig .tc := ⟨.hbm, 810, rfl⟩
abbrev main_call3_call0_v108 : Ref sig .tc := ⟨.hbm, 811, rfl⟩
abbrev main_call3_call0_c_27 : Ref sig .tc := ⟨.hbm, 812, rfl⟩
abbrev main_call3_call0_v109 : Ref sig .tc := ⟨.hbm, 813, rfl⟩
abbrev main_call3_call0_v110 : Ref sig .tc := ⟨.hbm, 814, rfl⟩
abbrev main_call3_call0_c_28 : Ref sig .tc := ⟨.hbm, 815, rfl⟩
abbrev main_call3_call0_v111 : Ref sig .tc := ⟨.hbm, 816, rfl⟩
abbrev main_call3_call0_v112 : Ref sig .tc := ⟨.hbm, 817, rfl⟩
abbrev main_call3_call0_v113 : Ref sig .tc := ⟨.hbm, 818, rfl⟩
abbrev main_call3_call0_v114 : Ref sig .tc := ⟨.hbm, 819, rfl⟩
abbrev main_call3_call0_v115 : Ref sig .tc := ⟨.hbm, 820, rfl⟩
abbrev main_call3_call0_c_29 : Ref sig .tc := ⟨.hbm, 821, rfl⟩
abbrev main_call3_call0_v116 : Ref sig .tc := ⟨.hbm, 822, rfl⟩
abbrev main_call3_call0_v117 : Ref sig .tc := ⟨.hbm, 823, rfl⟩
abbrev main_call3_call0_c_30 : Ref sig .tc := ⟨.hbm, 824, rfl⟩
abbrev main_call3_call0_v118 : Ref sig .tc := ⟨.hbm, 825, rfl⟩
abbrev main_call3_call0_v119 : Ref sig .tc := ⟨.hbm, 826, rfl⟩
abbrev main_call3_call0_v120 : Ref sig .tc := ⟨.hbm, 827, rfl⟩
abbrev main_call3_call0_v121 : Ref sig .tc := ⟨.hbm, 828, rfl⟩
abbrev main_call3_call0_v122 : Ref sig .tc := ⟨.hbm, 829, rfl⟩
abbrev main_call3_call0_c_31 : Ref sig .tc := ⟨.hbm, 830, rfl⟩
abbrev main_call3_call0_v123 : Ref sig .tc := ⟨.hbm, 831, rfl⟩
abbrev main_call3_call0_v124 : Ref sig .tc := ⟨.hbm, 832, rfl⟩
abbrev main_call3_call0_c_32 : Ref sig .tc := ⟨.hbm, 833, rfl⟩
abbrev main_call3_call0_v125 : Ref sig .tc := ⟨.hbm, 834, rfl⟩
abbrev main_call3_call0_v126 : Ref sig .tc := ⟨.hbm, 835, rfl⟩
abbrev main_call3_call0_v127 : Ref sig .tc := ⟨.hbm, 836, rfl⟩
abbrev main_call3_call0_v128 : Ref sig .tc := ⟨.hbm, 837, rfl⟩
abbrev main_call3_call0_v129 : Ref sig .tc := ⟨.hbm, 838, rfl⟩
abbrev main_call3_call0_c_33 : Ref sig .tc := ⟨.hbm, 839, rfl⟩
abbrev main_call3_call0_v130 : Ref sig .tc := ⟨.hbm, 840, rfl⟩
abbrev main_call3_call0_v131 : Ref sig .tc := ⟨.hbm, 841, rfl⟩
abbrev main_call3_call0_c_34 : Ref sig .tc := ⟨.hbm, 842, rfl⟩
abbrev main_call3_call0_v132 : Ref sig .tc := ⟨.hbm, 843, rfl⟩
abbrev main_call3_call0_v133 : Ref sig .tc := ⟨.hbm, 844, rfl⟩
abbrev main_call3_call0_v134 : Ref sig .tc := ⟨.hbm, 845, rfl⟩
abbrev main_call3_call0_v135 : Ref sig .tc := ⟨.hbm, 846, rfl⟩
abbrev main_call3_call0_v136 : Ref sig .tc := ⟨.hbm, 847, rfl⟩
abbrev main_call3_call0_v137 : Ref sig .tc := ⟨.hbm, 848, rfl⟩
abbrev main_call3_call0_v138 : Ref sig .tc := ⟨.hbm, 849, rfl⟩
abbrev main_call3_call0_v139 : Ref sig .tc := ⟨.hbm, 850, rfl⟩
abbrev main_call3_call0_c_35 : Ref sig .tc := ⟨.hbm, 851, rfl⟩
abbrev main_call3_call0_v140 : Ref sig .tc := ⟨.hbm, 852, rfl⟩
abbrev main_call3_call0_v141 : Ref sig .tc := ⟨.hbm, 853, rfl⟩
abbrev main_call3_call0_v142 : Ref sig .tc := ⟨.hbm, 854, rfl⟩
abbrev main_call3_call0_c_36 : Ref sig .tc := ⟨.hbm, 855, rfl⟩
abbrev main_call3_call0_v143 : Ref sig .tc := ⟨.hbm, 856, rfl⟩
abbrev main_call3_call0_v144 : Ref sig .tc := ⟨.hbm, 857, rfl⟩
abbrev main_call3_call0_c_37 : Ref sig .tc := ⟨.hbm, 858, rfl⟩
abbrev main_call3_call0_v145 : Ref sig .tc := ⟨.hbm, 859, rfl⟩
abbrev main_call3_call0_v146 : Ref sig .tc := ⟨.hbm, 860, rfl⟩
abbrev main_call3_call0_v147 : Ref sig .tc := ⟨.hbm, 861, rfl⟩
abbrev main_call3_call0_v148 : Ref sig .tc := ⟨.hbm, 862, rfl⟩
abbrev main_call3_call0_v149 : Ref sig .tc := ⟨.hbm, 863, rfl⟩
abbrev main_call3_call0_c_38 : Ref sig .tc := ⟨.hbm, 864, rfl⟩
abbrev main_call3_call0_v150 : Ref sig .tc := ⟨.hbm, 865, rfl⟩
abbrev main_call3_call0_v151 : Ref sig .tc := ⟨.hbm, 866, rfl⟩
abbrev main_call3_call0_c_39 : Ref sig .tc := ⟨.hbm, 867, rfl⟩
abbrev main_call3_call0_v152 : Ref sig .tc := ⟨.hbm, 868, rfl⟩
abbrev main_call3_call0_v153 : Ref sig .tc := ⟨.hbm, 869, rfl⟩
abbrev main_call3_call0_v154 : Ref sig .tc := ⟨.hbm, 870, rfl⟩
abbrev main_call3_call0_v155 : Ref sig .tc := ⟨.hbm, 871, rfl⟩
abbrev main_call3_call0_v156 : Ref sig .tc := ⟨.hbm, 872, rfl⟩
abbrev main_call3_call0_c_40 : Ref sig .tc := ⟨.hbm, 873, rfl⟩
abbrev main_call3_call0_v157 : Ref sig .tc := ⟨.hbm, 874, rfl⟩
abbrev main_call3_call0_v158 : Ref sig .tc := ⟨.hbm, 875, rfl⟩
abbrev main_call3_call0_c_41 : Ref sig .tc := ⟨.hbm, 876, rfl⟩
abbrev main_call3_call0_v159 : Ref sig .tc := ⟨.hbm, 877, rfl⟩
abbrev main_call3_call0_v160 : Ref sig .tc := ⟨.hbm, 878, rfl⟩
abbrev main_call3_call0_v161 : Ref sig .tc := ⟨.hbm, 879, rfl⟩
abbrev main_call3_call0_v162 : Ref sig .tc := ⟨.hbm, 880, rfl⟩
abbrev main_call3_call0_v163 : Ref sig .tc := ⟨.hbm, 881, rfl⟩
abbrev main_call3_call0_c_42 : Ref sig .tc := ⟨.hbm, 882, rfl⟩
abbrev main_call3_call0_v164 : Ref sig .tc := ⟨.hbm, 883, rfl⟩
abbrev main_call3_call0_v165 : Ref sig .tc := ⟨.hbm, 884, rfl⟩
abbrev main_call3_call0_c_43 : Ref sig .tc := ⟨.hbm, 885, rfl⟩
abbrev main_call3_call0_v166 : Ref sig .tc := ⟨.hbm, 886, rfl⟩
abbrev main_call3_call0_v167 : Ref sig .tc := ⟨.hbm, 887, rfl⟩
abbrev main_call3_call0_v168 : Ref sig .tc := ⟨.hbm, 888, rfl⟩
abbrev main_call3_call0_v169 : Ref sig .tc := ⟨.hbm, 889, rfl⟩
abbrev main_call3_call0_v170 : Ref sig .tc := ⟨.hbm, 890, rfl⟩
abbrev main_call3_v19_0 : Ref sig .tc := ⟨.hbm, 891, rfl⟩
abbrev main_call3_call0_v172 : Ref sig .tc := ⟨.hbm, 892, rfl⟩
abbrev main_call3_call0_v173 : Ref sig .tc := ⟨.hbm, 893, rfl⟩
abbrev main_call3_call0_c_44 : Ref sig .tc := ⟨.hbm, 894, rfl⟩
abbrev main_call3_call0_v174 : Ref sig .tc := ⟨.hbm, 895, rfl⟩
abbrev main_call3_v19_1 : Ref sig .tc := ⟨.hbm, 896, rfl⟩
abbrev main_call3_v20 : Ref sig .tc := ⟨.hbm, 897, rfl⟩
abbrev main_call3_c_2 : Ref sig .tc := ⟨.hbm, 898, rfl⟩
abbrev main_call3_v21 : Ref sig .tc := ⟨.hbm, 899, rfl⟩
abbrev main_call3_v22 : Ref sig .tc := ⟨.hbm, 900, rfl⟩
abbrev main_call3_c_3 : Ref sig .tc := ⟨.hbm, 901, rfl⟩
abbrev main_call3_v23 : Ref sig .tc := ⟨.hbm, 902, rfl⟩
abbrev main_call3_v24 : Ref sig .tc := ⟨.hbm, 903, rfl⟩
abbrev main_call3_v25 : Ref sig .tc := ⟨.hbm, 904, rfl⟩
abbrev main_call3_cst : Ref sig .tc := ⟨.hbm, 905, rfl⟩
abbrev main_call3_v26 : Ref sig .tc := ⟨.hbm, 906, rfl⟩
abbrev main_call3_v27 : Ref sig .tc := ⟨.hbm, 907, rfl⟩
abbrev main_call3_v28 : Ref sig .tc := ⟨.hbm, 908, rfl⟩
abbrev main_call3_v29 : Ref sig .tc := ⟨.hbm, 909, rfl⟩
abbrev main_call3_v30 : Ref sig .tc := ⟨.hbm, 910, rfl⟩
abbrev main_call3_v31 : Ref sig .tc := ⟨.hbm, 911, rfl⟩
abbrev main_call3_v32 : Ref sig .tc := ⟨.hbm, 912, rfl⟩
abbrev main_call3_v33 : Ref sig .tc := ⟨.hbm, 913, rfl⟩
abbrev main_v110 : Ref sig .tc := ⟨.hbm, 914, rfl⟩
abbrev main_v111 : Ref sig .tc := ⟨.hbm, 915, rfl⟩
abbrev main_v112 : Ref sig .tc := ⟨.hbm, 916, rfl⟩
abbrev main_v113 : Ref sig .tc := ⟨.hbm, 917, rfl⟩
abbrev main_v114 : Ref sig .tc := ⟨.hbm, 918, rfl⟩
abbrev main_v115 : Ref sig .tc := ⟨.hbm, 919, rfl⟩
abbrev main_v116 : Ref sig .tc := ⟨.hbm, 920, rfl⟩
abbrev main_v117 : Ref sig .tc := ⟨.hbm, 921, rfl⟩
abbrev main_v118 : Ref sig .tc := ⟨.hbm, 922, rfl⟩
abbrev main_v119 : Ref sig .tc := ⟨.hbm, 923, rfl⟩
abbrev main_v120 : Ref sig .tc := ⟨.hbm, 924, rfl⟩
abbrev main_v121 : Ref sig .tc := ⟨.hbm, 925, rfl⟩
abbrev main_v122 : Ref sig .tc := ⟨.hbm, 926, rfl⟩
abbrev main_v123 : Ref sig .tc := ⟨.hbm, 927, rfl⟩
abbrev main_v124 : Ref sig .tc := ⟨.hbm, 928, rfl⟩
abbrev main_c_19 : Ref sig .tc := ⟨.hbm, 929, rfl⟩
abbrev main_v125 : Ref sig .tc := ⟨.hbm, 930, rfl⟩
abbrev main_v126 : Ref sig .tc := ⟨.hbm, 931, rfl⟩
abbrev main_c_20 : Ref sig .tc := ⟨.hbm, 932, rfl⟩
abbrev main_v127 : Ref sig .tc := ⟨.hbm, 933, rfl⟩
abbrev main_v128 : Ref sig .tc := ⟨.hbm, 934, rfl⟩
abbrev main_v129 : Ref sig .tc := ⟨.hbm, 935, rfl⟩
abbrev main_v130 : Ref sig .tc := ⟨.hbm, 936, rfl⟩
abbrev main_v131 : Ref sig .tc := ⟨.hbm, 937, rfl⟩
abbrev main_v132 : Ref sig .tc := ⟨.hbm, 938, rfl⟩
abbrev main_v133 : Ref sig .tc := ⟨.hbm, 939, rfl⟩
abbrev main_cst_21 : Ref sig .tc := ⟨.hbm, 940, rfl⟩
abbrev main_v134 : Ref sig .tc := ⟨.hbm, 941, rfl⟩
abbrev main_v135 : Ref sig .tc := ⟨.hbm, 942, rfl⟩
abbrev main_v136 : Ref sig .tc := ⟨.hbm, 943, rfl⟩
abbrev main_v137 : Ref sig .tc := ⟨.hbm, 944, rfl⟩
abbrev main_v138 : Ref sig .tc := ⟨.hbm, 945, rfl⟩
abbrev main_v139 : Ref sig .tc := ⟨.hbm, 946, rfl⟩
abbrev main_v140 : Ref sig .tc := ⟨.hbm, 947, rfl⟩
abbrev main_v141 : Ref sig .tc := ⟨.hbm, 948, rfl⟩
abbrev main_v142 : Ref sig .tc := ⟨.hbm, 949, rfl⟩
abbrev main_v143 : Ref sig .tc := ⟨.hbm, 950, rfl⟩
abbrev main_v144 : Ref sig .tc := ⟨.hbm, 951, rfl⟩
abbrev main_v145 : Ref sig .tc := ⟨.hbm, 952, rfl⟩
abbrev main_v146 : Ref sig .tc := ⟨.hbm, 953, rfl⟩
abbrev main_v147 : Ref sig .tc := ⟨.hbm, 954, rfl⟩
abbrev main_v148 : Ref sig .tc := ⟨.hbm, 955, rfl⟩
abbrev main_v149 : Ref sig .tc := ⟨.hbm, 956, rfl⟩
abbrev main_v150 : Ref sig .tc := ⟨.hbm, 957, rfl⟩
abbrev main_v151 : Ref sig .tc := ⟨.hbm, 958, rfl⟩
abbrev main_v152 : Ref sig .tc := ⟨.hbm, 959, rfl⟩
abbrev main_v153 : Ref sig .tc := ⟨.hbm, 960, rfl⟩
abbrev main_v154 : Ref sig .tc := ⟨.hbm, 961, rfl⟩
abbrev main_v155 : Ref sig .tc := ⟨.hbm, 962, rfl⟩
abbrev main_v156 : Ref sig .tc := ⟨.hbm, 963, rfl⟩
abbrev main_v157 : Ref sig .tc := ⟨.hbm, 964, rfl⟩
abbrev main_v158 : Ref sig .tc := ⟨.hbm, 965, rfl⟩
abbrev main_v159 : Ref sig .tc := ⟨.hbm, 966, rfl⟩
abbrev main_v160 : Ref sig .tc := ⟨.hbm, 967, rfl⟩
abbrev main_v161 : Ref sig .tc := ⟨.hbm, 968, rfl⟩
abbrev main_v162 : Ref sig .tc := ⟨.hbm, 969, rfl⟩
abbrev main_v163 : Ref sig .tc := ⟨.hbm, 970, rfl⟩
abbrev main_v164 : Ref sig .tc := ⟨.hbm, 971, rfl⟩
abbrev main_v165 : Ref sig .tc := ⟨.hbm, 972, rfl⟩

abbrev nD : Nat := 1
abbrev τ : Topo := Topo.v7x

variable {F : FTy → Type} [FloatOps F]
-- ==== Proof.Line.lean ====
/- Straight lines of host operations in which every value is written once, after everything it reads.
   After such a line each operation's equation holds of the final contents, so a value is read off by one
   equation and no step of the line is replayed. Two lines that perform the same operations on agreeing
   inputs end in agreeing outputs. -/
module

public import Idealize.ShloMosaic.Lib.StableHlo.Run

@[expose] public section

noncomputable section

namespace Cert.Line

open Idealize.ShloMosaic Idealize.ShloMosaic.TcCoe Idealize.ShloMosaic.StableHlo

variable {τ τ' : Topo} {sig sig' : RefSig} {Val : EltTy → Type}

/-- A reference's number. -/
abbrev key (r : Ref sig .tc) : ℕ := r.idx.val

/-- `op` writes one buffer, numbered `n` or above and below `k`, from buffers with smaller numbers; every buffer it touches
    is a tensor value's, and it determines what it writes. -/
structure Step (op : HloOp τ sig Val) (n k : ℕ) : Prop where
  out : ∃ y : Ref sig .tc, n ≤ key y ∧ key y < k ∧ op.writes = {(Proc.devRef .tc y : DevRef τ sig)} ∧
    ∀ F G : Valuation τ sig Val, (∀ r : Ref sig .tc, key r < key y → F (Proc.devRef .tc r) = G (Proc.devRef .tc r)) →
      op.result F (Proc.devRef .tc y) = op.result G (Proc.devRef .tc y)
  sub : op.bufs ⊆ tcRefs τ sig
  fresh : op.fresh = ∅

theorem Step.nullary {n : ℕ} {y : Ref sig .tc} {v hy} (h : n ≤ key y) :
    Step (StableHlo.nullary (τ := τ) (Val := Val) y v hy) n (key y + 1) :=
  ⟨⟨y, h, Nat.lt_succ_self _, rfl, fun F G _ => by rw [nullary_result, nullary_result]⟩, nullary_bufs_sub .., rfl⟩

theorem Step.unary {n : ℕ} {x y : Ref sig .tc} {f hx hy} (h : n ≤ key y) (h1 : key x < key y) :
    Step (StableHlo.unary (τ := τ) (Val := Val) x y f hx hy) n (key y + 1) :=
  ⟨⟨y, h, Nat.lt_succ_self _, rfl, fun F G e => by rw [unary_result, unary_result, e x h1]⟩, unary_bufs_sub .., rfl⟩

theorem Step.binary {n : ℕ} {a b y : Ref sig .tc} {f ha hb hy} (h : n ≤ key y) (h1 : key a < key y) (h2 : key b < key y) :
    Step (StableHlo.binary (τ := τ) (Val := Val) a b y f ha hb hy) n (key y + 1) :=
  ⟨⟨y, h, Nat.lt_succ_self _, rfl, fun F G e => by rw [binary_result, binary_result, e a h1, e b h2]⟩, binary_bufs_sub .., rfl⟩

theorem Step.ternary {n : ℕ} {c a b y : Ref sig .tc} {f hc ha hb hy} (h : n ≤ key y) (h0 : key c < key y)
    (h1 : key a < key y) (h2 : key b < key y) :
    Step (StableHlo.ternary (τ := τ) (Val := Val) c a b y f hc ha hb hy) n (key y + 1) :=
  ⟨⟨y, h, Nat.lt_succ_self _, rfl, fun F G e => by rw [ternary_result, ternary_result, e c h0, e a h1, e b h2]⟩, ternary_bufs_sub .., rfl⟩

theorem Step.reshape {n : ℕ} {x y : Ref sig .tc} {he hn hx hy} (h : n ≤ key y) (h1 : key x < key y) :
    Step (StableHlo.reshape (τ := τ) (Val := Val) x y he hn hx hy) n (key y + 1) :=
  ⟨⟨y, h, Nat.lt_succ_self _, rfl, fun F G e => by rw [reshape_result, reshape_result, e x h1]⟩, reshape_bufs_sub .., rfl⟩

theorem Step.nary {n k : ℕ} {xs : Fin k → Ref sig .tc} {y : Ref sig .tc} {f hxs hy} (h : n ≤ key y)
    (h1 : ∀ i, key (xs i) < key y) :
    Step (StableHlo.nary (τ := τ) (Val := Val) xs y f hxs hy) n (key y + 1) :=
  ⟨⟨y, h, Nat.lt_succ_self _, rfl, fun F G e => by
    rw [nary_result, nary_result]; congr 1; funext i; exact e _ (h1 i)⟩, nary_bufs_sub .., rfl⟩

/-- A line whose operations write buffers of strictly increasing numbers, each from smaller ones. -/
inductive Line : ℕ → List (HloOp τ sig Val) → ℕ → Prop
  | nil {n : ℕ} : Line n [] n
  | cons {n k m : ℕ} {op : HloOp τ sig Val} {l : List (HloOp τ sig Val)} : Step op n k → Line k l m → Line n (op :: l) m

theorem Line.append {n k m : ℕ} {l l' : List (HloOp τ sig Val)} (h : Line n l k) (h' : Line k l' m) : Line n (l ++ l') m := by
  induction h with
  | nil => exact h'
  | cons s _ ih => exact .cons s (ih h')

theorem Line.le {n m : ℕ} {l : List (HloOp τ sig Val)} (h : Line n l m) : n ≤ m := by
  induction h with
  | nil => exact le_rfl
  | cons s _ ih => obtain ⟨⟨y, h1, h2, _⟩, _, _⟩ := s; omega

theorem Line.sub {n m : ℕ} {l : List (HloOp τ sig Val)} (h : Line n l m) : l.Forall fun op => op.bufs ⊆ tcRefs τ sig := by
  induction h with
  | nil => trivial
  | cons s _ ih => exact (List.forall_cons _ _ _).mpr ⟨s.sub, ih⟩

theorem Line.fresh {n m : ℕ} {l : List (HloOp τ sig Val)} (h : Line n l m) : ∀ op ∈ l, op.fresh = ∅ := by
  induction h with
  | nil => exact fun _ h => nomatch h
  | cons s _ ih => exact List.forall_mem_cons.mpr ⟨s.fresh, ih⟩

/-- A buffer numbered below the line is not written by it. -/
theorem Line.keep {n m : ℕ} {l : List (HloOp τ sig Val)} (h : Line n l m) (V : Valuation τ sig Val) (r : Ref sig .tc)
    (hr : key r < n) : after l V (Proc.devRef .tc r) = V (Proc.devRef .tc r) := by
  induction h generalizing V with
  | nil => rfl
  | cons s _ ih =>
    obtain ⟨⟨y, h1, h2, hw, _⟩, _, _⟩ := s
    rw [after_cons, ih _ (by omega)]
    refine HloOp.result_of_not_mem _ _ ?_
    rw [hw, Finset.mem_singleton]
    exact devRef_ne_of_ne fun e => by subst e; omega

/-- Every operation's equation holds of `W`. -/
def Holds (l : List (HloOp τ sig Val)) (W : Valuation τ sig Val) : Prop := l.Forall fun op => op.result W = W

theorem Line.holds {n m : ℕ} {l : List (HloOp τ sig Val)} (h : Line n l m) (V : Valuation τ sig Val) : Holds l (after l V) := by
  induction h generalizing V with
  | nil => trivial
  | @cons n k m op l s t ih =>
    refine (List.forall_cons _ _ _).mpr ⟨?_, ih _⟩
    obtain ⟨⟨y, h1, h2, hw, hf⟩, hs1, hs2⟩ := s
    have hl : Line (key y) (op :: l) m := .cons ⟨⟨y, le_rfl, h2, hw, hf⟩, hs1, hs2⟩ t
    funext b
    by_cases hb : b ∈ op.writes
    · rw [hw, Finset.mem_singleton] at hb
      subst hb
      rw [after_cons, t.keep _ y h2, ← after_cons]
      exact hf _ _ fun r hr => hl.keep V r (by omega)
    · exact HloOp.result_of_not_mem _ _ hb

theorem Holds.append {l l' : List (HloOp τ sig Val)} {W : Valuation τ sig Val} :
    Holds (l ++ l') W ↔ Holds l W ∧ Holds l' W := by
  simp only [Holds, List.forall_iff_forall_mem, List.mem_append]
  exact ⟨fun h => ⟨fun o ho => h o (.inl ho), fun o ho => h o (.inr ho)⟩, fun h o ho => ho.elim (h.1 o) (h.2 o)⟩

theorem Holds.head {op : HloOp τ sig Val} {l : List (HloOp τ sig Val)} {W : Valuation τ sig Val} (h : Holds (op :: l) W) :
    op.result W = W := ((List.forall_cons _ _ _).mp h).1

theorem Holds.tail {op : HloOp τ sig Val} {l : List (HloOp τ sig Val)} {W : Valuation τ sig Val} (h : Holds (op :: l) W) :
    Holds l W := ((List.forall_cons _ _ _).mp h).2

/-! ## One operation's equation -/

section Equations

variable {W : Valuation τ sig Val} {x a b c y : Ref sig .tc}

theorem eq_nullary {v hy} (h : (StableHlo.nullary (τ := τ) y v hy).result W = W) : W (Proc.devRef .tc y) = v :=
  (congrFun h _).symm.trans (nullary_result y v hy W)

theorem eq_unary {f hx hy} (h : (StableHlo.unary (τ := τ) x y f hx hy).result W = W) :
    W (Proc.devRef .tc y) = f (W (Proc.devRef .tc x)) :=
  (congrFun h _).symm.trans (unary_result x y f hx hy W)

theorem eq_binary {f ha hb hy} (h : (StableHlo.binary (τ := τ) a b y f ha hb hy).result W = W) :
    W (Proc.devRef .tc y) = f (W (Proc.devRef .tc a)) (W (Proc.devRef .tc b)) :=
  (congrFun h _).symm.trans (binary_result a b y f ha hb hy W)

theorem eq_ternary {f hc ha hb hy} (h : (StableHlo.ternary (τ := τ) c a b y f hc ha hb hy).result W = W) :
    W (Proc.devRef .tc y) = f (W (Proc.devRef .tc c)) (W (Proc.devRef .tc a)) (W (Proc.devRef .tc b)) :=
  (congrFun h _).symm.trans (ternary_result c a b y f hc ha hb hy W)

theorem eq_reshape {he hn hx hy} (h : (StableHlo.reshape (τ := τ) (Val := Val) x y he hn hx hy).result W = W) :
    W (Proc.devRef .tc y) = fun i => he ▸ shapeCast y.ty.shape (W (Proc.devRef .tc x)) hn i :=
  (congrFun h _).symm.trans (reshape_result x y he hn hx hy W)

theorem eq_nary {k : ℕ} {xs : Fin k → Ref sig .tc} {f hxs hy}
    (h : (StableHlo.nary (τ := τ) xs y f hxs hy).result W = W) :
    W (Proc.devRef .tc y) = f (fun i => W (Proc.devRef .tc (xs i))) :=
  (congrFun h _).symm.trans (nary_result xs y f hxs hy W)

end Equations

/-! ## Two lines of the same operations -/

/-- A typed reference of each of two programs. -/
abbrev Pair (sig sig' : RefSig) : Type := (T : BufTy) × TRef sig T × TRef sig' T

/-- The contents read through a typed reference. -/
abbrev rd {T : BufTy} (V : Valuation τ sig Val) (x : TRef sig T) : T.Contents Val := x.ofBuf (V (Proc.devRef .tc x.ref))

/-- The two programs hold the same value at the pair. -/
def Agree (V : Valuation τ sig Val) (V' : Valuation τ' sig' Val) (p : Pair sig sig') : Prop := rd V p.2.1 = rd V' p.2.2

/-- The lines perform the same operations, in order, on values paired in `P` or by earlier operations, until `q` is paired. -/
inductive Sim : List (Pair sig sig') → List (HloOp τ sig Val) → List (HloOp τ' sig' Val) → Pair sig sig' → Prop
  | done {P : List (Pair sig sig')} {l : List (HloOp τ sig Val)} {l' : List (HloOp τ' sig' Val)} {q : Pair sig sig'} :
      q ∈ P → Sim P l l' q
  | nullary {P : List (Pair sig sig')} {l : List (HloOp τ sig Val)} {l' : List (HloOp τ' sig' Val)} {q : Pair sig sig'}
      {T : BufTy} {y : TRef sig T} {y' : TRef sig' T} {v : T.Contents Val} :
      Sim (⟨T, y, y'⟩ :: P) l l' q → Sim P (TRef.nullary y v :: l) (TRef.nullary y' v :: l') q
  | unary {P : List (Pair sig sig')} {l : List (HloOp τ sig Val)} {l' : List (HloOp τ' sig' Val)} {q : Pair sig sig'}
      {T S : BufTy} {x : TRef sig S} {x' : TRef sig' S} {y : TRef sig T} {y' : TRef sig' T} {f : S.Contents Val → T.Contents Val} :
      (⟨S, x, x'⟩ : Pair sig sig') ∈ P → Sim (⟨T, y, y'⟩ :: P) l l' q → Sim P (TRef.unary x y f :: l) (TRef.unary x' y' f :: l') q
  | binary {P : List (Pair sig sig')} {l : List (HloOp τ sig Val)} {l' : List (HloOp τ' sig' Val)} {q : Pair sig sig'}
      {T S R : BufTy} {a : TRef sig S} {a' : TRef sig' S} {b : TRef sig R} {b' : TRef sig' R} {y : TRef sig T} {y' : TRef sig' T}
      {f : S.Contents Val → R.Contents Val → T.Contents Val} :
      (⟨S, a, a'⟩ : Pair sig sig') ∈ P → (⟨R, b, b'⟩ : Pair sig sig') ∈ P → Sim (⟨T, y, y'⟩ :: P) l l' q →
        Sim P (TRef.binary a b y f :: l) (TRef.binary a' b' y' f :: l') q
  | reshape {P : List (Pair sig sig')} {l : List (HloOp τ sig Val)} {l' : List (HloOp τ' sig' Val)} {q : Pair sig sig'}
      {T S : BufTy} {x : TRef sig S} {x' : TRef sig' S} {y : TRef sig T} {y' : TRef sig' T}
      {he : S.elt = T.elt} {hn : S.shape.ShapeCasts T.shape} :
      (⟨S, x, x'⟩ : Pair sig sig') ∈ P → Sim (⟨T, y, y'⟩ :: P) l l' q →
        Sim P (TRef.reshape x y he hn :: l) (TRef.reshape x' y' he hn :: l') q

theorem rd_nullary {T : BufTy} {y : TRef sig T} {v : T.Contents Val} {W : Valuation τ sig Val}
    (h : (TRef.nullary (τ := τ) y v).result W = W) : rd W y = v := by
  rw [rd, eq_nullary h]; exact y.ofBuf_toBuf v

theorem rd_unary {S T : BufTy} {x : TRef sig S} {y : TRef sig T} {f : S.Contents Val → T.Contents Val} {W : Valuation τ sig Val}
    (h : (TRef.unary (τ := τ) x y f).result W = W) : rd W y = f (rd W x) := by
  rw [rd, eq_unary h]; exact y.ofBuf_toBuf _

theorem rd_binary {S R T : BufTy} {a : TRef sig S} {b : TRef sig R} {y : TRef sig T}
    {f : S.Contents Val → R.Contents Val → T.Contents Val} {W : Valuation τ sig Val}
    (h : (TRef.binary (τ := τ) a b y f).result W = W) : rd W y = f (rd W a) (rd W b) := by
  rw [rd, eq_binary h]; exact y.ofBuf_toBuf _

theorem rd_reshape {S T : BufTy} {x : TRef sig S} {y : TRef sig T} {he : S.elt = T.elt} {hn : S.shape.ShapeCasts T.shape}
    {W : Valuation τ sig Val} (h : (TRef.reshape (τ := τ) (Val := Val) x y he hn).result W = W) :
    rd W y = fun i => he ▸ shapeCast T.shape (rd W x) hn i := by
  rw [rd, eq_reshape h]
  obtain ⟨x, rfl, hx1, hx2⟩ := x
  obtain ⟨y, rfl, hy1, hy2⟩ := y
  rfl

theorem Sim.agree {P : List (Pair sig sig')} {l : List (HloOp τ sig Val)} {l' : List (HloOp τ' sig' Val)} {q : Pair sig sig'}
    (h : Sim P l l' q) {W : Valuation τ sig Val} {W' : Valuation τ' sig' Val} (hl : Holds l W) (hl' : Holds l' W')
    (hP : ∀ p ∈ P, Agree W W' p) : Agree W W' q := by
  induction h with
  | done hq => exact hP _ hq
  | nullary _ ih =>
    refine ih hl.tail hl'.tail (List.forall_mem_cons.mpr ⟨?_, hP⟩)
    exact (rd_nullary hl.head).trans (rd_nullary hl'.head).symm
  | @unary P l l' q T S x x' y y' f hx _ ih =>
    refine ih hl.tail hl'.tail (List.forall_mem_cons.mpr ⟨?_, hP⟩)
    exact (rd_unary hl.head).trans ((congrArg f (hP _ hx)).trans (rd_unary hl'.head).symm)
  | @binary P l l' q T S R a a' b b' y y' f ha hb _ ih =>
    refine ih hl.tail hl'.tail (List.forall_mem_cons.mpr ⟨?_, hP⟩)
    exact (rd_binary hl.head).trans ((congrArg₂ f (hP _ ha) (hP _ hb)).trans (rd_binary hl'.head).symm)
  | @reshape P l l' q T S x x' y y' he hn hx _ ih =>
    refine ih hl.tail hl'.tail (List.forall_mem_cons.mpr ⟨?_, hP⟩)
    have e : rd W x = rd W' x' := hP _ hx
    exact (rd_reshape hl.head).trans (by rw [e]; exact (rd_reshape hl'.head).symm)

end Cert.Line

end
-- ==== Proof.KernelIdealRun.lean ====
/- The program around its one region, the body's triple and the run: every array of the region ends at what the
   body leaves in it, every other buffer at what the host operations leave, and the arguments are unchanged. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Line
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 20000

noncomputable section

namespace Cert.KernelIdeal.Run

open Cert.KernelIdeal Cert.KernelIdeal.Gen Cert.Line
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host operations, in order -/

set_option maxHeartbeats 4000000 in
theorem line0 : Line 24 (hostOps0 : List (HloOp τ sig (Elt F))) 34 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_1 : Line 34 (hostOps0_1 : List (HloOp τ sig (Elt F))) 272 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_2 : Line 272 (hostOps0_2 : List (HloOp τ sig (Elt F))) 278 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_3 : Line 278 (hostOps0_3 : List (HloOp τ sig (Elt F))) 540 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_4 : Line 540 (hostOps0_4 : List (HloOp τ sig (Elt F))) 568 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_5 : Line 568 (hostOps0_5 : List (HloOp τ sig (Elt F))) 830 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_6 : Line 830 (hostOps0_6 : List (HloOp τ sig (Elt F))) 866 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_7 : Line 866 (hostOps0_7 : List (HloOp τ sig (Elt F))) 872 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_8 : Line 872 (hostOps0_8 : List (HloOp τ sig (Elt F))) 875 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_9 : Line 875 (hostOps0_9 : List (HloOp τ sig (Elt F))) 881 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_10 : Line 881 (hostOps0_10 : List (HloOp τ sig (Elt F))) 885 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_11 : Line 885 (hostOps0_11 : List (HloOp τ sig (Elt F))) 891 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_12 : Line 891 (hostOps0_12 : List (HloOp τ sig (Elt F))) 894 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_13 : Line 894 (hostOps0_13 : List (HloOp τ sig (Elt F))) 900 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line0_14 : Line 900 (hostOps0_14 : List (HloOp τ sig (Elt F))) 932 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

set_option maxHeartbeats 4000000 in
theorem line1 : Line 933 (hostOps1 : List (HloOp τ sig (Elt F))) 938 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_
    | refine .cons (.nary (by decide) (by decide)) ?_)
  exact .nil

variable (m : (ℓ : Loc nD τ sig) → Buf (Elt F) ℓ) (ρ : Dev nD → PrngReg)

/-- The host operations before the region. -/
abbrev before : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

theorem line : Line 24 (before : List (HloOp τ sig (Elt F))) 932 :=
  line0.append <| line0_1.append <| line0_2.append <| line0_3.append <| line0_4.append <| line0_5.append <| line0_6.append <| line0_7.append <| line0_8.append <| line0_9.append <| line0_10.append <| line0_11.append <| line0_12.append <| line0_13.append <| line0_14.append .nil

/-- Core `c`'s buffers as the region finds them. -/
abbrev V0 (c : Dev nD) : Valuation τ sig (Elt F) := StableHlo.after before (fun b => m (c, b))
abbrev V (c : Dev nD) (b : Ref sig .tc) : Buf (Elt F) ((c : Thread nD τ).loc b) := V0 m c (Proc.devRef .tc b)

theorem holds (c : Dev nD) : Holds before (V0 m c) := line.holds _

/-- The region finds an argument as launched. -/
theorem V_arg (c : Dev nD) (r : Ref sig .tc) (h : key r < 24) : V m c r = m ((c : Thread nD τ).loc r) := line.keep _ r h

theorem forall_fresh {n k : ℕ} {l : List (HloOp τ sig (Elt F))} (h : Line n l k) : l.Forall fun op => op.fresh = ∅ :=
  List.forall_iff_forall_mem.mpr h.fresh

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨(forall_fresh line0), (forall_fresh line0_1), (forall_fresh line0_2), (forall_fresh line0_3), (forall_fresh line0_4), (forall_fresh line0_5), (forall_fresh line0_6), (forall_fresh line0_7), (forall_fresh line0_8), (forall_fresh line0_9), (forall_fresh line0_10), (forall_fresh line0_11), (forall_fresh line0_12), (forall_fresh line0_13), (forall_fresh line0_14)⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp (forall_fresh line1)) op hop
set_option maxHeartbeats 330000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- An argument no window stages is unchanged by the operations after the region. -/
theorem W_arg (dats : (p : Fin _) → (c : Dev nD) → Dat τ (Elt F) Unit ℕ (UR sig nD τ) ℕ (cfgs p) c) (c : Dev nD) (r : Ref sig .tc)
    (h : key r < 24) (hr : ∀ w, Pipeline.arrRef spec0 w ≠ r) :
    Pipeline.afterTail₀ cfgs dats 0 (V0 m) [hostOps1] c r = m ((c : Thread nD τ).loc r) := by
  unfold Pipeline.afterTail₀
  have hl : Line 933 (List.flatten [(hostOps1 : List (HloOp τ sig (Elt F)))]) 938 := line1.append .nil
  rw [hl.keep _ r (by omega), Pipeline.withArrays_of_ne _ c (V0 m c) _ r hr]
  exact V_arg m c r h

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S512x128 := Rect.unit (s := S512x128) ![0, 0] S512x128.size inb_S512x128_S512x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S64x128 := Rect.unit (s := S64x128) ![0, 0] S64x128.size inb_S64x128_S64x128_0_0
abbrev r0_4 : Rect S128x512 := Rect.unit (s := S128x512) ![0, 0] S128x512.size inb_S128x512_S128x512_0_0
abbrev r0_5 : Rect S64x1 := Rect.unit (s := S64x1) ![0, 0] S64x1.size inb_S64x1_S64x1_0_0
abbrev r0_6 : Rect S64x32 := Rect.unit (s := S64x32) ![0, 0] S64x32.size inb_S64x32_S64x32_0_0
abbrev r0_7 : Rect S1x32 := Rect.unit (s := S1x32) ![0, 0] S1x32.size inb_S1x32_S1x32_0_0
abbrev r0_8 : Rect S32x64 := Rect.unit (s := S32x64) ![0, 0] S32x64.size inb_S32x64_S32x64_0_0
abbrev r0_9 : Rect S128x2048 := Rect.unit (s := S128x2048) ![0, 0] S128x2048.size inb_S128x2048_S128x2048_0_0
abbrev r0_10 : Rect S1x2 := Rect.unit (s := S1x2) ![0, 0] S1x2.size inb_S1x2_S1x2_0_0
abbrev r0_11 : Rect S512x512 := Rect.unit (s := S512x512) ![0, 0] S512x512.size inb_S512x512_S512x512_0_0
abbrev r0_12 : Rect S64x64 := Rect.unit (s := S64x64) ![0, 0] S64x64.size inb_S64x64_S64x64_0_0
abbrev r0_13 : Rect S1x128 := Rect.unit (s := S1x128) ![0, 0] S1x128.size inb_S1x128_S1x128_0_0

def k0_pay49 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : IVec S64x512 32 :=
  iota .tc S64x512 32 [1] iota_S64x512_d1_w32
def k0_pay50 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : IVec S64x512 32 :=
  iota .tc S64x512 32 [0] iota_S64x512_d0_w32
def k0_pay51 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x64 .f32 :=
  k0_pay1 (View.ld x0 r0_0) (View.ld x6 r0_1) (View.ld x8 r0_2)
def k0_pay52 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x32 .f32 :=
  k0_pay3 (View.ld x0 r0_0) (View.ld x6 r0_1) (View.ld x8 r0_2) (View.ld x10 r0_6) (View.ld x12 r0_7)
def k0_pay53 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S32x512 .f32 :=
  k0_pay4 (View.ld x7 r0_3) (View.ld x1 r0_4) (View.ld x9 r0_5) (View.ld x11 r0_8)
def k0_pay54 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S128x2048 .f32 :=
  k0_pay5 (View.ld x13 r0_9)
def k0_pay55 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S1x2 .f32 :=
  k0_pay6 (View.ld x14 r0_10)
def k0_pay56 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x512 .f32 :=
  k0_pay7 (View.ld x2 r0_11)
def k0_pay57 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x512 .f32 :=
  k0_pay8 (View.ld x3 r0_11)
def k0_pay58 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay11 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay55 x0 x1 x2 x3 x4 x5 x6 x7 x8 x9 x10 x11 x12 x13 x14 x15 x16 x17 x18 x19 x20 x21 x22 x23 x24 x25 x26 x27 x28 x29 x30 x31) (View.ld x2 r0_11) (View.ld x3 r0_11)
def k0_pay59 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay14 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay10 (k0_pay55 x0 x1 x2 x3 x4 x5 x6 x7 x8 x9 x10 x11 x12 x13 x14 x15 x16 x17 x18 x19 x20 x21 x22 x23 x24 x25 x26 x27 x28 x29 x30 x31)) (k0_pay12 (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31)) (k0_pay13 (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay55 x0 x1 x2 x3 x4 x5 x6 x7 x8 x9 x10 x11 x12 x13 x14 x15 x16 x17 x18 x19 x20 x21 x22 x23 x24 x25 x26 x27 x28 x29 x30 x31))
def k0_pay60 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay15 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31))
def k0_pay61 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay17 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31)) (k0_pay16 (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31))
def k0_pay62 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay18 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31))
def k0_pay63 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay21 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31)) (k0_pay19 (k0_pay52 x0 x1 x2 x3 x4 x5 x6 x7 x8 x9 x10 x11 x12 x13 x14 x15 x16 x17 x18 x19 x20 x21 x22 x23 x24 x25 x26 x27 x28 x29 x30 x31)) (k0_pay20 (k0_pay53 x0 x1 x2 x3 x4 x5 x6 x7 x8 x9 x10 x11 x12 x13 x14 x15 x16 x17 x18 x19 x20 x21 x22 x23 x24 x25 x26 x27 x28 x29 x30 x31))
def k0_pay64 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : IVec S64x512 1 :=
  k0_pay22 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31))
def k0_pay65 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x64 .f32 :=
  k0_pay24 (k0_pay51 x0 x1 x2 x3 x4 x5 x6 x7 x8 x9 x10 x11 x12 x13 x14 x15 x16 x17 x18 x19 x20 x21 x22 x23 x24 x25 x26 x27 x28 x29 x30 x31) (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31)) (k0_pay58 x0 x1 x2 x3 x4 x5 x6 x7 x8 x9 x10 x11 x12 x13 x14 x15 x16 x17 x18 x19 x20 x21 x22 x23 x24 x25 x26 x27 x28 x29 x30 x31) (k0_pay59 x0 x1 x2 x3 x4 x5 x6 x7 x8 x9 x10 x11 x12 x13 x14 x15 x16 x17 x18 x19 x20 x21 x22 x23 x24 x25 x26 x27 x28 x29 x30 x31) (k0_pay60 x0 x1 x2 x3 x4 x5 x6 x7 x8 x9 x10 x11 x12 x13 x14 x15 x16 x17 x18 x19 x20 x21 x22 x23 x24 x25 x26 x27 x28 x29 x30 x31) (k0_pay61 x0 x1 x2 x3 x4 x5 x6 x7 x8 x9 x10 x11 x12 x13 x14 x15 x16 x17 x18 x19 x20 x21 x22 x23 x24 x25 x26 x27 x28 x29 x30 x31) (k0_pay62 x0 x1 x2 x3 x4 x5 x6 x7 x8 x9 x10 x11 x12 x13 x14 x15 x16 x17 x18 x19 x20 x21 x22 x23 x24 x25 x26 x27 x28 x29 x30 x31) (k0_pay63 x0 x1 x2 x3 x4 x5 x6 x7 x8 x9 x10 x11 x12 x13 x14 x15 x16 x17 x18 x19 x20 x21 x22 x23 x24 x25 x26 x27 x28 x29 x30 x31) (k0_pay64 x0 x1 x2 x3 x4 x5 x6 x7 x8 x9 x10 x11 x12 x13 x14 x15 x16 x17 x18 x19 x20 x21 x22 x23 x24 x25 x26 x27 x28 x29 x30 x31) (Scalar.ofBits .f32 0x3F800000#32) (Scalar.ofBits .f32 0x00000000#32) (View.ld x20 r0_12) (View.ld x22 r0_2)
def k0_pay66 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S64x512 .f32 :=
  k0_pay25 (k0_pay2 (View.ld x7 r0_3) (View.ld x1 r0_4) (View.ld x9 r0_5)) (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay52 x0 x1 x2 x3 x4 x5 x6 x7 x8 x9 x10 x11 x12 x13 x14 x15 x16 x17 x18 x19 x20 x21 x22 x23 x24 x25 x26 x27 x28 x29 x30 x31) (k0_pay53 x0 x1 x2 x3 x4 x5 x6 x7 x8 x9 x10 x11 x12 x13 x14 x15 x16 x17 x18 x19 x20 x21 x22 x23 x24 x25 x26 x27 x28 x29 x30 x31) (k0_pay54 x0 x1 x2 x3 x4 x5 x6 x7 x8 x9 x10 x11 x12 x13 x14 x15 x16 x17 x18 x19 x20 x21 x22 x23 x24 x25 x26 x27 x28 x29 x30 x31) (k0_pay56 x0 x1 x2 x3 x4 x5 x6 x7 x8 x9 x10 x11 x12 x13 x14 x15 x16 x17 x18 x19 x20 x21 x22 x23 x24 x25 x26 x27 x28 x29 x30 x31) (k0_pay57 x0 x1 x2 x3 x4 x5 x6 x7 x8 x9 x10 x11 x12 x13 x14 x15 x16 x17 x18 x19 x20 x21 x22 x23 x24 x25 x26 x27 x28 x29 x30 x31) (k0_pay9 (k0_pay55 x0 x1 x2 x3 x4 x5 x6 x7 x8 x9 x10 x11 x12 x13 x14 x15 x16 x17 x18 x19 x20 x21 x22 x23 x24 x25 x26 x27 x28 x29 x30 x31)) (k0_pay10 (k0_pay55 x0 x1 x2 x3 x4 x5 x6 x7 x8 x9 x10 x11 x12 x13 x14 x15 x16 x17 x18 x19 x20 x21 x22 x23 x24 x25 x26 x27 x28 x29 x30 x31)) (k0_pay58 x0 x1 x2 x3 x4 x5 x6 x7 x8 x9 x10 x11 x12 x13 x14 x15 x16 x17 x18 x19 x20 x21 x22 x23 x24 x25 x26 x27 x28 x29 x30 x31) (k0_pay59 x0 x1 x2 x3 x4 x5 x6 x7 x8 x9 x10 x11 x12 x13 x14 x15 x16 x17 x18 x19 x20 x21 x22 x23 x24 x25 x26 x27 x28 x29 x30 x31) (k0_pay60 x0 x1 x2 x3 x4 x5 x6 x7 x8 x9 x10 x11 x12 x13 x14 x15 x16 x17 x18 x19 x20 x21 x22 x23 x24 x25 x26 x27 x28 x29 x30 x31) (k0_pay61 x0 x1 x2 x3 x4 x5 x6 x7 x8 x9 x10 x11 x12 x13 x14 x15 x16 x17 x18 x19 x20 x21 x22 x23 x24 x25 x26 x27 x28 x29 x30 x31) (k0_pay62 x0 x1 x2 x3 x4 x5 x6 x7 x8 x9 x10 x11 x12 x13 x14 x15 x16 x17 x18 x19 x20 x21 x22 x23 x24 x25 x26 x27 x28 x29 x30 x31) (k0_pay63 x0 x1 x2 x3 x4 x5 x6 x7 x8 x9 x10 x11 x12 x13 x14 x15 x16 x17 x18 x19 x20 x21 x22 x23 x24 x25 x26 x27 x28 x29 x30 x31) (k0_pay64 x0 x1 x2 x3 x4 x5 x6 x7 x8 x9 x10 x11 x12 x13 x14 x15 x16 x17 x18 x19 x20 x21 x22 x23 x24 x25 x26 x27 x28 x29 x30 x31) (Scalar.ofBits .f32 0x3F800000#32) (Scalar.ofBits .f32 0x00000000#32) (View.ld x21 r0_12)
def k0_pay67 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x32 .f32 :=
  k0_pay26 (k0_pay65 x0 x1 x2 x3 x4 x5 x6 x7 x8 x9 x10 x11 x12 x13 x14 x15 x16 x17 x18 x19 x20 x21 x22 x23 x24 x25 x26 x27 x28 x29 x30 x31) (View.ld x15 r0_6) (View.ld x17 r0_7)
def k0_pay68 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S32x512 .f32 :=
  k0_pay27 (k0_pay66 x0 x1 x2 x3 x4 x5 x6 x7 x8 x9 x10 x11 x12 x13 x14 x15 x16 x17 x18 x19 x20 x21 x22 x23 x24 x25 x26 x27 x28 x29 x30 x31) (View.ld x23 r0_5) (View.ld x16 r0_8)
def k0_pay69 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S128x2048 .f32 :=
  k0_pay28 (View.ld x18 r0_9)
def k0_pay70 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x512 .f32 :=
  k0_pay30 (View.ld x4 r0_11)
def k0_pay71 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : FVec F S512x512 .f32 :=
  k0_pay31 (View.ld x5 r0_11)

def out0_32 (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) : Vec F S512x128 .f32 :=
  View.canon [⟨r0_0, k0_pay48 (k0_pay51 x0 x1 x2 x3 x4 x5 x6 x7 x8 x9 x10 x11 x12 x13 x14 x15 x16 x17 x18 x19 x20 x21 x22 x23 x24 x25 x26 x27 x28 x29 x30 x31) (k0_pay65 x0 x1 x2 x3 x4 x5 x6 x7 x8 x9 x10 x11 x12 x13 x14 x15 x16 x17 x18 x19 x20 x21 x22 x23 x24 x25 x26 x27 x28 x29 x30 x31) (k0_pay37 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay33 (View.ld x19 r0_10)) (k0_pay35 (k0_pay65 x0 x1 x2 x3 x4 x5 x6 x7 x8 x9 x10 x11 x12 x13 x14 x15 x16 x17 x18 x19 x20 x21 x22 x23 x24 x25 x26 x27 x28 x29 x30 x31) (k0_pay66 x0 x1 x2 x3 x4 x5 x6 x7 x8 x9 x10 x11 x12 x13 x14 x15 x16 x17 x18 x19 x20 x21 x22 x23 x24 x25 x26 x27 x28 x29 x30 x31) (View.ld x23 r0_5) (View.ld x15 r0_6) (View.ld x17 r0_7) (View.ld x16 r0_8) (View.ld x18 r0_9) (View.ld x19 r0_10) (View.ld x4 r0_11)) (k0_pay36 (k0_pay65 x0 x1 x2 x3 x4 x5 x6 x7 x8 x9 x10 x11 x12 x13 x14 x15 x16 x17 x18 x19 x20 x21 x22 x23 x24 x25 x26 x27 x28 x29 x30 x31) (k0_pay66 x0 x1 x2 x3 x4 x5 x6 x7 x8 x9 x10 x11 x12 x13 x14 x15 x16 x17 x18 x19 x20 x21 x22 x23 x24 x25 x26 x27 x28 x29 x30 x31) (View.ld x23 r0_5) (View.ld x15 r0_6) (View.ld x17 r0_7) (View.ld x16 r0_8) (View.ld x18 r0_9))) (k0_pay38 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10))) (k0_pay40 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10)) (k0_pay39 (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31))) (k0_pay41 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10))) (k0_pay43 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10)) (k0_pay42 (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31))) (k0_pay44 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10))) (k0_pay45 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31) (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10))) (k0_pay46 (k0_pay67 x0 x1 x2 x3 x4 x5 x6 x7 x8 x9 x10 x11 x12 x13 x14 x15 x16 x17 x18 x19 x20 x21 x22 x23 x24 x25 x26 x27 x28 x29 x30 x31) (k0_pay68 x0 x1 x2 x3 x4 x5 x6 x7 x8 x9 x10 x11 x12 x13 x14 x15 x16 x17 x18 x19 x20 x21 x22 x23 x24 x25 x26 x27 x28 x29 x30 x31) (k0_pay69 x0 x1 x2 x3 x4 x5 x6 x7 x8 x9 x10 x11 x12 x13 x14 x15 x16 x17 x18 x19 x20 x21 x22 x23 x24 x25 x26 x27 x28 x29 x30 x31) (k0_pay70 x0 x1 x2 x3 x4 x5 x6 x7 x8 x9 x10 x11 x12 x13 x14 x15 x16 x17 x18 x19 x20 x21 x22 x23 x24 x25 x26 x27 x28 x29 x30 x31) (k0_pay71 x0 x1 x2 x3 x4 x5 x6 x7 x8 x9 x10 x11 x12 x13 x14 x15 x16 x17 x18 x19 x20 x21 x22 x23 x24 x25 x26 x27 x28 x29 x30 x31) (k0_pay32 (View.ld x19 r0_10)) (k0_pay33 (View.ld x19 r0_10))) (k0_pay47 (k0_pay49 x0 x1 x2 x3 x4 x5 x6 x7 x8 x9 x10 x11 x12 x13 x14 x15 x16 x17 x18 x19 x20 x21 x22 x23 x24 x25 x26 x27 x28 x29 x30 x31) (k0_pay50 x0 x1 x2 x3 x4 x5 x6 x7 x8 x9 x10 x11 x12 x13 x14 x15 x16 x17 x18 x19 x20 x21 x22 x23 x24 x25 x26 x27 x28 x29 x30 x31)) (View.ld x24 r0_12) (View.ld x25 r0_2) (View.ld x26 r0_12) (View.ld x27 r0_2) (View.ld x28 r0_12) (View.ld x29 r0_2) (View.ld x30 r0_3) (View.ld x31 r0_13)⟩]

theorem cover0_32 (p0 : Vec F S512x128 .f32) (y : S512x128.Idx) :
    ∃ pc ∈ ([⟨r0_0, p0⟩] : List (View.Piece (Elt F) S512x128 .f32)), y ∈ pc.1.set :=
  View.cover_of_tiled [⟨r0_0, p0⟩] S512x128.size (by rfl) y

set_option maxHeartbeats 3957450 in
theorem sound_kernel (c : Dev nD) (E : Set ℕ) (arg0 : Memref sig .tc .vmem S512x128 .f32) (harg0 : arg0.IsWhole) (arg1 : Memref sig .tc .vmem S128x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S128x64 .f32) (harg6 : arg6.IsWhole) (arg7 : Memref sig .tc .vmem S64x128 .f32) (harg7 : arg7.IsWhole) (arg8 : Memref sig .tc .vmem S1x64 .f32) (harg8 : arg8.IsWhole) (arg9 : Memref sig .tc .vmem S64x1 .f32) (harg9 : arg9.IsWhole) (arg10 : Memref sig .tc .vmem S64x32 .f32) (harg10 : arg10.IsWhole) (arg11 : Memref sig .tc .vmem S32x64 .f32) (harg11 : arg11.IsWhole) (arg12 : Memref sig .tc .vmem S1x32 .f32) (harg12 : arg12.IsWhole) (arg13 : Memref sig .tc .vmem S128x2048 .f32) (harg13 : arg13.IsWhole) (arg14 : Memref sig .tc .vmem S1x2 .f32) (harg14 : arg14.IsWhole) (arg15 : Memref sig .tc .vmem S64x32 .f32) (harg15 : arg15.IsWhole) (arg16 : Memref sig .tc .vmem S32x64 .f32) (harg16 : arg16.IsWhole) (arg17 : Memref sig .tc .vmem S1x32 .f32) (harg17 : arg17.IsWhole) (arg18 : Memref sig .tc .vmem S128x2048 .f32) (harg18 : arg18.IsWhole) (arg19 : Memref sig .tc .vmem S1x2 .f32) (harg19 : arg19.IsWhole) (arg20 : Memref sig .tc .vmem S64x64 .f32) (harg20 : arg20.IsWhole) (arg21 : Memref sig .tc .vmem S64x64 .f32) (harg21 : arg21.IsWhole) (arg22 : Memref sig .tc .vmem S1x64 .f32) (harg22 : arg22.IsWhole) (arg23 : Memref sig .tc .vmem S64x1 .f32) (harg23 : arg23.IsWhole) (arg24 : Memref sig .tc .vmem S64x64 .f32) (harg24 : arg24.IsWhole) (arg25 : Memref sig .tc .vmem S1x64 .f32) (harg25 : arg25.IsWhole) (arg26 : Memref sig .tc .vmem S64x64 .f32) (harg26 : arg26.IsWhole) (arg27 : Memref sig .tc .vmem S1x64 .f32) (harg27 : arg27.IsWhole) (arg28 : Memref sig .tc .vmem S64x64 .f32) (harg28 : arg28.IsWhole) (arg29 : Memref sig .tc .vmem S1x64 .f32) (harg29 : arg29.IsWhole) (arg30 : Memref sig .tc .vmem S64x128 .f32) (harg30 : arg30.IsWhole) (arg31 : Memref sig .tc .vmem S1x128 .f32) (harg31 : arg31.IsWhole) (arg32 : Memref sig .tc .vmem S512x128 .f32) (harg32 : arg32.IsWhole)
    (x0 : Vec F S512x128 .f32) (x1 : Vec F S128x512 .f32) (x2 : Vec F S512x512 .f32) (x3 : Vec F S512x512 .f32) (x4 : Vec F S512x512 .f32) (x5 : Vec F S512x512 .f32) (x6 : Vec F S128x64 .f32) (x7 : Vec F S64x128 .f32) (x8 : Vec F S1x64 .f32) (x9 : Vec F S64x1 .f32) (x10 : Vec F S64x32 .f32) (x11 : Vec F S32x64 .f32) (x12 : Vec F S1x32 .f32) (x13 : Vec F S128x2048 .f32) (x14 : Vec F S1x2 .f32) (x15 : Vec F S64x32 .f32) (x16 : Vec F S32x64 .f32) (x17 : Vec F S1x32 .f32) (x18 : Vec F S128x2048 .f32) (x19 : Vec F S1x2 .f32) (x20 : Vec F S64x64 .f32) (x21 : Vec F S64x64 .f32) (x22 : Vec F S1x64 .f32) (x23 : Vec F S64x1 .f32) (x24 : Vec F S64x64 .f32) (x25 : Vec F S1x64 .f32) (x26 : Vec F S64x64 .f32) (x27 : Vec F S1x64 .f32) (x28 : Vec F S64x64 .f32) (x29 : Vec F S1x64 .f32) (x30 : Vec F S64x128 .f32) (x31 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ (∃ d, owns (c : Thread nD τ) arg32 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare (out0_32 x0 x1 x2 x3 x4 x5 x6 x7 x8 x9 x10 x11 x12 x13 x14 x15 x16 x17 x18 x19 x20 x21 x22 x23 x24 x25 x26 x27 x28 x29 x30 x31)) -∗ K ⟨⟩))
      ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  iexists _; isplitr
  swap; · iexact H32
  ipureintro
  refine (View.read_writes_eq_canon _ _ _ (cover0_32 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨_ + 33, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl)
    (fun t => by rw [after0_21]; unfold Dat.blockOf iblk; rw [A_eq]; try rfl) t d).trans (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl)
    (fun t => by rw [after0_22]; unfold Dat.blockOf iblk; rw [A_eq]; try rfl) t d).trans (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl)
    (fun t => by rw [after0_23]; unfold Dat.blockOf iblk; rw [A_eq]; try rfl) t d).trans (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl)
    (fun t => by rw [after0_24]; unfold Dat.blockOf iblk; rw [A_eq]; try rfl) t d).trans (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl)
    (fun t => by rw [after0_25]; unfold Dat.blockOf iblk; rw [A_eq]; try rfl) t d).trans (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl)
    (fun t => by rw [after0_26]; unfold Dat.blockOf iblk; rw [A_eq]; try rfl) t d).trans (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl)
    (fun t => by rw [after0_27]; unfold Dat.blockOf iblk; rw [A_eq]; try rfl) t d).trans (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl)
    (fun t => by rw [after0_28]; unfold Dat.blockOf iblk; rw [A_eq]; try rfl) t d).trans (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl)
    (fun t => by rw [after0_29]; unfold Dat.blockOf iblk; rw [A_eq]; try rfl) t d).trans (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl)
    (fun t => by rw [after0_30]; unfold Dat.blockOf iblk; rw [A_eq]; try rfl) t d).trans (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl)
    (fun t => by rw [after0_31]; unfold Dat.blockOf iblk; rw [A_eq]; try rfl) t d).trans (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

set_option maxHeartbeats 20000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

theorem defs₀_row (t : Fin cfg0.N) :
    defs₀ (F := F) .tc cfg0.body (cfg0.bodyArgs t (cfg0.slots t)) = bodyAt0 t := by
  unfold defs₀; rw [Defs.onTc_tc]

set_option maxHeartbeats 20000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument read in the final state. -/
theorem arg_of (dats : (p : Fin 1) → (c : Dev nD) → Dat τ (Elt F) Unit ℕ (UR sig nD τ) ℕ (cfgs p) c)
    (hA : ∀ c w, (dats 0 c).A w = V m c (Pipeline.arrRef spec0 w)) {r}
    (h : Pipeline.FramePost cfgs dats 0 (Pipeline.afterTail₀ cfgs dats 0 (V0 m) [hostOps1]) r) (c : Dev nD) (b : Ref sig .tc) (hb : key b < 24) (hs : b.isScoped = false) :
    r.2.mem ((c.tc : Thread nD τ).loc b) = m ((c.tc : Thread nD τ).loc b) := by
  by_cases hw : ∃ w, Pipeline.arrRef spec0 w = b
  · obtain ⟨w, rfl⟩ := hw
    exact ((h c).1 w).trans (((dats 0 c).arrAt_in w ((by decide : ∀ w, key (Pipeline.arrRef spec0 w) < 24 → (cfg0.win w).isOut = false) w hb) _).trans ((hA c w).trans (V_arg m c _ hb)))
  · exact ((h c).2 b (Pipeline.mem_restRefs_of b hs (fun w e => hw ⟨w, e⟩))).trans (W_arg m dats c b hb fun w e => hw ⟨w, e⟩)

/-- Every argument ends as launched, and every counter at zero. -/
theorem frame : θ_run defs (onTc (τ := τ) (main (F := F))) ⟨m, fun _ => 0, ρ⟩ (fun r => (∀ (c : Dev nD) (b : Ref sig .tc), key b < 24 → b.isScoped = false →
      r.2.mem ((c.tc : Thread nD τ).loc b) = m ((c.tc : Thread nD τ).loc b)) ∧ r.2.sem = fun _ => 0) := by
  refine (θ_run defs _ _).mono (fun r h => ⟨fun c b hb hs => ?_, h.2⟩) (run_main_quiescent m ρ)
  exact arg_of m (dats m) (A_eq m) h.1 c b hb hs

end Cert.KernelIdeal.Run

end
-- ==== Proof.RefOps.lean ====
/- The reference's host program as lists of its operations: one per part of a module-local function, over the function's
   arguments and one call's buffers, and one per stretch of @main between two calls; and @main as those lists run in order. -/
module

public import proofs.«01_k».proof.Proof.Gen.ReferenceIdeal
public import proofs.«01_k».proof.Proof.Line

@[expose] public section

set_option maxRecDepth 12000

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- A list of the reference's host operations. -/
abbrev Ops (F : FTy → Type) [FloatOps F] : Type := List (HloOp τ sig (Elt F))

/-- A host program of the reference. -/
abbrev Host (F : FTy → Type) [FloatOps F] : Type 1 :=
  Prog (TpuEff nD τ sig (Elt F) (Pipeline.Sig Λ₀ (Fin 0) fun p => (pcfgs (F := F) p).Adm) .tc) PUnit.{1}

/-- The operations of `fn_threefry2x32.body_part0`, followed by `l`. -/
def opsT0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) : Ops F :=
  StableHlo.TRef.binary arg0 arg1 φ.v0 xori ::
  StableHlo.TRef.nullary φ.c (constantI S_ 32 466688986#32) ::
  StableHlo.TRef.binary φ.v0 φ.c φ.v1 xori ::
  StableHlo.TRef.unary arg0 φ.v2 (broadcastInDim S2 ![] bcast_S_S2) ::
  StableHlo.TRef.binary arg2 φ.v2 φ.v3 addi ::
  StableHlo.TRef.unary arg1 φ.v4 (broadcastInDim S2 ![] bcast_S_S2) ::
  StableHlo.TRef.binary arg3 φ.v4 φ.v5 addi ::
  StableHlo.TRef.binary φ.v3 φ.v5 φ.v6 addi ::
  StableHlo.TRef.nullary φ.c_0 (constantI S_ 32 13#32) ::
  StableHlo.TRef.unary φ.c_0 φ.v7 (broadcastInDim S2 ![] bcast_S_S2) ::
  StableHlo.TRef.binary φ.v5 φ.v7 φ.v8 Host.shli ::
  StableHlo.TRef.nullary φ.c_1 (constantI S_ 32 19#32) ::
  StableHlo.TRef.unary φ.c_1 φ.v9 (broadcastInDim S2 ![] bcast_S_S2) ::
  StableHlo.TRef.binary φ.v5 φ.v9 φ.v10 Host.shrui ::
  StableHlo.TRef.binary φ.v8 φ.v10 φ.v11 ori ::
  StableHlo.TRef.binary φ.v6 φ.v11 φ.v12 xori ::
  StableHlo.TRef.binary φ.v6 φ.v12 φ.v13 addi ::
  StableHlo.TRef.nullary φ.c_2 (constantI S_ 32 15#32) ::
  StableHlo.TRef.unary φ.c_2 φ.v14 (broadcastInDim S2 ![] bcast_S_S2) ::
  StableHlo.TRef.binary φ.v12 φ.v14 φ.v15 Host.shli ::
  StableHlo.TRef.nullary φ.c_3 (constantI S_ 32 17#32) ::
  StableHlo.TRef.unary φ.c_3 φ.v16 (broadcastInDim S2 ![] bcast_S_S2) ::
  StableHlo.TRef.binary φ.v12 φ.v16 φ.v17 Host.shrui ::
  StableHlo.TRef.binary φ.v15 φ.v17 φ.v18 ori ::
  StableHlo.TRef.binary φ.v13 φ.v18 φ.v19 xori ::
  StableHlo.TRef.binary φ.v13 φ.v19 φ.v20 addi ::
  StableHlo.TRef.nullary φ.c_4 (constantI S_ 32 26#32) ::
  StableHlo.TRef.unary φ.c_4 φ.v21 (broadcastInDim S2 ![] bcast_S_S2) ::
  StableHlo.TRef.binary φ.v19 φ.v21 φ.v22 Host.shli ::
  StableHlo.TRef.nullary φ.c_5 (constantI S_ 32 6#32) ::
  StableHlo.TRef.unary φ.c_5 φ.v23 (broadcastInDim S2 ![] bcast_S_S2) ::
  StableHlo.TRef.binary φ.v19 φ.v23 φ.v24 Host.shrui ::
  StableHlo.TRef.binary φ.v22 φ.v24 φ.v25 ori ::
  StableHlo.TRef.binary φ.v20 φ.v25 φ.v26 xori ::
  StableHlo.TRef.binary φ.v20 φ.v26 φ.v27 addi ::
  StableHlo.TRef.nullary φ.c_6 (constantI S_ 32 6#32) ::
  StableHlo.TRef.unary φ.c_6 φ.v28 (broadcastInDim S2 ![] bcast_S_S2) ::
  StableHlo.TRef.binary φ.v26 φ.v28 φ.v29 Host.shli ::
  StableHlo.TRef.nullary φ.c_7 (constantI S_ 32 26#32) ::
  StableHlo.TRef.unary φ.c_7 φ.v30 (broadcastInDim S2 ![] bcast_S_S2) ::
  StableHlo.TRef.binary φ.v26 φ.v30 φ.v31 Host.shrui ::
  StableHlo.TRef.binary φ.v29 φ.v31 φ.v32 ori ::
  StableHlo.TRef.binary φ.v27 φ.v32 φ.v33 xori ::
  StableHlo.TRef.unary arg1 φ.v34 (broadcastInDim S2 ![] bcast_S_S2) ::
  StableHlo.TRef.binary φ.v27 φ.v34 φ.v35 addi ::
  StableHlo.TRef.unary φ.v1 φ.v36 (broadcastInDim S2 ![] bcast_S_S2) ::
  StableHlo.TRef.binary φ.v33 φ.v36 φ.v37 addi ::
  StableHlo.TRef.nullary φ.c_8 (constantI S_ 32 1#32) ::
  StableHlo.TRef.unary φ.c_8 φ.v38 (broadcastInDim S2 ![] bcast_S_S2) ::
  StableHlo.TRef.binary φ.v37 φ.v38 φ.v39 addi ::
  StableHlo.TRef.binary φ.v35 φ.v39 φ.v40 addi ::
  StableHlo.TRef.nullary φ.c_9 (constantI S_ 32 17#32) ::
  StableHlo.TRef.unary φ.c_9 φ.v41 (broadcastInDim S2 ![] bcast_S_S2) ::
  StableHlo.TRef.binary φ.v39 φ.v41 φ.v42 Host.shli ::
  StableHlo.TRef.nullary φ.c_10 (constantI S_ 32 15#32) ::
  StableHlo.TRef.unary φ.c_10 φ.v43 (broadcastInDim S2 ![] bcast_S_S2) ::
  StableHlo.TRef.binary φ.v39 φ.v43 φ.v44 Host.shrui ::
  StableHlo.TRef.binary φ.v42 φ.v44 φ.v45 ori ::
  StableHlo.TRef.binary φ.v40 φ.v45 φ.v46 xori ::
  StableHlo.TRef.binary φ.v40 φ.v46 φ.v47 addi ::
  l

theorem opsT0_seq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) (k : Host F) :
    (fn_threefry2x32.body_part0 arg0 arg1 arg2 arg3 φ >>= fun _ => StableHlo.seqK l k) = StableHlo.seqK (opsT0 arg0 arg1 arg2 arg3 φ l) k := by
  simp only [fn_threefry2x32.body_part0, opsT0, StableHlo.seqK, bind_assoc, pure_bind]

/-- The operations of `fn_threefry2x32.body_part1`, followed by `l`. -/
def opsT1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) : Ops F :=
  StableHlo.TRef.nullary φ.c_11 (constantI S_ 32 29#32) ::
  StableHlo.TRef.unary φ.c_11 φ.v48 (broadcastInDim S2 ![] bcast_S_S2) ::
  StableHlo.TRef.binary φ.v46 φ.v48 φ.v49 Host.shli ::
  StableHlo.TRef.nullary φ.c_12 (constantI S_ 32 3#32) ::
  StableHlo.TRef.unary φ.c_12 φ.v50 (broadcastInDim S2 ![] bcast_S_S2) ::
  StableHlo.TRef.binary φ.v46 φ.v50 φ.v51 Host.shrui ::
  StableHlo.TRef.binary φ.v49 φ.v51 φ.v52 ori ::
  StableHlo.TRef.binary φ.v47 φ.v52 φ.v53 xori ::
  StableHlo.TRef.binary φ.v47 φ.v53 φ.v54 addi ::
  StableHlo.TRef.nullary φ.c_13 (constantI S_ 32 16#32) ::
  StableHlo.TRef.unary φ.c_13 φ.v55 (broadcastInDim S2 ![] bcast_S_S2) ::
  StableHlo.TRef.binary φ.v53 φ.v55 φ.v56 Host.shli ::
  StableHlo.TRef.nullary φ.c_14 (constantI S_ 32 16#32) ::
  StableHlo.TRef.unary φ.c_14 φ.v57 (broadcastInDim S2 ![] bcast_S_S2) ::
  StableHlo.TRef.binary φ.v53 φ.v57 φ.v58 Host.shrui ::
  StableHlo.TRef.binary φ.v56 φ.v58 φ.v59 ori ::
  StableHlo.TRef.binary φ.v54 φ.v59 φ.v60 xori ::
  StableHlo.TRef.binary φ.v54 φ.v60 φ.v61 addi ::
  StableHlo.TRef.nullary φ.c_15 (constantI S_ 32 24#32) ::
  StableHlo.TRef.unary φ.c_15 φ.v62 (broadcastInDim S2 ![] bcast_S_S2) ::
  StableHlo.TRef.binary φ.v60 φ.v62 φ.v63 Host.shli ::
  StableHlo.TRef.nullary φ.c_16 (constantI S_ 32 8#32) ::
  StableHlo.TRef.unary φ.c_16 φ.v64 (broadcastInDim S2 ![] bcast_S_S2) ::
  StableHlo.TRef.binary φ.v60 φ.v64 φ.v65 Host.shrui ::
  StableHlo.TRef.binary φ.v63 φ.v65 φ.v66 ori ::
  StableHlo.TRef.binary φ.v61 φ.v66 φ.v67 xori ::
  StableHlo.TRef.unary φ.v1 φ.v68 (broadcastInDim S2 ![] bcast_S_S2) ::
  StableHlo.TRef.binary φ.v61 φ.v68 φ.v69 addi ::
  StableHlo.TRef.unary arg0 φ.v70 (broadcastInDim S2 ![] bcast_S_S2) ::
  StableHlo.TRef.binary φ.v67 φ.v70 φ.v71 addi ::
  StableHlo.TRef.nullary φ.c_17 (constantI S_ 32 2#32) ::
  StableHlo.TRef.unary φ.c_17 φ.v72 (broadcastInDim S2 ![] bcast_S_S2) ::
  StableHlo.TRef.binary φ.v71 φ.v72 φ.v73 addi ::
  StableHlo.TRef.binary φ.v69 φ.v73 φ.v74 addi ::
  StableHlo.TRef.nullary φ.c_18 (constantI S_ 32 13#32) ::
  StableHlo.TRef.unary φ.c_18 φ.v75 (broadcastInDim S2 ![] bcast_S_S2) ::
  StableHlo.TRef.binary φ.v73 φ.v75 φ.v76 Host.shli ::
  StableHlo.TRef.nullary φ.c_19 (constantI S_ 32 19#32) ::
  StableHlo.TRef.unary φ.c_19 φ.v77 (broadcastInDim S2 ![] bcast_S_S2) ::
  StableHlo.TRef.binary φ.v73 φ.v77 φ.v78 Host.shrui ::
  StableHlo.TRef.binary φ.v76 φ.v78 φ.v79 ori ::
  StableHlo.TRef.binary φ.v74 φ.v79 φ.v80 xori ::
  StableHlo.TRef.binary φ.v74 φ.v80 φ.v81 addi ::
  StableHlo.TRef.nullary φ.c_20 (constantI S_ 32 15#32) ::
  StableHlo.TRef.unary φ.c_20 φ.v82 (broadcastInDim S2 ![] bcast_S_S2) ::
  StableHlo.TRef.binary φ.v80 φ.v82 φ.v83 Host.shli ::
  StableHlo.TRef.nullary φ.c_21 (constantI S_ 32 17#32) ::
  StableHlo.TRef.unary φ.c_21 φ.v84 (broadcastInDim S2 ![] bcast_S_S2) ::
  StableHlo.TRef.binary φ.v80 φ.v84 φ.v85 Host.shrui ::
  StableHlo.TRef.binary φ.v83 φ.v85 φ.v86 ori ::
  StableHlo.TRef.binary φ.v81 φ.v86 φ.v87 xori ::
  StableHlo.TRef.binary φ.v81 φ.v87 φ.v88 addi ::
  StableHlo.TRef.nullary φ.c_22 (constantI S_ 32 26#32) ::
  StableHlo.TRef.unary φ.c_22 φ.v89 (broadcastInDim S2 ![] bcast_S_S2) ::
  StableHlo.TRef.binary φ.v87 φ.v89 φ.v90 Host.shli ::
  StableHlo.TRef.nullary φ.c_23 (constantI S_ 32 6#32) ::
  StableHlo.TRef.unary φ.c_23 φ.v91 (broadcastInDim S2 ![] bcast_S_S2) ::
  StableHlo.TRef.binary φ.v87 φ.v91 φ.v92 Host.shrui ::
  StableHlo.TRef.binary φ.v90 φ.v92 φ.v93 ori ::
  StableHlo.TRef.binary φ.v88 φ.v93 φ.v94 xori ::
  l

theorem opsT1_seq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) (k : Host F) :
    (fn_threefry2x32.body_part1 arg0 arg1 arg2 arg3 φ >>= fun _ => StableHlo.seqK l k) = StableHlo.seqK (opsT1 arg0 arg1 arg2 arg3 φ l) k := by
  simp only [fn_threefry2x32.body_part1, opsT1, StableHlo.seqK, bind_assoc, pure_bind]

/-- The operations of `fn_threefry2x32.body_part2`, followed by `l`. -/
def opsT2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) : Ops F :=
  StableHlo.TRef.binary φ.v88 φ.v94 φ.v95 addi ::
  StableHlo.TRef.nullary φ.c_24 (constantI S_ 32 6#32) ::
  StableHlo.TRef.unary φ.c_24 φ.v96 (broadcastInDim S2 ![] bcast_S_S2) ::
  StableHlo.TRef.binary φ.v94 φ.v96 φ.v97 Host.shli ::
  StableHlo.TRef.nullary φ.c_25 (constantI S_ 32 26#32) ::
  StableHlo.TRef.unary φ.c_25 φ.v98 (broadcastInDim S2 ![] bcast_S_S2) ::
  StableHlo.TRef.binary φ.v94 φ.v98 φ.v99 Host.shrui ::
  StableHlo.TRef.binary φ.v97 φ.v99 φ.v100 ori ::
  StableHlo.TRef.binary φ.v95 φ.v100 φ.v101 xori ::
  StableHlo.TRef.unary arg0 φ.v102 (broadcastInDim S2 ![] bcast_S_S2) ::
  StableHlo.TRef.binary φ.v95 φ.v102 φ.v103 addi ::
  StableHlo.TRef.unary arg1 φ.v104 (broadcastInDim S2 ![] bcast_S_S2) ::
  StableHlo.TRef.binary φ.v101 φ.v104 φ.v105 addi ::
  StableHlo.TRef.nullary φ.c_26 (constantI S_ 32 3#32) ::
  StableHlo.TRef.unary φ.c_26 φ.v106 (broadcastInDim S2 ![] bcast_S_S2) ::
  StableHlo.TRef.binary φ.v105 φ.v106 φ.v107 addi ::
  StableHlo.TRef.binary φ.v103 φ.v107 φ.v108 addi ::
  StableHlo.TRef.nullary φ.c_27 (constantI S_ 32 17#32) ::
  StableHlo.TRef.unary φ.c_27 φ.v109 (broadcastInDim S2 ![] bcast_S_S2) ::
  StableHlo.TRef.binary φ.v107 φ.v109 φ.v110 Host.shli ::
  StableHlo.TRef.nullary φ.c_28 (constantI S_ 32 15#32) ::
  StableHlo.TRef.unary φ.c_28 φ.v111 (broadcastInDim S2 ![] bcast_S_S2) ::
  StableHlo.TRef.binary φ.v107 φ.v111 φ.v112 Host.shrui ::
  StableHlo.TRef.binary φ.v110 φ.v112 φ.v113 ori ::
  StableHlo.TRef.binary φ.v108 φ.v113 φ.v114 xori ::
  StableHlo.TRef.binary φ.v108 φ.v114 φ.v115 addi ::
  StableHlo.TRef.nullary φ.c_29 (constantI S_ 32 29#32) ::
  StableHlo.TRef.unary φ.c_29 φ.v116 (broadcastInDim S2 ![] bcast_S_S2) ::
  StableHlo.TRef.binary φ.v114 φ.v116 φ.v117 Host.shli ::
  StableHlo.TRef.nullary φ.c_30 (constantI S_ 32 3#32) ::
  StableHlo.TRef.unary φ.c_30 φ.v118 (broadcastInDim S2 ![] bcast_S_S2) ::
  StableHlo.TRef.binary φ.v114 φ.v118 φ.v119 Host.shrui ::
  StableHlo.TRef.binary φ.v117 φ.v119 φ.v120 ori ::
  StableHlo.TRef.binary φ.v115 φ.v120 φ.v121 xori ::
  StableHlo.TRef.binary φ.v115 φ.v121 φ.v122 addi ::
  StableHlo.TRef.nullary φ.c_31 (constantI S_ 32 16#32) ::
  StableHlo.TRef.unary φ.c_31 φ.v123 (broadcastInDim S2 ![] bcast_S_S2) ::
  StableHlo.TRef.binary φ.v121 φ.v123 φ.v124 Host.shli ::
  StableHlo.TRef.nullary φ.c_32 (constantI S_ 32 16#32) ::
  StableHlo.TRef.unary φ.c_32 φ.v125 (broadcastInDim S2 ![] bcast_S_S2) ::
  StableHlo.TRef.binary φ.v121 φ.v125 φ.v126 Host.shrui ::
  StableHlo.TRef.binary φ.v124 φ.v126 φ.v127 ori ::
  StableHlo.TRef.binary φ.v122 φ.v127 φ.v128 xori ::
  StableHlo.TRef.binary φ.v122 φ.v128 φ.v129 addi ::
  StableHlo.TRef.nullary φ.c_33 (constantI S_ 32 24#32) ::
  StableHlo.TRef.unary φ.c_33 φ.v130 (broadcastInDim S2 ![] bcast_S_S2) ::
  StableHlo.TRef.binary φ.v128 φ.v130 φ.v131 Host.shli ::
  StableHlo.TRef.nullary φ.c_34 (constantI S_ 32 8#32) ::
  StableHlo.TRef.unary φ.c_34 φ.v132 (broadcastInDim S2 ![] bcast_S_S2) ::
  StableHlo.TRef.binary φ.v128 φ.v132 φ.v133 Host.shrui ::
  StableHlo.TRef.binary φ.v131 φ.v133 φ.v134 ori ::
  StableHlo.TRef.binary φ.v129 φ.v134 φ.v135 xori ::
  StableHlo.TRef.unary arg1 φ.v136 (broadcastInDim S2 ![] bcast_S_S2) ::
  StableHlo.TRef.binary φ.v129 φ.v136 φ.v137 addi ::
  StableHlo.TRef.unary φ.v1 φ.v138 (broadcastInDim S2 ![] bcast_S_S2) ::
  StableHlo.TRef.binary φ.v135 φ.v138 φ.v139 addi ::
  StableHlo.TRef.nullary φ.c_35 (constantI S_ 32 4#32) ::
  StableHlo.TRef.unary φ.c_35 φ.v140 (broadcastInDim S2 ![] bcast_S_S2) ::
  StableHlo.TRef.binary φ.v139 φ.v140 φ.v141 addi ::
  StableHlo.TRef.binary φ.v137 φ.v141 φ.v142 addi ::
  l

theorem opsT2_seq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) (k : Host F) :
    (fn_threefry2x32.body_part2 arg0 arg1 arg2 arg3 φ >>= fun _ => StableHlo.seqK l k) = StableHlo.seqK (opsT2 arg0 arg1 arg2 arg3 φ l) k := by
  simp only [fn_threefry2x32.body_part2, opsT2, StableHlo.seqK, bind_assoc, pure_bind]

/-- The operations of `fn_threefry2x32.body_part3`, followed by `l`. -/
def opsT3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) : Ops F :=
  StableHlo.TRef.nullary φ.c_36 (constantI S_ 32 13#32) ::
  StableHlo.TRef.unary φ.c_36 φ.v143 (broadcastInDim S2 ![] bcast_S_S2) ::
  StableHlo.TRef.binary φ.v141 φ.v143 φ.v144 Host.shli ::
  StableHlo.TRef.nullary φ.c_37 (constantI S_ 32 19#32) ::
  StableHlo.TRef.unary φ.c_37 φ.v145 (broadcastInDim S2 ![] bcast_S_S2) ::
  StableHlo.TRef.binary φ.v141 φ.v145 φ.v146 Host.shrui ::
  StableHlo.TRef.binary φ.v144 φ.v146 φ.v147 ori ::
  StableHlo.TRef.binary φ.v142 φ.v147 φ.v148 xori ::
  StableHlo.TRef.binary φ.v142 φ.v148 φ.v149 addi ::
  StableHlo.TRef.nullary φ.c_38 (constantI S_ 32 15#32) ::
  StableHlo.TRef.unary φ.c_38 φ.v150 (broadcastInDim S2 ![] bcast_S_S2) ::
  StableHlo.TRef.binary φ.v148 φ.v150 φ.v151 Host.shli ::
  StableHlo.TRef.nullary φ.c_39 (constantI S_ 32 17#32) ::
  StableHlo.TRef.unary φ.c_39 φ.v152 (broadcastInDim S2 ![] bcast_S_S2) ::
  StableHlo.TRef.binary φ.v148 φ.v152 φ.v153 Host.shrui ::
  StableHlo.TRef.binary φ.v151 φ.v153 φ.v154 ori ::
  StableHlo.TRef.binary φ.v149 φ.v154 φ.v155 xori ::
  StableHlo.TRef.binary φ.v149 φ.v155 φ.v156 addi ::
  StableHlo.TRef.nullary φ.c_40 (constantI S_ 32 26#32) ::
  StableHlo.TRef.unary φ.c_40 φ.v157 (broadcastInDim S2 ![] bcast_S_S2) ::
  StableHlo.TRef.binary φ.v155 φ.v157 φ.v158 Host.shli ::
  StableHlo.TRef.nullary φ.c_41 (constantI S_ 32 6#32) ::
  StableHlo.TRef.unary φ.c_41 φ.v159 (broadcastInDim S2 ![] bcast_S_S2) ::
  StableHlo.TRef.binary φ.v155 φ.v159 φ.v160 Host.shrui ::
  StableHlo.TRef.binary φ.v158 φ.v160 φ.v161 ori ::
  StableHlo.TRef.binary φ.v156 φ.v161 φ.v162 xori ::
  StableHlo.TRef.binary φ.v156 φ.v162 φ.v163 addi ::
  StableHlo.TRef.nullary φ.c_42 (constantI S_ 32 6#32) ::
  StableHlo.TRef.unary φ.c_42 φ.v164 (broadcastInDim S2 ![] bcast_S_S2) ::
  StableHlo.TRef.binary φ.v162 φ.v164 φ.v165 Host.shli ::
  StableHlo.TRef.nullary φ.c_43 (constantI S_ 32 26#32) ::
  StableHlo.TRef.unary φ.c_43 φ.v166 (broadcastInDim S2 ![] bcast_S_S2) ::
  StableHlo.TRef.binary φ.v162 φ.v166 φ.v167 Host.shrui ::
  StableHlo.TRef.binary φ.v165 φ.v167 φ.v168 ori ::
  StableHlo.TRef.binary φ.v163 φ.v168 φ.v169 xori ::
  StableHlo.TRef.unary φ.v1 φ.v170 (broadcastInDim S2 ![] bcast_S_S2) ::
  StableHlo.TRef.binary φ.v163 φ.v170 φ.v171 addi ::
  StableHlo.TRef.unary arg0 φ.v172 (broadcastInDim S2 ![] bcast_S_S2) ::
  StableHlo.TRef.binary φ.v169 φ.v172 φ.v173 addi ::
  StableHlo.TRef.nullary φ.c_44 (constantI S_ 32 5#32) ::
  StableHlo.TRef.unary φ.c_44 φ.v174 (broadcastInDim S2 ![] bcast_S_S2) ::
  StableHlo.TRef.binary φ.v173 φ.v174 φ.v175 addi ::
  l

theorem opsT3_seq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) (k : Host F) :
    (fn_threefry2x32.body_part3 arg0 arg1 arg2 arg3 φ >>= fun _ => StableHlo.seqK l k) = StableHlo.seqK (opsT3 arg0 arg1 arg2 arg3 φ l) k := by
  simp only [fn_threefry2x32.body_part3, opsT3, StableHlo.seqK, bind_assoc, pure_bind]

/-- The operations of `fn_threefry2x32.body`, followed by `l`. -/
def opsT (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) : Ops F :=
  opsT0 arg0 arg1 arg2 arg3 φ (opsT1 arg0 arg1 arg2 arg3 φ (opsT2 arg0 arg1 arg2 arg3 φ (opsT3 arg0 arg1 arg2 arg3 φ l)))

theorem opsT_seq (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (l : Ops F) (k : Host F) :
    (fn_threefry2x32.body arg0 arg1 arg2 arg3 φ >>= fun _ => StableHlo.seqK l k) = StableHlo.seqK (opsT arg0 arg1 arg2 arg3 φ l) k := by
  simp only [fn_threefry2x32.body, opsT, bind_assoc, pure_bind, opsT0_seq, opsT1_seq, opsT2_seq, opsT3_seq]

/-- The operations of `fn_threefry_split.body`, followed by `l`. -/
def opsSplit (arg0 : StableHlo.TRef sig ⟨S2, .i32⟩) (φ : fn_threefry_split.Bufs) (l : Ops F) : Ops F :=
  StableHlo.TRef.unary arg0 φ.v0 (extractStridedSlice S1 ![0] · slices_S2_S1_0) ::
  StableHlo.TRef.reshape φ.v0 φ.v1 (rfl : (.i32 : EltTy) = .i32) shapeCasts_S1_S_ ::
  StableHlo.TRef.unary arg0 φ.v2 (extractStridedSlice S1 ![1] · slices_S2_S1_1) ::
  StableHlo.TRef.reshape φ.v2 φ.v3 (rfl : (.i32 : EltTy) = .i32) shapeCasts_S1_S_ ::
  StableHlo.TRef.nullary φ.v4 (iotaInDim S2 64 0) ::
  StableHlo.TRef.nullary φ.c (constantI S_ 64 1#64) ::
  StableHlo.TRef.unary φ.c φ.v5 (broadcastInDim S2 ![] bcast_S_S2) ::
  StableHlo.TRef.binary φ.v5 φ.v4 φ.v6 muli ::
  StableHlo.TRef.nullary φ.c_0 (constantI S_ 64 32#64) ::
  StableHlo.TRef.unary φ.c_0 φ.v7 (broadcastInDim S2 ![] bcast_S_S2) ::
  StableHlo.TRef.binary φ.v6 φ.v7 φ.v8 Host.shrui ::
  StableHlo.TRef.unary φ.v6 φ.v9 (trunci 32 · natLt_32_64) ::
  StableHlo.TRef.unary φ.v8 φ.v10 (trunci 32 · natLt_32_64) ::
  opsT φ.v1 φ.v3 φ.v10 φ.v9 φ.call0 (
  StableHlo.TRef.unary φ.call0.v171 φ.v12 (broadcastInDim S2x1 ![0] bcast_S2_S2x1_0) ::
  StableHlo.TRef.unary φ.call0.v175 φ.v13 (broadcastInDim S2x1 ![0] bcast_S2_S2x1_0) ::
  StableHlo.TRef.binary φ.v12 φ.v13 φ.v14 (fun a b => concatenate S2x2 1 [⟨S2x1, a⟩, ⟨S2x1, b⟩] concatenates_S2x1_S2x1_S2x2_d1) ::
  l)

theorem opsSplit_seq (arg0 : StableHlo.TRef sig ⟨S2, .i32⟩) (φ : fn_threefry_split.Bufs) (l : Ops F) (k : Host F) :
    (fn_threefry_split.body arg0 φ >>= fun _ => StableHlo.seqK l k) = StableHlo.seqK (opsSplit arg0 φ l) k := by
  simp only [fn_threefry_split.body, opsSplit, StableHlo.seqK, bind_assoc, pure_bind, ← opsT_seq]

/-- The operations of `fn_threefry2x32_0.body_part0`, followed by `l`. -/
def opsB0 (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) : Ops F :=
  StableHlo.TRef.binary arg0 arg1 φ.v0 xori ::
  StableHlo.TRef.nullary φ.c (constantI S_ 32 466688986#32) ::
  StableHlo.TRef.binary φ.v0 φ.c φ.v1 xori ::
  StableHlo.TRef.unary arg0 φ.v2 (broadcastInDim S261632x2 ![] bcast_S_S261632x2) ::
  StableHlo.TRef.binary arg2 φ.v2 φ.v3 addi ::
  StableHlo.TRef.unary arg1 φ.v4 (broadcastInDim S261632x2 ![] bcast_S_S261632x2) ::
  StableHlo.TRef.binary arg3 φ.v4 φ.v5 addi ::
  StableHlo.TRef.binary φ.v3 φ.v5 φ.v6 addi ::
  StableHlo.TRef.nullary φ.c_0 (constantI S_ 32 13#32) ::
  StableHlo.TRef.unary φ.c_0 φ.v7 (broadcastInDim S261632x2 ![] bcast_S_S261632x2) ::
  StableHlo.TRef.binary φ.v5 φ.v7 φ.v8 Host.shli ::
  StableHlo.TRef.nullary φ.c_1 (constantI S_ 32 19#32) ::
  StableHlo.TRef.unary φ.c_1 φ.v9 (broadcastInDim S261632x2 ![] bcast_S_S261632x2) ::
  StableHlo.TRef.binary φ.v5 φ.v9 φ.v10 Host.shrui ::
  StableHlo.TRef.binary φ.v8 φ.v10 φ.v11 ori ::
  StableHlo.TRef.binary φ.v6 φ.v11 φ.v12 xori ::
  StableHlo.TRef.binary φ.v6 φ.v12 φ.v13 addi ::
  StableHlo.TRef.nullary φ.c_2 (constantI S_ 32 15#32) ::
  StableHlo.TRef.unary φ.c_2 φ.v14 (broadcastInDim S261632x2 ![] bcast_S_S261632x2) ::
  StableHlo.TRef.binary φ.v12 φ.v14 φ.v15 Host.shli ::
  StableHlo.TRef.nullary φ.c_3 (constantI S_ 32 17#32) ::
  StableHlo.TRef.unary φ.c_3 φ.v16 (broadcastInDim S261632x2 ![] bcast_S_S261632x2) ::
  StableHlo.TRef.binary φ.v12 φ.v16 φ.v17 Host.shrui ::
  StableHlo.TRef.binary φ.v15 φ.v17 φ.v18 ori ::
  StableHlo.TRef.binary φ.v13 φ.v18 φ.v19 xori ::
  StableHlo.TRef.binary φ.v13 φ.v19 φ.v20 addi ::
  StableHlo.TRef.nullary φ.c_4 (constantI S_ 32 26#32) ::
  StableHlo.TRef.unary φ.c_4 φ.v21 (broadcastInDim S261632x2 ![] bcast_S_S261632x2) ::
  StableHlo.TRef.binary φ.v19 φ.v21 φ.v22 Host.shli ::
  StableHlo.TRef.nullary φ.c_5 (constantI S_ 32 6#32) ::
  StableHlo.TRef.unary φ.c_5 φ.v23 (broadcastInDim S261632x2 ![] bcast_S_S261632x2) ::
  StableHlo.TRef.binary φ.v19 φ.v23 φ.v24 Host.shrui ::
  StableHlo.TRef.binary φ.v22 φ.v24 φ.v25 ori ::
  StableHlo.TRef.binary φ.v20 φ.v25 φ.v26 xori ::
  StableHlo.TRef.binary φ.v20 φ.v26 φ.v27 addi ::
  StableHlo.TRef.nullary φ.c_6 (constantI S_ 32 6#32) ::
  StableHlo.TRef.unary φ.c_6 φ.v28 (broadcastInDim S261632x2 ![] bcast_S_S261632x2) ::
  StableHlo.TRef.binary φ.v26 φ.v28 φ.v29 Host.shli ::
  StableHlo.TRef.nullary φ.c_7 (constantI S_ 32 26#32) ::
  StableHlo.TRef.unary φ.c_7 φ.v30 (broadcastInDim S261632x2 ![] bcast_S_S261632x2) ::
  StableHlo.TRef.binary φ.v26 φ.v30 φ.v31 Host.shrui ::
  StableHlo.TRef.binary φ.v29 φ.v31 φ.v32 ori ::
  StableHlo.TRef.binary φ.v27 φ.v32 φ.v33 xori ::
  StableHlo.TRef.unary arg1 φ.v34 (broadcastInDim S261632x2 ![] bcast_S_S261632x2) ::
  StableHlo.TRef.binary φ.v27 φ.v34 φ.v35 addi ::
  StableHlo.TRef.unary φ.v1 φ.v36 (broadcastInDim S261632x2 ![] bcast_S_S261632x2) ::
  StableHlo.TRef.binary φ.v33 φ.v36 φ.v37 addi ::
  StableHlo.TRef.nullary φ.c_8 (constantI S_ 32 1#32) ::
  StableHlo.TRef.unary φ.c_8 φ.v38 (broadcastInDim S261632x2 ![] bcast_S_S261632x2) ::
  StableHlo.TRef.binary φ.v37 φ.v38 φ.v39 addi ::
  StableHlo.TRef.binary φ.v35 φ.v39 φ.v40 addi ::
  StableHlo.TRef.nullary φ.c_9 (constantI S_ 32 17#32) ::
  StableHlo.TRef.unary φ.c_9 φ.v41 (broadcastInDim S261632x2 ![] bcast_S_S261632x2) ::
  StableHlo.TRef.binary φ.v39 φ.v41 φ.v42 Host.shli ::
  StableHlo.TRef.nullary φ.c_10 (constantI S_ 32 15#32) ::
  StableHlo.TRef.unary φ.c_10 φ.v43 (broadcastInDim S261632x2 ![] bcast_S_S261632x2) ::
  StableHlo.TRef.binary φ.v39 φ.v43 φ.v44 Host.shrui ::
  StableHlo.TRef.binary φ.v42 φ.v44 φ.v45 ori ::
  StableHlo.TRef.binary φ.v40 φ.v45 φ.v46 xori ::
  StableHlo.TRef.binary φ.v40 φ.v46 φ.v47 addi ::
  l

theorem opsB0_seq (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) (k : Host F) :
    (fn_threefry2x32_0.body_part0 arg0 arg1 arg2 arg3 φ >>= fun _ => StableHlo.seqK l k) = StableHlo.seqK (opsB0 arg0 arg1 arg2 arg3 φ l) k := by
  simp only [fn_threefry2x32_0.body_part0, opsB0, StableHlo.seqK, bind_assoc, pure_bind]

/-- The operations of `fn_threefry2x32_0.body_part1`, followed by `l`. -/
def opsB1 (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) : Ops F :=
  StableHlo.TRef.nullary φ.c_11 (constantI S_ 32 29#32) ::
  StableHlo.TRef.unary φ.c_11 φ.v48 (broadcastInDim S261632x2 ![] bcast_S_S261632x2) ::
  StableHlo.TRef.binary φ.v46 φ.v48 φ.v49 Host.shli ::
  StableHlo.TRef.nullary φ.c_12 (constantI S_ 32 3#32) ::
  StableHlo.TRef.unary φ.c_12 φ.v50 (broadcastInDim S261632x2 ![] bcast_S_S261632x2) ::
  StableHlo.TRef.binary φ.v46 φ.v50 φ.v51 Host.shrui ::
  StableHlo.TRef.binary φ.v49 φ.v51 φ.v52 ori ::
  StableHlo.TRef.binary φ.v47 φ.v52 φ.v53 xori ::
  StableHlo.TRef.binary φ.v47 φ.v53 φ.v54 addi ::
  StableHlo.TRef.nullary φ.c_13 (constantI S_ 32 16#32) ::
  StableHlo.TRef.unary φ.c_13 φ.v55 (broadcastInDim S261632x2 ![] bcast_S_S261632x2) ::
  StableHlo.TRef.binary φ.v53 φ.v55 φ.v56 Host.shli ::
  StableHlo.TRef.nullary φ.c_14 (constantI S_ 32 16#32) ::
  StableHlo.TRef.unary φ.c_14 φ.v57 (broadcastInDim S261632x2 ![] bcast_S_S261632x2) ::
  StableHlo.TRef.binary φ.v53 φ.v57 φ.v58 Host.shrui ::
  StableHlo.TRef.binary φ.v56 φ.v58 φ.v59 ori ::
  StableHlo.TRef.binary φ.v54 φ.v59 φ.v60 xori ::
  StableHlo.TRef.binary φ.v54 φ.v60 φ.v61 addi ::
  StableHlo.TRef.nullary φ.c_15 (constantI S_ 32 24#32) ::
  StableHlo.TRef.unary φ.c_15 φ.v62 (broadcastInDim S261632x2 ![] bcast_S_S261632x2) ::
  StableHlo.TRef.binary φ.v60 φ.v62 φ.v63 Host.shli ::
  StableHlo.TRef.nullary φ.c_16 (constantI S_ 32 8#32) ::
  StableHlo.TRef.unary φ.c_16 φ.v64 (broadcastInDim S261632x2 ![] bcast_S_S261632x2) ::
  StableHlo.TRef.binary φ.v60 φ.v64 φ.v65 Host.shrui ::
  StableHlo.TRef.binary φ.v63 φ.v65 φ.v66 ori ::
  StableHlo.TRef.binary φ.v61 φ.v66 φ.v67 xori ::
  StableHlo.TRef.unary φ.v1 φ.v68 (broadcastInDim S261632x2 ![] bcast_S_S261632x2) ::
  StableHlo.TRef.binary φ.v61 φ.v68 φ.v69 addi ::
  StableHlo.TRef.unary arg0 φ.v70 (broadcastInDim S261632x2 ![] bcast_S_S261632x2) ::
  StableHlo.TRef.binary φ.v67 φ.v70 φ.v71 addi ::
  StableHlo.TRef.nullary φ.c_17 (constantI S_ 32 2#32) ::
  StableHlo.TRef.unary φ.c_17 φ.v72 (broadcastInDim S261632x2 ![] bcast_S_S261632x2) ::
  StableHlo.TRef.binary φ.v71 φ.v72 φ.v73 addi ::
  StableHlo.TRef.binary φ.v69 φ.v73 φ.v74 addi ::
  StableHlo.TRef.nullary φ.c_18 (constantI S_ 32 13#32) ::
  StableHlo.TRef.unary φ.c_18 φ.v75 (broadcastInDim S261632x2 ![] bcast_S_S261632x2) ::
  StableHlo.TRef.binary φ.v73 φ.v75 φ.v76 Host.shli ::
  StableHlo.TRef.nullary φ.c_19 (constantI S_ 32 19#32) ::
  StableHlo.TRef.unary φ.c_19 φ.v77 (broadcastInDim S261632x2 ![] bcast_S_S261632x2) ::
  StableHlo.TRef.binary φ.v73 φ.v77 φ.v78 Host.shrui ::
  StableHlo.TRef.binary φ.v76 φ.v78 φ.v79 ori ::
  StableHlo.TRef.binary φ.v74 φ.v79 φ.v80 xori ::
  StableHlo.TRef.binary φ.v74 φ.v80 φ.v81 addi ::
  StableHlo.TRef.nullary φ.c_20 (constantI S_ 32 15#32) ::
  StableHlo.TRef.unary φ.c_20 φ.v82 (broadcastInDim S261632x2 ![] bcast_S_S261632x2) ::
  StableHlo.TRef.binary φ.v80 φ.v82 φ.v83 Host.shli ::
  StableHlo.TRef.nullary φ.c_21 (constantI S_ 32 17#32) ::
  StableHlo.TRef.unary φ.c_21 φ.v84 (broadcastInDim S261632x2 ![] bcast_S_S261632x2) ::
  StableHlo.TRef.binary φ.v80 φ.v84 φ.v85 Host.shrui ::
  StableHlo.TRef.binary φ.v83 φ.v85 φ.v86 ori ::
  StableHlo.TRef.binary φ.v81 φ.v86 φ.v87 xori ::
  StableHlo.TRef.binary φ.v81 φ.v87 φ.v88 addi ::
  StableHlo.TRef.nullary φ.c_22 (constantI S_ 32 26#32) ::
  StableHlo.TRef.unary φ.c_22 φ.v89 (broadcastInDim S261632x2 ![] bcast_S_S261632x2) ::
  StableHlo.TRef.binary φ.v87 φ.v89 φ.v90 Host.shli ::
  StableHlo.TRef.nullary φ.c_23 (constantI S_ 32 6#32) ::
  StableHlo.TRef.unary φ.c_23 φ.v91 (broadcastInDim S261632x2 ![] bcast_S_S261632x2) ::
  StableHlo.TRef.binary φ.v87 φ.v91 φ.v92 Host.shrui ::
  StableHlo.TRef.binary φ.v90 φ.v92 φ.v93 ori ::
  StableHlo.TRef.binary φ.v88 φ.v93 φ.v94 xori ::
  l

theorem opsB1_seq (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) (k : Host F) :
    (fn_threefry2x32_0.body_part1 arg0 arg1 arg2 arg3 φ >>= fun _ => StableHlo.seqK l k) = StableHlo.seqK (opsB1 arg0 arg1 arg2 arg3 φ l) k := by
  simp only [fn_threefry2x32_0.body_part1, opsB1, StableHlo.seqK, bind_assoc, pure_bind]

/-- The operations of `fn_threefry2x32_0.body_part2`, followed by `l`. -/
def opsB2 (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) : Ops F :=
  StableHlo.TRef.binary φ.v88 φ.v94 φ.v95 addi ::
  StableHlo.TRef.nullary φ.c_24 (constantI S_ 32 6#32) ::
  StableHlo.TRef.unary φ.c_24 φ.v96 (broadcastInDim S261632x2 ![] bcast_S_S261632x2) ::
  StableHlo.TRef.binary φ.v94 φ.v96 φ.v97 Host.shli ::
  StableHlo.TRef.nullary φ.c_25 (constantI S_ 32 26#32) ::
  StableHlo.TRef.unary φ.c_25 φ.v98 (broadcastInDim S261632x2 ![] bcast_S_S261632x2) ::
  StableHlo.TRef.binary φ.v94 φ.v98 φ.v99 Host.shrui ::
  StableHlo.TRef.binary φ.v97 φ.v99 φ.v100 ori ::
  StableHlo.TRef.binary φ.v95 φ.v100 φ.v101 xori ::
  StableHlo.TRef.unary arg0 φ.v102 (broadcastInDim S261632x2 ![] bcast_S_S261632x2) ::
  StableHlo.TRef.binary φ.v95 φ.v102 φ.v103 addi ::
  StableHlo.TRef.unary arg1 φ.v104 (broadcastInDim S261632x2 ![] bcast_S_S261632x2) ::
  StableHlo.TRef.binary φ.v101 φ.v104 φ.v105 addi ::
  StableHlo.TRef.nullary φ.c_26 (constantI S_ 32 3#32) ::
  StableHlo.TRef.unary φ.c_26 φ.v106 (broadcastInDim S261632x2 ![] bcast_S_S261632x2) ::
  StableHlo.TRef.binary φ.v105 φ.v106 φ.v107 addi ::
  StableHlo.TRef.binary φ.v103 φ.v107 φ.v108 addi ::
  StableHlo.TRef.nullary φ.c_27 (constantI S_ 32 17#32) ::
  StableHlo.TRef.unary φ.c_27 φ.v109 (broadcastInDim S261632x2 ![] bcast_S_S261632x2) ::
  StableHlo.TRef.binary φ.v107 φ.v109 φ.v110 Host.shli ::
  StableHlo.TRef.nullary φ.c_28 (constantI S_ 32 15#32) ::
  StableHlo.TRef.unary φ.c_28 φ.v111 (broadcastInDim S261632x2 ![] bcast_S_S261632x2) ::
  StableHlo.TRef.binary φ.v107 φ.v111 φ.v112 Host.shrui ::
  StableHlo.TRef.binary φ.v110 φ.v112 φ.v113 ori ::
  StableHlo.TRef.binary φ.v108 φ.v113 φ.v114 xori ::
  StableHlo.TRef.binary φ.v108 φ.v114 φ.v115 addi ::
  StableHlo.TRef.nullary φ.c_29 (constantI S_ 32 29#32) ::
  StableHlo.TRef.unary φ.c_29 φ.v116 (broadcastInDim S261632x2 ![] bcast_S_S261632x2) ::
  StableHlo.TRef.binary φ.v114 φ.v116 φ.v117 Host.shli ::
  StableHlo.TRef.nullary φ.c_30 (constantI S_ 32 3#32) ::
  StableHlo.TRef.unary φ.c_30 φ.v118 (broadcastInDim S261632x2 ![] bcast_S_S261632x2) ::
  StableHlo.TRef.binary φ.v114 φ.v118 φ.v119 Host.shrui ::
  StableHlo.TRef.binary φ.v117 φ.v119 φ.v120 ori ::
  StableHlo.TRef.binary φ.v115 φ.v120 φ.v121 xori ::
  StableHlo.TRef.binary φ.v115 φ.v121 φ.v122 addi ::
  StableHlo.TRef.nullary φ.c_31 (constantI S_ 32 16#32) ::
  StableHlo.TRef.unary φ.c_31 φ.v123 (broadcastInDim S261632x2 ![] bcast_S_S261632x2) ::
  StableHlo.TRef.binary φ.v121 φ.v123 φ.v124 Host.shli ::
  StableHlo.TRef.nullary φ.c_32 (constantI S_ 32 16#32) ::
  StableHlo.TRef.unary φ.c_32 φ.v125 (broadcastInDim S261632x2 ![] bcast_S_S261632x2) ::
  StableHlo.TRef.binary φ.v121 φ.v125 φ.v126 Host.shrui ::
  StableHlo.TRef.binary φ.v124 φ.v126 φ.v127 ori ::
  StableHlo.TRef.binary φ.v122 φ.v127 φ.v128 xori ::
  StableHlo.TRef.binary φ.v122 φ.v128 φ.v129 addi ::
  StableHlo.TRef.nullary φ.c_33 (constantI S_ 32 24#32) ::
  StableHlo.TRef.unary φ.c_33 φ.v130 (broadcastInDim S261632x2 ![] bcast_S_S261632x2) ::
  StableHlo.TRef.binary φ.v128 φ.v130 φ.v131 Host.shli ::
  StableHlo.TRef.nullary φ.c_34 (constantI S_ 32 8#32) ::
  StableHlo.TRef.unary φ.c_34 φ.v132 (broadcastInDim S261632x2 ![] bcast_S_S261632x2) ::
  StableHlo.TRef.binary φ.v128 φ.v132 φ.v133 Host.shrui ::
  StableHlo.TRef.binary φ.v131 φ.v133 φ.v134 ori ::
  StableHlo.TRef.binary φ.v129 φ.v134 φ.v135 xori ::
  StableHlo.TRef.unary arg1 φ.v136 (broadcastInDim S261632x2 ![] bcast_S_S261632x2) ::
  StableHlo.TRef.binary φ.v129 φ.v136 φ.v137 addi ::
  StableHlo.TRef.unary φ.v1 φ.v138 (broadcastInDim S261632x2 ![] bcast_S_S261632x2) ::
  StableHlo.TRef.binary φ.v135 φ.v138 φ.v139 addi ::
  StableHlo.TRef.nullary φ.c_35 (constantI S_ 32 4#32) ::
  StableHlo.TRef.unary φ.c_35 φ.v140 (broadcastInDim S261632x2 ![] bcast_S_S261632x2) ::
  StableHlo.TRef.binary φ.v139 φ.v140 φ.v141 addi ::
  StableHlo.TRef.binary φ.v137 φ.v141 φ.v142 addi ::
  l

theorem opsB2_seq (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) (k : Host F) :
    (fn_threefry2x32_0.body_part2 arg0 arg1 arg2 arg3 φ >>= fun _ => StableHlo.seqK l k) = StableHlo.seqK (opsB2 arg0 arg1 arg2 arg3 φ l) k := by
  simp only [fn_threefry2x32_0.body_part2, opsB2, StableHlo.seqK, bind_assoc, pure_bind]

/-- The operations of `fn_threefry2x32_0.body_part3`, followed by `l`. -/
def opsB3 (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) : Ops F :=
  StableHlo.TRef.nullary φ.c_36 (constantI S_ 32 13#32) ::
  StableHlo.TRef.unary φ.c_36 φ.v143 (broadcastInDim S261632x2 ![] bcast_S_S261632x2) ::
  StableHlo.TRef.binary φ.v141 φ.v143 φ.v144 Host.shli ::
  StableHlo.TRef.nullary φ.c_37 (constantI S_ 32 19#32) ::
  StableHlo.TRef.unary φ.c_37 φ.v145 (broadcastInDim S261632x2 ![] bcast_S_S261632x2) ::
  StableHlo.TRef.binary φ.v141 φ.v145 φ.v146 Host.shrui ::
  StableHlo.TRef.binary φ.v144 φ.v146 φ.v147 ori ::
  StableHlo.TRef.binary φ.v142 φ.v147 φ.v148 xori ::
  StableHlo.TRef.binary φ.v142 φ.v148 φ.v149 addi ::
  StableHlo.TRef.nullary φ.c_38 (constantI S_ 32 15#32) ::
  StableHlo.TRef.unary φ.c_38 φ.v150 (broadcastInDim S261632x2 ![] bcast_S_S261632x2) ::
  StableHlo.TRef.binary φ.v148 φ.v150 φ.v151 Host.shli ::
  StableHlo.TRef.nullary φ.c_39 (constantI S_ 32 17#32) ::
  StableHlo.TRef.unary φ.c_39 φ.v152 (broadcastInDim S261632x2 ![] bcast_S_S261632x2) ::
  StableHlo.TRef.binary φ.v148 φ.v152 φ.v153 Host.shrui ::
  StableHlo.TRef.binary φ.v151 φ.v153 φ.v154 ori ::
  StableHlo.TRef.binary φ.v149 φ.v154 φ.v155 xori ::
  StableHlo.TRef.binary φ.v149 φ.v155 φ.v156 addi ::
  StableHlo.TRef.nullary φ.c_40 (constantI S_ 32 26#32) ::
  StableHlo.TRef.unary φ.c_40 φ.v157 (broadcastInDim S261632x2 ![] bcast_S_S261632x2) ::
  StableHlo.TRef.binary φ.v155 φ.v157 φ.v158 Host.shli ::
  StableHlo.TRef.nullary φ.c_41 (constantI S_ 32 6#32) ::
  StableHlo.TRef.unary φ.c_41 φ.v159 (broadcastInDim S261632x2 ![] bcast_S_S261632x2) ::
  StableHlo.TRef.binary φ.v155 φ.v159 φ.v160 Host.shrui ::
  StableHlo.TRef.binary φ.v158 φ.v160 φ.v161 ori ::
  StableHlo.TRef.binary φ.v156 φ.v161 φ.v162 xori ::
  StableHlo.TRef.binary φ.v156 φ.v162 φ.v163 addi ::
  StableHlo.TRef.nullary φ.c_42 (constantI S_ 32 6#32) ::
  StableHlo.TRef.unary φ.c_42 φ.v164 (broadcastInDim S261632x2 ![] bcast_S_S261632x2) ::
  StableHlo.TRef.binary φ.v162 φ.v164 φ.v165 Host.shli ::
  StableHlo.TRef.nullary φ.c_43 (constantI S_ 32 26#32) ::
  StableHlo.TRef.unary φ.c_43 φ.v166 (broadcastInDim S261632x2 ![] bcast_S_S261632x2) ::
  StableHlo.TRef.binary φ.v162 φ.v166 φ.v167 Host.shrui ::
  StableHlo.TRef.binary φ.v165 φ.v167 φ.v168 ori ::
  StableHlo.TRef.binary φ.v163 φ.v168 φ.v169 xori ::
  StableHlo.TRef.unary φ.v1 φ.v170 (broadcastInDim S261632x2 ![] bcast_S_S261632x2) ::
  StableHlo.TRef.binary φ.v163 φ.v170 φ.v171 addi ::
  StableHlo.TRef.unary arg0 φ.v172 (broadcastInDim S261632x2 ![] bcast_S_S261632x2) ::
  StableHlo.TRef.binary φ.v169 φ.v172 φ.v173 addi ::
  StableHlo.TRef.nullary φ.c_44 (constantI S_ 32 5#32) ::
  StableHlo.TRef.unary φ.c_44 φ.v174 (broadcastInDim S261632x2 ![] bcast_S_S261632x2) ::
  StableHlo.TRef.binary φ.v173 φ.v174 φ.v175 addi ::
  l

theorem opsB3_seq (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) (k : Host F) :
    (fn_threefry2x32_0.body_part3 arg0 arg1 arg2 arg3 φ >>= fun _ => StableHlo.seqK l k) = StableHlo.seqK (opsB3 arg0 arg1 arg2 arg3 φ l) k := by
  simp only [fn_threefry2x32_0.body_part3, opsB3, StableHlo.seqK, bind_assoc, pure_bind]

/-- The operations of `fn_threefry2x32_0.body`, followed by `l`. -/
def opsB (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) : Ops F :=
  opsB0 arg0 arg1 arg2 arg3 φ (opsB1 arg0 arg1 arg2 arg3 φ (opsB2 arg0 arg1 arg2 arg3 φ (opsB3 arg0 arg1 arg2 arg3 φ l)))

theorem opsB_seq (arg0 : StableHlo.TRef sig ⟨S_, .i32⟩) (arg1 : StableHlo.TRef sig ⟨S_, .i32⟩) (arg2 : StableHlo.TRef sig ⟨S261632x2, .i32⟩) (arg3 : StableHlo.TRef sig ⟨S261632x2, .i32⟩) (φ : fn_threefry2x32_0.Bufs) (l : Ops F) (k : Host F) :
    (fn_threefry2x32_0.body arg0 arg1 arg2 arg3 φ >>= fun _ => StableHlo.seqK l k) = StableHlo.seqK (opsB arg0 arg1 arg2 arg3 φ l) k := by
  simp only [fn_threefry2x32_0.body, opsB, bind_assoc, pure_bind, opsB0_seq, opsB1_seq, opsB2_seq, opsB3_seq]

/-- The operations of `fn_uniform.body`, followed by `l`. -/
def opsUniform (arg0 : StableHlo.TRef sig ⟨S2, .i32⟩) (arg1 : StableHlo.TRef sig ⟨S_, .f32⟩) (arg2 : StableHlo.TRef sig ⟨S_, .f32⟩) (φ : fn_uniform.Bufs) (l : Ops F) : Ops F :=
  StableHlo.TRef.unary arg1 φ.v0 id ::
  StableHlo.TRef.unary arg2 φ.v1 id ::
  StableHlo.TRef.unary φ.v0 φ.v2 (broadcastInDim S1x1 ![] bcast_S_S1x1) ::
  StableHlo.TRef.unary φ.v1 φ.v3 (broadcastInDim S1x1 ![] bcast_S_S1x1) ::
  StableHlo.TRef.unary arg0 φ.v4 (extractStridedSlice S1 ![0] · slices_S2_S1_0) ::
  StableHlo.TRef.reshape φ.v4 φ.v5 (rfl : (.i32 : EltTy) = .i32) shapeCasts_S1_S_ ::
  StableHlo.TRef.unary arg0 φ.v6 (extractStridedSlice S1 ![1] · slices_S2_S1_1) ::
  StableHlo.TRef.reshape φ.v6 φ.v7 (rfl : (.i32 : EltTy) = .i32) shapeCasts_S1_S_ ::
  StableHlo.TRef.nullary φ.v8 (iotaInDim S261632x2 64 0) ::
  StableHlo.TRef.nullary φ.v9 (iotaInDim S261632x2 64 1) ::
  StableHlo.TRef.nullary φ.c (constantI S_ 64 2#64) ::
  StableHlo.TRef.unary φ.c φ.v10 (broadcastInDim S261632x2 ![] bcast_S_S261632x2) ::
  StableHlo.TRef.binary φ.v10 φ.v8 φ.v11 muli ::
  StableHlo.TRef.nullary φ.c_0 (constantI S_ 64 1#64) ::
  StableHlo.TRef.unary φ.c_0 φ.v12 (broadcastInDim S261632x2 ![] bcast_S_S261632x2) ::
  StableHlo.TRef.binary φ.v12 φ.v9 φ.v13 muli ::
  StableHlo.TRef.binary φ.v11 φ.v13 φ.v14 addi ::
  StableHlo.TRef.nullary φ.c_1 (constantI S_ 64 32#64) ::
  StableHlo.TRef.unary φ.c_1 φ.v15 (broadcastInDim S261632x2 ![] bcast_S_S261632x2) ::
  StableHlo.TRef.binary φ.v14 φ.v15 φ.v16 Host.shrui ::
  StableHlo.TRef.unary φ.v14 φ.v17 (trunci 32 · natLt_32_64) ::
  StableHlo.TRef.unary φ.v16 φ.v18 (trunci 32 · natLt_32_64) ::
  opsB φ.v5 φ.v7 φ.v18 φ.v17 φ.call0 (
  StableHlo.TRef.binary φ.call0.v171 φ.call0.v175 φ.v20 xori ::
  StableHlo.TRef.nullary φ.c_2 (constantI S_ 32 9#32) ::
  StableHlo.TRef.unary φ.c_2 φ.v21 (broadcastInDim S261632x2 ![] bcast_S_S261632x2) ::
  StableHlo.TRef.binary φ.v20 φ.v21 φ.v22 Host.shrui ::
  StableHlo.TRef.nullary φ.c_3 (constantI S_ 32 1065353216#32) ::
  StableHlo.TRef.unary φ.c_3 φ.v23 (broadcastInDim S261632x2 ![] bcast_S_S261632x2) ::
  StableHlo.TRef.binary φ.v22 φ.v23 φ.v24 ori ::
  StableHlo.TRef.unary φ.v24 φ.v25 (bitcastToFloat (F := F) .f32) ::
  StableHlo.TRef.nullary φ.cst (constant S_ .f32 0x3F800000#32) ::
  StableHlo.TRef.unary φ.cst φ.v26 (broadcastInDim S261632x2 ![] bcast_S_S261632x2) ::
  StableHlo.TRef.binary φ.v25 φ.v26 φ.v27 subf ::
  StableHlo.TRef.binary φ.v3 φ.v2 φ.v28 subf ::
  StableHlo.TRef.unary φ.v28 φ.v29 (broadcastInDim S261632x2 ![0, 1] bcast_S1x1_S261632x2_0_1) ::
  StableHlo.TRef.binary φ.v27 φ.v29 φ.v30 mulf ::
  StableHlo.TRef.unary φ.v2 φ.v31 (broadcastInDim S261632x2 ![0, 1] bcast_S1x1_S261632x2_0_1) ::
  StableHlo.TRef.binary φ.v30 φ.v31 φ.v32 addf ::
  StableHlo.TRef.unary φ.v2 φ.v33 (broadcastInDim S261632x2 ![0, 1] bcast_S1x1_S261632x2_0_1) ::
  StableHlo.TRef.binary φ.v33 φ.v32 φ.v34 maximumf ::
  l)

theorem opsUniform_seq (arg0 : StableHlo.TRef sig ⟨S2, .i32⟩) (arg1 : StableHlo.TRef sig ⟨S_, .f32⟩) (arg2 : StableHlo.TRef sig ⟨S_, .f32⟩) (φ : fn_uniform.Bufs) (l : Ops F) (k : Host F) :
    (fn_uniform.body arg0 arg1 arg2 φ >>= fun _ => StableHlo.seqK l k) = StableHlo.seqK (opsUniform arg0 arg1 arg2 φ l) k := by
  simp only [fn_uniform.body, opsUniform, StableHlo.seqK, bind_assoc, pure_bind, ← opsB_seq]

/-- 25 operations of @main, in order. -/
abbrev ops0 : Ops F :=
  [ StableHlo.nullary main_v0 (iotaInDim S512x511 32 0),
    StableHlo.nullary main_v1 (iotaInDim S512x511 32 1),
    StableHlo.binary main_v1 main_v0 main_v2 (cmpi .sge : (⟨S512x511, .i32⟩ : BufTy).Contents (Elt F) → (⟨S512x511, .i32⟩ : BufTy).Contents (Elt F) → (⟨S512x511, .i1⟩ : BufTy).Contents (Elt F)),
    StableHlo.nullary main_c (constantI S_ 32 1#32),
    StableHlo.unary main_c main_v3 (broadcastInDim S512x511 ![] bcast_S_S512x511 : (⟨S_, .i32⟩ : BufTy).Contents (Elt F) → (⟨S512x511, .i32⟩ : BufTy).Contents (Elt F)),
    StableHlo.binary main_v1 main_v3 main_v4 (addi : (⟨S512x511, .i32⟩ : BufTy).Contents (Elt F) → (⟨S512x511, .i32⟩ : BufTy).Contents (Elt F) → (⟨S512x511, .i32⟩ : BufTy).Contents (Elt F)),
    StableHlo.TRef.ternary (.of main_v2) (.of main_v4) (.of main_v1) main_call0.v0 select,
    StableHlo.reshape main_v0 main_v6 (rfl : (.i32 : EltTy) = .i32) shapeCasts_S512x511_S261632,
    StableHlo.reshape main_v5 main_v7 (rfl : (.i32 : EltTy) = .i32) shapeCasts_S512x511_S261632,
    StableHlo.unary main_arg1 main_v8 ((transpose S128x64 [1, 0] · transposes_S64x128_S128x64_1_0) : (⟨S64x128, .f32⟩ : BufTy).Contents (Elt F) → (⟨S128x64, .f32⟩ : BufTy).Contents (Elt F)),
    StableHlo.binary main_arg0 main_v8 main_v9 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),
    StableHlo.unary main_arg2 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S512x64 ![0, 1] bcast_S1x64_S512x64_0_1 : (⟨S1x64, .f32⟩ : BufTy).Contents (Elt F) → (⟨S512x64, .f32⟩ : BufTy).Contents (Elt F)),
    StableHlo.binary main_v9 main_v11 main_v12 (addf : (⟨S512x64, .f32⟩ : BufTy).Contents (Elt F) → (⟨S512x64, .f32⟩ : BufTy).Contents (Elt F) → (⟨S512x64, .f32⟩ : BufTy).Contents (Elt F)),
    StableHlo.unary main_v12 main_v13 (Host.tanh : (⟨S512x64, .f32⟩ : BufTy).Contents (Elt F) → (⟨S512x64, .f32⟩ : BufTy).Contents (Elt F)),
    StableHlo.nullary main_c_0 (constantI S_ 32 42#32),
    StableHlo.nullary main_c_1 (constantI S_ 32 32#32),
    StableHlo.binary main_c_0 main_c_1 main_v14 (Host.shrui : (⟨S_, .i32⟩ : BufTy).Contents (Elt F) → (⟨S_, .i32⟩ : BufTy).Contents (Elt F) → (⟨S_, .i32⟩ : BufTy).Contents (Elt F)),
    StableHlo.unary main_v14 main_v15 (id : (⟨S_, .i32⟩ : BufTy).Contents (Elt F) → (⟨S_, .i32⟩ : BufTy).Contents (Elt F)),
    StableHlo.unary main_v15 main_v16 (broadcastInDim S1 ![] bcast_S_S1 : (⟨S_, .i32⟩ : BufTy).Contents (Elt F) → (⟨S1, .i32⟩ : BufTy).Contents (Elt F)),
    StableHlo.nullary main_c_2 (constantI S_ 32 4294967295#32),
    StableHlo.binary main_c_0 main_c_2 main_v17 (andi : (⟨S_, .i32⟩ : BufTy).Contents (Elt F) → (⟨S_, .i32⟩ : BufTy).Contents (Elt F) → (⟨S_, .i32⟩ : BufTy).Contents (Elt F)),
    StableHlo.unary main_v17 main_v18 (id : (⟨S_, .i32⟩ : BufTy).Contents (Elt F) → (⟨S_, .i32⟩ : BufTy).Contents (Elt F)),
    StableHlo.unary main_v18 main_v19 (broadcastInDim S1 ![] bcast_S_S1 : (⟨S_, .i32⟩ : BufTy).Contents (Elt F) → (⟨S1, .i32⟩ : BufTy).Contents (Elt F)),
    StableHlo.binary main_v16 main_v19 main_v20 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- 34 operations of @main, in order. -/
abbrev ops1 : Ops F :=
  [ StableHlo.unary main_v21 main_v22 ((extractStridedSlice S1x2 ![0, 0] · slices_S2x2_S1x2_0_0) : (⟨S2x2, .i32⟩ : BufTy).Contents (Elt F) → (⟨S1x2, .i32⟩ : BufTy).Contents (Elt F)),
    StableHlo.reshape main_v22 main_v23 (rfl : (.i32 : EltTy) = .i32) shapeCasts_S1x2_S2,
    StableHlo.unary main_v21 main_v24 ((extractStridedSlice S1x2 ![1, 0] · slices_S2x2_S1x2_1_0) : (⟨S2x2, .i32⟩ : BufTy).Contents (Elt F) → (⟨S1x2, .i32⟩ : BufTy).Contents (Elt F)),
    StableHlo.reshape main_v24 main_v25 (rfl : (.i32 : EltTy) = .i32) shapeCasts_S1x2_S2,
    StableHlo.nullary main_c_3 (constantI S_ 32 0#32),
    StableHlo.unary main_c_3 main_v26 (broadcastInDim S261632 ![] bcast_S_S261632 : (⟨S_, .i32⟩ : BufTy).Contents (Elt F) → (⟨S261632, .i32⟩ : BufTy).Contents (Elt F)),
    StableHlo.binary main_v6 main_v26 main_v27 (cmpi .slt : (⟨S261632, .i32⟩ : BufTy).Contents (Elt F) → (⟨S261632, .i32⟩ : BufTy).Contents (Elt F) → (⟨S261632, .i1⟩ : BufTy).Contents (Elt F)),
    StableHlo.nullary main_c_4 (constantI S_ 32 512#32),
    StableHlo.unary main_c_4 main_v28 (broadcastInDim S261632 ![] bcast_S_S261632 : (⟨S_, .i32⟩ : BufTy).Contents (Elt F) → (⟨S261632, .i32⟩ : BufTy).Contents (Elt F)),
    StableHlo.binary main_v6 main_v28 main_v29 (addi : (⟨S261632, .i32⟩ : BufTy).Contents (Elt F) → (⟨S261632, .i32⟩ : BufTy).Contents (Elt F) → (⟨S261632, .i32⟩ : BufTy).Contents (Elt F)),
    StableHlo.ternary main_v27 main_v29 main_v6 main_v30 (select : (⟨S261632, .i1⟩ : BufTy).Contents (Elt F) → (⟨S261632, .i32⟩ : BufTy).Contents (Elt F) → (⟨S261632, .i32⟩ : BufTy).Contents (Elt F) → (⟨S261632, .i32⟩ : BufTy).Contents (Elt F)),
    StableHlo.unary main_v30 main_v31 (broadcastInDim S261632x1 ![0] bcast_S261632_S261632x1_0 : (⟨S261632, .i32⟩ : BufTy).Contents (Elt F) → (⟨S261632x1, .i32⟩ : BufTy).Contents (Elt F)),
    StableHlo.binary main_v13 main_v31 main_v32 ((fun x i => Host.gather gather_S512x64_S261632x1_S261632x64_1_0_n_n_0_1_164 x i) : (⟨S512x64, .f32⟩ : BufTy).Contents (Elt F) → (⟨S261632x1, .i32⟩ : BufTy).Contents (Elt F) → (⟨S261632x64, .f32⟩ : BufTy).Contents (Elt F)),
    StableHlo.nullary main_c_5 (constantI S_ 32 0#32),
    StableHlo.unary main_c_5 main_v33 (broadcastInDim S261632 ![] bcast_S_S261632 : (⟨S_, .i32⟩ : BufTy).Contents (Elt F) → (⟨S261632, .i32⟩ : BufTy).Contents (Elt F)),
    StableHlo.binary main_v7 main_v33 main_v34 (cmpi .slt : (⟨S261632, .i32⟩ : BufTy).Contents (Elt F) → (⟨S261632, .i32⟩ : BufTy).Contents (Elt F) → (⟨S261632, .i1⟩ : BufTy).Contents (Elt F)),
    StableHlo.nullary main_c_6 (constantI S_ 32 512#32),
    StableHlo.unary main_c_6 main_v35 (broadcastInDim S261632 ![] bcast_S_S261632 : (⟨S_, .i32⟩ : BufTy).Contents (Elt F) → (⟨S261632, .i32⟩ : BufTy).Contents (Elt F)),
    StableHlo.binary main_v7 main_v35 main_v36 (addi : (⟨S261632, .i32⟩ : BufTy).Contents (Elt F) → (⟨S261632, .i32⟩ : BufTy).Contents (Elt F) → (⟨S261632, .i32⟩ : BufTy).Contents (Elt F)),
    StableHlo.ternary main_v34 main_v36 main_v7 main_v37 (select : (⟨S261632, .i1⟩ : BufTy).Contents (Elt F) → (⟨S261632, .i32⟩ : BufTy).Contents (Elt F) → (⟨S261632, .i32⟩ : BufTy).Contents (Elt F) → (⟨S261632, .i32⟩ : BufTy).Contents (Elt F)),
    StableHlo.unary main_v37 main_v38 (broadcastInDim S261632x1 ![0] bcast_S261632_S261632x1_0 : (⟨S261632, .i32⟩ : BufTy).Contents (Elt F) → (⟨S261632x1, .i32⟩ : BufTy).Contents (Elt F)),
    StableHlo.binary main_v13 main_v38 main_v39 ((fun x i => Host.gather gather_S512x64_S261632x1_S261632x64_1_0_n_n_0_1_164 x i) : (⟨S512x64, .f32⟩ : BufTy).Contents (Elt F) → (⟨S261632x1, .i32⟩ : BufTy).Contents (Elt F) → (⟨S261632x64, .f32⟩ : BufTy).Contents (Elt F)),
    StableHlo.binary main_v32 main_v39 main_v40 ((fun a b => concatenate S261632x128 1 [⟨S261632x64, a⟩, ⟨S261632x64, b⟩] concatenates_S261632x64_S261632x64_S261632x128_d1) : (⟨S261632x64, .f32⟩ : BufTy).Contents (Elt F) → (⟨S261632x64, .f32⟩ : BufTy).Contents (Elt F) → (⟨S261632x128, .f32⟩ : BufTy).Contents (Elt F)),
    StableHlo.unary main_arg3 main_v41 ((transpose S128x32 [1, 0] · transposes_S32x128_S128x32_1_0) : (⟨S32x128, .f32⟩ : BufTy).Contents (Elt F) → (⟨S128x32, .f32⟩ : BufTy).Contents (Elt F)),
    StableHlo.binary main_v40 main_v41 main_v42 ((fun l r => Host.dotGeneral dot_S261632x128_S128x32_S261632x32_1_0_0_1_n_n none l r) : (⟨S261632x128, .f32⟩ : BufTy).Contents (Elt F) → (⟨S128x32, .f32⟩ : BufTy).Contents (Elt F) → (⟨S261632x32, .f32⟩ : BufTy).Contents (Elt F)),
    StableHlo.unary main_arg4 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S261632x32 ![0, 1] bcast_S1x32_S261632x32_0_1 : (⟨S1x32, .f32⟩ : BufTy).Contents (Elt F) → (⟨S261632x32, .f32⟩ : BufTy).Contents (Elt F)),
    StableHlo.binary main_v42 main_v44 main_v45 (addf : (⟨S261632x32, .f32⟩ : BufTy).Contents (Elt F) → (⟨S261632x32, .f32⟩ : BufTy).Contents (Elt F) → (⟨S261632x32, .f32⟩ : BufTy).Contents (Elt F)),
    StableHlo.nullary main_cst (constant S_ .f32 0x00000000#32),
    StableHlo.unary main_cst main_v46 (broadcastInDim S261632x32 ![] bcast_S_S261632x32 : (⟨S_, .f32⟩ : BufTy).Contents (Elt F) → (⟨S261632x32, .f32⟩ : BufTy).Contents (Elt F)),
    StableHlo.binary main_v45 main_v46 main_v47 (maximumf : (⟨S261632x32, .f32⟩ : BufTy).Contents (Elt F) → (⟨S261632x32, .f32⟩ : BufTy).Contents (Elt F) → (⟨S261632x32, .f32⟩ : BufTy).Contents (Elt F)),
    StableHlo.unary main_arg5 main_v48 ((transpose S32x2 [1, 0] · transposes_S2x32_S32x2_1_0) : (⟨S2x32, .f32⟩ : BufTy).Contents (Elt F) → (⟨S32x2, .f32⟩ : BufTy).Contents (Elt F)),
    StableHlo.binary main_v47 main_v48 main_v49 ((fun l r => Host.dotGeneral dot_S261632x32_S32x2_S261632x2_1_0_0_1_n_n none l r) : (⟨S261632x32, .f32⟩ : BufTy).Contents (Elt F) → (⟨S32x2, .f32⟩ : BufTy).Contents (Elt F) → (⟨S261632x2, .f32⟩ : BufTy).Contents (Elt F)),
    StableHlo.unary main_arg6 main_v50 (broadcastInDim S1x2 ![1] bcast_S2_S1x2_1 : (⟨S2, .f32⟩ : BufTy).Contents (Elt F) → (⟨S1x2, .f32⟩ : BufTy).Contents (Elt F)) ]

/-- 4 operations of @main, in order. -/
abbrev ops2 : Ops F :=
  [ StableHlo.unary main_v50 main_v51 (broadcastInDim S261632x2 ![0, 1] bcast_S1x2_S261632x2_0_1 : (⟨S1x2, .f32⟩ : BufTy).Contents (Elt F) → (⟨S261632x2, .f32⟩ : BufTy).Contents (Elt F)),
    StableHlo.binary main_v49 main_v51 main_v52 (addf : (⟨S261632x2, .f32⟩ : BufTy).Contents (Elt F) → (⟨S261632x2, .f32⟩ : BufTy).Contents (Elt F) → (⟨S261632x2, .f32⟩ : BufTy).Contents (Elt F)),
    StableHlo.nullary main_cst_7 (constant S_ .f32 0x2EDBE6FF#32),
    StableHlo.nullary main_cst_8 (constant S_ .f32 0x3F800000#32) ]

/-- 55 operations of @main, in order. -/
abbrev ops3 : Ops F :=
  [ StableHlo.unary main_v53 main_v54 (Host.log : (⟨S261632x2, .f32⟩ : BufTy).Contents (Elt F) → (⟨S261632x2, .f32⟩ : BufTy).Contents (Elt F)),
    StableHlo.unary main_v54 main_v55 (Host.negf : (⟨S261632x2, .f32⟩ : BufTy).Contents (Elt F) → (⟨S261632x2, .f32⟩ : BufTy).Contents (Elt F)),
    StableHlo.unary main_v55 main_v56 (Host.log : (⟨S261632x2, .f32⟩ : BufTy).Contents (Elt F) → (⟨S261632x2, .f32⟩ : BufTy).Contents (Elt F)),
    StableHlo.unary main_v56 main_v57 (Host.negf : (⟨S261632x2, .f32⟩ : BufTy).Contents (Elt F) → (⟨S261632x2, .f32⟩ : BufTy).Contents (Elt F)),
    StableHlo.binary main_v52 main_v57 main_v58 (addf : (⟨S261632x2, .f32⟩ : BufTy).Contents (Elt F) → (⟨S261632x2, .f32⟩ : BufTy).Contents (Elt F) → (⟨S261632x2, .f32⟩ : BufTy).Contents (Elt F)),
    StableHlo.unary main_v58 main_v59 ((extractStridedSlice S261632x1 ![0, 1] · slices_S261632x2_S261632x1_0_1) : (⟨S261632x2, .f32⟩ : BufTy).Contents (Elt F) → (⟨S261632x1, .f32⟩ : BufTy).Contents (Elt F)),
    StableHlo.reshape main_v59 main_v60 (rfl : (.f32 : EltTy) = .f32) shapeCasts_S261632x1_S261632,
    StableHlo.unary main_v58 main_v61 ((extractStridedSlice S261632x1 ![0, 0] · slices_S261632x2_S261632x1_0_0) : (⟨S261632x2, .f32⟩ : BufTy).Contents (Elt F) → (⟨S261632x1, .f32⟩ : BufTy).Contents (Elt F)),
    StableHlo.reshape main_v61 main_v62 (rfl : (.f32 : EltTy) = .f32) shapeCasts_S261632x1_S261632,
    StableHlo.binary main_v60 main_v62 main_v63 (cmpf .ogt : (⟨S261632, .f32⟩ : BufTy).Contents (Elt F) → (⟨S261632, .f32⟩ : BufTy).Contents (Elt F) → (⟨S261632, .i1⟩ : BufTy).Contents (Elt F)),
    StableHlo.unary main_v63 main_v64 (uitofp .f32 : (⟨S261632, .i1⟩ : BufTy).Contents (Elt F) → (⟨S261632, .f32⟩ : BufTy).Contents (Elt F)),
    StableHlo.unary main_arg11 main_v65 ((transpose S64x64 [1, 0] · transposes_S64x64_S64x64_1_0) : (⟨S64x64, .f32⟩ : BufTy).Contents (Elt F) → (⟨S64x64, .f32⟩ : BufTy).Contents (Elt F)),
    StableHlo.binary main_v13 main_v65 main_v66 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_v64 main_v67 (broadcastInDim S261632x1 ![0] bcast_S261632_S261632x1_0 : (⟨S261632, .f32⟩ : BufTy).Contents (Elt F) → (⟨S261632x1, .f32⟩ : BufTy).Contents (Elt F)),
    StableHlo.nullary main_c_9 (constantI S_ 32 0#32),
    StableHlo.unary main_c_9 main_v68 (broadcastInDim S261632 ![] bcast_S_S261632 : (⟨S_, .i32⟩ : BufTy).Contents (Elt F) → (⟨S261632, .i32⟩ : BufTy).Contents (Elt F)),
    StableHlo.binary main_v6 main_v68 main_v69 (cmpi .slt : (⟨S261632, .i32⟩ : BufTy).Contents (Elt F) → (⟨S261632, .i32⟩ : BufTy).Contents (Elt F) → (⟨S261632, .i1⟩ : BufTy).Contents (Elt F)),
    StableHlo.nullary main_c_10 (constantI S_ 32 512#32),
    StableHlo.unary main_c_10 main_v70 (broadcastInDim S261632 ![] bcast_S_S261632 : (⟨S_, .i32⟩ : BufTy).Contents (Elt F) → (⟨S261632, .i32⟩ : BufTy).Contents (Elt F)),
    StableHlo.binary main_v6 main_v70 main_v71 (addi : (⟨S261632, .i32⟩ : BufTy).Contents (Elt F) → (⟨S261632, .i32⟩ : BufTy).Contents (Elt F) → (⟨S261632, .i32⟩ : BufTy).Contents (Elt F)),
    StableHlo.ternary main_v69 main_v71 main_v6 main_v72 (select : (⟨S261632, .i1⟩ : BufTy).Contents (Elt F) → (⟨S261632, .i32⟩ : BufTy).Contents (Elt F) → (⟨S261632, .i32⟩ : BufTy).Contents (Elt F) → (⟨S261632, .i32⟩ : BufTy).Contents (Elt F)),
    StableHlo.unary main_v72 main_v73 (broadcastInDim S261632x1 ![0] bcast_S261632_S261632x1_0 : (⟨S261632, .i32⟩ : BufTy).Contents (Elt F) → (⟨S261632x1, .i32⟩ : BufTy).Contents (Elt F)),
    StableHlo.binary main_v66 main_v73 main_v74 ((fun x i => Host.gather gather_S512x64_S261632x1_S261632x64_1_0_n_n_0_1_164 x i) : (⟨S512x64, .f32⟩ : BufTy).Contents (Elt F) → (⟨S261632x1, .i32⟩ : BufTy).Contents (Elt F) → (⟨S261632x64, .f32⟩ : BufTy).Contents (Elt F)),
    StableHlo.unary main_v67 main_v75 (broadcastInDim S261632x64 ![0, 1] bcast_S261632x1_S261632x64_0_1 : (⟨S261632x1, .f32⟩ : BufTy).Contents (Elt F) → (⟨S261632x64, .f32⟩ : BufTy).Contents (Elt F)),
    StableHlo.binary main_v75 main_v74 main_v76 (mulf : (⟨S261632x64, .f32⟩ : BufTy).Contents (Elt F) → (⟨S261632x64, .f32⟩ : BufTy).Contents (Elt F) → (⟨S261632x64, .f32⟩ : BufTy).Contents (Elt F)),
    StableHlo.nullary main_cst_11 (constant S_ .f32 0x00000000#32),
    StableHlo.unary main_cst_11 main_v77 (broadcastInDim S512x64 ![] bcast_S_S512x64 : (⟨S_, .f32⟩ : BufTy).Contents (Elt F) → (⟨S512x64, .f32⟩ : BufTy).Contents (Elt F)),
    StableHlo.unary main_v7 main_v78 (broadcastInDim S261632x1 ![0] bcast_S261632_S261632x1_0 : (⟨S261632, .i32⟩ : BufTy).Contents (Elt F) → (⟨S261632x1, .i32⟩ : BufTy).Contents (Elt F)),
    StableHlo.ternary main_v77 main_v78 main_v76 main_v79 ((fun x i u => Host.scatterAdd scatter_S512x64_S261632x1_S261632x64_1_0_0_1 x i u) : (⟨S512x64, .f32⟩ : BufTy).Contents (Elt F) → (⟨S261632x1, .i32⟩ : BufTy).Contents (Elt F) → (⟨S261632x64, .f32⟩ : BufTy).Contents (Elt F) → (⟨S512x64, .f32⟩ : BufTy).Contents (Elt F)),
    StableHlo.unary main_arg12 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S512x64 ![0, 1] bcast_S1x64_S512x64_0_1 : (⟨S1x64, .f32⟩ : BufTy).Contents (Elt F) → (⟨S512x64, .f32⟩ : BufTy).Contents (Elt F)),
    StableHlo.binary main_v79 main_v81 main_v82 (addf : (⟨S512x64, .f32⟩ : BufTy).Contents (Elt F) → (⟨S512x64, .f32⟩ : BufTy).Contents (Elt F) → (⟨S512x64, .f32⟩ : BufTy).Contents (Elt F)),
    StableHlo.nullary main_c_12 (constantI S_ 32 0#32),
    StableHlo.unary main_c_12 main_v83 (broadcastInDim S261632 ![] bcast_S_S261632 : (⟨S_, .i32⟩ : BufTy).Contents (Elt F) → (⟨S261632, .i32⟩ : BufTy).Contents (Elt F)),
    StableHlo.binary main_v6 main_v83 main_v84 (cmpi .slt : (⟨S261632, .i32⟩ : BufTy).Contents (Elt F) → (⟨S261632, .i32⟩ : BufTy).Contents (Elt F) → (⟨S261632, .i1⟩ : BufTy).Contents (Elt F)),
    StableHlo.nullary main_c_13 (constantI S_ 32 512#32),
    StableHlo.unary main_c_13 main_v85 (broadcastInDim S261632 ![] bcast_S_S261632 : (⟨S_, .i32⟩ : BufTy).Contents (Elt F) → (⟨S261632, .i32⟩ : BufTy).Contents (Elt F)),
    StableHlo.binary main_v6 main_v85 main_v86 (addi : (⟨S261632, .i32⟩ : BufTy).Contents (Elt F) → (⟨S261632, .i32⟩ : BufTy).Contents (Elt F) → (⟨S261632, .i32⟩ : BufTy).Contents (Elt F)),
    StableHlo.ternary main_v84 main_v86 main_v6 main_v87 (select : (⟨S261632, .i1⟩ : BufTy).Contents (Elt F) → (⟨S261632, .i32⟩ : BufTy).Contents (Elt F) → (⟨S261632, .i32⟩ : BufTy).Contents (Elt F) → (⟨S261632, .i32⟩ : BufTy).Contents (Elt F)),
    StableHlo.unary main_v87 main_v88 (broadcastInDim S261632x1 ![0] bcast_S261632_S261632x1_0 : (⟨S261632, .i32⟩ : BufTy).Contents (Elt F) → (⟨S261632x1, .i32⟩ : BufTy).Contents (Elt F)),
    StableHlo.binary main_v82 main_v88 main_v89 ((fun x i => Host.gather gather_S512x64_S261632x1_S261632x64_1_0_n_n_0_1_164 x i) : (⟨S512x64, .f32⟩ : BufTy).Contents (Elt F) → (⟨S261632x1, .i32⟩ : BufTy).Contents (Elt F) → (⟨S261632x64, .f32⟩ : BufTy).Contents (Elt F)),
    StableHlo.nullary main_c_14 (constantI S_ 32 0#32),
    StableHlo.unary main_c_14 main_v90 (broadcastInDim S261632 ![] bcast_S_S261632 : (⟨S_, .i32⟩ : BufTy).Contents (Elt F) → (⟨S261632, .i32⟩ : BufTy).Contents (Elt F)),
    StableHlo.binary main_v7 main_v90 main_v91 (cmpi .slt : (⟨S261632, .i32⟩ : BufTy).Contents (Elt F) → (⟨S261632, .i32⟩ : BufTy).Contents (Elt F) → (⟨S261632, .i1⟩ : BufTy).Contents (Elt F)),
    StableHlo.nullary main_c_15 (constantI S_ 32 512#32),
    StableHlo.unary main_c_15 main_v92 (broadcastInDim S261632 ![] bcast_S_S261632 : (⟨S_, .i32⟩ : BufTy).Contents (Elt F) → (⟨S261632, .i32⟩ : BufTy).Contents (Elt F)),
    StableHlo.binary main_v7 main_v92 main_v93 (addi : (⟨S261632, .i32⟩ : BufTy).Contents (Elt F) → (⟨S261632, .i32⟩ : BufTy).Contents (Elt F) → (⟨S261632, .i32⟩ : BufTy).Contents (Elt F)),
    StableHlo.ternary main_v91 main_v93 main_v7 main_v94 (select : (⟨S261632, .i1⟩ : BufTy).Contents (Elt F) → (⟨S261632, .i32⟩ : BufTy).Contents (Elt F) → (⟨S261632, .i32⟩ : BufTy).Contents (Elt F) → (⟨S261632, .i32⟩ : BufTy).Contents (Elt F)),
    StableHlo.unary main_v94 main_v95 (broadcastInDim S261632x1 ![0] bcast_S261632_S261632x1_0 : (⟨S261632, .i32⟩ : BufTy).Contents (Elt F) → (⟨S261632x1, .i32⟩ : BufTy).Contents (Elt F)),
    StableHlo.binary main_v82 main_v95 main_v96 ((fun x i => Host.gather gather_S512x64_S261632x1_S261632x64_1_0_n_n_0_1_164 x i) : (⟨S512x64, .f32⟩ : BufTy).Contents (Elt F) → (⟨S261632x1, .i32⟩ : BufTy).Contents (Elt F) → (⟨S261632x64, .f32⟩ : BufTy).Contents (Elt F)),
    StableHlo.binary main_v89 main_v96 main_v97 ((fun a b => concatenate S261632x128 1 [⟨S261632x64, a⟩, ⟨S261632x64, b⟩] concatenates_S261632x64_S261632x64_S261632x128_d1) : (⟨S261632x64, .f32⟩ : BufTy).Contents (Elt F) → (⟨S261632x64, .f32⟩ : BufTy).Contents (Elt F) → (⟨S261632x128, .f32⟩ : BufTy).Contents (Elt F)),
    StableHlo.unary main_arg7 main_v98 ((transpose S128x32 [1, 0] · transposes_S32x128_S128x32_1_0) : (⟨S32x128, .f32⟩ : BufTy).Contents (Elt F) → (⟨S128x32, .f32⟩ : BufTy).Contents (Elt F)),
    StableHlo.binary main_v97 main_v98 main_v99 ((fun l r => Host.dotGeneral dot_S261632x128_S128x32_S261632x32_1_0_0_1_n_n none l r) : (⟨S261632x128, .f32⟩ : BufTy).Contents (Elt F) → (⟨S128x32, .f32⟩ : BufTy).Contents (Elt F) → (⟨S261632x32, .f32⟩ : BufTy).Contents (Elt F)),
    StableHlo.unary main_arg8 main_v100 (broadcastInDim S1x32 ![1] bcast_S32_S1x32_1 : (⟨S32, .f32⟩ : BufTy).Contents (Elt F) → (⟨S1x32, .f32⟩ : BufTy).Contents (Elt F)),
    StableHlo.unary main_v100 main_v101 (broadcastInDim S261632x32 ![0, 1] bcast_S1x32_S261632x32_0_1 : (⟨S1x32, .f32⟩ : BufTy).Contents (Elt F) → (⟨S261632x32, .f32⟩ : BufTy).Contents (Elt F)) ]

/-- 11 operations of @main, in order. -/
abbrev ops4 : Ops F :=
  [ StableHlo.binary main_v99 main_v101 main_v102 (addf : (⟨S261632x32, .f32⟩ : BufTy).Contents (Elt F) → (⟨S261632x32, .f32⟩ : BufTy).Contents (Elt F) → (⟨S261632x32, .f32⟩ : BufTy).Contents (Elt F)),
    StableHlo.nullary main_cst_16 (constant S_ .f32 0x00000000#32),
    StableHlo.unary main_cst_16 main_v103 (broadcastInDim S261632x32 ![] bcast_S_S261632x32 : (⟨S_, .f32⟩ : BufTy).Contents (Elt F) → (⟨S261632x32, .f32⟩ : BufTy).Contents (Elt F)),
    StableHlo.binary main_v102 main_v103 main_v104 (maximumf : (⟨S261632x32, .f32⟩ : BufTy).Contents (Elt F) → (⟨S261632x32, .f32⟩ : BufTy).Contents (Elt F) → (⟨S261632x32, .f32⟩ : BufTy).Contents (Elt F)),
    StableHlo.unary main_arg9 main_v105 ((transpose S32x2 [1, 0] · transposes_S2x32_S32x2_1_0) : (⟨S2x32, .f32⟩ : BufTy).Contents (Elt F) → (⟨S32x2, .f32⟩ : BufTy).Contents (Elt F)),
    StableHlo.binary main_v104 main_v105 main_v106 ((fun l r => Host.dotGeneral dot_S261632x32_S32x2_S261632x2_1_0_0_1_n_n none l r) : (⟨S261632x32, .f32⟩ : BufTy).Contents (Elt F) → (⟨S32x2, .f32⟩ : BufTy).Contents (Elt F) → (⟨S261632x2, .f32⟩ : BufTy).Contents (Elt F)),
    StableHlo.unary main_arg10 main_v107 (broadcastInDim S1x2 ![1] bcast_S2_S1x2_1 : (⟨S2, .f32⟩ : BufTy).Contents (Elt F) → (⟨S1x2, .f32⟩ : BufTy).Contents (Elt F)),
    StableHlo.unary main_v107 main_v108 (broadcastInDim S261632x2 ![0, 1] bcast_S1x2_S261632x2_0_1 : (⟨S1x2, .f32⟩ : BufTy).Contents (Elt F) → (⟨S261632x2, .f32⟩ : BufTy).Contents (Elt F)),
    StableHlo.binary main_v106 main_v108 main_v109 (addf : (⟨S261632x2, .f32⟩ : BufTy).Contents (Elt F) → (⟨S261632x2, .f32⟩ : BufTy).Contents (Elt F) → (⟨S261632x2, .f32⟩ : BufTy).Contents (Elt F)),
    StableHlo.nullary main_cst_17 (constant S_ .f32 0x2EDBE6FF#32),
    StableHlo.nullary main_cst_18 (constant S_ .f32 0x3F800000#32) ]

/-- 48 operations of @main, in order. -/
abbrev ops5 : Ops F :=
  [ StableHlo.unary main_v110 main_v111 (Host.log : (⟨S261632x2, .f32⟩ : BufTy).Contents (Elt F) → (⟨S261632x2, .f32⟩ : BufTy).Contents (Elt F)),
    StableHlo.unary main_v111 main_v112 (Host.negf : (⟨S261632x2, .f32⟩ : BufTy).Contents (Elt F) → (⟨S261632x2, .f32⟩ : BufTy).Contents (Elt F)),
    StableHlo.unary main_v112 main_v113 (Host.log : (⟨S261632x2, .f32⟩ : BufTy).Contents (Elt F) → (⟨S261632x2, .f32⟩ : BufTy).Contents (Elt F)),
    StableHlo.unary main_v113 main_v114 (Host.negf : (⟨S261632x2, .f32⟩ : BufTy).Contents (Elt F) → (⟨S261632x2, .f32⟩ : BufTy).Contents (Elt F)),
    StableHlo.binary main_v109 main_v114 main_v115 (addf : (⟨S261632x2, .f32⟩ : BufTy).Contents (Elt F) → (⟨S261632x2, .f32⟩ : BufTy).Contents (Elt F) → (⟨S261632x2, .f32⟩ : BufTy).Contents (Elt F)),
    StableHlo.unary main_v115 main_v116 ((extractStridedSlice S261632x1 ![0, 1] · slices_S261632x2_S261632x1_0_1) : (⟨S261632x2, .f32⟩ : BufTy).Contents (Elt F) → (⟨S261632x1, .f32⟩ : BufTy).Contents (Elt F)),
    StableHlo.reshape main_v116 main_v117 (rfl : (.f32 : EltTy) = .f32) shapeCasts_S261632x1_S261632,
    StableHlo.unary main_v115 main_v118 ((extractStridedSlice S261632x1 ![0, 0] · slices_S261632x2_S261632x1_0_0) : (⟨S261632x2, .f32⟩ : BufTy).Contents (Elt F) → (⟨S261632x1, .f32⟩ : BufTy).Contents (Elt F)),
    StableHlo.reshape main_v118 main_v119 (rfl : (.f32 : EltTy) = .f32) shapeCasts_S261632x1_S261632,
    StableHlo.binary main_v117 main_v119 main_v120 (cmpf .ogt : (⟨S261632, .f32⟩ : BufTy).Contents (Elt F) → (⟨S261632, .f32⟩ : BufTy).Contents (Elt F) → (⟨S261632, .i1⟩ : BufTy).Contents (Elt F)),
    StableHlo.unary main_v120 main_v121 (uitofp .f32 : (⟨S261632, .i1⟩ : BufTy).Contents (Elt F) → (⟨S261632, .f32⟩ : BufTy).Contents (Elt F)),
    StableHlo.unary main_arg13 main_v122 ((transpose S64x64 [1, 0] · transposes_S64x64_S64x64_1_0) : (⟨S64x64, .f32⟩ : BufTy).Contents (Elt F) → (⟨S64x64, .f32⟩ : BufTy).Contents (Elt F)),
    StableHlo.binary main_v82 main_v122 main_v123 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_v121 main_v124 (broadcastInDim S261632x1 ![0] bcast_S261632_S261632x1_0 : (⟨S261632, .f32⟩ : BufTy).Contents (Elt F) → (⟨S261632x1, .f32⟩ : BufTy).Contents (Elt F)),
    StableHlo.nullary main_c_19 (constantI S_ 32 0#32),
    StableHlo.unary main_c_19 main_v125 (broadcastInDim S261632 ![] bcast_S_S261632 : (⟨S_, .i32⟩ : BufTy).Contents (Elt F) → (⟨S261632, .i32⟩ : BufTy).Contents (Elt F)),
    StableHlo.binary main_v6 main_v125 main_v126 (cmpi .slt : (⟨S261632, .i32⟩ : BufTy).Contents (Elt F) → (⟨S261632, .i32⟩ : BufTy).Contents (Elt F) → (⟨S261632, .i1⟩ : BufTy).Contents (Elt F)),
    StableHlo.nullary main_c_20 (constantI S_ 32 512#32),
    StableHlo.unary main_c_20 main_v127 (broadcastInDim S261632 ![] bcast_S_S261632 : (⟨S_, .i32⟩ : BufTy).Contents (Elt F) → (⟨S261632, .i32⟩ : BufTy).Contents (Elt F)),
    StableHlo.binary main_v6 main_v127 main_v128 (addi : (⟨S261632, .i32⟩ : BufTy).Contents (Elt F) → (⟨S261632, .i32⟩ : BufTy).Contents (Elt F) → (⟨S261632, .i32⟩ : BufTy).Contents (Elt F)),
    StableHlo.ternary main_v126 main_v128 main_v6 main_v129 (select : (⟨S261632, .i1⟩ : BufTy).Contents (Elt F) → (⟨S261632, .i32⟩ : BufTy).Contents (Elt F) → (⟨S261632, .i32⟩ : BufTy).Contents (Elt F) → (⟨S261632, .i32⟩ : BufTy).Contents (Elt F)),
    StableHlo.unary main_v129 main_v130 (broadcastInDim S261632x1 ![0] bcast_S261632_S261632x1_0 : (⟨S261632, .i32⟩ : BufTy).Contents (Elt F) → (⟨S261632x1, .i32⟩ : BufTy).Contents (Elt F)),
    StableHlo.binary main_v123 main_v130 main_v131 ((fun x i => Host.gather gather_S512x64_S261632x1_S261632x64_1_0_n_n_0_1_164 x i) : (⟨S512x64, .f32⟩ : BufTy).Contents (Elt F) → (⟨S261632x1, .i32⟩ : BufTy).Contents (Elt F) → (⟨S261632x64, .f32⟩ : BufTy).Contents (Elt F)),
    StableHlo.unary main_v124 main_v132 (broadcastInDim S261632x64 ![0, 1] bcast_S261632x1_S261632x64_0_1 : (⟨S261632x1, .f32⟩ : BufTy).Contents (Elt F) → (⟨S261632x64, .f32⟩ : BufTy).Contents (Elt F)),
    StableHlo.binary main_v132 main_v131 main_v133 (mulf : (⟨S261632x64, .f32⟩ : BufTy).Contents (Elt F) → (⟨S261632x64, .f32⟩ : BufTy).Contents (Elt F) → (⟨S261632x64, .f32⟩ : BufTy).Contents (Elt F)),
    StableHlo.nullary main_cst_21 (constant S_ .f32 0x00000000#32),
    StableHlo.unary main_cst_21 main_v134 (broadcastInDim S512x64 ![] bcast_S_S512x64 : (⟨S_, .f32⟩ : BufTy).Contents (Elt F) → (⟨S512x64, .f32⟩ : BufTy).Contents (Elt F)),
    StableHlo.unary main_v7 main_v135 (broadcastInDim S261632x1 ![0] bcast_S261632_S261632x1_0 : (⟨S261632, .i32⟩ : BufTy).Contents (Elt F) → (⟨S261632x1, .i32⟩ : BufTy).Contents (Elt F)),
    StableHlo.ternary main_v134 main_v135 main_v133 main_v136 ((fun x i u => Host.scatterAdd scatter_S512x64_S261632x1_S261632x64_1_0_0_1 x i u) : (⟨S512x64, .f32⟩ : BufTy).Contents (Elt F) → (⟨S261632x1, .i32⟩ : BufTy).Contents (Elt F) → (⟨S261632x64, .f32⟩ : BufTy).Contents (Elt F) → (⟨S512x64, .f32⟩ : BufTy).Contents (Elt F)),
    StableHlo.unary main_arg14 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S512x64 ![0, 1] bcast_S1x64_S512x64_0_1 : (⟨S1x64, .f32⟩ : BufTy).Contents (Elt F) → (⟨S512x64, .f32⟩ : BufTy).Contents (Elt F)),
    StableHlo.binary main_v136 main_v138 main_v139 (addf : (⟨S512x64, .f32⟩ : BufTy).Contents (Elt F) → (⟨S512x64, .f32⟩ : BufTy).Contents (Elt F) → (⟨S512x64, .f32⟩ : BufTy).Contents (Elt F)),
    StableHlo.unary main_arg15 main_v140 ((transpose S64x64 [1, 0] · transposes_S64x64_S64x64_1_0) : (⟨S64x64, .f32⟩ : BufTy).Contents (Elt F) → (⟨S64x64, .f32⟩ : BufTy).Contents (Elt F)),
    StableHlo.binary main_v139 main_v140 main_v141 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg16 main_v142 (broadcastInDim S1x64 ![1] bcast_S64_S1x64_1 : (⟨S64, .f32⟩ : BufTy).Contents (Elt F) → (⟨S1x64, .f32⟩ : BufTy).Contents (Elt F)),
    StableHlo.unary main_v142 main_v143 (broadcastInDim S512x64 ![0, 1] bcast_S1x64_S512x64_0_1 : (⟨S1x64, .f32⟩ : BufTy).Contents (Elt F) → (⟨S512x64, .f32⟩ : BufTy).Contents (Elt F)),
    StableHlo.binary main_v141 main_v143 main_v144 (addf : (⟨S512x64, .f32⟩ : BufTy).Contents (Elt F) → (⟨S512x64, .f32⟩ : BufTy).Contents (Elt F) → (⟨S512x64, .f32⟩ : BufTy).Contents (Elt F)),
    StableHlo.unary main_arg17 main_v145 ((transpose S64x64 [1, 0] · transposes_S64x64_S64x64_1_0) : (⟨S64x64, .f32⟩ : BufTy).Contents (Elt F) → (⟨S64x64, .f32⟩ : BufTy).Contents (Elt F)),
    StableHlo.binary main_v13 main_v145 main_v146 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    StableHlo.unary main_arg18 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S512x64 ![0, 1] bcast_S1x64_S512x64_0_1 : (⟨S1x64, .f32⟩ : BufTy).Contents (Elt F) → (⟨S512x64, .f32⟩ : BufTy).Contents (Elt F)),
    StableHlo.binary main_v146 main_v148 main_v149 (addf : (⟨S512x64, .f32⟩ : BufTy).Contents (Elt F) → (⟨S512x64, .f32⟩ : BufTy).Contents (Elt F) → (⟨S512x64, .f32⟩ : BufTy).Contents (Elt F)),
    StableHlo.binary main_v13 main_v149 main_v150 (addf : (⟨S512x64, .f32⟩ : BufTy).Contents (Elt F) → (⟨S512x64, .f32⟩ : BufTy).Contents (Elt F) → (⟨S512x64, .f32⟩ : BufTy).Contents (Elt F)),
    StableHlo.binary main_v150 main_v144 main_v151 (addf : (⟨S512x64, .f32⟩ : BufTy).Contents (Elt F) → (⟨S512x64, .f32⟩ : BufTy).Contents (Elt F) → (⟨S512x64, .f32⟩ : BufTy).Contents (Elt F)),
    StableHlo.unary main_v151 main_v152 (Host.tanh : (⟨S512x64, .f32⟩ : BufTy).Contents (Elt F) → (⟨S512x64, .f32⟩ : BufTy).Contents (Elt F)),
    StableHlo.unary main_arg19 main_v153 ((transpose S64x1 [1, 0] · transposes_S1x64_S64x1_1_0) : (⟨S1x64, .f32⟩ : BufTy).Contents (Elt F) → (⟨S64x1, .f32⟩ : BufTy).Contents (Elt F)),
    StableHlo.binary main_v152 main_v153 main_v154 ((fun l r => Host.dotGeneral dot_S512x64_S64x1_S512x1_1_0_0_1_n_n none l r) : (⟨S512x64, .f32⟩ : BufTy).Contents (Elt F) → (⟨S64x1, .f32⟩ : BufTy).Contents (Elt F) → (⟨S512x1, .f32⟩ : BufTy).Contents (Elt F)),
    StableHlo.unary main_arg20 main_v155 (broadcastInDim S1x1 ![1] bcast_S1_S1x1_1 : (⟨S1, .f32⟩ : BufTy).Contents (Elt F) → (⟨S1x1, .f32⟩ : BufTy).Contents (Elt F)) ]

/-- 10 operations of @main, in order. -/
abbrev ops6 : Ops F :=
  [ StableHlo.unary main_v155 main_v156 (broadcastInDim S512x1 ![0, 1] bcast_S1x1_S512x1_0_1 : (⟨S1x1, .f32⟩ : BufTy).Contents (Elt F) → (⟨S512x1, .f32⟩ : BufTy).Contents (Elt F)),
    StableHlo.binary main_v154 main_v156 main_v157 (addf : (⟨S512x1, .f32⟩ : BufTy).Contents (Elt F) → (⟨S512x1, .f32⟩ : BufTy).Contents (Elt F) → (⟨S512x1, .f32⟩ : BufTy).Contents (Elt F)),
    StableHlo.reshape main_v152 main_v158 (rfl : (.f32 : EltTy) = .f32) shapeCasts_S512x64_S1x512x64,
    StableHlo.unary main_arg21 main_v159 ((transpose S64x2 [1, 0] · transposes_S2x64_S64x2_1_0) : (⟨S2x64, .f32⟩ : BufTy).Contents (Elt F) → (⟨S64x2, .f32⟩ : BufTy).Contents (Elt F)),
    StableHlo.binary main_v158 main_v159 main_v160 ((fun l r => Host.dotGeneral dot_S1x512x64_S64x2_S1x512x2_2_0_01_1_n_n none l r) : (⟨S1x512x64, .f32⟩ : BufTy).Contents (Elt F) → (⟨S64x2, .f32⟩ : BufTy).Contents (Elt F) → (⟨S1x512x2, .f32⟩ : BufTy).Contents (Elt F)),
    StableHlo.unary main_arg22 main_v161 (broadcastInDim S1x1x2 ![2] bcast_S2_S1x1x2_2 : (⟨S2, .f32⟩ : BufTy).Contents (Elt F) → (⟨S1x1x2, .f32⟩ : BufTy).Contents (Elt F)),
    StableHlo.unary main_v161 main_v162 (broadcastInDim S1x512x2 ![0, 1, 2] bcast_S1x1x2_S1x512x2_0_1_2 : (⟨S1x1x2, .f32⟩ : BufTy).Contents (Elt F) → (⟨S1x512x2, .f32⟩ : BufTy).Contents (Elt F)),
    StableHlo.binary main_v160 main_v162 main_v163 (addf : (⟨S1x512x2, .f32⟩ : BufTy).Contents (Elt F) → (⟨S1x512x2, .f32⟩ : BufTy).Contents (Elt F) → (⟨S1x512x2, .f32⟩ : BufTy).Contents (Elt F)),
    StableHlo.unary main_arg23 main_v164 (broadcastInDim S1x512x2 ![1, 2] bcast_S1x2_S1x512x2_1_2 : (⟨S1x2, .f32⟩ : BufTy).Contents (Elt F) → (⟨S1x512x2, .f32⟩ : BufTy).Contents (Elt F)),
    StableHlo.unary main_v164 main_v165 (Host.exp : (⟨S1x512x2, .f32⟩ : BufTy).Contents (Elt F) → (⟨S1x512x2, .f32⟩ : BufTy).Contents (Elt F)) ]

/-- The operations of one call of `fn_threefry_split.body`. -/
abbrev opsKeys : Ops F := opsSplit (.of main_v20) main_call1 []

/-- The operations of one call of `fn_uniform.body`. -/
abbrev opsU1 : Ops F := opsUniform (.of main_v23) (.of main_cst_7) (.of main_cst_8) main_call2 []

/-- The operations of one call of `fn_uniform.body`. -/
abbrev opsU2 : Ops F := opsUniform (.of main_v25) (.of main_cst_17) (.of main_cst_18) main_call3 []

/-- Every host operation of @main, in order. -/
abbrev opsAll : Ops F :=
  ops0 ++ (opsKeys ++ (ops1 ++ (ops2 ++ (opsU1 ++ (ops3 ++ (ops4 ++ (opsU2 ++ (ops5 ++ (ops6)))))))))

theorem seqK_append (l l' : Ops F) (k : Host F) : StableHlo.seqK (l ++ l') k = StableHlo.seqK l (StableHlo.seqK l' k) := by
  induction l with
  | nil => rfl
  | cons o l ih => simp only [List.cons_append, StableHlo.seqK, ih]

theorem opsKeys_seq (k : Host F) : (fn_threefry_split.body (.of main_v20) main_call1 >>= fun _ => k) = StableHlo.seqK opsKeys k :=
  opsSplit_seq _ _ [] k

theorem opsU1_seq (k : Host F) : (fn_uniform.body (.of main_v23) (.of main_cst_7) (.of main_cst_8) main_call2 >>= fun _ => k) = StableHlo.seqK opsU1 k :=
  opsUniform_seq _ _ _ _ [] k

theorem opsU2_seq (k : Host F) : (fn_uniform.body (.of main_v25) (.of main_cst_17) (.of main_cst_18) main_call3 >>= fun _ => k) = StableHlo.seqK opsU2 k :=
  opsUniform_seq _ _ _ _ [] k

theorem part0_seq (d : Dev nD) (k : Host F) : (main_part0 d >>= fun _ => k) = StableHlo.seqK ops0 (StableHlo.seqK opsKeys (StableHlo.seqK ops1 k)) := by
  simp only [main_part0, bind_assoc, pure_bind, fn_where.body, opsKeys_seq]
  rfl

theorem part1_seq (d : Dev nD) (k : Host F) : (main_part1 d >>= fun _ => k) = StableHlo.seqK ops2 (StableHlo.seqK opsU1 (StableHlo.seqK ops3 k)) := by
  simp only [main_part1, bind_assoc, pure_bind, opsU1_seq]
  rfl

theorem part2_seq (d : Dev nD) (k : Host F) : (main_part2 d >>= fun _ => k) = StableHlo.seqK ops4 (StableHlo.seqK opsU2 (StableHlo.seqK ops5 k)) := by
  simp only [main_part2, bind_assoc, pure_bind, opsU2_seq]
  rfl

theorem part3_seq (d : Dev nD) (k : Host F) : (main_part3 d >>= fun _ => k) = StableHlo.seqK ops6 k := by
  simp only [main_part3, bind_assoc, pure_bind]
  rfl

/-- @main runs its operations in order. -/
theorem main_seq (d : Dev nD) : main (F := F) d = StableHlo.seq opsAll := by
  have h : main (F := F) d = StableHlo.seqK opsAll (pure ⟨⟩) := by
    simp only [opsAll, seqK_append, ← part0_seq d, ← part1_seq d, ← part2_seq d, ← part3_seq d, bind_pure]
    rfl
  rw [h, ← StableHlo.seq_bind_seqK]
  exact bind_pure _

end Cert.Ref

end
-- ==== Proof.RefRun.lean ====
/- The reference's run: every buffer ends at what the operations, in order, leave in it. -/
module

public import proofs.«01_k».proof.Proof.RefOps
public import Idealize.ShloMosaic.Lib.Quiescent

@[expose] public section

set_option maxRecDepth 20000
set_option maxHeartbeats 4000000

noncomputable section

namespace Cert.Ref

open Cert.ReferenceIdeal Cert.ReferenceIdeal.Gen Cert.Line Idealize.ShloMosaic Idealize.ShloMosaic.TcCoe Idealize.SL.Sem Idealize.ShloMosaic.StableHlo

variable {F : FTy → Type} [FloatOps F]

theorem line_ops0 : Line 24 (ops0 (F := F)) 49 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_opsKeys : Line 49 (opsKeys (F := F)) 287 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_ops1 : Line 287 (ops1 (F := F)) 321 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_ops2 : Line 321 (ops2 (F := F)) 325 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_opsU1 : Line 325 (opsU1 (F := F)) 587 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_ops3 : Line 587 (ops3 (F := F)) 642 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_ops4 : Line 642 (ops4 (F := F)) 653 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_opsU2 : Line 653 (opsU2 (F := F)) 915 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_ops5 : Line 915 (ops5 (F := F)) 963 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_ops6 : Line 963 (ops6 (F := F)) 973 := by
  repeat (first
    | refine .cons (.unary (by decide) (by decide)) ?_ | refine .cons (.binary (by decide) (by decide) (by decide)) ?_
    | refine .cons (.nullary (by decide)) ?_ | refine .cons (.reshape (by decide) (by decide)) ?_
    | refine .cons (.ternary (by decide) (by decide) (by decide) (by decide)) ?_)
  exact .nil

theorem line_all : Line 24 (opsAll (F := F)) 973 :=
  line_ops0.append (line_opsKeys.append (line_ops1.append (line_ops2.append (line_opsU1.append
    (line_ops3.append (line_ops4.append (line_opsU2.append (line_ops5.append line_ops6))))))))

variable (m : (ℓ : Loc nD τ sig) → Buf (Elt F) ℓ) (ρ : Dev nD → PrngReg)

/-- What core `c`'s buffers hold at the end. -/
def fin (c : Dev nD) : Valuation τ sig (Elt F) := after opsAll (launchContents m c)

/-- Every operation's equation holds of the final contents. -/
theorem holds (c : Dev nD) : Holds opsAll (fin m c) := line_all.holds _

/-- The arguments are unchanged. -/
theorem fin_arg (c : Dev nD) (r : Ref sig .tc) (h : key r < 24) : fin m c (Proc.devRef .tc r) = m ((c.tc : Thread nD τ).loc r) :=
  line_all.keep _ r h

/-- The run ends with every buffer at its final contents and every counter at zero. -/
theorem run : θ_run defs (onTc (τ := τ) (main (F := F))) ⟨m, fun _ => 0, ρ⟩ fun r =>
    (∀ (d : Dev nD) (b : Ref sig .tc), r.2.mem (d.tc.loc b) = fin m d (Proc.devRef .tc b)) ∧ r.2.sem = fun _ => 0 :=
  (θ_run defs _ _).mono (fun r h => ⟨h, sem_eq_zero_of_no_sems (by decide) _⟩)
    (run_seq (by decide) (by decide) defs main (fun _ => opsAll) (fun d => main_seq d) (fun _ => line_all.sub) m ρ (fun _ => line_all.fresh))

end Cert.Ref

end
-- ==== Proof.Body.lean ====
/- What the kernel's body stores, as one expression in its operands: two masks of eight row blocks each, and the
   products around them. -/
module

public import proofs.«01_k».proof.Proof.KernelIdealRun
public import Idealize.ShloMosaic.Lib.Pipeline.ValueKit.Basic

@[expose] public section

set_option maxRecDepth 20000
set_option maxHeartbeats 4000000

noncomputable section

namespace Cert.Body

open Cert.KernelIdeal Cert.KernelIdeal.Gen Cert.KernelIdeal.Run Idealize.ShloMosaic

variable {F : FTy → Type} [FloatOps F]

/-- The hidden layer of 64 rows of edges against every column, times the block-diagonal weights: 64 rows of first scores
    over 64 rows of second ones. -/
def scores (o : ℕ) (hP : S512x32.Slices ![o, 0] S64x32) (P : FVec F S512x32 .f32) (Q : FVec F S32x512 .f32)
    (W : FVec F S128x2048 .f32) : FVec F S128x512 .f32 :=
  matmul dot_S128x2048_S2048x512_S128x512_1_0_0_1_n_n none W
    (shapeCast S2048x512 (maximumf (addf
      (broadcastTo S64x32x512 (shapeCast S64x32x1 (extractStridedSlice S64x32 ![o, 0] P hP) shapeCasts_S64x32_S64x32x1) broadcasts_S64x32x1_S64x32x512)
      (broadcastTo S64x32x512 (shapeCast S1x32x512 Q shapeCasts_S32x512_S1x32x512) broadcasts_S1x32x512_S64x32x512))
      (broadcast S64x32x512 (Scalar.ofBits .f32 0x00000000#32))) shapeCasts_S64x32x512_S2048x512)
    (constant S128x512 .f32 0x00000000#32)

/-- Rows `o … o + 63` of the mask. -/
def block (o : ℕ) (w : BitVec 32) (hP : S512x32.Slices ![o, 0] S64x32) (hG : S512x512.Slices ![o, 0] S64x512)
    (P : FVec F S512x32 .f32) (Q : FVec F S32x512 .f32) (W : FVec F S128x2048 .f32) (b0 b1 : F .f32)
    (G0 G1 : FVec F S512x512 .f32) : FVec F S64x512 .f32 :=
  select (andi
      (cmpf .ogt
        (addf (addf (extractStridedSlice S64x512 ![64, 0] (scores o hP P Q W) slices_S128x512_o64_0_S64x512) (broadcast S64x512 b1))
          (extractStridedSlice S64x512 ![o, 0] G1 hG))
        (addf (addf (extractStridedSlice S64x512 ![0, 0] (scores o hP P Q W) slices_S128x512_o0_0_S64x512) (broadcast S64x512 b0))
          (extractStridedSlice S64x512 ![o, 0] G0 hG)))
      (cmpi .ne (addi (iota .tc S64x512 32 [0] iota_S64x512_d0_w32) (broadcast S64x512 w)) (iota .tc S64x512 32 [1] iota_S64x512_d1_w32)))
    (broadcast S64x512 (Scalar.ofBits .f32 0x3F800000#32)) (broadcast S64x512 (Scalar.ofBits .f32 0x00000000#32))

/-- The mask of kept edges, all rows. -/
def mask (P : FVec F S512x32 .f32) (Q : FVec F S32x512 .f32) (W : FVec F S128x2048 .f32) (b0 b1 : F .f32)
    (G0 G1 : FVec F S512x512 .f32) : FVec F S512x512 .f32 :=
  concatenate S512x512 0
    [⟨S64x512, block 0 0#32 slices_S512x32_o0_0_S64x32 slices_S512x512_o0_0_S64x512 P Q W b0 b1 G0 G1⟩,
     ⟨S64x512, block 64 64#32 slices_S512x32_o64_0_S64x32 slices_S512x512_o64_0_S64x512 P Q W b0 b1 G0 G1⟩,
     ⟨S64x512, block 128 128#32 slices_S512x32_o128_0_S64x32 slices_S512x512_o128_0_S64x512 P Q W b0 b1 G0 G1⟩,
     ⟨S64x512, block 192 192#32 slices_S512x32_o192_0_S64x32 slices_S512x512_o192_0_S64x512 P Q W b0 b1 G0 G1⟩,
     ⟨S64x512, block 256 256#32 slices_S512x32_o256_0_S64x32 slices_S512x512_o256_0_S64x512 P Q W b0 b1 G0 G1⟩,
     ⟨S64x512, block 320 320#32 slices_S512x32_o320_0_S64x32 slices_S512x512_o320_0_S64x512 P Q W b0 b1 G0 G1⟩,
     ⟨S64x512, block 384 384#32 slices_S512x32_o384_0_S64x32 slices_S512x512_o384_0_S64x512 P Q W b0 b1 G0 G1⟩,
     ⟨S64x512, block 448 448#32 slices_S512x32_o448_0_S64x32 slices_S512x512_o448_0_S64x512 P Q W b0 b1 G0 G1⟩]
    concatenates_S64x512_S64x512_S64x512_S64x512_S64x512_S64x512_S64x512_S64x512_S512x512_d0

/-- The messages gathered at each node, nodes along rows. -/
def comm (M : FVec F S512x512 .f32) (h : FVec F S512x64 .f32) (w : FVec F S64x64 .f32) (b : FVec F S1x64 .f32) : FVec F S512x64 .f32 :=
  addf (matmul dot_S512x512_S512x64_S512x64_0_0_1_1_n_n (some .fp32) M
      (matmul dot_S512x64_S64x64_S512x64_1_0_0_1_n_n none h (shapeCast S64x64 w shapeCasts_S64x64_S64x64) (constant S512x64 .f32 0x00000000#32))
      (constant S512x64 .f32 0x00000000#32))
    (broadcastTo S512x64 (shapeCast S1x64 b shapeCasts_S1x64_S1x64) broadcasts_S1x64_S512x64)

/-- The same with nodes along columns, without the bias. -/
def commT (M : FVec F S512x512 .f32) (h : FVec F S64x512 .f32) (w : FVec F S64x64 .f32) : FVec F S64x512 .f32 :=
  matmul dot_S64x512_S512x512_S64x512_1_0_0_1_n_n (some .fp32)
    (matmul dot_S64x64_S64x512_S64x512_1_0_0_1_n_n none w h (constant S64x512 .f32 0x00000000#32)) M
    (constant S64x512 .f32 0x00000000#32)

/-- The last layers, from the embedding and the second messages. -/
def last (e c : FVec F S512x64 .f32) (wc : FVec F S64x64 .f32) (bc : FVec F S1x64 .f32) (wf : FVec F S64x64 .f32) (bf : FVec F S1x64 .f32)
    (wo : FVec F S64x128 .f32) (bo : FVec F S1x128 .f32) : FVec F S512x128 .f32 :=
  addf (matmul dot_S512x64_S64x128_S512x128_1_0_0_1_n_n none
      (tanh (addf
        (addf (addf e (matmul dot_S512x64_S64x64_S512x64_1_0_0_1_n_n none e (shapeCast S64x64 wf shapeCasts_S64x64_S64x64) (constant S512x64 .f32 0x00000000#32)))
          (broadcastTo S512x64 (shapeCast S1x64 bf shapeCasts_S1x64_S1x64) broadcasts_S1x64_S512x64))
        (addf (matmul dot_S512x64_S64x64_S512x64_1_0_0_1_n_n none c (shapeCast S64x64 wc shapeCasts_S64x64_S64x64) (constant S512x64 .f32 0x00000000#32))
          (broadcastTo S512x64 (shapeCast S1x64 bc shapeCasts_S1x64_S1x64) broadcasts_S1x64_S512x64))))
      (shapeCast S64x128 wo shapeCasts_S64x128_S64x128) (constant S512x128 .f32 0x00000000#32))
    (broadcastTo S512x128 (shapeCast S1x128 bo shapeCasts_S1x128_S1x128) broadcasts_S1x128_S512x128)

variable (x0 : Vec F S512x128 .f32)
  (x1 : Vec F S128x512 .f32)
  (x2 : Vec F S512x512 .f32)
  (x3 : Vec F S512x512 .f32)
  (x4 : Vec F S512x512 .f32)
  (x5 : Vec F S512x512 .f32)
  (x6 : Vec F S128x64 .f32)
  (x7 : Vec F S64x128 .f32)
  (x8 : Vec F S1x64 .f32)
  (x9 : Vec F S64x1 .f32)
  (x10 : Vec F S64x32 .f32)
  (x11 : Vec F S32x64 .f32)
  (x12 : Vec F S1x32 .f32)
  (x13 : Vec F S128x2048 .f32)
  (x14 : Vec F S1x2 .f32)
  (x15 : Vec F S64x32 .f32)
  (x16 : Vec F S32x64 .f32)
  (x17 : Vec F S1x32 .f32)
  (x18 : Vec F S128x2048 .f32)
  (x19 : Vec F S1x2 .f32)
  (x20 : Vec F S64x64 .f32)
  (x21 : Vec F S64x64 .f32)
  (x22 : Vec F S1x64 .f32)
  (x23 : Vec F S64x1 .f32)
  (x24 : Vec F S64x64 .f32)
  (x25 : Vec F S1x64 .f32)
  (x26 : Vec F S64x64 .f32)
  (x27 : Vec F S1x64 .f32)
  (x28 : Vec F S64x64 .f32)
  (x29 : Vec F S1x64 .f32)
  (x30 : Vec F S64x128 .f32)
  (x31 : Vec F S1x128 .f32)

/-- The first mask. -/
def mask1 : FVec F S512x512 .f32 :=
  mask (k0_pay3 x0 x6 x8 x10 x12) (k0_pay4 x7 x1 x9 x11) (k0_pay5 x13) (k0_pay9 (k0_pay6 x14)) (k0_pay10 (k0_pay6 x14)) (k0_pay7 x2) (k0_pay8 x3)

/-- The first messages, nodes along rows. -/
def comm1 : FVec F S512x64 .f32 := comm (mask1 x0 x1 x2 x3 x6 x7 x8 x9 x10 x11 x12 x13 x14) (k0_pay1 x0 x6 x8) x20 x22

/-- The first messages, nodes along columns. -/
def comm1T : FVec F S64x512 .f32 := commT (mask1 x0 x1 x2 x3 x6 x7 x8 x9 x10 x11 x12 x13 x14) (k0_pay2 x7 x1 x9) x21

/-- The second mask. -/
def mask2 (c : FVec F S512x64 .f32) (ct : FVec F S64x512 .f32) : FVec F S512x512 .f32 :=
  mask (k0_pay26 c x15 x17) (k0_pay27 ct x23 x16) (k0_pay28 x18) (k0_pay32 x19) (k0_pay33 x19) (k0_pay30 x4) (k0_pay31 x5)

/-- What the body stores. -/
def stored : FVec F S512x128 .f32 :=
  last (k0_pay1 x0 x6 x8)
    (comm (mask2 x4 x5 x15 x16 x17 x18 x19 x23 (comm1 x0 x1 x2 x3 x6 x7 x8 x9 x10 x11 x12 x13 x14 x20 x22) (comm1T x0 x1 x2 x3 x6 x7 x8 x9 x10 x11 x12 x13 x14 x21)) (comm1 x0 x1 x2 x3 x6 x7 x8 x9 x10 x11 x12 x13 x14 x20 x22) x24 x25)
    x26 x27 x28 x29 x30 x31

theorem pay65_eq : k0_pay65 x0 x1 x2 x3 x4 x5 x6 x7 x8 x9 x10 x11 x12 x13 x14 x15 x16 x17 x18 x19 x20 x21 x22 x23 x24 x25 x26 x27 x28 x29 x30 x31 = comm1 x0 x1 x2 x3 x6 x7 x8 x9 x10 x11 x12 x13 x14 x20 x22 := by
  simp only [k0_pay65, k0_pay64, k0_pay63, k0_pay62, k0_pay61, k0_pay60, k0_pay59, k0_pay58, k0_pay57, k0_pay56, k0_pay55, k0_pay54, k0_pay53, k0_pay52, k0_pay51, k0_pay50, k0_pay49]
  repeat rw [View.ld_unit_lit _ _ (by decide)]
  rfl

theorem pay66_eq : k0_pay66 x0 x1 x2 x3 x4 x5 x6 x7 x8 x9 x10 x11 x12 x13 x14 x15 x16 x17 x18 x19 x20 x21 x22 x23 x24 x25 x26 x27 x28 x29 x30 x31 = comm1T x0 x1 x2 x3 x6 x7 x8 x9 x10 x11 x12 x13 x14 x21 := by
  simp only [k0_pay66, k0_pay64, k0_pay63, k0_pay62, k0_pay61, k0_pay60, k0_pay59, k0_pay58, k0_pay57, k0_pay56, k0_pay55, k0_pay54, k0_pay53, k0_pay52, k0_pay51, k0_pay50, k0_pay49]
  repeat rw [View.ld_unit_lit _ _ (by decide)]
  rfl

theorem out_eq : out0_32 x0 x1 x2 x3 x4 x5 x6 x7 x8 x9 x10 x11 x12 x13 x14 x15 x16 x17 x18 x19 x20 x21 x22 x23 x24 x25 x26 x27 x28 x29 x30 x31 = stored x0 x1 x2 x3 x4 x5 x6 x7 x8 x9 x10 x11 x12 x13 x14 x15 x16 x17 x18 x19 x20 x21 x22 x23 x24 x25 x26 x27 x28 x29 x30 x31 := by
  unfold out0_32
  rw [View.canon_cons_unit_lit _ _ _ (by decide)]
  simp only [k0_pay71, k0_pay70, k0_pay69, k0_pay68, k0_pay67, pay65_eq, pay66_eq, k0_pay51, k0_pay50, k0_pay49]
  repeat rw [View.ld_unit_lit _ _ (by decide)]
  rfl

end Cert.Body

end
-- ==== Proof.Out.lean ====
/- The kernel's output array after the run. -/
module

public import proofs.«01_k».proof.Proof.Body
public import Idealize.ShloMosaic.Lib.Claim
public import Idealize.ShloMosaic.Lib.Pipeline.ValueKit.Geometry

@[expose] public section

set_option maxRecDepth 40000
set_option maxHeartbeats 8000000

noncomputable section

namespace Cert.KernelIdeal.Run

open Cert.KernelIdeal Cert.KernelIdeal.Gen Idealize.ShloMosaic Idealize.ShloMosaic.TcCoe

variable {F : FTy → Type} [FloatOps F] (m : (ℓ : Loc nD τ sig) → Buf (Elt F) ℓ)

/-- At the one grid point each input window holds its whole array. -/
theorem blocks (c : Dev nD) :
      (iblk m c 0 t0_0 : Vec F S512x128 .f32) = V m c main_arg0 ∧
      (iblk m c 1 t0_0 : Vec F S128x512 .f32) = V m c main_v86 ∧
      (iblk m c 2 t0_0 : Vec F S512x512 .f32) = V m c main_v25 ∧
      (iblk m c 3 t0_0 : Vec F S512x512 .f32) = V m c main_v34 ∧
      (iblk m c 4 t0_0 : Vec F S512x512 .f32) = V m c main_v48 ∧
      (iblk m c 5 t0_0 : Vec F S512x512 .f32) = V m c main_v57 ∧
      (iblk m c 6 t0_0 : Vec F S128x64 .f32) = V m c main_v87 ∧
      (iblk m c 7 t0_0 : Vec F S64x128 .f32) = V m c main_arg1 ∧
      (iblk m c 8 t0_0 : Vec F S1x64 .f32) = V m c main_v88 ∧
      (iblk m c 9 t0_0 : Vec F S64x1 .f32) = V m c main_v89 ∧
      (iblk m c 10 t0_0 : Vec F S64x32 .f32) = V m c main_v91 ∧
      (iblk m c 11 t0_0 : Vec F S32x64 .f32) = V m c main_v92 ∧
      (iblk m c 12 t0_0 : Vec F S1x32 .f32) = V m c main_v93 ∧
      (iblk m c 13 t0_0 : Vec F S128x2048 .f32) = V m c main_v72 ∧
      (iblk m c 14 t0_0 : Vec F S1x2 .f32) = V m c main_v94 ∧
      (iblk m c 15 t0_0 : Vec F S64x32 .f32) = V m c main_v96 ∧
      (iblk m c 16 t0_0 : Vec F S32x64 .f32) = V m c main_v97 ∧
      (iblk m c 17 t0_0 : Vec F S1x32 .f32) = V m c main_v98 ∧
      (iblk m c 18 t0_0 : Vec F S128x2048 .f32) = V m c main_v81 ∧
      (iblk m c 19 t0_0 : Vec F S1x2 .f32) = V m c main_v99 ∧
      (iblk m c 20 t0_0 : Vec F S64x64 .f32) = V m c main_v100 ∧
      (iblk m c 21 t0_0 : Vec F S64x64 .f32) = V m c main_arg11 ∧
      (iblk m c 22 t0_0 : Vec F S1x64 .f32) = V m c main_v101 ∧
      (iblk m c 23 t0_0 : Vec F S64x1 .f32) = V m c main_v102 ∧
      (iblk m c 24 t0_0 : Vec F S64x64 .f32) = V m c main_v103 ∧
      (iblk m c 25 t0_0 : Vec F S1x64 .f32) = V m c main_v104 ∧
      (iblk m c 26 t0_0 : Vec F S64x64 .f32) = V m c main_v105 ∧
      (iblk m c 27 t0_0 : Vec F S1x64 .f32) = V m c main_v106 ∧
      (iblk m c 28 t0_0 : Vec F S64x64 .f32) = V m c main_v107 ∧
      (iblk m c 29 t0_0 : Vec F S1x64 .f32) = V m c main_v108 ∧
      (iblk m c 30 t0_0 : Vec F S64x128 .f32) = V m c main_v109 ∧
      (iblk m c 31 t0_0 : Vec F S1x128 .f32) = V m c main_v110 :=
  ⟨Memref.read_access_unit_zero (Elt F) main_arg0 (by decide) _ _,
    Memref.read_access_unit_zero (Elt F) main_v86 (by decide) _ _,
    Memref.read_access_unit_zero (Elt F) main_v25 (by decide) _ _,
    Memref.read_access_unit_zero (Elt F) main_v34 (by decide) _ _,
    Memref.read_access_unit_zero (Elt F) main_v48 (by decide) _ _,
    Memref.read_access_unit_zero (Elt F) main_v57 (by decide) _ _,
    Memref.read_access_unit_zero (Elt F) main_v87 (by decide) _ _,
    Memref.read_access_unit_zero (Elt F) main_arg1 (by decide) _ _,
    Memref.read_access_unit_zero (Elt F) main_v88 (by decide) _ _,
    Memref.read_access_unit_zero (Elt F) main_v89 (by decide) _ _,
    Memref.read_access_unit_zero (Elt F) main_v91 (by decide) _ _,
    Memref.read_access_unit_zero (Elt F) main_v92 (by decide) _ _,
    Memref.read_access_unit_zero (Elt F) main_v93 (by decide) _ _,
    Memref.read_access_unit_zero (Elt F) main_v72 (by decide) _ _,
    Memref.read_access_unit_zero (Elt F) main_v94 (by decide) _ _,
    Memref.read_access_unit_zero (Elt F) main_v96 (by decide) _ _,
    Memref.read_access_unit_zero (Elt F) main_v97 (by decide) _ _,
    Memref.read_access_unit_zero (Elt F) main_v98 (by decide) _ _,
    Memref.read_access_unit_zero (Elt F) main_v81 (by decide) _ _,
    Memref.read_access_unit_zero (Elt F) main_v99 (by decide) _ _,
    Memref.read_access_unit_zero (Elt F) main_v100 (by decide) _ _,
    Memref.read_access_unit_zero (Elt F) main_arg11 (by decide) _ _,
    Memref.read_access_unit_zero (Elt F) main_v101 (by decide) _ _,
    Memref.read_access_unit_zero (Elt F) main_v102 (by decide) _ _,
    Memref.read_access_unit_zero (Elt F) main_v103 (by decide) _ _,
    Memref.read_access_unit_zero (Elt F) main_v104 (by decide) _ _,
    Memref.read_access_unit_zero (Elt F) main_v105 (by decide) _ _,
    Memref.read_access_unit_zero (Elt F) main_v106 (by decide) _ _,
    Memref.read_access_unit_zero (Elt F) main_v107 (by decide) _ _,
    Memref.read_access_unit_zero (Elt F) main_v108 (by decide) _ _,
    Memref.read_access_unit_zero (Elt F) main_v109 (by decide) _ _,
    Memref.read_access_unit_zero (Elt F) main_v110 (by decide) _ _⟩

theorem block32 (c : Dev nD) : (out0_32 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (iblk m c 18 t0_0) (iblk m c 19 t0_0) (iblk m c 20 t0_0) (iblk m c 21 t0_0) (iblk m c 22 t0_0) (iblk m c 23 t0_0) (iblk m c 24 t0_0) (iblk m c 25 t0_0) (iblk m c 26 t0_0) (iblk m c 27 t0_0) (iblk m c 28 t0_0) (iblk m c 29 t0_0) (iblk m c 30 t0_0) (iblk m c 31 t0_0) : Vec F S512x128 .f32) = (Body.stored (V m c main_arg0) (V m c main_v86) (V m c main_v25) (V m c main_v34) (V m c main_v48) (V m c main_v57) (V m c main_v87) (V m c main_arg1) (V m c main_v88) (V m c main_v89) (V m c main_v91) (V m c main_v92) (V m c main_v93) (V m c main_v72) (V m c main_v94) (V m c main_v96) (V m c main_v97) (V m c main_v98) (V m c main_v81) (V m c main_v99) (V m c main_v100) (V m c main_arg11) (V m c main_v101) (V m c main_v102) (V m c main_v103) (V m c main_v104) (V m c main_v105) (V m c main_v106) (V m c main_v107) (V m c main_v108) (V m c main_v109) (V m c main_v110) : Vec F S512x128 .f32) := by
  obtain ⟨h0, h1, h2, h3, h4, h5, h6, h7, h8, h9, h10, h11, h12, h13, h14, h15, h16, h17, h18, h19, h20, h21, h22, h23, h24, h25, h26, h27, h28, h29, h30, h31⟩ := blocks m c
  rw [Body.out_eq, h0, h1, h2, h3, h4, h5, h6, h7, h8, h9, h10, h11, h12, h13, h14, h15, h16, h17, h18, h19, h20, h21, h22, h23, h24, h25, h26, h27, h28, h29, h30, h31]

/-- The output array ends holding what the body stores. -/
theorem out32 (c : Dev nD) : (dats m 0 c).arrAt 32 cfg0.N = (Body.stored (V m c main_arg0) (V m c main_v86) (V m c main_v25) (V m c main_v34) (V m c main_v48) (V m c main_v57) (V m c main_v87) (V m c main_arg1) (V m c main_v88) (V m c main_v89) (V m c main_v91) (V m c main_v92) (V m c main_v93) (V m c main_v72) (V m c main_v94) (V m c main_v96) (V m c main_v97) (V m c main_v98) (V m c main_v81) (V m c main_v99) (V m c main_v100) (V m c main_arg11) (V m c main_v101) (V m c main_v102) (V m c main_v103) (V m c main_v104) (V m c main_v105) (V m c main_v106) (V m c main_v107) (V m c main_v108) (V m c main_v109) (V m c main_v110) : Vec F S512x128 .f32) := by
  refine (dats m 0 c).arrAt_eq_of_after_last 32 t0_0 (by decide +kernel) _ fun j => ?_
  rw [after0_32, block32]
  generalize (Body.stored (V m c main_arg0) (V m c main_v86) (V m c main_v25) (V m c main_v34) (V m c main_v48) (V m c main_v57) (V m c main_v87) (V m c main_arg1) (V m c main_v88) (V m c main_v89) (V m c main_v91) (V m c main_v92) (V m c main_v93) (V m c main_v72) (V m c main_v94) (V m c main_v96) (V m c main_v97) (V m c main_v98) (V m c main_v81) (V m c main_v99) (V m c main_v100) (V m c main_arg11) (V m c main_v101) (V m c main_v102) (V m c main_v103) (V m c main_v104) (V m c main_v105) (V m c main_v106) (V m c main_v107) (V m c main_v108) (V m c main_v109) (V m c main_v110) : Vec F S512x128 .f32) = G
  rfl

end Cert.KernelIdeal.Run

end
-- ==== Proof.Noise.lean ====
/- The random draws. Both programs make the same keys and run the same generator on them, so both hold
   the same uniform draws: the operations are the same, one by one. -/
module

public import proofs.«01_k».proof.Proof.RefOps
public import proofs.«01_k».proof.Proof.Gen.KernelIdeal.Launch

@[expose] public section

set_option maxRecDepth 40000
set_option maxHeartbeats 8000000

noncomputable section

namespace Cert.Noise

open Cert.Line Idealize.ShloMosaic Idealize.ShloMosaic.TcCoe Idealize.ShloMosaic.StableHlo

variable {F : FTy → Type} [FloatOps F]

abbrev sK := Cert.KernelIdeal.sig
abbrev sR := Cert.ReferenceIdeal.sig

/-- Two references of one type, one per program. -/
abbrev pr {T : BufTy} (x : TRef sK T) (y : TRef sR T) : Pair sK sR := ⟨T, x, y⟩

open Cert.KernelIdeal in
theorem keys : Sim (τ := Cert.KernelIdeal.τ) (τ' := Cert.ReferenceIdeal.τ)
    [pr (T := ⟨S2, .i32⟩) (.of main_v6) (.of Cert.ReferenceIdeal.main_v20)]
    (Cert.KernelIdeal.Gen.hostOps0_1 (F := F)) Cert.Ref.opsKeys
    (pr (T := ⟨S2x2, .i32⟩) (.of main_v7) (.of Cert.ReferenceIdeal.main_v21)) := by
  repeat (first
    | refine Sim.unary (by repeat (first | exact List.Mem.head _ | apply List.Mem.tail)) ?_
    | refine Sim.binary (by repeat (first | exact List.Mem.head _ | apply List.Mem.tail)) (by repeat (first | exact List.Mem.head _ | apply List.Mem.tail)) ?_
    | refine Sim.nullary ?_
    | refine Sim.reshape (by repeat (first | exact List.Mem.head _ | apply List.Mem.tail)) ?_)
  exact .done (List.Mem.head _)

open Cert.KernelIdeal in
theorem uniform1 : Sim (τ := Cert.KernelIdeal.τ) (τ' := Cert.ReferenceIdeal.τ)
    [pr (T := ⟨S2, .i32⟩) (.of main_v9) (.of Cert.ReferenceIdeal.main_v23), pr (T := ⟨S_, .f32⟩) (.of main_cst) (.of Cert.ReferenceIdeal.main_cst_7), pr (T := ⟨S_, .f32⟩) (.of main_cst_2) (.of Cert.ReferenceIdeal.main_cst_8)]
    (Cert.KernelIdeal.Gen.hostOps0_3 (F := F)) Cert.Ref.opsU1
    (pr (T := ⟨S261632x2, .f32⟩) (.of main_v12) (.of Cert.ReferenceIdeal.main_v53)) := by
  repeat (first
    | refine Sim.unary (by repeat (first | exact List.Mem.head _ | apply List.Mem.tail)) ?_
    | refine Sim.binary (by repeat (first | exact List.Mem.head _ | apply List.Mem.tail)) (by repeat (first | exact List.Mem.head _ | apply List.Mem.tail)) ?_
    | refine Sim.nullary ?_
    | refine Sim.reshape (by repeat (first | exact List.Mem.head _ | apply List.Mem.tail)) ?_)
  exact .done (List.Mem.head _)

open Cert.KernelIdeal in
theorem uniform2 : Sim (τ := Cert.KernelIdeal.τ) (τ' := Cert.ReferenceIdeal.τ)
    [pr (T := ⟨S2, .i32⟩) (.of main_v11) (.of Cert.ReferenceIdeal.main_v25), pr (T := ⟨S_, .f32⟩) (.of main_cst_7) (.of Cert.ReferenceIdeal.main_cst_17), pr (T := ⟨S_, .f32⟩) (.of main_cst_8) (.of Cert.ReferenceIdeal.main_cst_18)]
    (Cert.KernelIdeal.Gen.hostOps0_5 (F := F)) Cert.Ref.opsU2
    (pr (T := ⟨S261632x2, .f32⟩) (.of main_v35) (.of Cert.ReferenceIdeal.main_v110)) := by
  repeat (first
    | refine Sim.unary (by repeat (first | exact List.Mem.head _ | apply List.Mem.tail)) ?_
    | refine Sim.binary (by repeat (first | exact List.Mem.head _ | apply List.Mem.tail)) (by repeat (first | exact List.Mem.head _ | apply List.Mem.tail)) ?_
    | refine Sim.nullary ?_
    | refine Sim.reshape (by repeat (first | exact List.Mem.head _ | apply List.Mem.tail)) ?_)
  exact .done (List.Mem.head _)

end Cert.Noise

end
-- ==== Proof.RefFns.lean ====
/- The reference's result as a function of its arguments: the stages of the computation, and that the final contents
   are theirs. -/
module

public import proofs.«01_k».proof.Proof.RefOps

@[expose] public section

set_option maxRecDepth 20000
set_option maxHeartbeats 4000000

noncomputable section

namespace Cert.Ref

open Cert.ReferenceIdeal Cert.ReferenceIdeal.Gen Cert.Line Idealize.ShloMosaic Idealize.ShloMosaic.TcCoe Idealize.ShloMosaic.StableHlo

variable {F : FTy → Type} [FloatOps F]

/-! ## The stages -/

/-- The first end of each edge. -/
def src : IVec S261632 32 := shapeCast S261632 (iotaInDim S512x511 32 0) shapeCasts_S512x511_S261632

/-- The second end of each edge. -/
def dst : IVec S261632 32 :=
  shapeCast S261632 (select (cmpi .sge (iotaInDim S512x511 32 1) (iotaInDim S512x511 32 0))
    (addi (iotaInDim S512x511 32 1) (broadcastInDim S512x511 ![] bcast_S_S512x511 (constantI S_ 32 1#32))) (iotaInDim S512x511 32 1))
    shapeCasts_S512x511_S261632

/-- An index list as a gather takes it, negative ones wrapped. -/
def wrap (v : IVec S261632 32) : IVec S261632x1 32 :=
  broadcastInDim S261632x1 ![0] bcast_S261632_S261632x1_0
    (select (cmpi .slt v (broadcastInDim S261632 ![] bcast_S_S261632 (constantI S_ 32 0#32)))
      (addi v (broadcastInDim S261632 ![] bcast_S_S261632 (constantI S_ 32 512#32))) v)

/-- The rows of `h` at the ends of the edges. -/
def rows (h : FVec F S512x64 .f32) (v : IVec S261632 32) : FVec F S261632x64 .f32 :=
  Host.gather gather_S512x64_S261632x1_S261632x64_1_0_n_n_0_1_164 h (wrap v)

/-- A length-64 row under every node. -/
def row64 (b : FVec F S64 .f32) : FVec F S512x64 .f32 :=
  broadcastInDim S512x64 ![0, 1] bcast_S1x64_S512x64_0_1 (broadcastInDim S1x64 ![1] bcast_S64_S1x64_1 b)

/-- `h` times the transpose of `w`. -/
def times (h : FVec F S512x64 .f32) (w : FVec F S64x64 .f32) : FVec F S512x64 .f32 :=
  Host.dotGeneral dot_S512x64_S64x64_S512x64_1_0_0_1_n_n none h (transpose S64x64 [1, 0] w transposes_S64x64_S64x64_1_0)

def embed (x : FVec F S512x128 .f32) (w : FVec F S64x128 .f32) (b : FVec F S64 .f32) : FVec F S512x64 .f32 :=
  Host.tanh (addf (Host.dotGeneral dot_S512x128_S128x64_S512x64_1_0_0_1_n_n none x
    (transpose S128x64 [1, 0] w transposes_S64x128_S128x64_1_0)) (row64 b))

/-- The hidden layer of the edge network. -/
def edgeHidden (h : FVec F S512x64 .f32) (w1 : FVec F S32x128 .f32) (b1 : FVec F S32 .f32) : FVec F S261632x32 .f32 :=
  maximumf (addf (Host.dotGeneral dot_S261632x128_S128x32_S261632x32_1_0_0_1_n_n none
      (concatenate S261632x128 1 [⟨S261632x64, rows h src⟩, ⟨S261632x64, rows h dst⟩] concatenates_S261632x64_S261632x64_S261632x128_d1)
      (transpose S128x32 [1, 0] w1 transposes_S32x128_S128x32_1_0))
    (broadcastInDim S261632x32 ![0, 1] bcast_S1x32_S261632x32_0_1 (broadcastInDim S1x32 ![1] bcast_S32_S1x32_1 b1)))
    (broadcastInDim S261632x32 ![] bcast_S_S261632x32 (constant S_ .f32 0x00000000#32))

/-- The two scores of each edge. -/
def scores (h : FVec F S512x64 .f32) (w1 : FVec F S32x128 .f32) (b1 : FVec F S32 .f32) (w2 : FVec F S2x32 .f32) (b2 : FVec F S2 .f32) :
    FVec F S261632x2 .f32 :=
  addf (Host.dotGeneral dot_S261632x32_S32x2_S261632x2_1_0_0_1_n_n none (edgeHidden h w1 b1)
      (transpose S32x2 [1, 0] w2 transposes_S2x32_S32x2_1_0))
    (broadcastInDim S261632x2 ![0, 1] bcast_S1x2_S261632x2_0_1 (broadcastInDim S1x2 ![1] bcast_S2_S1x2_1 b2))

def noise (u : FVec F S261632x2 .f32) : FVec F S261632x2 .f32 := Host.negf (Host.log (Host.negf (Host.log u)))

/-- Which edges are kept, as ones and zeros. -/
def kept (s g : FVec F S261632x2 .f32) : FVec F S261632 .f32 :=
  uitofp .f32 (cmpf .ogt
    (shapeCast S261632 (extractStridedSlice S261632x1 ![0, 1] (addf s g) slices_S261632x2_S261632x1_0_1) shapeCasts_S261632x1_S261632)
    (shapeCast S261632 (extractStridedSlice S261632x1 ![0, 0] (addf s g) slices_S261632x2_S261632x1_0_0) shapeCasts_S261632x1_S261632))

/-- The messages along the kept edges, added up at their ends. -/
def gathered (m : FVec F S261632 .f32) (h : FVec F S512x64 .f32) (b : FVec F S64 .f32) : FVec F S512x64 .f32 :=
  addf (Host.scatterAdd scatter_S512x64_S261632x1_S261632x64_1_0_0_1
    (broadcastInDim S512x64 ![] bcast_S_S512x64 (constant S_ .f32 0x00000000#32))
    (broadcastInDim S261632x1 ![0] bcast_S261632_S261632x1_0 dst)
    (mulf (broadcastInDim S261632x64 ![0, 1] bcast_S261632x1_S261632x64_0_1 (broadcastInDim S261632x1 ![0] bcast_S261632_S261632x1_0 m))
      (rows h src))) (row64 b)

def hidden (xe comm : FVec F S512x64 .f32) (wc : FVec F S64x64 .f32) (bc : FVec F S64 .f32) (wf : FVec F S64x64 .f32) (bf : FVec F S64 .f32) :
    FVec F S512x64 .f32 :=
  Host.tanh (addf (addf xe (addf (times xe wf) (row64 bf))) (addf (times comm wc) (row64 bc)))

def value (h : FVec F S512x64 .f32) (w : FVec F S1x64 .f32) (b : FVec F S1 .f32) : FVec F S512x1 .f32 :=
  addf (Host.dotGeneral dot_S512x64_S64x1_S512x1_1_0_0_1_n_n none h (transpose S64x1 [1, 0] w transposes_S1x64_S64x1_1_0))
    (broadcastInDim S512x1 ![0, 1] bcast_S1x1_S512x1_0_1 (broadcastInDim S1x1 ![1] bcast_S1_S1x1_1 b))

def means (h : FVec F S512x64 .f32) (w : FVec F S2x64 .f32) (b : FVec F S2 .f32) : FVec F S1x512x2 .f32 :=
  addf (Host.dotGeneral dot_S1x512x64_S64x2_S1x512x2_2_0_01_1_n_n none (shapeCast S1x512x64 h shapeCasts_S512x64_S1x512x64)
      (transpose S64x2 [1, 0] w transposes_S2x64_S64x2_1_0))
    (broadcastInDim S1x512x2 ![0, 1, 2] bcast_S1x1x2_S1x512x2_0_1_2 (broadcastInDim S1x1x2 ![2] bcast_S2_S1x1x2_2 b))

def logStd (l : FVec F S1x2 .f32) : FVec F S1x512x2 .f32 := broadcastInDim S1x512x2 ![1, 2] bcast_S1x2_S1x512x2_1_2 l

/-! ## The final contents -/

variable {W : Valuation τ sig (Elt F)}

theorem at_src (hops0 : Holds ops0 W) : (W (Proc.devRef .tc main_v6) : IVec S261632 32) = src := by
  obtain ⟨hv0, hv1, hv2, hc, hv3, hv4, hv5, hv6, hv7, hv8, hv9, hv10, hv11, hv12, hv13, hc_0, hc_1, hv14, hv15, hv16, hc_2, hv17, hv18, hv19, hv20⟩ := hops0
  rw [eq_reshape hv6, eq_nullary hv0]
  rfl

theorem at_dst (hops0 : Holds ops0 W) : (W (Proc.devRef .tc main_v7) : IVec S261632 32) = dst := by
  obtain ⟨hv0, hv1, hv2, hc, hv3, hv4, hv5, hv6, hv7, hv8, hv9, hv10, hv11, hv12, hv13, hc_0, hc_1, hv14, hv15, hv16, hc_2, hv17, hv18, hv19, hv20⟩ := hops0
  rw [eq_reshape hv7, eq_ternary hv5, eq_binary hv4, eq_unary hv3, eq_nullary hc, eq_binary hv2, eq_nullary hv1, eq_nullary hv0]
  rfl

theorem at_embed (hops0 : Holds ops0 W) : (W (Proc.devRef .tc main_v13) : FVec F S512x64 .f32) = embed (W (Proc.devRef .tc main_arg0)) (W (Proc.devRef .tc main_arg1)) (W (Proc.devRef .tc main_arg2)) := by
  obtain ⟨hv0, hv1, hv2, hc, hv3, hv4, hv5, hv6, hv7, hv8, hv9, hv10, hv11, hv12, hv13, hc_0, hc_1, hv14, hv15, hv16, hc_2, hv17, hv18, hv19, hv20⟩ := hops0
  rw [eq_unary hv13, eq_binary hv12, eq_unary hv11, eq_unary hv10, eq_binary hv9, eq_unary hv8]
  rfl

theorem at_scores1 (hops1 : Holds ops1 W) (hops2 : Holds ops2 W) (e6 : (W (Proc.devRef .tc main_v6) : IVec S261632 32) = src) (e7 : (W (Proc.devRef .tc main_v7) : IVec S261632 32) = dst) : (W (Proc.devRef .tc main_v52) : FVec F S261632x2 .f32) = scores (W (Proc.devRef .tc main_v13)) (W (Proc.devRef .tc main_arg3)) (W (Proc.devRef .tc main_arg4)) (W (Proc.devRef .tc main_arg5)) (W (Proc.devRef .tc main_arg6)) := by
  obtain ⟨hv22, hv23, hv24, hv25, hc_3, hv26, hv27, hc_4, hv28, hv29, hv30, hv31, hv32, hc_5, hv33, hv34, hc_6, hv35, hv36, hv37, hv38, hv39, hv40, hv41, hv42, hv43, hv44, hv45, hcst, hv46, hv47, hv48, hv49, hv50⟩ := hops1
  obtain ⟨hv51, hv52, hcst_7, hcst_8⟩ := hops2
  rw [eq_binary hv52, eq_unary hv51, eq_unary hv50, eq_binary hv49, eq_unary hv48, eq_binary hv47, eq_unary hv46, eq_nullary hcst, eq_binary hv45, eq_unary hv44, eq_unary hv43, eq_binary hv42, eq_unary hv41, eq_binary hv40, eq_binary hv39, eq_unary hv38, eq_ternary hv37, eq_binary hv36, eq_unary hv35, eq_nullary hc_6, eq_binary hv34, eq_unary hv33, eq_nullary hc_5, eq_binary hv32, eq_unary hv31, eq_ternary hv30, eq_binary hv29, eq_unary hv28, eq_nullary hc_4, eq_binary hv27, eq_unary hv26, eq_nullary hc_3, e6, e7]
  rfl

theorem at_kept1 (hops3 : Holds ops3 W) : (W (Proc.devRef .tc main_v64) : FVec F S261632 .f32) = kept (W (Proc.devRef .tc main_v52)) (noise (W (Proc.devRef .tc main_v53))) := by
  obtain ⟨hv54, hv55, hv56, hv57, hv58, hv59, hv60, hv61, hv62, hv63, hv64, hv65, hv66, hv67, hc_9, hv68, hv69, hc_10, hv70, hv71, hv72, hv73, hv74, hv75, hv76, hcst_11, hv77, hv78, hv79, hv80, hv81, hv82, hc_12, hv83, hv84, hc_13, hv85, hv86, hv87, hv88, hv89, hc_14, hv90, hv91, hc_15, hv92, hv93, hv94, hv95, hv96, hv97, hv98, hv99, hv100, hv101⟩ := hops3
  rw [eq_unary hv64, eq_binary hv63, eq_reshape hv62, eq_unary hv61, eq_reshape hv60, eq_unary hv59, eq_binary hv58, eq_unary hv57, eq_unary hv56, eq_unary hv55, eq_unary hv54]
  rfl

theorem at_comm1 (hops3 : Holds ops3 W) (e6 : (W (Proc.devRef .tc main_v6) : IVec S261632 32) = src) (e7 : (W (Proc.devRef .tc main_v7) : IVec S261632 32) = dst) : (W (Proc.devRef .tc main_v82) : FVec F S512x64 .f32) = gathered (W (Proc.devRef .tc main_v64)) (times (W (Proc.devRef .tc main_v13)) (W (Proc.devRef .tc main_arg11))) (W (Proc.devRef .tc main_arg12)) := by
  obtain ⟨hv54, hv55, hv56, hv57, hv58, hv59, hv60, hv61, hv62, hv63, hv64, hv65, hv66, hv67, hc_9, hv68, hv69, hc_10, hv70, hv71, hv72, hv73, hv74, hv75, hv76, hcst_11, hv77, hv78, hv79, hv80, hv81, hv82, hc_12, hv83, hv84, hc_13, hv85, hv86, hv87, hv88, hv89, hc_14, hv90, hv91, hc_15, hv92, hv93, hv94, hv95, hv96, hv97, hv98, hv99, hv100, hv101⟩ := hops3
  rw [eq_binary hv82, eq_unary hv81, eq_unary hv80, eq_ternary hv79, eq_unary hv78, eq_unary hv77, eq_nullary hcst_11, eq_binary hv76, eq_unary hv75, eq_binary hv74, eq_unary hv73, eq_ternary hv72, eq_binary hv71, eq_unary hv70, eq_nullary hc_10, eq_binary hv69, eq_unary hv68, eq_nullary hc_9, eq_unary hv67, eq_binary hv66, eq_unary hv65, e6, e7]
  rfl

theorem at_scores2 (hops3 : Holds ops3 W) (hops4 : Holds ops4 W) (e6 : (W (Proc.devRef .tc main_v6) : IVec S261632 32) = src) (e7 : (W (Proc.devRef .tc main_v7) : IVec S261632 32) = dst) : (W (Proc.devRef .tc main_v109) : FVec F S261632x2 .f32) = scores (W (Proc.devRef .tc main_v82)) (W (Proc.devRef .tc main_arg7)) (W (Proc.devRef .tc main_arg8)) (W (Proc.devRef .tc main_arg9)) (W (Proc.devRef .tc main_arg10)) := by
  obtain ⟨hv54, hv55, hv56, hv57, hv58, hv59, hv60, hv61, hv62, hv63, hv64, hv65, hv66, hv67, hc_9, hv68, hv69, hc_10, hv70, hv71, hv72, hv73, hv74, hv75, hv76, hcst_11, hv77, hv78, hv79, hv80, hv81, hv82, hc_12, hv83, hv84, hc_13, hv85, hv86, hv87, hv88, hv89, hc_14, hv90, hv91, hc_15, hv92, hv93, hv94, hv95, hv96, hv97, hv98, hv99, hv100, hv101⟩ := hops3
  obtain ⟨hv102, hcst_16, hv103, hv104, hv105, hv106, hv107, hv108, hv109, hcst_17, hcst_18⟩ := hops4
  rw [eq_binary hv109, eq_unary hv108, eq_unary hv107, eq_binary hv106, eq_unary hv105, eq_binary hv104, eq_unary hv103, eq_nullary hcst_16, eq_binary hv102, eq_unary hv101, eq_unary hv100, eq_binary hv99, eq_unary hv98, eq_binary hv97, eq_binary hv96, eq_unary hv95, eq_ternary hv94, eq_binary hv93, eq_unary hv92, eq_nullary hc_15, eq_binary hv91, eq_unary hv90, eq_nullary hc_14, eq_binary hv89, eq_unary hv88, eq_ternary hv87, eq_binary hv86, eq_unary hv85, eq_nullary hc_13, eq_binary hv84, eq_unary hv83, eq_nullary hc_12, e6, e7]
  rfl

theorem at_kept2 (hops5 : Holds ops5 W) : (W (Proc.devRef .tc main_v121) : FVec F S261632 .f32) = kept (W (Proc.devRef .tc main_v109)) (noise (W (Proc.devRef .tc main_v110))) := by
  obtain ⟨hv111, hv112, hv113, hv114, hv115, hv116, hv117, hv118, hv119, hv120, hv121, hv122, hv123, hv124, hc_19, hv125, hv126, hc_20, hv127, hv128, hv129, hv130, hv131, hv132, hv133, hcst_21, hv134, hv135, hv136, hv137, hv138, hv139, hv140, hv141, hv142, hv143, hv144, hv145, hv146, hv147, hv148, hv149, hv150, hv151, hv152, hv153, hv154, hv155⟩ := hops5
  rw [eq_unary hv121, eq_binary hv120, eq_reshape hv119, eq_unary hv118, eq_reshape hv117, eq_unary hv116, eq_binary hv115, eq_unary hv114, eq_unary hv113, eq_unary hv112, eq_unary hv111]
  rfl

theorem at_comm2 (hops5 : Holds ops5 W) (e6 : (W (Proc.devRef .tc main_v6) : IVec S261632 32) = src) (e7 : (W (Proc.devRef .tc main_v7) : IVec S261632 32) = dst) : (W (Proc.devRef .tc main_v139) : FVec F S512x64 .f32) = gathered (W (Proc.devRef .tc main_v121)) (times (W (Proc.devRef .tc main_v82)) (W (Proc.devRef .tc main_arg13))) (W (Proc.devRef .tc main_arg14)) := by
  obtain ⟨hv111, hv112, hv113, hv114, hv115, hv116, hv117, hv118, hv119, hv120, hv121, hv122, hv123, hv124, hc_19, hv125, hv126, hc_20, hv127, hv128, hv129, hv130, hv131, hv132, hv133, hcst_21, hv134, hv135, hv136, hv137, hv138, hv139, hv140, hv141, hv142, hv143, hv144, hv145, hv146, hv147, hv148, hv149, hv150, hv151, hv152, hv153, hv154, hv155⟩ := hops5
  rw [eq_binary hv139, eq_unary hv138, eq_unary hv137, eq_ternary hv136, eq_unary hv135, eq_unary hv134, eq_nullary hcst_21, eq_binary hv133, eq_unary hv132, eq_binary hv131, eq_unary hv130, eq_ternary hv129, eq_binary hv128, eq_unary hv127, eq_nullary hc_20, eq_binary hv126, eq_unary hv125, eq_nullary hc_19, eq_unary hv124, eq_binary hv123, eq_unary hv122, e6, e7]
  rfl

theorem at_hidden (hops5 : Holds ops5 W) : (W (Proc.devRef .tc main_v152) : FVec F S512x64 .f32) = hidden (W (Proc.devRef .tc main_v13)) (W (Proc.devRef .tc main_v139)) (W (Proc.devRef .tc main_arg15)) (W (Proc.devRef .tc main_arg16)) (W (Proc.devRef .tc main_arg17)) (W (Proc.devRef .tc main_arg18)) := by
  obtain ⟨hv111, hv112, hv113, hv114, hv115, hv116, hv117, hv118, hv119, hv120, hv121, hv122, hv123, hv124, hc_19, hv125, hv126, hc_20, hv127, hv128, hv129, hv130, hv131, hv132, hv133, hcst_21, hv134, hv135, hv136, hv137, hv138, hv139, hv140, hv141, hv142, hv143, hv144, hv145, hv146, hv147, hv148, hv149, hv150, hv151, hv152, hv153, hv154, hv155⟩ := hops5
  rw [eq_unary hv152, eq_binary hv151, eq_binary hv150, eq_binary hv149, eq_unary hv148, eq_unary hv147, eq_binary hv146, eq_unary hv145, eq_binary hv144, eq_unary hv143, eq_unary hv142, eq_binary hv141, eq_unary hv140]
  rfl

theorem at_value (hops5 : Holds ops5 W) (hops6 : Holds ops6 W) : (W (Proc.devRef .tc main_v157) : FVec F S512x1 .f32) = value (W (Proc.devRef .tc main_v152)) (W (Proc.devRef .tc main_arg19)) (W (Proc.devRef .tc main_arg20)) := by
  obtain ⟨hv111, hv112, hv113, hv114, hv115, hv116, hv117, hv118, hv119, hv120, hv121, hv122, hv123, hv124, hc_19, hv125, hv126, hc_20, hv127, hv128, hv129, hv130, hv131, hv132, hv133, hcst_21, hv134, hv135, hv136, hv137, hv138, hv139, hv140, hv141, hv142, hv143, hv144, hv145, hv146, hv147, hv148, hv149, hv150, hv151, hv152, hv153, hv154, hv155⟩ := hops5
  obtain ⟨hv156, hv157, hv158, hv159, hv160, hv161, hv162, hv163, hv164, hv165⟩ := hops6
  rw [eq_binary hv157, eq_unary hv156, eq_unary hv155, eq_binary hv154, eq_unary hv153]
  rfl

theorem at_means (hops6 : Holds ops6 W) : (W (Proc.devRef .tc main_v163) : FVec F S1x512x2 .f32) = means (W (Proc.devRef .tc main_v152)) (W (Proc.devRef .tc main_arg21)) (W (Proc.devRef .tc main_arg22)) := by
  obtain ⟨hv156, hv157, hv158, hv159, hv160, hv161, hv162, hv163, hv164, hv165⟩ := hops6
  rw [eq_binary hv163, eq_unary hv162, eq_unary hv161, eq_binary hv160, eq_unary hv159, eq_reshape hv158]
  rfl

theorem at_logStd (hops6 : Holds ops6 W) : (W (Proc.devRef .tc main_v164) : FVec F S1x512x2 .f32) = logStd (W (Proc.devRef .tc main_arg23)) := by
  obtain ⟨hv156, hv157, hv158, hv159, hv160, hv161, hv162, hv163, hv164, hv165⟩ := hops6
  rw [eq_unary hv164]
  rfl

theorem at_std (hops6 : Holds ops6 W) : (W (Proc.devRef .tc main_v165) : FVec F S1x512x2 .f32) = Host.exp (logStd (W (Proc.devRef .tc main_arg23))) := by
  obtain ⟨hv156, hv157, hv158, hv159, hv160, hv161, hv162, hv163, hv164, hv165⟩ := hops6
  rw [eq_unary hv165, eq_unary hv164]
  rfl

end Cert.Ref

end
-- ==== Proof.HostFns.lean ====
/- The kernel's operands as functions of the program's arguments and of its uniform draws. -/
module

public import proofs.«01_k».proof.Proof.Line
public import proofs.«01_k».proof.Proof.Gen.KernelIdeal.Launch

@[expose] public section

set_option maxRecDepth 20000
set_option maxHeartbeats 4000000

noncomputable section

namespace Cert.Host

open Cert.KernelIdeal Cert.KernelIdeal.Gen Cert.Line Idealize.ShloMosaic Idealize.ShloMosaic.TcCoe Idealize.ShloMosaic.StableHlo

variable {F : FTy → Type} [FloatOps F]

/-- The draws' second transform. -/
def noise (u : FVec F S261632x2 .f32) : FVec F S261632x2 .f32 := Host.negf (Host.log (Host.negf (Host.log u)))

/-- One column of an edge table, laid out as a node-by-node table with zeros on its diagonal. -/
def lay (q : ℕ) (hs : S261632x2.Slices ![0, q] S261632x1) (g : FVec F S261632x2 .f32) : FVec F S512x512 .f32 :=
  shapeCast S512x512 (concatenate S262144 0
    [⟨S262143, shapeCast S262143 (concatenate S511x513 1
      [⟨S511x1, broadcastInDim S511x1 ![] bcast_S_S511x1 (constant S_ .f32 0x00000000#32)⟩,
       ⟨S511x512, shapeCast S511x512 (shapeCast S261632 (extractStridedSlice S261632x1 ![0, q] g hs) shapeCasts_S261632x1_S261632) shapeCasts_S261632_S511x512⟩]
      concatenates_S511x1_S511x512_S511x513_d1) shapeCasts_S511x513_S262143⟩,
     ⟨S1, broadcastInDim S1 ![] bcast_S_S1 (constant S_ .f32 0x00000000#32)⟩]
    concatenates_S262143_S1_S262144_d0) shapeCasts_S262144_S512x512

/-- The identity, as numbers. -/
def eye : FVec F S64x64 .f32 :=
  uitofp .f32 (cmpi .eq (addi (iotaInDim S64x64 32 0) (broadcastInDim S64x64 ![] bcast_S_S64x64 (constantI S_ 32 0#32))) (iotaInDim S64x64 32 1))

/-- A row of weights, once per diagonal position. -/
def kron (e : FVec F S64x64 .f32) (r : FVec F S1x32 .f32) : FVec F S64x2048 .f32 :=
  shapeCast S64x2048 (mulf
    (broadcastInDim S64x1x64x32 ![0, 1, 2, 3] bcast_S64x1x64x1_S64x1x64x32_0_1_2_3 (broadcastInDim S64x1x64x1 ![0, 2] bcast_S64x64_S64x1x64x1_0_2 e))
    (broadcastInDim S64x1x64x32 ![0, 1, 2, 3] bcast_S1x1x1x32_S64x1x64x32_0_1_2_3 (broadcastInDim S1x1x1x32 ![1, 3] bcast_S1x32_S1x1x1x32_1_3 r)))
    shapeCasts_S64x1x64x32_S64x2048

/-- One row of the two. -/
def row (q : ℕ) (hs : S2x32.Slices ![q, 0] S1x32) (w : FVec F S2x32 .f32) : FVec F S1x32 .f32 :=
  broadcastInDim S1x32 ![1] bcast_S32_S1x32_1 (shapeCast S32 (extractStridedSlice S1x32 ![q, 0] w hs) shapeCasts_S1x32_S32)

/-- The block-diagonal weights. -/
def weights (w : FVec F S2x32 .f32) : FVec F S128x2048 .f32 :=
  concatenate S128x2048 0
    [⟨S64x2048, kron eye (row 0 slices_S2x32_S1x32_0_0 w)⟩, ⟨S64x2048, kron eye (row 1 slices_S2x32_S1x32_1_0 w)⟩]
    concatenates_S64x2048_S64x2048_S128x2048_d0

/-- The last layer's weights: the means', the value's, zeros. -/
def wout (w : FVec F S2x64 .f32) (v : FVec F S1x64 .f32) : FVec F S64x128 .f32 :=
  transpose S64x128 [1, 0] (concatenate S128x64 0
    [⟨S2x64, w⟩, ⟨S1x64, v⟩, ⟨S125x64, broadcastInDim S125x64 ![] bcast_S_S125x64 (constant S_ .f32 0x00000000#32)⟩]
    concatenates_S2x64_S1x64_S125x64_S128x64_d0) transposes_S128x64_S64x128_1_0

/-- The last layer's biases. -/
def bout (b : FVec F S2 .f32) (v : FVec F S1 .f32) : FVec F S1x128 .f32 :=
  broadcastInDim S1x128 ![1] bcast_S128_S1x128_1 (concatenate S128 0
    [⟨S2, b⟩, ⟨S1, v⟩, ⟨S125, broadcastInDim S125 ![] bcast_S_S125 (constant S_ .f32 0x00000000#32)⟩]
    concatenates_S2_S1_S125_S128_d0)

/-- The first 64 columns of the edge network's weights, transposed. -/
def firstT (w : FVec F S32x128 .f32) : FVec F S64x32 .f32 :=
  transpose S64x32 [1, 0] (extractStridedSlice S32x64 ![0, 0] w slices_S32x128_S32x64_0_0) transposes_S32x64_S64x32_1_0

variable {W : Valuation τ sig (Elt F)}

theorem at_G10 (hhostOps0_4 : Holds hostOps0_4 W) : (W (Proc.devRef .tc main_v25) : FVec F S512x512 .f32) = lay 0 slices_S261632x2_S261632x1_0_0 (noise (W (Proc.devRef .tc main_v12))) := by
  obtain ⟨hv13, hv14, hv15, hv16, hv17, hv18, hcst_3, hv19, hv20, hv21, hv22, hcst_4, hv23, hv24, hv25, hv26, hv27, hcst_5, hv28, hv29, hv30, hv31, hcst_6, hv32, hv33, hv34, hcst_7, hcst_8⟩ := hhostOps0_4
  rw [eq_reshape hv25, eq_binary hv24, eq_unary hv23, eq_nullary hcst_4, eq_reshape hv22, eq_binary hv21, eq_reshape hv20, eq_unary hv19, eq_nullary hcst_3, eq_reshape hv18, eq_unary hv17, eq_unary hv16, eq_unary hv15, eq_unary hv14, eq_unary hv13]
  rfl

theorem at_G11 (hhostOps0_4 : Holds hostOps0_4 W) : (W (Proc.devRef .tc main_v34) : FVec F S512x512 .f32) = lay 1 slices_S261632x2_S261632x1_0_1 (noise (W (Proc.devRef .tc main_v12))) := by
  obtain ⟨hv13, hv14, hv15, hv16, hv17, hv18, hcst_3, hv19, hv20, hv21, hv22, hcst_4, hv23, hv24, hv25, hv26, hv27, hcst_5, hv28, hv29, hv30, hv31, hcst_6, hv32, hv33, hv34, hcst_7, hcst_8⟩ := hhostOps0_4
  rw [eq_reshape hv34, eq_binary hv33, eq_unary hv32, eq_nullary hcst_6, eq_reshape hv31, eq_binary hv30, eq_reshape hv29, eq_unary hv28, eq_nullary hcst_5, eq_reshape hv27, eq_unary hv26, eq_unary hv16, eq_unary hv15, eq_unary hv14, eq_unary hv13]
  rfl

theorem at_G20 (hhostOps0_6 : Holds hostOps0_6 W) : (W (Proc.devRef .tc main_v48) : FVec F S512x512 .f32) = lay 0 slices_S261632x2_S261632x1_0_0 (noise (W (Proc.devRef .tc main_v35))) := by
  obtain ⟨hv36, hv37, hv38, hv39, hv40, hv41, hcst_9, hv42, hv43, hv44, hv45, hcst_10, hv46, hv47, hv48, hv49, hv50, hcst_11, hv51, hv52, hv53, hv54, hcst_12, hv55, hv56, hv57, hv58, hv59, hc_13, hv60, hv61, hv62, hv63, hv64, hv65, hv66⟩ := hhostOps0_6
  rw [eq_reshape hv48, eq_binary hv47, eq_unary hv46, eq_nullary hcst_10, eq_reshape hv45, eq_binary hv44, eq_reshape hv43, eq_unary hv42, eq_nullary hcst_9, eq_reshape hv41, eq_unary hv40, eq_unary hv39, eq_unary hv38, eq_unary hv37, eq_unary hv36]
  rfl

theorem at_G21 (hhostOps0_6 : Holds hostOps0_6 W) : (W (Proc.devRef .tc main_v57) : FVec F S512x512 .f32) = lay 1 slices_S261632x2_S261632x1_0_1 (noise (W (Proc.devRef .tc main_v35))) := by
  obtain ⟨hv36, hv37, hv38, hv39, hv40, hv41, hcst_9, hv42, hv43, hv44, hv45, hcst_10, hv46, hv47, hv48, hv49, hv50, hcst_11, hv51, hv52, hv53, hv54, hcst_12, hv55, hv56, hv57, hv58, hv59, hc_13, hv60, hv61, hv62, hv63, hv64, hv65, hv66⟩ := hhostOps0_6
  rw [eq_reshape hv57, eq_binary hv56, eq_unary hv55, eq_nullary hcst_12, eq_reshape hv54, eq_binary hv53, eq_reshape hv52, eq_unary hv51, eq_nullary hcst_11, eq_reshape hv50, eq_unary hv49, eq_unary hv39, eq_unary hv38, eq_unary hv37, eq_unary hv36]
  rfl

theorem at_w1 (hhostOps0_6 : Holds hostOps0_6 W) (hhostOps0_7 : Holds hostOps0_7 W) (hhostOps0_8 : Holds hostOps0_8 W) (hhostOps0_9 : Holds hostOps0_9 W) (hhostOps0_10 : Holds hostOps0_10 W) : (W (Proc.devRef .tc main_v72) : FVec F S128x2048 .f32) = weights (W (Proc.devRef .tc main_arg5)) := by
  obtain ⟨hv36, hv37, hv38, hv39, hv40, hv41, hcst_9, hv42, hv43, hv44, hv45, hcst_10, hv46, hv47, hv48, hv49, hv50, hcst_11, hv51, hv52, hv53, hv54, hcst_12, hv55, hv56, hv57, hv58, hv59, hc_13, hv60, hv61, hv62, hv63, hv64, hv65, hv66⟩ := hhostOps0_6
  obtain ⟨hcall3_v0, hcall3_v1, hcall3_v2, hcall3_v3, hcall3_v4, hv67⟩ := hhostOps0_7
  obtain ⟨hv68, hv69, hv70⟩ := hhostOps0_8
  obtain ⟨hcall4_v0, hcall4_v1, hcall4_v2, hcall4_v3, hcall4_v4, hv71⟩ := hhostOps0_9
  obtain ⟨hv72, hv73, hv74, hv75⟩ := hhostOps0_10
  rw [eq_binary hv72, eq_reshape hv71, eq_binary hcall4_v4, eq_unary hcall4_v3, eq_unary hcall4_v2, eq_unary hcall4_v1, eq_unary hcall4_v0, eq_unary hv70, eq_reshape hv69, eq_unary hv68, eq_reshape hv67, eq_binary hcall3_v4, eq_unary hcall3_v3, eq_unary hcall3_v2, eq_unary hcall3_v1, eq_unary hcall3_v0, eq_unary hv66, eq_reshape hv65, eq_unary hv64, eq_unary hv63, eq_binary hv62, eq_binary hv61, eq_unary hv60, eq_nullary hc_13, eq_nullary hv59, eq_nullary hv58]
  rfl

theorem at_w2 (hhostOps0_6 : Holds hostOps0_6 W) (hhostOps0_10 : Holds hostOps0_10 W) (hhostOps0_11 : Holds hostOps0_11 W) (hhostOps0_12 : Holds hostOps0_12 W) (hhostOps0_13 : Holds hostOps0_13 W) (hhostOps0_14 : Holds hostOps0_14 W) : (W (Proc.devRef .tc main_v81) : FVec F S128x2048 .f32) = weights (W (Proc.devRef .tc main_arg9)) := by
  obtain ⟨hv36, hv37, hv38, hv39, hv40, hv41, hcst_9, hv42, hv43, hv44, hv45, hcst_10, hv46, hv47, hv48, hv49, hv50, hcst_11, hv51, hv52, hv53, hv54, hcst_12, hv55, hv56, hv57, hv58, hv59, hc_13, hv60, hv61, hv62, hv63, hv64, hv65, hv66⟩ := hhostOps0_6
  obtain ⟨hv72, hv73, hv74, hv75⟩ := hhostOps0_10
  obtain ⟨hcall5_v0, hcall5_v1, hcall5_v2, hcall5_v3, hcall5_v4, hv76⟩ := hhostOps0_11
  obtain ⟨hv77, hv78, hv79⟩ := hhostOps0_12
  obtain ⟨hcall6_v0, hcall6_v1, hcall6_v2, hcall6_v3, hcall6_v4, hv80⟩ := hhostOps0_13
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_binary hv81, eq_reshape hv80, eq_binary hcall6_v4, eq_unary hcall6_v3, eq_unary hcall6_v2, eq_unary hcall6_v1, eq_unary hcall6_v0, eq_unary hv79, eq_reshape hv78, eq_unary hv77, eq_reshape hv76, eq_binary hcall5_v4, eq_unary hcall5_v3, eq_unary hcall5_v2, eq_unary hcall5_v1, eq_unary hcall5_v0, eq_unary hv75, eq_reshape hv74, eq_unary hv73, eq_unary hv63, eq_binary hv62, eq_binary hv61, eq_unary hv60, eq_nullary hc_13, eq_nullary hv59, eq_nullary hv58]
  rfl

theorem at_xT (hhostOps0_14 : Holds hostOps0_14 W) : (W (Proc.devRef .tc main_v86) : FVec F S128x512 .f32) = transpose S128x512 [1, 0] (W (Proc.devRef .tc main_arg0)) transposes_S512x128_S128x512_1_0 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv86]

theorem at_weT (hhostOps0_14 : Holds hostOps0_14 W) : (W (Proc.devRef .tc main_v87) : FVec F S128x64 .f32) = transpose S128x64 [1, 0] (W (Proc.devRef .tc main_arg1)) transposes_S64x128_S128x64_1_0 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv87]

theorem at_beR (hhostOps0_14 : Holds hostOps0_14 W) : (W (Proc.devRef .tc main_v88) : FVec F S1x64 .f32) = broadcastInDim S1x64 ![1] bcast_S64_S1x64_1 (W (Proc.devRef .tc main_arg2)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv88]

theorem at_beC (hhostOps0_14 : Holds hostOps0_14 W) : (W (Proc.devRef .tc main_v89) : FVec F S64x1 .f32) = broadcastInDim S64x1 ![0] bcast_S64_S64x1_0 (W (Proc.devRef .tc main_arg2)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv89]

theorem at_w1sT (hhostOps0_14 : Holds hostOps0_14 W) : (W (Proc.devRef .tc main_v91) : FVec F S64x32 .f32) = firstT (W (Proc.devRef .tc main_arg3)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv91, eq_unary hv90]
  rfl

theorem at_w1d (hhostOps0_14 : Holds hostOps0_14 W) : (W (Proc.devRef .tc main_v92) : FVec F S32x64 .f32) = extractStridedSlice S32x64 ![0, 64] (W (Proc.devRef .tc main_arg3)) slices_S32x128_S32x64_0_64 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv92]

theorem at_b1a (hhostOps0_14 : Holds hostOps0_14 W) : (W (Proc.devRef .tc main_v93) : FVec F S1x32 .f32) = broadcastInDim S1x32 ![1] bcast_S32_S1x32_1 (W (Proc.devRef .tc main_arg4)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv93]

theorem at_b2a (hhostOps0_14 : Holds hostOps0_14 W) : (W (Proc.devRef .tc main_v94) : FVec F S1x2 .f32) = broadcastInDim S1x2 ![1] bcast_S2_S1x2_1 (W (Proc.devRef .tc main_arg6)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv94]

theorem at_w2sT (hhostOps0_14 : Holds hostOps0_14 W) : (W (Proc.devRef .tc main_v96) : FVec F S64x32 .f32) = firstT (W (Proc.devRef .tc main_arg7)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv96, eq_unary hv95]
  rfl

theorem at_w2d (hhostOps0_14 : Holds hostOps0_14 W) : (W (Proc.devRef .tc main_v97) : FVec F S32x64 .f32) = extractStridedSlice S32x64 ![0, 64] (W (Proc.devRef .tc main_arg7)) slices_S32x128_S32x64_0_64 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv97]

theorem at_b1b (hhostOps0_14 : Holds hostOps0_14 W) : (W (Proc.devRef .tc main_v98) : FVec F S1x32 .f32) = broadcastInDim S1x32 ![1] bcast_S32_S1x32_1 (W (Proc.devRef .tc main_arg8)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv98]

theorem at_b2b (hhostOps0_14 : Holds hostOps0_14 W) : (W (Proc.devRef .tc main_v99) : FVec F S1x2 .f32) = broadcastInDim S1x2 ![1] bcast_S2_S1x2_1 (W (Proc.devRef .tc main_arg10)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv99]

theorem at_wg1T (hhostOps0_14 : Holds hostOps0_14 W) : (W (Proc.devRef .tc main_v100) : FVec F S64x64 .f32) = transpose S64x64 [1, 0] (W (Proc.devRef .tc main_arg11)) transposes_S64x64_S64x64_1_0 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv100]

theorem at_bg1R (hhostOps0_14 : Holds hostOps0_14 W) : (W (Proc.devRef .tc main_v101) : FVec F S1x64 .f32) = broadcastInDim S1x64 ![1] bcast_S64_S1x64_1 (W (Proc.devRef .tc main_arg12)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv101]

theorem at_bg1C (hhostOps0_14 : Holds hostOps0_14 W) : (W (Proc.devRef .tc main_v102) : FVec F S64x1 .f32) = broadcastInDim S64x1 ![0] bcast_S64_S64x1_0 (W (Proc.devRef .tc main_arg12)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv102]

theorem at_wg2T (hhostOps0_14 : Holds hostOps0_14 W) : (W (Proc.devRef .tc main_v103) : FVec F S64x64 .f32) = transpose S64x64 [1, 0] (W (Proc.devRef .tc main_arg13)) transposes_S64x64_S64x64_1_0 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv103]

theorem at_bg2R (hhostOps0_14 : Holds hostOps0_14 W) : (W (Proc.devRef .tc main_v104) : FVec F S1x64 .f32) = broadcastInDim S1x64 ![1] bcast_S64_S1x64_1 (W (Proc.devRef .tc main_arg14)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv104]

theorem at_wcT (hhostOps0_14 : Holds hostOps0_14 W) : (W (Proc.devRef .tc main_v105) : FVec F S64x64 .f32) = transpose S64x64 [1, 0] (W (Proc.devRef .tc main_arg15)) transposes_S64x64_S64x64_1_0 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv105]

theorem at_bcR (hhostOps0_14 : Holds hostOps0_14 W) : (W (Proc.devRef .tc main_v106) : FVec F S1x64 .f32) = broadcastInDim S1x64 ![1] bcast_S64_S1x64_1 (W (Proc.devRef .tc main_arg16)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv106]

theorem at_wfT (hhostOps0_14 : Holds hostOps0_14 W) : (W (Proc.devRef .tc main_v107) : FVec F S64x64 .f32) = transpose S64x64 [1, 0] (W (Proc.devRef .tc main_arg17)) transposes_S64x64_S64x64_1_0 := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv107]

theorem at_bfR (hhostOps0_14 : Holds hostOps0_14 W) : (W (Proc.devRef .tc main_v108) : FVec F S1x64 .f32) = broadcastInDim S1x64 ![1] bcast_S64_S1x64_1 (W (Proc.devRef .tc main_arg18)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  rw [eq_unary hv108]

theorem at_wout (hhostOps0_14 : Holds hostOps0_14 W) : (W (Proc.devRef .tc main_v109) : FVec F S64x128 .f32) = wout (W (Proc.devRef .tc main_arg21)) (W (Proc.devRef .tc main_arg19)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  have ez : (W (Proc.devRef .tc main_v82) : FVec F S125x64 .f32) = broadcastInDim S125x64 ![] bcast_S_S125x64 (constant S_ .f32 0x00000000#32) := by
    rw [eq_unary hv82, eq_nullary hcst_14]
  rw [eq_unary hv109, eq_nary hv83]
  exact congrArg (fun z : FVec F S125x64 .f32 => transpose S64x128 [1, 0] (concatenate S128x64 0 [⟨S2x64, (W (Proc.devRef .tc main_arg21))⟩, ⟨S1x64, (W (Proc.devRef .tc main_arg19))⟩, ⟨S125x64, z⟩] concatenates_S2x64_S1x64_S125x64_S128x64_d0) transposes_S128x64_S64x128_1_0) ez

theorem at_bout (hhostOps0_14 : Holds hostOps0_14 W) : (W (Proc.devRef .tc main_v110) : FVec F S1x128 .f32) = bout (W (Proc.devRef .tc main_arg22)) (W (Proc.devRef .tc main_arg20)) := by
  obtain ⟨hv81, hcst_14, hv82, hv83, hcst_15, hv84, hv85, hv86, hv87, hv88, hv89, hv90, hv91, hv92, hv93, hv94, hv95, hv96, hv97, hv98, hv99, hv100, hv101, hv102, hv103, hv104, hv105, hv106, hv107, hv108, hv109, hv110⟩ := hhostOps0_14
  have ez : (W (Proc.devRef .tc main_v84) : FVec F S125 .f32) = broadcastInDim S125 ![] bcast_S_S125 (constant S_ .f32 0x00000000#32) := by
    rw [eq_unary hv84, eq_nullary hcst_15]
  rw [eq_unary hv110, eq_nary hv85]
  exact congrArg (fun z : FVec F S125 .f32 => broadcastInDim S1x128 ![1] bcast_S128_S1x128_1 (concatenate S128 0 [⟨S2, (W (Proc.devRef .tc main_arg22))⟩, ⟨S1, (W (Proc.devRef .tc main_arg20))⟩, ⟨S125, z⟩] concatenates_S2_S1_S125_S128_d0)) ez

end Cert.Host

end
-- ==== Proof.Draws.lean ====
/- Both programs end with the same uniform draws. -/
module

public import proofs.«01_k».proof.Proof.Noise
public import proofs.«01_k».proof.Proof.RefFns
public import proofs.«01_k».proof.Proof.HostFns

@[expose] public section

set_option maxRecDepth 20000
set_option maxHeartbeats 4000000

noncomputable section

namespace Cert.Noise

open Cert.Line Cert.Ref Cert.KernelIdeal.Gen Idealize.ShloMosaic Idealize.ShloMosaic.TcCoe Idealize.ShloMosaic.StableHlo

variable {F : FTy → Type} [FloatOps F]
variable {W : Valuation Cert.KernelIdeal.τ sK (Elt F)} {W' : Valuation Cert.ReferenceIdeal.τ sR (Elt F)}

theorem agree_seed (h0 : Holds hostOps0 W) (h0' : Holds ops0 W') :
    Agree W W' (pr (T := ⟨Cert.KernelIdeal.S2, .i32⟩) (.of Cert.KernelIdeal.main_v6) (.of Cert.ReferenceIdeal.main_v20)) := by
  obtain ⟨hc, hc_0, hv0, hv1, hv2, hc_1, hv3, hv4, hv5, hv6⟩ := h0
  obtain ⟨rv0, rv1, rv2, rc, rv3, rv4, rv5, rv6, rv7, rv8, rv9, rv10, rv11, rv12, rv13, rc_0, rc_1, rv14, rv15, rv16, rc_2, rv17, rv18, rv19, rv20⟩ := h0'
  refine (show (W (Proc.devRef .tc Cert.KernelIdeal.main_v6) : IVec Cert.KernelIdeal.S2 32) = W' (Proc.devRef .tc Cert.ReferenceIdeal.main_v20) from ?_)
  rw [eq_binary hv6, eq_unary hv5, eq_unary hv4, eq_binary hv3, eq_nullary hc_1, eq_unary hv2, eq_unary hv1, eq_binary hv0, eq_nullary hc_0, eq_nullary hc,
    eq_binary rv20, eq_unary rv19, eq_unary rv18, eq_binary rv17, eq_nullary rc_2, eq_unary rv16, eq_unary rv15, eq_binary rv14, eq_nullary rc_1, eq_nullary rc_0]

theorem agree_key1 (h2 : Holds hostOps0_2 W) (h1' : Holds ops1 W')
    (h : Agree W W' (pr (T := ⟨Cert.KernelIdeal.S2x2, .i32⟩) (.of Cert.KernelIdeal.main_v7) (.of Cert.ReferenceIdeal.main_v21))) :
    Agree W W' (pr (T := ⟨Cert.KernelIdeal.S2, .i32⟩) (.of Cert.KernelIdeal.main_v9) (.of Cert.ReferenceIdeal.main_v23)) := by
  obtain ⟨hv8, hv9, hv10, hv11, hcst, hcst_2⟩ := h2
  obtain ⟨rv22, rv23, rv24, rv25, rc_3, rv26, rv27, rc_4, rv28, rv29, rv30, rv31, rv32, rc_5, rv33, rv34, rc_6, rv35, rv36, rv37, rv38, rv39, rv40, rv41, rv42, rv43, rv44, rv45, rcst, rv46, rv47, rv48, rv49, rv50⟩ := h1'
  have e : (W (Proc.devRef .tc Cert.KernelIdeal.main_v7) : IVec Cert.KernelIdeal.S2x2 32) = W' (Proc.devRef .tc Cert.ReferenceIdeal.main_v21) := h
  refine (show (W (Proc.devRef .tc Cert.KernelIdeal.main_v9) : IVec Cert.KernelIdeal.S2 32) = W' (Proc.devRef .tc Cert.ReferenceIdeal.main_v23) from ?_)
  rw [eq_reshape hv9, eq_unary hv8, eq_reshape rv23, eq_unary rv22, e]
  rfl

theorem agree_key2 (h2 : Holds hostOps0_2 W) (h1' : Holds ops1 W')
    (h : Agree W W' (pr (T := ⟨Cert.KernelIdeal.S2x2, .i32⟩) (.of Cert.KernelIdeal.main_v7) (.of Cert.ReferenceIdeal.main_v21))) :
    Agree W W' (pr (T := ⟨Cert.KernelIdeal.S2, .i32⟩) (.of Cert.KernelIdeal.main_v11) (.of Cert.ReferenceIdeal.main_v25)) := by
  obtain ⟨hv8, hv9, hv10, hv11, hcst, hcst_2⟩ := h2
  obtain ⟨rv22, rv23, rv24, rv25, rc_3, rv26, rv27, rc_4, rv28, rv29, rv30, rv31, rv32, rc_5, rv33, rv34, rc_6, rv35, rv36, rv37, rv38, rv39, rv40, rv41, rv42, rv43, rv44, rv45, rcst, rv46, rv47, rv48, rv49, rv50⟩ := h1'
  have e : (W (Proc.devRef .tc Cert.KernelIdeal.main_v7) : IVec Cert.KernelIdeal.S2x2 32) = W' (Proc.devRef .tc Cert.ReferenceIdeal.main_v21) := h
  refine (show (W (Proc.devRef .tc Cert.KernelIdeal.main_v11) : IVec Cert.KernelIdeal.S2 32) = W' (Proc.devRef .tc Cert.ReferenceIdeal.main_v25) from ?_)
  rw [eq_reshape hv11, eq_unary hv10, eq_reshape rv25, eq_unary rv24, e]
  rfl

theorem agree_low1 (h : Holds hostOps0_2 W) (h' : Holds ops2 W') :
    Agree W W' (pr (T := ⟨Cert.KernelIdeal.S_, .f32⟩) (.of Cert.KernelIdeal.main_cst) (.of Cert.ReferenceIdeal.main_cst_7)) := by
  obtain ⟨hv8, hv9, hv10, hv11, hcst, hcst_2⟩ := h
  obtain ⟨rv51, rv52, rcst_7, rcst_8⟩ := h'
  exact (eq_nullary hcst).trans (eq_nullary rcst_7).symm

theorem agree_high1 (h : Holds hostOps0_2 W) (h' : Holds ops2 W') :
    Agree W W' (pr (T := ⟨Cert.KernelIdeal.S_, .f32⟩) (.of Cert.KernelIdeal.main_cst_2) (.of Cert.ReferenceIdeal.main_cst_8)) := by
  obtain ⟨hv8, hv9, hv10, hv11, hcst, hcst_2⟩ := h
  obtain ⟨rv51, rv52, rcst_7, rcst_8⟩ := h'
  exact (eq_nullary hcst_2).trans (eq_nullary rcst_8).symm

theorem agree_low2 (h : Holds hostOps0_4 W) (h' : Holds ops4 W') :
    Agree W W' (pr (T := ⟨Cert.KernelIdeal.S_, .f32⟩) (.of Cert.KernelIdeal.main_cst_7) (.of Cert.ReferenceIdeal.main_cst_17)) := by
  obtain ⟨hv13, hv14, hv15, hv16, hv17, hv18, hcst_3, hv19, hv20, hv21, hv22, hcst_4, hv23, hv24, hv25, hv26, hv27, hcst_5, hv28, hv29, hv30, hv31, hcst_6, hv32, hv33, hv34, hcst_7, hcst_8⟩ := h
  obtain ⟨rv102, rcst_16, rv103, rv104, rv105, rv106, rv107, rv108, rv109, rcst_17, rcst_18⟩ := h'
  exact (eq_nullary hcst_7).trans (eq_nullary rcst_17).symm

theorem agree_high2 (h : Holds hostOps0_4 W) (h' : Holds ops4 W') :
    Agree W W' (pr (T := ⟨Cert.KernelIdeal.S_, .f32⟩) (.of Cert.KernelIdeal.main_cst_8) (.of Cert.ReferenceIdeal.main_cst_18)) := by
  obtain ⟨hv13, hv14, hv15, hv16, hv17, hv18, hcst_3, hv19, hv20, hv21, hv22, hcst_4, hv23, hv24, hv25, hv26, hv27, hcst_5, hv28, hv29, hv30, hv31, hcst_6, hv32, hv33, hv34, hcst_7, hcst_8⟩ := h
  obtain ⟨rv102, rcst_16, rv103, rv104, rv105, rv106, rv107, rv108, rv109, rcst_17, rcst_18⟩ := h'
  exact (eq_nullary hcst_8).trans (eq_nullary rcst_18).symm

theorem draws1 (k0 : Holds hostOps0 W) (k1 : Holds hostOps0_1 W) (k2 : Holds hostOps0_2 W) (k3 : Holds hostOps0_3 W)
    (r0 : Holds ops0 W') (rk : Holds opsKeys W') (r1 : Holds ops1 W') (r2 : Holds ops2 W') (ru : Holds opsU1 W') :
    (W (Proc.devRef .tc Cert.KernelIdeal.main_v12) : FVec F Cert.KernelIdeal.S261632x2 .f32) = W' (Proc.devRef .tc Cert.ReferenceIdeal.main_v53) :=
  uniform1.agree k3 ru (List.forall_mem_cons.mpr ⟨agree_key1 k2 r1 (keys.agree k1 rk (List.forall_mem_singleton.mpr (agree_seed k0 r0))),
    List.forall_mem_cons.mpr ⟨agree_low1 k2 r2, List.forall_mem_singleton.mpr (agree_high1 k2 r2)⟩⟩)

theorem draws2 (k0 : Holds hostOps0 W) (k1 : Holds hostOps0_1 W) (k2 : Holds hostOps0_2 W) (k4 : Holds hostOps0_4 W) (k5 : Holds hostOps0_5 W)
    (r0 : Holds ops0 W') (rk : Holds opsKeys W') (r1 : Holds ops1 W') (r4 : Holds ops4 W') (ru : Holds opsU2 W') :
    (W (Proc.devRef .tc Cert.KernelIdeal.main_v35) : FVec F Cert.KernelIdeal.S261632x2 .f32) = W' (Proc.devRef .tc Cert.ReferenceIdeal.main_v110) :=
  uniform2.agree k5 ru (List.forall_mem_cons.mpr ⟨agree_key2 k2 r1 (keys.agree k1 rk (List.forall_mem_singleton.mpr (agree_seed k0 r0))),
    List.forall_mem_cons.mpr ⟨agree_low2 k4 r4, List.forall_mem_singleton.mpr (agree_high2 k4 r4)⟩⟩)

end Cert.Noise

end
-- ==== Proof.BodyValue.lean ====
/- The body's masks and products read at an index, over the extended reals. -/
module

public import proofs.«01_k».proof.Proof.Body
public import Idealize.ShloMosaic.Lib.Pointwise
public import Idealize.ShloMosaic.Lib.Tactic.WordOmega

@[expose] public section

set_option maxRecDepth 20000
set_option maxHeartbeats 4000000

noncomputable section

namespace Cert.Body

open Cert.KernelIdeal Cert.KernelIdeal.Gen Cert.KernelIdeal.Run Idealize.ShloMosaic

/-- The block-diagonal weights: row `64 q + a`, column `32 b + k` holds `w2 (q, k)` where `a = b`, else zero. -/
def Diag (W : FVec Ideal S128x2048 .f32) (w2 : FVec Ideal S2x32 .f32) : Prop :=
  ∀ (q : Fin 2) (a b : Fin 64) (k : Fin 32),
    W (ix2 ⟨q.val * 64 + a.val, by omega⟩ ⟨b.val * 32 + k.val, by omega⟩) = if a = b then w2 (ix2 q k) else 0

/-- The second layer at an edge `(i, j)`, before its bias. -/
def net (w2 : FVec Ideal S2x32 .f32) (P : FVec Ideal S512x32 .f32) (Q : FVec Ideal S32x512 .f32) (q : Fin 2) (i j : Fin 512) : EReal :=
  ∑ k : Fin 32, w2 (ix2 q k) * max (P (ix2 i k) + Q (ix2 k j)) (0 : EReal)

theorem scores_ap (o : ℕ) (hP : S512x32.Slices ![o, 0] S64x32) (P : FVec Ideal S512x32 .f32) (Q : FVec Ideal S32x512 .f32)
    (W : FVec Ideal S128x2048 .f32) (r : Fin 128) (j : Fin 512) (ho : o + 64 ≤ 512) :
    scores o hP P Q W (ix2 r j)
      = ∑ p : Fin 2048, W (ix2 r p) * max (P (ix2 ⟨o + p.val / 32, by omega⟩ ⟨p.val % 32, by omega⟩) + Q (ix2 ⟨p.val % 32, by omega⟩ j)) (0 : EReal) := by
  unfold scores
  pointwise

theorem sum2048 (f : Fin 2048 → EReal) : ∑ p, f p = ∑ b : Fin 64, ∑ k : Fin 32, f ⟨b.val * 32 + k.val, by omega⟩ := by
  rw [← (finProdFinEquiv (m := 64) (n := 32)).sum_comp f, Fintype.sum_prod_type]
  refine Finset.sum_congr rfl fun b _ => Finset.sum_congr rfl fun k _ => congrArg f (Fin.ext ?_)
  show k.val + 32 * b.val = b.val * 32 + k.val
  omega

theorem scores_net (o : ℕ) (hP : S512x32.Slices ![o, 0] S64x32) (P : FVec Ideal S512x32 .f32) (Q : FVec Ideal S32x512 .f32)
    (W : FVec Ideal S128x2048 .f32) (w2 : FVec Ideal S2x32 .f32) (hW : Diag W w2) (q : Fin 2) (a : Fin 64) (j : Fin 512) (i : Fin 512)
    (hi : i.val = o + a.val) (ho : o + 64 ≤ 512) (r : Fin 128) (hr : r.val = q.val * 64 + a.val) :
    scores o hP P Q W (ix2 r j) = net w2 P Q q i j := by
  have hlt : q.val * 64 + a.val < 128 := by clear hr; omega
  obtain rfl : r = ⟨q.val * 64 + a.val, hlt⟩ := Fin.ext hr
  rw [scores_ap o hP P Q W _ j ho, sum2048, Finset.sum_eq_single a]
  · refine Finset.sum_congr rfl fun k _ => ?_
    have h1 : (⟨o + (a.val * 32 + k.val) / 32, by omega⟩ : Fin 512) = i := Fin.ext (by show o + (a.val * 32 + k.val) / 32 = i.val; omega)
    have h2 : (⟨(a.val * 32 + k.val) % 32, by omega⟩ : Fin 32) = k := Fin.ext (by show (a.val * 32 + k.val) % 32 = k.val; omega)
    rw [hW q a a k, if_pos rfl]
    simp only [h1, h2]
  · intro b _ hb
    refine Finset.sum_eq_zero fun k _ => ?_
    rw [hW q a b k, if_neg (Ne.symm hb), zero_mul]
  · exact fun h => absurd (Finset.mem_univ a) h

/-- The mask's entry `(i, j)`. -/
def kept (w2 : FVec Ideal S2x32 .f32) (P : FVec Ideal S512x32 .f32) (Q : FVec Ideal S32x512 .f32) (b0 b1 : EReal)
    (G0 G1 : FVec Ideal S512x512 .f32) (i j : Fin 512) : EReal :=
  if (net w2 P Q 0 i j + b0) + G0 (ix2 i j) < (net w2 P Q 1 i j + b1) + G1 (ix2 i j) ∧ i ≠ j then 1 else 0

theorem block_ap (o : ℕ) (w : BitVec 32) (hP : S512x32.Slices ![o, 0] S64x32) (hG : S512x512.Slices ![o, 0] S64x512)
    (P : FVec Ideal S512x32 .f32) (Q : FVec Ideal S32x512 .f32) (W : FVec Ideal S128x2048 .f32) (w2 : FVec Ideal S2x32 .f32)
    (hW : Diag W w2) (b0 b1 : Ideal .f32) (G0 G1 : FVec Ideal S512x512 .f32) (a : Fin 64) (j i : Fin 512) (ho : o + 64 ≤ 512)
    (hw : w.toNat = o) (hi : i.val = o + a.val) :
    block o w hP hG P Q W b0 b1 G0 G1 (ix2 a j) = kept w2 P Q b0 b1 G0 G1 i j := by
  unfold block kept
  pointwise
  rw [scores_net o hP P Q W w2 hW 0 a j i hi ho _ (by simp), scores_net o hP P Q W w2 hW 1 a j i hi ho _ (by simp)]
  have hix : (⟨o + a.val, by omega⟩ : Fin 512) = i := Fin.ext hi.symm
  simp only [hix]
  have hne : IntOp.cmpi CmpIPredicate.ne (IntOp.addi (BitVec.ofNat 32 a.val) w) (BitVec.ofNat 32 j.val) = BitVec.ofBool (decide (i ≠ j)) := by
    have : (BitVec.ofNat 32 a.val + w ≠ BitVec.ofNat 32 j.val) ↔ i ≠ j := by
      rw [not_iff_not, ← BitVec.toNat_inj, Fin.ext_iff, BitVec.toNat_add, BitVec.toNat_ofNat, BitVec.toNat_ofNat]
      omega
    show BitVec.ofBool (BitVec.ofNat 32 a.val + w != BitVec.ofNat 32 j.val) = _
    refine congrArg _ ?_
    rw [bne, Bool.eq_iff_iff]
    simpa using this
  rw [hne]
  by_cases h1 : net w2 P Q 0 i j + b0 + G0 (ix2 i j) < net w2 P Q 1 i j + b1 + G1 (ix2 i j)
  · by_cases h2 : i = j
    · rw [if_neg (fun h => h.2 h2), decide_eq_true h1, decide_eq_false (fun h => h h2)]; rfl
    · rw [if_pos ⟨h1, h2⟩, decide_eq_true h1, decide_eq_true h2]; rfl
  · rw [if_neg (fun h => h1 h.1), decide_eq_false h1]
    by_cases h2 : i = j
    · rw [decide_eq_false (fun h => h h2)]; rfl
    · rw [decide_eq_true h2]; rfl

theorem mask_ap (P : FVec Ideal S512x32 .f32) (Q : FVec Ideal S32x512 .f32) (W : FVec Ideal S128x2048 .f32) (w2 : FVec Ideal S2x32 .f32)
    (hW : Diag W w2) (b0 b1 : Ideal .f32) (G0 G1 : FVec Ideal S512x512 .f32) (i j : Fin 512) :
    mask P Q W b0 b1 G0 G1 (ix2 i j) = kept w2 P Q b0 b1 G0 G1 i j := by
  unfold mask
  pointwise
  split_ifs <;> exact block_ap _ _ _ _ P Q W w2 hW b0 b1 G0 G1 _ j i (by omega) rfl (by simp only []; omega)

variable (e : FVec Ideal S512x64 .f32) (M : FVec Ideal S512x512 .f32)

theorem comm_ap (w : FVec Ideal S64x64 .f32) (b : FVec Ideal S1x64 .f32) (j : Fin 512) (f : Fin 64) :
    comm M e w b (ix2 j f) = (∑ i : Fin 512, M (ix2 i j) * ∑ k : Fin 64, e (ix2 i k) * w (ix2 k f)) + b (ix2 0 f) := by
  unfold comm
  pointwise

theorem commT_ap (h : FVec Ideal S64x512 .f32) (w : FVec Ideal S64x64 .f32) (j : Fin 512) (f : Fin 64) :
    commT M h w (ix2 f j) = ∑ i : Fin 512, (∑ k : Fin 64, w (ix2 f k) * h (ix2 k i)) * M (ix2 i j) := by
  unfold commT
  pointwise

theorem last_ap (c : FVec Ideal S512x64 .f32) (wc : FVec Ideal S64x64 .f32) (bc : FVec Ideal S1x64 .f32) (wf : FVec Ideal S64x64 .f32)
    (bf : FVec Ideal S1x64 .f32) (wo : FVec Ideal S64x128 .f32) (bo : FVec Ideal S1x128 .f32) (i : Fin 512) (l : Fin 128) :
    last e c wc bc wf bf wo bo (ix2 i l)
      = (∑ f : Fin 64, Ideal.tanh (((e (ix2 i f) + ∑ k : Fin 64, e (ix2 i k) * wf (ix2 k f)) + bf (ix2 0 f))
          + ((∑ k : Fin 64, c (ix2 i k) * wc (ix2 k f)) + bc (ix2 0 f))) * wo (ix2 f l)) + bo (ix2 0 l) := by
  unfold last
  pointwise

theorem embed_ap (x : FVec Ideal S512x128 .f32) (w : FVec Ideal S128x64 .f32) (b : FVec Ideal S1x64 .f32) (i : Fin 512) (f : Fin 64) :
    k0_pay1 (F := Ideal) x w b (ix2 i f) = Ideal.tanh ((∑ k : Fin 128, x (ix2 i k) * w (ix2 k f)) + b (ix2 0 f)) := by
  unfold_payloads
  pointwise

theorem embedT_ap (w : FVec Ideal S64x128 .f32) (x : FVec Ideal S128x512 .f32) (b : FVec Ideal S64x1 .f32) (i : Fin 512) (f : Fin 64) :
    k0_pay2 (F := Ideal) w x b (ix2 f i) = Ideal.tanh ((∑ k : Fin 128, w (ix2 f k) * x (ix2 k i)) + b (ix2 f 0)) := by
  unfold_payloads
  pointwise

theorem pay3_ap (x : FVec Ideal S512x128 .f32) (w : FVec Ideal S128x64 .f32) (b : FVec Ideal S1x64 .f32) (w1 : FVec Ideal S64x32 .f32)
    (b1 : FVec Ideal S1x32 .f32) (i : Fin 512) (k : Fin 32) :
    k0_pay3 x w b w1 b1 (ix2 i k) = (∑ f : Fin 64, k0_pay1 (F := Ideal) x w b (ix2 i f) * w1 (ix2 f k)) + b1 (ix2 0 k) := by
  unfold k0_pay3
  pointwise

theorem pay4_ap (w : FVec Ideal S64x128 .f32) (x : FVec Ideal S128x512 .f32) (b : FVec Ideal S64x1 .f32) (w1 : FVec Ideal S32x64 .f32)
    (i : Fin 512) (k : Fin 32) :
    k0_pay4 w x b w1 (ix2 k i) = ∑ f : Fin 64, w1 (ix2 k f) * k0_pay2 (F := Ideal) w x b (ix2 f i) := by
  unfold k0_pay4
  pointwise

theorem pay26_ap (c : FVec Ideal S512x64 .f32) (w1 : FVec Ideal S64x32 .f32) (b1 : FVec Ideal S1x32 .f32) (i : Fin 512) (k : Fin 32) :
    k0_pay26 c w1 b1 (ix2 i k) = (∑ f : Fin 64, c (ix2 i f) * w1 (ix2 f k)) + b1 (ix2 0 k) := by
  unfold k0_pay26
  pointwise

theorem pay27_ap (ct : FVec Ideal S64x512 .f32) (b : FVec Ideal S64x1 .f32) (w1 : FVec Ideal S32x64 .f32) (i : Fin 512) (k : Fin 32) :
    k0_pay27 ct b w1 (ix2 k i) = ∑ f : Fin 64, w1 (ix2 k f) * (ct (ix2 f i) + b (ix2 f 0)) := by
  unfold k0_pay27
  pointwise

theorem pay9_eq (x : FVec Ideal S1x2 .f32) : k0_pay9 (k0_pay6 x) = x (ix2 0 0) := by
  unfold k0_pay9 k0_pay6
  pointwise

theorem pay10_eq (x : FVec Ideal S1x2 .f32) : k0_pay10 (k0_pay6 x) = x (ix2 0 1) := by
  unfold k0_pay10 k0_pay6
  pointwise

theorem pay32_eq (x : FVec Ideal S1x2 .f32) : k0_pay32 x = x (ix2 0 0) := by
  unfold k0_pay32
  unfold_payloads
  pointwise

theorem pay33_eq (x : FVec Ideal S1x2 .f32) : k0_pay33 x = x (ix2 0 1) := by
  unfold k0_pay33
  unfold_payloads
  pointwise

theorem pay5_eq (x : FVec Ideal S128x2048 .f32) : k0_pay5 x = x := shapeCast_self x _
theorem pay28_eq (x : FVec Ideal S128x2048 .f32) : k0_pay28 x = x := shapeCast_self x _
theorem pay7_eq (x : FVec Ideal S512x512 .f32) : k0_pay7 x = x := shapeCast_self x _
theorem pay8_eq (x : FVec Ideal S512x512 .f32) : k0_pay8 x = x := shapeCast_self x _
theorem pay30_eq (x : FVec Ideal S512x512 .f32) : k0_pay30 x = x := shapeCast_self x _
theorem pay31_eq (x : FVec Ideal S512x512 .f32) : k0_pay31 x = x := shapeCast_self x _

end Cert.Body

end
-- ==== Proof.Edge.lean ====
/- The edges of the complete directed graph on 512 nodes, numbered by first end and then second end. -/
module

public import Idealize.ShloMosaic.Lib.Pointwise

@[expose] public section

namespace Cert.Edge

/-- The first end of edge `e`. -/
def fst (e : Fin 261632) : Fin 512 := ⟨e.val / 511, by omega⟩

/-- The second end of edge `e`. -/
def snd (e : Fin 261632) : Fin 512 := ⟨if e.val / 511 ≤ e.val % 511 then e.val % 511 + 1 else e.val % 511, by split <;> omega⟩

/-- The number of the edge from `i` to `j`. -/
def num (i j : Fin 512) : Fin 261632 := ⟨i.val * 511 + if j.val < i.val then j.val else j.val - 1, by split <;> omega⟩

theorem fst_num (i j : Fin 512) : i ≠ j → fst (num i j) = i := by
  intro h
  have h' : i.val ≠ j.val := fun e => h (Fin.ext e)
  apply Fin.ext
  simp only [fst, num]
  split <;> omega

theorem snd_num (i j : Fin 512) : i ≠ j → snd (num i j) = j := by
  intro h
  have h' : i.val ≠ j.val := fun e => h (Fin.ext e)
  apply Fin.ext
  simp only [snd, num]
  split <;> split <;> omega

theorem fst_ne_snd (e : Fin 261632) : fst e ≠ snd e := by
  intro h
  have h' := congrArg Fin.val h
  simp only [fst, snd] at h'
  split at h' <;> omega

theorem num_ends (e : Fin 261632) : num (fst e) (snd e) = e := by
  apply Fin.ext
  simp only [fst, snd, num]
  split <;> split <;> omega

/-- A sum over the edges that end at `j` is a sum over the other nodes. -/
theorem sum_into {M : Type} [AddCommMonoid M] (F : Fin 261632 → M) (j : Fin 512) :
    (∑ e ∈ Finset.univ.filter (fun e => snd e = j), F e) = ∑ i, if i ≠ j then F (num i j) else 0 := by
  rw [← Finset.sum_filter]
  refine Finset.sum_bij' (fun e _ => fst e) (fun i _ => num i j) ?_ ?_ ?_ ?_ ?_
  · intro e he
    have := (Finset.mem_filter.mp he).2
    exact Finset.mem_filter.mpr ⟨Finset.mem_univ _, this ▸ fst_ne_snd e⟩
  · intro i hi
    exact Finset.mem_filter.mpr ⟨Finset.mem_univ _, snd_num i j (Finset.mem_filter.mp hi).2⟩
  · intro e he
    have := (Finset.mem_filter.mp he).2
    exact this ▸ num_ends e
  · intro i hi
    exact fst_num i j (Finset.mem_filter.mp hi).2
  · intro e he
    have := (Finset.mem_filter.mp he).2
    subst this
    rw [num_ends]

end Cert.Edge
-- ==== Proof.HostValue.lean ====
/- The kernel's operands read at an index, over the extended reals. -/
module

public import proofs.«01_k».proof.Proof.HostFns
public import proofs.«01_k».proof.Proof.BodyValue
public import proofs.«01_k».proof.Proof.Edge

@[expose] public section

set_option maxRecDepth 20000
set_option maxHeartbeats 4000000

noncomputable section

namespace Cert.Host

open Cert.KernelIdeal Cert.KernelIdeal.Gen Idealize.ShloMosaic Cert.Edge

theorem lay_ap (q : ℕ) (hs : S261632x2.Slices ![0, q] S261632x1) (hq : q < 2) (g : FVec Ideal S261632x2 .f32) (i j : Fin 512) (hij : i ≠ j) :
    lay q hs g (ix2 i j) = g (ix2 (num i j) ⟨q, hq⟩) := by
  unfold lay
  pointwise
  have h' : i.val ≠ j.val := fun h => hij (Fin.ext h)
  rw [dif_pos (by omega), dif_neg (by omega)]
  refine congrArg g ?_
  refine congrArg (fun z : Fin 261632 => (ix2 z ⟨q, hq⟩ : S261632x2.Idx)) (Fin.ext ?_)
  show (i.val * 512 + j.val) / 513 * 512 + ((i.val * 512 + j.val) % 513 - 1) = i.val * 511 + if j.val < i.val then j.val else j.val - 1
  split <;> omega

theorem eye_ap (a b : Fin 64) : eye (F := Ideal) (ix2 a b) = if a = b then 1 else 0 := by
  unfold eye
  pointwise
  have h0 : IntOp.cmpi CmpIPredicate.eq (IntOp.addi (BitVec.ofNat 32 a.val) 0#32) (BitVec.ofNat 32 b.val) = BitVec.ofBool (decide (a = b)) := by
    have : (BitVec.ofNat 32 a.val + 0#32 = BitVec.ofNat 32 b.val) ↔ a = b := by
      rw [← BitVec.toNat_inj, Fin.ext_iff, BitVec.toNat_add, BitVec.toNat_ofNat, BitVec.toNat_ofNat]
      simp only [BitVec.toNat_ofNat]
      omega
    show BitVec.ofBool (BitVec.ofNat 32 a.val + 0#32 == BitVec.ofNat 32 b.val) = _
    refine congrArg _ ?_
    rw [Bool.eq_iff_iff]
    simpa using this
  rw [h0]
  by_cases h : a = b
  · rw [if_pos h, decide_eq_true h]
    show (((1#1 : BitVec 1).toNat : ℝ) : EReal) = 1
    simp
  · rw [if_neg h, decide_eq_false h]
    show (((0#1 : BitVec 1).toNat : ℝ) : EReal) = 0
    simp

theorem kron_ap (e : FVec Ideal S64x64 .f32) (r : FVec Ideal S1x32 .f32) (a b : Fin 64) (k : Fin 32) :
    kron e r (ix2 a ⟨b.val * 32 + k.val, by omega⟩) = e (ix2 a b) * r (ix2 0 k) := by
  unfold kron
  pointwise

theorem row_ap (q : ℕ) (hs : S2x32.Slices ![q, 0] S1x32) (hq : q < 2) (w : FVec Ideal S2x32 .f32) (k : Fin 32) :
    row q hs w (ix2 0 k) = w (ix2 ⟨q, hq⟩ k) := by
  unfold row
  pointwise

theorem weights_diag (w : FVec Ideal S2x32 .f32) : Body.Diag (weights w) w := by
  intro q a b k
  unfold weights
  pointwise
  have key : ∀ (r : ℕ) (hs : S2x32.Slices ![r, 0] S1x32) (h : r < 2) (x : Fin 64), x = a → q = ⟨r, h⟩ →
      kron eye (row r hs w) (ix2 x ⟨b.val * 32 + k.val, by omega⟩) = if a = b then w (ix2 q k) else 0 := by
    intro r hs h x hx hq
    rw [kron_ap, eye_ap, row_ap r hs h, hx, hq]
    split
    · rw [one_mul]
    · rw [zero_mul]
  by_cases h : q.val * 64 + a.val < 64
  · rw [dif_pos h]
    refine key 0 _ (by omega) _ (Fin.ext ?_) (Fin.ext ?_)
    · show q.val * 64 + a.val = a.val; omega
    · show q.val = 0; omega
  · rw [dif_neg h]
    refine key 1 _ (by omega) _ (Fin.ext ?_) (Fin.ext ?_)
    · show q.val * 64 + a.val - 64 = a.val; omega
    · show q.val = 1; omega

theorem wout_ap (w : FVec Ideal S2x64 .f32) (v : FVec Ideal S1x64 .f32) (f : Fin 64) (l : Fin 2) :
    wout w v (ix2 f ⟨l.val, by omega⟩) = w (ix2 l f) := by
  unfold wout
  pointwise

theorem wout_ap' (w : FVec Ideal S2x64 .f32) (v : FVec Ideal S1x64 .f32) (f : Fin 64) :
    wout w v (ix2 f 2) = v (ix2 0 f) := by
  unfold wout
  pointwise

theorem bout_ap (w : FVec Ideal S2 .f32) (v : FVec Ideal S1 .f32) (l : Fin 2) :
    bout w v (ix2 0 ⟨l.val, by omega⟩) = w (ix1 l) := by
  unfold bout
  pointwise

theorem bout_ap' (w : FVec Ideal S2 .f32) (v : FVec Ideal S1 .f32) :
    bout w v (ix2 0 2) = v (ix1 0) := by
  unfold bout
  pointwise

theorem firstT_ap (w : FVec Ideal S32x128 .f32) (f : Fin 64) (k : Fin 32) :
    firstT w (ix2 f k) = w (ix2 k ⟨f.val, by omega⟩) := by
  unfold firstT
  pointwise

end Cert.Host

end
-- ==== Proof.RefValue.lean ====
/- The reference's stages read at an index. -/
module

public import proofs.«01_k».proof.Proof.RefFns
public import proofs.«01_k».proof.Proof.Edge
public import Idealize.ShloMosaic.Lib.Pointwise
public import Idealize.ShloMosaic.Lib.Tactic.WordOmega
public import Idealize.ShloMosaic.Lib.Routing.Ops
public import Idealize.ShloMosaic.Lib.Routing.OpsPair
public import Idealize.ShloMosaic.Lib.Pointwise.IndexBridge

@[expose] public section

set_option maxRecDepth 20000
set_option maxHeartbeats 2000000

noncomputable section

namespace Cert.Ref

open Cert.ReferenceIdeal Cert.ReferenceIdeal.Gen Cert.Edge Idealize.ShloMosaic

theorem src_ap (e : Fin 261632) : src (ix1 e) = BitVec.ofNat 32 (fst e).val := by
  pointwise [src, fst]

theorem dst_ap (e : Fin 261632) : dst (ix1 e) = BitVec.ofNat 32 (snd e).val := by
  pointwise [dst, snd]
  have h1 : e.val / 511 < 512 := by omega
  have h2 : e.val % 511 < 511 := by omega
  generalize e.val / 511 = a at *
  generalize e.val % 511 = b at *
  by_cases h : a ≤ b
  · rw [if_pos h]; word_omega
  · rw [if_neg h]; word_omega

variable (h : FVec Ideal S512x64 .f32)

theorem wrap_ap (v : IVec S261632 32) (e : Fin 261632) (n : Fin 512) (hv : v (ix1 e) = BitVec.ofNat 32 n.val) :
    wrap v (ix2 e 0) = BitVec.ofNat 32 n.val := by
  pointwise [wrap, hv]
  have hn := n.isLt
  generalize n.val = a at *
  word_omega

theorem rows_ap (v : IVec S261632 32) (e : Fin 261632) (n : Fin 512) (hv : v (ix1 e) = BitVec.ofNat 32 n.val) (a : Fin 64) :
    rows h v (ix2 e a) = h (ix2 n a) := by
  have hw := wrap_ap v e n hv
  rw [ix2_eq_valueIdx] at hw ⊢
  rw [ix2_eq_valueIdx]
  exact Routing.gather_row _ rfl rfl rfl rfl rfl h (wrap v) e a n hw (by norm_num)

theorem rows_src (e : Fin 261632) (a : Fin 64) : rows h src (ix2 e a) = h (ix2 (fst e) a) := rows_ap h _ e _ (src_ap e) a
theorem rows_dst (e : Fin 261632) (a : Fin 64) : rows h dst (ix2 e a) = h (ix2 (snd e) a) := rows_ap h _ e _ (dst_ap e) a

theorem row64_ap (b : FVec Ideal S64 .f32) (i : Fin 512) (a : Fin 64) : row64 b (ix2 i a) = b (ix1 a) := by
  pointwise [row64]

theorem times_ap (w : FVec Ideal S64x64 .f32) (i : Fin 512) (a : Fin 64) :
    times h w (ix2 i a) = ∑ k : Fin 64, h (ix2 i k) * w (ix2 a k) := by
  pointwise [times]

theorem embed_ap (x : FVec Ideal S512x128 .f32) (w : FVec Ideal S64x128 .f32) (b : FVec Ideal S64 .f32) (i : Fin 512) (a : Fin 64) :
    embed x w b (ix2 i a) = Ideal.tanh ((∑ k : Fin 128, x (ix2 i k) * w (ix2 a k)) + b (ix1 a)) := by
  pointwise [embed, row64]

theorem scores_ap (w1 : FVec Ideal S32x128 .f32) (b1 : FVec Ideal S32 .f32) (w2 : FVec Ideal S2x32 .f32) (b2 : FVec Ideal S2 .f32)
    (e : Fin 261632) (q : Fin 2) : scores h w1 b1 w2 b2 (ix2 e q) =
      (∑ k : Fin 32, max ((∑ a : Fin 64, h (ix2 (fst e) a) * w1 (ix2 k ⟨a.val, by omega⟩))
        + (∑ a : Fin 64, h (ix2 (snd e) a) * w1 (ix2 k ⟨64 + a.val, by omega⟩)) + b1 (ix1 k)) 0 * w2 (ix2 q k)) + b2 (ix1 q) := by
  pointwise [scores, edgeHidden, rows_src, rows_dst]

theorem kept_ap (s g : FVec Ideal S261632x2 .f32) (e : Fin 261632) :
    kept s g (ix1 e) = if s (ix2 e 0) + g (ix2 e 0) < s (ix2 e 1) + g (ix2 e 1) then 1 else 0 := by
  pointwise [kept]
  by_cases hlt : s (ix2 e 0) + g (ix2 e 0) < s (ix2 e 1) + g (ix2 e 1)
  · rw [if_pos hlt]
    rw [decide_eq_true hlt]
    show (((1#1 : BitVec 1).toNat : ℝ) : EReal) = 1
    simp
  · rw [if_neg hlt]
    rw [decide_eq_false hlt]
    show (((0#1 : BitVec 1).toNat : ℝ) : EReal) = 0
    simp

/-- Where the update `(e, c)` lands. -/
theorem lands (e : Fin 261632) (c f : Fin 64) (j : Fin 512) :
    scatter_S512x64_S261632x1_S261632x64_1_0_0_1.resultIdx? (ix2 e c)
      (broadcastInDim S261632x1 ![0] bcast_S261632_S261632x1_0 dst) = some (ix2 j f) ↔ snd e = j ∧ c = f := by
  have hd : (broadcastInDim S261632x1 ![0] bcast_S261632_S261632x1_0 dst) (ix2 e 0) = BitVec.ofNat 32 (snd e).val := by
    pointwise [dst_ap]
  rw [Routing.resultIdx?_eq_some]
  have h0 : scatter_S512x64_S261632x1_S261632x64_1_0_0_1.start (ix2 e c)
      (broadcastInDim S261632x1 ![0] bcast_S261632_S261632x1_0 dst) 0 = ((snd e).val : Int) := by
    unfold ScatterDims.start
    rw [dif_pos (by decide)]
    have hi : scatter_S512x64_S261632x1_S261632x64_1_0_0_1.siIdx (ix2 e c) ⟨0, by decide⟩ = ix2 e 0 := by
      funext b
      match b with
      | ⟨0, _⟩ => rfl
      | ⟨1, _⟩ => rfl
    refine (congrArg BitVec.toInt ((congrArg _ hi).trans hd)).trans ?_
    have := (snd e).isLt
    generalize (snd e).val = a at *
    word_omega
  have h1 : scatter_S512x64_S261632x1_S261632x64_1_0_0_1.start (ix2 e c)
      (broadcastInDim S261632x1 ![0] bcast_S261632_S261632x1_0 dst) 1 = 0 := by
    unfold ScatterDims.start; rw [dif_neg (by decide)]
  have w0 : scatter_S512x64_S261632x1_S261632x64_1_0_0_1.window (ix2 e c) 0 = 0 := by
    unfold ScatterDims.window; rw [dif_neg (by decide)]
  have w1 : scatter_S512x64_S261632x1_S261632x64_1_0_0_1.window (ix2 e c) 1 = c.val := by
    unfold ScatterDims.window; rw [dif_pos (by decide)]; rfl
  constructor
  · intro H
    have a0 := H 0
    have a1 := H 1
    rw [h0, w0] at a0
    rw [h1, w1] at a1
    exact ⟨Fin.ext (by simpa using a0), Fin.ext (by simpa using a1)⟩
  · rintro ⟨rfl, rfl⟩ a
    match a with
    | ⟨0, _⟩ => exact (congrArg₂ (fun x (y : ℕ) => x + (y : Int)) h0 w0).trans (by simp)
    | ⟨1, _⟩ => exact (congrArg₂ (fun x (y : ℕ) => x + (y : Int)) h1 w1).trans (by simp)

theorem gathered_ap (m : FVec Ideal S261632 .f32) (b : FVec Ideal S64 .f32) (j : Fin 512) (f : Fin 64) :
    gathered m h b (ix2 j f) = (∑ i, if i ≠ j then m (ix1 (num i j)) * h (ix2 i f) else 0) + b (ix1 f) := by
  have hs : (∑ e ∈ Finset.univ.filter (fun e => snd e = j), m (ix1 e) * h (ix2 (fst e) f))
      = ∑ i, if i ≠ j then m (ix1 (num i j)) * h (ix2 i f) else 0 := by
    rw [sum_into (fun e => m (ix1 e) * h (ix2 (fst e) f)) j]
    refine Finset.sum_congr rfl fun i _ => ?_
    by_cases hi : i ≠ j
    · rw [if_pos hi, if_pos hi, fst_num i j hi]
    · rw [if_neg hi, if_neg hi]
  rw [← hs]
  unfold gathered
  rw [addf_apply, row64_ap, Ideal.addf_def]
  refine congrArg (· + b (ix1 f)) ?_
  unfold Host.scatterAdd
  rw [Ideal.hostScatterAdd_def]
  unfold Ideal.hostScatterAdd
  have h0 : broadcastInDim S512x64 ![] bcast_S_S512x64 (constant (F := Ideal) S_ .f32 0x00000000#32) (ix2 j f) = 0 := by pointwise
  rw [Finset.sum_filter, sum_idx2, h0, zero_add, Finset.sum_filter]
  refine (Finset.sum_congr rfl fun e _ => Finset.sum_congr rfl fun c _ => if_congr (lands e c f j) rfl rfl).trans ?_
  refine Finset.sum_congr rfl fun e _ => ?_
  by_cases he : snd e = j
  · rw [if_pos he]
    refine (Finset.sum_congr rfl fun c _ => if_congr (and_iff_right he) rfl rfl).trans ?_
    rw [Finset.sum_ite_eq' Finset.univ f, if_pos (Finset.mem_univ _)]
    pointwise [rows_src]
  · rw [if_neg he]
    exact Finset.sum_eq_zero fun c _ => if_neg fun hh => he hh.1

theorem hidden_ap (xe comm : FVec Ideal S512x64 .f32) (wc : FVec Ideal S64x64 .f32) (bc : FVec Ideal S64 .f32)
    (wf : FVec Ideal S64x64 .f32) (bf : FVec Ideal S64 .f32) (i : Fin 512) (a : Fin 64) :
    hidden xe comm wc bc wf bf (ix2 i a) = Ideal.tanh ((xe (ix2 i a) + ((∑ k : Fin 64, xe (ix2 i k) * wf (ix2 a k)) + bf (ix1 a)))
      + ((∑ k : Fin 64, comm (ix2 i k) * wc (ix2 a k)) + bc (ix1 a))) := by
  pointwise [hidden, times, row64]

theorem value_ap (w : FVec Ideal S1x64 .f32) (b : FVec Ideal S1 .f32) (i : Fin 512) (c : Fin 1) :
    value h w b (ix2 i c) = (∑ k : Fin 64, h (ix2 i k) * w (ix2 0 k)) + b (ix1 0) := by
  pointwise [value]

theorem means_ap (w : FVec Ideal S2x64 .f32) (b : FVec Ideal S2 .f32) (z : Fin 1) (i : Fin 512) (q : Fin 2) :
    means h w b (ix3 z i q) = (∑ k : Fin 64, h (ix2 i k) * w (ix2 q k)) + b (ix1 q) := by
  pointwise [means]

end Cert.Ref

end
-- ==== Proof.Equal.lean ====
/- The kernel's body on its operands computes the reference's stages. -/
module

public import proofs.«01_k».proof.Proof.HostValue
public import proofs.«01_k».proof.Proof.RefValue

@[expose] public section

set_option maxRecDepth 20000
set_option maxHeartbeats 4000000

noncomputable section

namespace Cert.Equal

open Cert.KernelIdeal Cert.KernelIdeal.Gen Idealize.ShloMosaic Cert.Edge

/-! ## One layer -/

section Layer

variable (h : FVec Ideal S512x64 .f32) (w1 : FVec Ideal S32x128 .f32) (b1 : FVec Ideal S32 .f32) (w2 : FVec Ideal S2x32 .f32)
  (b2 : FVec Ideal S2 .f32) (g : FVec Ideal S261632x2 .f32)

theorem net_eq (P : FVec Ideal S512x32 .f32) (Q : FVec Ideal S32x512 .f32)
    (hP : ∀ i k, P (ix2 i k) = (∑ f : Fin 64, h (ix2 i f) * w1 (ix2 k ⟨f.val, by omega⟩)) + b1 (ix1 k))
    (hQ : ∀ j k, Q (ix2 k j) = ∑ f : Fin 64, w1 (ix2 k ⟨64 + f.val, by omega⟩) * h (ix2 j f))
    (q : Fin 2) (i j : Fin 512) (hij : i ≠ j) :
    Body.net w2 P Q q i j + b2 (ix1 q) = Ref.scores h w1 b1 w2 b2 (ix2 (num i j) q) := by
  rw [Ref.scores_ap, fst_num i j hij, snd_num i j hij]
  refine congrArg (· + b2 (ix1 q)) ?_
  refine Finset.sum_congr rfl fun k _ => ?_
  rw [hP, hQ, mul_comm]
  refine congrArg (fun z => max z 0 * w2 (ix2 q k)) ?_
  rw [add_right_comm]
  refine congrArg (fun z => _ + z + b1 (ix1 k)) ?_
  exact Finset.sum_congr rfl fun f _ => mul_comm _ _

theorem kept_eq (P : FVec Ideal S512x32 .f32) (Q : FVec Ideal S32x512 .f32) (c0 c1 : EReal) (G0 G1 : FVec Ideal S512x512 .f32)
    (hP : ∀ i k, P (ix2 i k) = (∑ f : Fin 64, h (ix2 i f) * w1 (ix2 k ⟨f.val, by omega⟩)) + b1 (ix1 k))
    (hQ : ∀ j k, Q (ix2 k j) = ∑ f : Fin 64, w1 (ix2 k ⟨64 + f.val, by omega⟩) * h (ix2 j f))
    (h0 : c0 = b2 (ix1 0)) (h1 : c1 = b2 (ix1 1))
    (hG0 : ∀ i j, i ≠ j → G0 (ix2 i j) = g (ix2 (num i j) 0)) (hG1 : ∀ i j, i ≠ j → G1 (ix2 i j) = g (ix2 (num i j) 1))
    (i j : Fin 512) :
    Body.kept w2 P Q c0 c1 G0 G1 i j = if i ≠ j then Ref.kept (Ref.scores h w1 b1 w2 b2) g (ix1 (num i j)) else 0 := by
  unfold Body.kept
  by_cases hij : i ≠ j
  · rw [if_pos hij, Ref.kept_ap, h0, h1, net_eq h w1 b1 w2 b2 P Q hP hQ 0 i j hij, net_eq h w1 b1 w2 b2 P Q hP hQ 1 i j hij, hG0 i j hij, hG1 i j hij]
    exact if_congr (and_iff_left hij) rfl rfl
  · rw [if_neg hij, if_neg fun z => hij z.2]

variable (m : FVec Ideal S261632 .f32) (M : FVec Ideal S512x512 .f32)
  (hM : ∀ i j, M (ix2 i j) = if i ≠ j then m (ix1 (num i j)) else 0) (w : FVec Ideal S64x64 .f32) (b : FVec Ideal S64 .f32)

include hM

theorem comm_eq (e : FVec Ideal S512x64 .f32) (wt : FVec Ideal S64x64 .f32) (br : FVec Ideal S1x64 .f32)
    (he : ∀ i f, e (ix2 i f) = h (ix2 i f)) (hw : ∀ k f, wt (ix2 k f) = w (ix2 f k)) (hb : ∀ f, br (ix2 0 f) = b (ix1 f))
    (j : Fin 512) (f : Fin 64) : Body.comm M e wt br (ix2 j f) = Ref.gathered m (Ref.times h w) b (ix2 j f) := by
  rw [Body.comm_ap, Ref.gathered_ap, hb]
  refine congrArg (· + b (ix1 f)) ?_
  refine Finset.sum_congr rfl fun i _ => ?_
  rw [hM]
  by_cases hij : i ≠ j
  · rw [if_pos hij, if_pos hij, Ref.times_ap]
    refine congrArg (m (ix1 (num i j)) * ·) ?_
    exact Finset.sum_congr rfl fun k _ => by rw [he, hw]
  · rw [if_neg hij, if_neg hij, zero_mul]

theorem commT_eq (e : FVec Ideal S64x512 .f32) (he : ∀ i f, e (ix2 f i) = h (ix2 i f))
    (j : Fin 512) (f : Fin 64) : Body.commT M e w (ix2 f j) + b (ix1 f) = Ref.gathered m (Ref.times h w) b (ix2 j f) := by
  rw [Body.commT_ap, Ref.gathered_ap]
  refine congrArg (· + b (ix1 f)) ?_
  refine Finset.sum_congr rfl fun i _ => ?_
  rw [hM]
  by_cases hij : i ≠ j
  · rw [if_pos hij, if_pos hij, Ref.times_ap, mul_comm]
    refine congrArg (m (ix1 (num i j)) * ·) ?_
    exact Finset.sum_congr rfl fun k _ => by rw [he, mul_comm]
  · rw [if_neg hij, if_neg hij, mul_zero]

end Layer

/-! ## The whole body -/

/-- The kernel's operands, from the arguments and the draws. -/
structure Operands (a0 : FVec Ideal S512x128 .f32) (a1 : FVec Ideal S64x128 .f32) (a2 : FVec Ideal S64 .f32) (a3 : FVec Ideal S32x128 .f32) (a4 : FVec Ideal S32 .f32) (a5 : FVec Ideal S2x32 .f32) (a6 : FVec Ideal S2 .f32) (a7 : FVec Ideal S32x128 .f32) (a8 : FVec Ideal S32 .f32) (a9 : FVec Ideal S2x32 .f32) (a10 : FVec Ideal S2 .f32) (a11 : FVec Ideal S64x64 .f32) (a12 : FVec Ideal S64 .f32) (a13 : FVec Ideal S64x64 .f32) (a14 : FVec Ideal S64 .f32) (a15 : FVec Ideal S64x64 .f32) (a16 : FVec Ideal S64 .f32) (a17 : FVec Ideal S64x64 .f32) (a18 : FVec Ideal S64 .f32) (a19 : FVec Ideal S1x64 .f32) (a20 : FVec Ideal S1 .f32) (a21 : FVec Ideal S2x64 .f32) (a22 : FVec Ideal S2 .f32) (u1 u2 : FVec Ideal S261632x2 .f32)
    (x0 : FVec Ideal S512x128 .f32) (x1 : FVec Ideal S128x512 .f32) (x2 : FVec Ideal S512x512 .f32) (x3 : FVec Ideal S512x512 .f32) (x4 : FVec Ideal S512x512 .f32) (x5 : FVec Ideal S512x512 .f32) (x6 : FVec Ideal S128x64 .f32) (x7 : FVec Ideal S64x128 .f32) (x8 : FVec Ideal S1x64 .f32) (x9 : FVec Ideal S64x1 .f32) (x10 : FVec Ideal S64x32 .f32) (x11 : FVec Ideal S32x64 .f32) (x12 : FVec Ideal S1x32 .f32) (x13 : FVec Ideal S128x2048 .f32) (x14 : FVec Ideal S1x2 .f32) (x15 : FVec Ideal S64x32 .f32) (x16 : FVec Ideal S32x64 .f32) (x17 : FVec Ideal S1x32 .f32) (x18 : FVec Ideal S128x2048 .f32) (x19 : FVec Ideal S1x2 .f32) (x20 : FVec Ideal S64x64 .f32) (x21 : FVec Ideal S64x64 .f32) (x22 : FVec Ideal S1x64 .f32) (x23 : FVec Ideal S64x1 .f32) (x24 : FVec Ideal S64x64 .f32) (x25 : FVec Ideal S1x64 .f32) (x26 : FVec Ideal S64x64 .f32) (x27 : FVec Ideal S1x64 .f32) (x28 : FVec Ideal S64x64 .f32) (x29 : FVec Ideal S1x64 .f32) (x30 : FVec Ideal S64x128 .f32) (x31 : FVec Ideal S1x128 .f32) : Prop where
  e0 : x0 = a0
  e1 : x1 = transpose S128x512 [1, 0] a0 transposes_S512x128_S128x512_1_0
  e2 : x2 = Host.lay 0 slices_S261632x2_S261632x1_0_0 (Host.noise u1)
  e3 : x3 = Host.lay 1 slices_S261632x2_S261632x1_0_1 (Host.noise u1)
  e4 : x4 = Host.lay 0 slices_S261632x2_S261632x1_0_0 (Host.noise u2)
  e5 : x5 = Host.lay 1 slices_S261632x2_S261632x1_0_1 (Host.noise u2)
  e6 : x6 = transpose S128x64 [1, 0] a1 transposes_S64x128_S128x64_1_0
  e7 : x7 = a1
  e8 : x8 = broadcastInDim S1x64 ![1] bcast_S64_S1x64_1 a2
  e9 : x9 = broadcastInDim S64x1 ![0] bcast_S64_S64x1_0 a2
  e10 : x10 = Host.firstT a3
  e11 : x11 = extractStridedSlice S32x64 ![0, 64] a3 slices_S32x128_S32x64_0_64
  e12 : x12 = broadcastInDim S1x32 ![1] bcast_S32_S1x32_1 a4
  e13 : x13 = Host.weights a5
  e14 : x14 = broadcastInDim S1x2 ![1] bcast_S2_S1x2_1 a6
  e15 : x15 = Host.firstT a7
  e16 : x16 = extractStridedSlice S32x64 ![0, 64] a7 slices_S32x128_S32x64_0_64
  e17 : x17 = broadcastInDim S1x32 ![1] bcast_S32_S1x32_1 a8
  e18 : x18 = Host.weights a9
  e19 : x19 = broadcastInDim S1x2 ![1] bcast_S2_S1x2_1 a10
  e20 : x20 = transpose S64x64 [1, 0] a11 transposes_S64x64_S64x64_1_0
  e21 : x21 = a11
  e22 : x22 = broadcastInDim S1x64 ![1] bcast_S64_S1x64_1 a12
  e23 : x23 = broadcastInDim S64x1 ![0] bcast_S64_S64x1_0 a12
  e24 : x24 = transpose S64x64 [1, 0] a13 transposes_S64x64_S64x64_1_0
  e25 : x25 = broadcastInDim S1x64 ![1] bcast_S64_S1x64_1 a14
  e26 : x26 = transpose S64x64 [1, 0] a15 transposes_S64x64_S64x64_1_0
  e27 : x27 = broadcastInDim S1x64 ![1] bcast_S64_S1x64_1 a16
  e28 : x28 = transpose S64x64 [1, 0] a17 transposes_S64x64_S64x64_1_0
  e29 : x29 = broadcastInDim S1x64 ![1] bcast_S64_S1x64_1 a18
  e30 : x30 = Host.wout a21 a19
  e31 : x31 = Host.bout a22 a20

variable {a0 : FVec Ideal S512x128 .f32} {a1 : FVec Ideal S64x128 .f32} {a2 : FVec Ideal S64 .f32} {a3 : FVec Ideal S32x128 .f32} {a4 : FVec Ideal S32 .f32} {a5 : FVec Ideal S2x32 .f32} {a6 : FVec Ideal S2 .f32} {a7 : FVec Ideal S32x128 .f32} {a8 : FVec Ideal S32 .f32} {a9 : FVec Ideal S2x32 .f32} {a10 : FVec Ideal S2 .f32} {a11 : FVec Ideal S64x64 .f32} {a12 : FVec Ideal S64 .f32} {a13 : FVec Ideal S64x64 .f32} {a14 : FVec Ideal S64 .f32} {a15 : FVec Ideal S64x64 .f32} {a16 : FVec Ideal S64 .f32} {a17 : FVec Ideal S64x64 .f32} {a18 : FVec Ideal S64 .f32} {a19 : FVec Ideal S1x64 .f32} {a20 : FVec Ideal S1 .f32} {a21 : FVec Ideal S2x64 .f32} {a22 : FVec Ideal S2 .f32} {u1 u2 : FVec Ideal S261632x2 .f32}
  {x0 : FVec Ideal S512x128 .f32} {x1 : FVec Ideal S128x512 .f32} {x2 : FVec Ideal S512x512 .f32} {x3 : FVec Ideal S512x512 .f32} {x4 : FVec Ideal S512x512 .f32} {x5 : FVec Ideal S512x512 .f32} {x6 : FVec Ideal S128x64 .f32} {x7 : FVec Ideal S64x128 .f32} {x8 : FVec Ideal S1x64 .f32} {x9 : FVec Ideal S64x1 .f32} {x10 : FVec Ideal S64x32 .f32} {x11 : FVec Ideal S32x64 .f32} {x12 : FVec Ideal S1x32 .f32} {x13 : FVec Ideal S128x2048 .f32} {x14 : FVec Ideal S1x2 .f32} {x15 : FVec Ideal S64x32 .f32} {x16 : FVec Ideal S32x64 .f32} {x17 : FVec Ideal S1x32 .f32} {x18 : FVec Ideal S128x2048 .f32} {x19 : FVec Ideal S1x2 .f32} {x20 : FVec Ideal S64x64 .f32} {x21 : FVec Ideal S64x64 .f32} {x22 : FVec Ideal S1x64 .f32} {x23 : FVec Ideal S64x1 .f32} {x24 : FVec Ideal S64x64 .f32} {x25 : FVec Ideal S1x64 .f32} {x26 : FVec Ideal S64x64 .f32} {x27 : FVec Ideal S1x64 .f32} {x28 : FVec Ideal S64x64 .f32} {x29 : FVec Ideal S1x64 .f32} {x30 : FVec Ideal S64x128 .f32} {x31 : FVec Ideal S1x128 .f32}
  (H : Operands a0 a1 a2 a3 a4 a5 a6 a7 a8 a9 a10 a11 a12 a13 a14 a15 a16 a17 a18 a19 a20 a21 a22 u1 u2 x0 x1 x2 x3 x4 x5 x6 x7 x8 x9 x10 x11 x12 x13 x14 x15 x16 x17 x18 x19 x20 x21 x22 x23 x24 x25 x26 x27 x28 x29 x30 x31)

include H

theorem embed_eq (i : Fin 512) (f : Fin 64) : k0_pay1 x0 x6 x8 (ix2 i f) = Ref.embed a0 a1 a2 (ix2 i f) := by
  rw [Body.embed_ap, Ref.embed_ap, H.e0, H.e6, H.e8]
  pointwise

theorem embedT_eq (i : Fin 512) (f : Fin 64) : k0_pay2 x7 x1 x9 (ix2 f i) = Ref.embed a0 a1 a2 (ix2 i f) := by
  rw [Body.embedT_ap, Ref.embed_ap, H.e1, H.e7, H.e9]
  pointwise
  simp only [mul_comm]

theorem mask1_eq (i j : Fin 512) : Body.mask1 x0 x1 x2 x3 x6 x7 x8 x9 x10 x11 x12 x13 x14 (ix2 i j)
    = if i ≠ j then (Ref.kept (Ref.scores (Ref.embed a0 a1 a2) a3 a4 a5 a6) (Ref.noise u1)) (ix1 (num i j)) else 0 := by
  unfold Body.mask1
  rw [Body.mask_ap _ _ _ a5 (by rw [Body.pay5_eq, H.e13]; exact Host.weights_diag a5)]
  refine kept_eq (Ref.embed a0 a1 a2) a3 a4 a5 a6 (Ref.noise u1) _ _ _ _ _ _ (fun i k => ?_) (fun j k => ?_) ?_ ?_ (fun i j hij => ?_) (fun i j hij => ?_) i j
  · rw [Body.pay3_ap, H.e10, H.e12]
    simp only [embed_eq H, Host.firstT_ap]
    pointwise
  · rw [Body.pay4_ap, H.e11]
    simp only [embedT_eq H]
    pointwise
  · rw [Body.pay9_eq, H.e14]; pointwise
  · rw [Body.pay10_eq, H.e14]; pointwise
  · rw [Body.pay7_eq, H.e2]; exact Host.lay_ap 0 _ (by omega) _ i j hij
  · rw [Body.pay8_eq, H.e3]; exact Host.lay_ap 1 _ (by omega) _ i j hij

theorem comm1_eq (j : Fin 512) (f : Fin 64) : (Body.comm1 x0 x1 x2 x3 x6 x7 x8 x9 x10 x11 x12 x13 x14 x20 x22) (ix2 j f) = (Ref.gathered (Ref.kept (Ref.scores (Ref.embed a0 a1 a2) a3 a4 a5 a6) (Ref.noise u1)) (Ref.times (Ref.embed a0 a1 a2) a11) a12) (ix2 j f) := by
  unfold Body.comm1
  refine comm_eq _ _ _ (mask1_eq H) a11 a12 _ _ _ (embed_eq H) (fun k f => ?_) (fun f => ?_) j f
  · rw [H.e20]; pointwise
  · rw [H.e22]; pointwise

theorem comm1T_eq (j : Fin 512) (f : Fin 64) : (Body.comm1T x0 x1 x2 x3 x6 x7 x8 x9 x10 x11 x12 x13 x14 x21) (ix2 f j) + x23 (ix2 f 0) = (Ref.gathered (Ref.kept (Ref.scores (Ref.embed a0 a1 a2) a3 a4 a5 a6) (Ref.noise u1)) (Ref.times (Ref.embed a0 a1 a2) a11) a12) (ix2 j f) := by
  have hb : x23 (ix2 f 0) = a12 (ix1 f) := by rw [H.e23]; pointwise
  unfold Body.comm1T
  rw [hb, H.e21]
  exact commT_eq _ _ _ (mask1_eq H) a11 a12 _ (embedT_eq H) j f

theorem mask2_eq (i j : Fin 512) : (Body.mask2 x4 x5 x15 x16 x17 x18 x19 x23 (Body.comm1 x0 x1 x2 x3 x6 x7 x8 x9 x10 x11 x12 x13 x14 x20 x22) (Body.comm1T x0 x1 x2 x3 x6 x7 x8 x9 x10 x11 x12 x13 x14 x21)) (ix2 i j)
    = if i ≠ j then (Ref.kept (Ref.scores (Ref.gathered (Ref.kept (Ref.scores (Ref.embed a0 a1 a2) a3 a4 a5 a6) (Ref.noise u1)) (Ref.times (Ref.embed a0 a1 a2) a11) a12) a7 a8 a9 a10) (Ref.noise u2)) (ix1 (num i j)) else 0 := by
  unfold Body.mask2
  rw [Body.mask_ap _ _ _ a9 (by rw [Body.pay28_eq, H.e18]; exact Host.weights_diag a9)]
  refine kept_eq (Ref.gathered (Ref.kept (Ref.scores (Ref.embed a0 a1 a2) a3 a4 a5 a6) (Ref.noise u1)) (Ref.times (Ref.embed a0 a1 a2) a11) a12) a7 a8 a9 a10 (Ref.noise u2) _ _ _ _ _ _ (fun i k => ?_) (fun j k => ?_) ?_ ?_ (fun i j hij => ?_) (fun i j hij => ?_) i j
  · rw [Body.pay26_ap, H.e15, H.e17]
    simp only [comm1_eq H, Host.firstT_ap]
    pointwise
  · rw [Body.pay27_ap, H.e16]
    simp only [comm1T_eq H]
    pointwise
  · rw [Body.pay32_eq, H.e19]; pointwise
  · rw [Body.pay33_eq, H.e19]; pointwise
  · rw [Body.pay30_eq, H.e4]; exact Host.lay_ap 0 _ (by omega) _ i j hij
  · rw [Body.pay31_eq, H.e5]; exact Host.lay_ap 1 _ (by omega) _ i j hij

/-- The body's result, column by column of the last layer's weights. -/
theorem stored_eq (i : Fin 512) (l : Fin 128) : Body.stored x0 x1 x2 x3 x4 x5 x6 x7 x8 x9 x10 x11 x12 x13 x14 x15 x16 x17 x18 x19 x20 x21 x22 x23 x24 x25 x26 x27 x28 x29 x30 x31 (ix2 i l)
    = (∑ f : Fin 64, (Ref.hidden (Ref.embed a0 a1 a2) (Ref.gathered (Ref.kept (Ref.scores (Ref.gathered (Ref.kept (Ref.scores (Ref.embed a0 a1 a2) a3 a4 a5 a6) (Ref.noise u1)) (Ref.times (Ref.embed a0 a1 a2) a11) a12) a7 a8 a9 a10) (Ref.noise u2)) (Ref.times (Ref.gathered (Ref.kept (Ref.scores (Ref.embed a0 a1 a2) a3 a4 a5 a6) (Ref.noise u1)) (Ref.times (Ref.embed a0 a1 a2) a11) a12) a13) a14) a15 a16 a17 a18) (ix2 i f) * Host.wout a21 a19 (ix2 f l)) + Host.bout a22 a20 (ix2 0 l) := by
  unfold Body.stored
  rw [Body.last_ap, H.e30, H.e31]
  refine congrArg (· + Host.bout a22 a20 (ix2 0 l)) ?_
  refine Finset.sum_congr rfl fun f _ => congrArg (· * Host.wout a21 a19 (ix2 f l)) ?_
  have hc : ∀ (j : Fin 512) (f : Fin 64), Body.comm (Body.mask2 x4 x5 x15 x16 x17 x18 x19 x23 (Body.comm1 x0 x1 x2 x3 x6 x7 x8 x9 x10 x11 x12 x13 x14 x20 x22) (Body.comm1T x0 x1 x2 x3 x6 x7 x8 x9 x10 x11 x12 x13 x14 x21)) (Body.comm1 x0 x1 x2 x3 x6 x7 x8 x9 x10 x11 x12 x13 x14 x20 x22) x24 x25 (ix2 j f) = (Ref.gathered (Ref.kept (Ref.scores (Ref.gathered (Ref.kept (Ref.scores (Ref.embed a0 a1 a2) a3 a4 a5 a6) (Ref.noise u1)) (Ref.times (Ref.embed a0 a1 a2) a11) a12) a7 a8 a9 a10) (Ref.noise u2)) (Ref.times (Ref.gathered (Ref.kept (Ref.scores (Ref.embed a0 a1 a2) a3 a4 a5 a6) (Ref.noise u1)) (Ref.times (Ref.embed a0 a1 a2) a11) a12) a13) a14) (ix2 j f) := by
    refine comm_eq _ _ _ (mask2_eq H) a13 a14 _ _ _ (comm1_eq H) (fun k f => ?_) (fun f => ?_)
    · rw [H.e24]; pointwise
    · rw [H.e25]; pointwise
  have hwf : ∀ k f : Fin 64, x28 (ix2 k f) = a17 (ix2 f k) := fun k f => by rw [H.e28]; pointwise
  have hwc : ∀ k f : Fin 64, x26 (ix2 k f) = a15 (ix2 f k) := fun k f => by rw [H.e26]; pointwise
  have hbf : x29 (ix2 0 f) = a18 (ix1 f) := by rw [H.e29]; pointwise
  have hbc : x27 (ix2 0 f) = a16 (ix1 f) := by rw [H.e27]; pointwise
  rw [Ref.hidden_ap, hbf, hbc]
  simp only [embed_eq H, hc, hwf, hwc]
  rw [add_assoc (Ref.embed a0 a1 a2 (ix2 i f))]

theorem stored_means (z : Fin 1) (i : Fin 512) (q : Fin 2) : Body.stored x0 x1 x2 x3 x4 x5 x6 x7 x8 x9 x10 x11 x12 x13 x14 x15 x16 x17 x18 x19 x20 x21 x22 x23 x24 x25 x26 x27 x28 x29 x30 x31 (ix2 i ⟨q.val, by omega⟩)
    = Ref.means (Ref.hidden (Ref.embed a0 a1 a2) (Ref.gathered (Ref.kept (Ref.scores (Ref.gathered (Ref.kept (Ref.scores (Ref.embed a0 a1 a2) a3 a4 a5 a6) (Ref.noise u1)) (Ref.times (Ref.embed a0 a1 a2) a11) a12) a7 a8 a9 a10) (Ref.noise u2)) (Ref.times (Ref.gathered (Ref.kept (Ref.scores (Ref.embed a0 a1 a2) a3 a4 a5 a6) (Ref.noise u1)) (Ref.times (Ref.embed a0 a1 a2) a11) a12) a13) a14) a15 a16 a17 a18) a21 a22 (ix3 z i q) := by
  rw [stored_eq H, Ref.means_ap, Host.bout_ap]
  simp only [Host.wout_ap]

theorem stored_value (i : Fin 512) (z : Fin 1) : Body.stored x0 x1 x2 x3 x4 x5 x6 x7 x8 x9 x10 x11 x12 x13 x14 x15 x16 x17 x18 x19 x20 x21 x22 x23 x24 x25 x26 x27 x28 x29 x30 x31 (ix2 i 2)
    = Ref.value (Ref.hidden (Ref.embed a0 a1 a2) (Ref.gathered (Ref.kept (Ref.scores (Ref.gathered (Ref.kept (Ref.scores (Ref.embed a0 a1 a2) a3 a4 a5 a6) (Ref.noise u1)) (Ref.times (Ref.embed a0 a1 a2) a11) a12) a7 a8 a9 a10) (Ref.noise u2)) (Ref.times (Ref.gathered (Ref.kept (Ref.scores (Ref.embed a0 a1 a2) a3 a4 a5 a6) (Ref.noise u1)) (Ref.times (Ref.embed a0 a1 a2) a11) a12) a13) a14) a15 a16 a17 a18) a19 a20 (ix2 i z) := by
  rw [stored_eq H, Ref.value_ap, Host.bout_ap']
  simp only [Host.wout_ap']

end Cert.Equal

end
-- ==== Proof.Results.lean ====
/- The results of the two runs are equal. -/
module

public import proofs.«01_k».proof.Proof.Out
public import proofs.«01_k».proof.Proof.Draws
public import proofs.«01_k».proof.Proof.Equal
public import proofs.«01_k».proof.Proof.RefRun

@[expose] public section

set_option maxRecDepth 40000
set_option maxHeartbeats 8000000

noncomputable section

namespace Cert.Results

open Cert.KernelIdeal Cert.KernelIdeal.Gen Cert.KernelIdeal.Run Cert.Line Idealize.ShloMosaic Idealize.ShloMosaic.TcCoe

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

theorem parts : Holds hostOps0 (V0 m c) ∧ Holds hostOps0_1 (V0 m c) ∧ Holds hostOps0_2 (V0 m c) ∧ Holds hostOps0_3 (V0 m c) ∧ Holds hostOps0_4 (V0 m c) ∧ Holds hostOps0_5 (V0 m c) ∧ Holds hostOps0_6 (V0 m c) ∧ Holds hostOps0_7 (V0 m c) ∧ Holds hostOps0_8 (V0 m c) ∧ Holds hostOps0_9 (V0 m c) ∧ Holds hostOps0_10 (V0 m c) ∧ Holds hostOps0_11 (V0 m c) ∧ Holds hostOps0_12 (V0 m c) ∧ Holds hostOps0_13 (V0 m c) ∧ Holds hostOps0_14 (V0 m c) := by
  have h := holds m c
  simp only [List.flatten_cons, Holds.append] at h
  obtain ⟨h0, h1, h2, h3, h4, h5, h6, h7, h8, h9, h10, h11, h12, h13, h14, -⟩ := h
  exact ⟨h0, h1, h2, h3, h4, h5, h6, h7, h8, h9, h10, h11, h12, h13, h14⟩

/-- The kernel's operands are what the body's equality asks for. -/
theorem operands : Equal.Operands (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22)
    (V0 m c (Proc.devRef .tc main_v12)) (V0 m c (Proc.devRef .tc main_v35))
    (V m c main_arg0) (V m c main_v86) (V m c main_v25) (V m c main_v34) (V m c main_v48) (V m c main_v57) (V m c main_v87) (V m c main_arg1) (V m c main_v88) (V m c main_v89) (V m c main_v91) (V m c main_v92) (V m c main_v93) (V m c main_v72) (V m c main_v94) (V m c main_v96) (V m c main_v97) (V m c main_v98) (V m c main_v81) (V m c main_v99) (V m c main_v100) (V m c main_arg11) (V m c main_v101) (V m c main_v102) (V m c main_v103) (V m c main_v104) (V m c main_v105) (V m c main_v106) (V m c main_v107) (V m c main_v108) (V m c main_v109) (V m c main_v110) := by
  obtain ⟨h0, h1, h2, h3, h4, h5, h6, h7, h8, h9, h10, h11, h12, h13, h14⟩ := parts m c
  exact ⟨rfl, Host.at_xT h14, Host.at_G10 h4, Host.at_G11 h4, Host.at_G20 h6, Host.at_G21 h6, Host.at_weT h14, rfl, Host.at_beR h14, Host.at_beC h14, Host.at_w1sT h14, Host.at_w1d h14, Host.at_b1a h14, Host.at_w1 h6 h7 h8 h9 h10, Host.at_b2a h14, Host.at_w2sT h14, Host.at_w2d h14, Host.at_b1b h14, Host.at_w2 h6 h10 h11 h12 h13 h14, Host.at_b2b h14, Host.at_wg1T h14, rfl, Host.at_bg1R h14, Host.at_bg1C h14, Host.at_wg2T h14, Host.at_bg2R h14, Host.at_wcT h14, Host.at_bcR h14, Host.at_wfT h14, Host.at_bfR h14, Host.at_wout h14, Host.at_bout h14⟩

/-- Core `c`'s buffers where the operations after the kernel start. -/
abbrev mid : Valuation τ sig (Elt Ideal) := Pipeline.withArrays spec0 c (V0 m c) fun w => (dats m 0 c).arrAt w cfg0.N

/-- Core `c`'s buffers at the end. -/
abbrev last : Valuation τ sig (Elt Ideal) := StableHlo.after hostOps1 (mid m c)

theorem last_eq (b : Ref sig .tc) : Pipeline.afterTail₀ cfgs (dats m) 0 (V0 m) [hostOps1] c b = last m c (Proc.devRef .tc b) := rfl

theorem last_holds : Holds hostOps1 (last m c) := line1.holds (mid m c)

theorem last_out : (last m c (Proc.devRef .tc main_v111) : FVec Ideal S512x128 .f32) = (Body.stored (V m c main_arg0) (V m c main_v86) (V m c main_v25) (V m c main_v34) (V m c main_v48) (V m c main_v57) (V m c main_v87) (V m c main_arg1) (V m c main_v88) (V m c main_v89) (V m c main_v91) (V m c main_v92) (V m c main_v93) (V m c main_v72) (V m c main_v94) (V m c main_v96) (V m c main_v97) (V m c main_v98) (V m c main_v81) (V m c main_v99) (V m c main_v100) (V m c main_arg11) (V m c main_v101) (V m c main_v102) (V m c main_v103) (V m c main_v104) (V m c main_v105) (V m c main_v106) (V m c main_v107) (V m c main_v108) (V m c main_v109) (V m c main_v110) : FVec Ideal S512x128 .f32) := by
  refine (line1.keep (mid m c) main_v111 (by decide)).trans ?_
  exact (Pipeline.withArrays_arr spec0 (by decide) c (V0 m c) _ 32).trans (out32 m c)

theorem last_arg : (last m c (Proc.devRef .tc main_arg23) : FVec Ideal S1x2 .f32) = V m c main_arg23 :=
  (line1.keep (mid m c) main_arg23 (by decide)).trans (Pipeline.withArrays_of_ne spec0 c (V0 m c) _ main_arg23 (by decide))

theorem head_ap (x : FVec Ideal S512x128 .f32) (z : Fin 1) (i : Fin 512) (q : Fin 2) :
    shapeCast S1x512x2 (extractStridedSlice S512x2 ![0, 0] x slices_S512x128_S512x2_0_0) shapeCasts_S512x2_S1x512x2 (ix3 z i q)
      = x (ix2 i ⟨q.val, by omega⟩) := by
  pointwise

theorem third_ap (x : FVec Ideal S512x128 .f32) (i : Fin 512) (z : Fin 1) :
    extractStridedSlice S512x1 ![0, 2] x slices_S512x128_S512x1_0_2 (ix2 i z) = x (ix2 i 2) := by
  pointwise

/-- The nodes' features after the first exchange. -/
abbrev first : FVec Ideal Cert.ReferenceIdeal.S512x64 .f32 := Ref.gathered (Ref.kept (Ref.scores (Ref.embed (V m c main_arg0) (V m c main_arg1) (V m c main_arg2)) (V m c main_arg3) (V m c main_arg4) (V m c main_arg5) (V m c main_arg6)) (Ref.noise (V0 m c (Proc.devRef .tc main_v12)))) (Ref.times (Ref.embed (V m c main_arg0) (V m c main_arg1) (V m c main_arg2)) (V m c main_arg11)) (V m c main_arg12)

/-- The nodes' last features. -/
abbrev features : FVec Ideal Cert.ReferenceIdeal.S512x64 .f32 := Ref.hidden (Ref.embed (V m c main_arg0) (V m c main_arg1) (V m c main_arg2)) (Ref.gathered (Ref.kept (Ref.scores (first m c) (V m c main_arg7) (V m c main_arg8) (V m c main_arg9) (V m c main_arg10)) (Ref.noise (V0 m c (Proc.devRef .tc main_v35)))) (Ref.times (first m c) (V m c main_arg13)) (V m c main_arg14)) (V m c main_arg15) (V m c main_arg16) (V m c main_arg17) (V m c main_arg18)

/-- The two runs' arguments agree on core `c`. -/
def Same : Prop :=
  @Eq (FVec Ideal S512x128 .f32) (m' ((c.tc : Thread Cert.ReferenceIdeal.nD Cert.ReferenceIdeal.τ).loc Cert.ReferenceIdeal.main_arg0)) (m ((c.tc : Thread nD τ).loc main_arg0))
  ∧ @Eq (FVec Ideal S64x128 .f32) (m' ((c.tc : Thread Cert.ReferenceIdeal.nD Cert.ReferenceIdeal.τ).loc Cert.ReferenceIdeal.main_arg1)) (m ((c.tc : Thread nD τ).loc main_arg1))
  ∧ @Eq (FVec Ideal S64 .f32) (m' ((c.tc : Thread Cert.ReferenceIdeal.nD Cert.ReferenceIdeal.τ).loc Cert.ReferenceIdeal.main_arg2)) (m ((c.tc : Thread nD τ).loc main_arg2))
  ∧ @Eq (FVec Ideal S32x128 .f32) (m' ((c.tc : Thread Cert.ReferenceIdeal.nD Cert.ReferenceIdeal.τ).loc Cert.ReferenceIdeal.main_arg3)) (m ((c.tc : Thread nD τ).loc main_arg3))
  ∧ @Eq (FVec Ideal S32 .f32) (m' ((c.tc : Thread Cert.ReferenceIdeal.nD Cert.ReferenceIdeal.τ).loc Cert.ReferenceIdeal.main_arg4)) (m ((c.tc : Thread nD τ).loc main_arg4))
  ∧ @Eq (FVec Ideal S2x32 .f32) (m' ((c.tc : Thread Cert.ReferenceIdeal.nD Cert.ReferenceIdeal.τ).loc Cert.ReferenceIdeal.main_arg5)) (m ((c.tc : Thread nD τ).loc main_arg5))
  ∧ @Eq (FVec Ideal S2 .f32) (m' ((c.tc : Thread Cert.ReferenceIdeal.nD Cert.ReferenceIdeal.τ).loc Cert.ReferenceIdeal.main_arg6)) (m ((c.tc : Thread nD τ).loc main_arg6))
  ∧ @Eq (FVec Ideal S32x128 .f32) (m' ((c.tc : Thread Cert.ReferenceIdeal.nD Cert.ReferenceIdeal.τ).loc Cert.ReferenceIdeal.main_arg7)) (m ((c.tc : Thread nD τ).loc main_arg7))
  ∧ @Eq (FVec Ideal S32 .f32) (m' ((c.tc : Thread Cert.ReferenceIdeal.nD Cert.ReferenceIdeal.τ).loc Cert.ReferenceIdeal.main_arg8)) (m ((c.tc : Thread nD τ).loc main_arg8))
  ∧ @Eq (FVec Ideal S2x32 .f32) (m' ((c.tc : Thread Cert.ReferenceIdeal.nD Cert.ReferenceIdeal.τ).loc Cert.ReferenceIdeal.main_arg9)) (m ((c.tc : Thread nD τ).loc main_arg9))
  ∧ @Eq (FVec Ideal S2 .f32) (m' ((c.tc : Thread Cert.ReferenceIdeal.nD Cert.ReferenceIdeal.τ).loc Cert.ReferenceIdeal.main_arg10)) (m ((c.tc : Thread nD τ).loc main_arg10))
  ∧ @Eq (FVec Ideal S64x64 .f32) (m' ((c.tc : Thread Cert.ReferenceIdeal.nD Cert.ReferenceIdeal.τ).loc Cert.ReferenceIdeal.main_arg11)) (m ((c.tc : Thread nD τ).loc main_arg11))
  ∧ @Eq (FVec Ideal S64 .f32) (m' ((c.tc : Thread Cert.ReferenceIdeal.nD Cert.ReferenceIdeal.τ).loc Cert.ReferenceIdeal.main_arg12)) (m ((c.tc : Thread nD τ).loc main_arg12))
  ∧ @Eq (FVec Ideal S64x64 .f32) (m' ((c.tc : Thread Cert.ReferenceIdeal.nD Cert.ReferenceIdeal.τ).loc Cert.ReferenceIdeal.main_arg13)) (m ((c.tc : Thread nD τ).loc main_arg13))
  ∧ @Eq (FVec Ideal S64 .f32) (m' ((c.tc : Thread Cert.ReferenceIdeal.nD Cert.ReferenceIdeal.τ).loc Cert.ReferenceIdeal.main_arg14)) (m ((c.tc : Thread nD τ).loc main_arg14))
  ∧ @Eq (FVec Ideal S64x64 .f32) (m' ((c.tc : Thread Cert.ReferenceIdeal.nD Cert.ReferenceIdeal.τ).loc Cert.ReferenceIdeal.main_arg15)) (m ((c.tc : Thread nD τ).loc main_arg15))
  ∧ @Eq (FVec Ideal S64 .f32) (m' ((c.tc : Thread Cert.ReferenceIdeal.nD Cert.ReferenceIdeal.τ).loc Cert.ReferenceIdeal.main_arg16)) (m ((c.tc : Thread nD τ).loc main_arg16))
  ∧ @Eq (FVec Ideal S64x64 .f32) (m' ((c.tc : Thread Cert.ReferenceIdeal.nD Cert.ReferenceIdeal.τ).loc Cert.ReferenceIdeal.main_arg17)) (m ((c.tc : Thread nD τ).loc main_arg17))
  ∧ @Eq (FVec Ideal S64 .f32) (m' ((c.tc : Thread Cert.ReferenceIdeal.nD Cert.ReferenceIdeal.τ).loc Cert.ReferenceIdeal.main_arg18)) (m ((c.tc : Thread nD τ).loc main_arg18))
  ∧ @Eq (FVec Ideal S1x64 .f32) (m' ((c.tc : Thread Cert.ReferenceIdeal.nD Cert.ReferenceIdeal.τ).loc Cert.ReferenceIdeal.main_arg19)) (m ((c.tc : Thread nD τ).loc main_arg19))
  ∧ @Eq (FVec Ideal S1 .f32) (m' ((c.tc : Thread Cert.ReferenceIdeal.nD Cert.ReferenceIdeal.τ).loc Cert.ReferenceIdeal.main_arg20)) (m ((c.tc : Thread nD τ).loc main_arg20))
  ∧ @Eq (FVec Ideal S2x64 .f32) (m' ((c.tc : Thread Cert.ReferenceIdeal.nD Cert.ReferenceIdeal.τ).loc Cert.ReferenceIdeal.main_arg21)) (m ((c.tc : Thread nD τ).loc main_arg21))
  ∧ @Eq (FVec Ideal S2 .f32) (m' ((c.tc : Thread Cert.ReferenceIdeal.nD Cert.ReferenceIdeal.τ).loc Cert.ReferenceIdeal.main_arg22)) (m ((c.tc : Thread nD τ).loc main_arg22))
  ∧ @Eq (FVec Ideal S1x2 .f32) (m' ((c.tc : Thread Cert.ReferenceIdeal.nD Cert.ReferenceIdeal.τ).loc Cert.ReferenceIdeal.main_arg23)) (m ((c.tc : Thread nD τ).loc main_arg23))

/-- So do the arguments at the runs' ends. -/
theorem same_last (S : Same m m' c) :
    @Eq (FVec Ideal S512x128 .f32) (Ref.fin m' c (Proc.devRef .tc Cert.ReferenceIdeal.main_arg0)) (V m c main_arg0)
    ∧ @Eq (FVec Ideal S64x128 .f32) (Ref.fin m' c (Proc.devRef .tc Cert.ReferenceIdeal.main_arg1)) (V m c main_arg1)
    ∧ @Eq (FVec Ideal S64 .f32) (Ref.fin m' c (Proc.devRef .tc Cert.ReferenceIdeal.main_arg2)) (V m c main_arg2)
    ∧ @Eq (FVec Ideal S32x128 .f32) (Ref.fin m' c (Proc.devRef .tc Cert.ReferenceIdeal.main_arg3)) (V m c main_arg3)
    ∧ @Eq (FVec Ideal S32 .f32) (Ref.fin m' c (Proc.devRef .tc Cert.ReferenceIdeal.main_arg4)) (V m c main_arg4)
    ∧ @Eq (FVec Ideal S2x32 .f32) (Ref.fin m' c (Proc.devRef .tc Cert.ReferenceIdeal.main_arg5)) (V m c main_arg5)
    ∧ @Eq (FVec Ideal S2 .f32) (Ref.fin m' c (Proc.devRef .tc Cert.ReferenceIdeal.main_arg6)) (V m c main_arg6)
    ∧ @Eq (FVec Ideal S32x128 .f32) (Ref.fin m' c (Proc.devRef .tc Cert.ReferenceIdeal.main_arg7)) (V m c main_arg7)
    ∧ @Eq (FVec Ideal S32 .f32) (Ref.fin m' c (Proc.devRef .tc Cert.ReferenceIdeal.main_arg8)) (V m c main_arg8)
    ∧ @Eq (FVec Ideal S2x32 .f32) (Ref.fin m' c (Proc.devRef .tc Cert.ReferenceIdeal.main_arg9)) (V m c main_arg9)
    ∧ @Eq (FVec Ideal S2 .f32) (Ref.fin m' c (Proc.devRef .tc Cert.ReferenceIdeal.main_arg10)) (V m c main_arg10)
    ∧ @Eq (FVec Ideal S64x64 .f32) (Ref.fin m' c (Proc.devRef .tc Cert.ReferenceIdeal.main_arg11)) (V m c main_arg11)
    ∧ @Eq (FVec Ideal S64 .f32) (Ref.fin m' c (Proc.devRef .tc Cert.ReferenceIdeal.main_arg12)) (V m c main_arg12)
    ∧ @Eq (FVec Ideal S64x64 .f32) (Ref.fin m' c (Proc.devRef .tc Cert.ReferenceIdeal.main_arg13)) (V m c main_arg13)
    ∧ @Eq (FVec Ideal S64 .f32) (Ref.fin m' c (Proc.devRef .tc Cert.ReferenceIdeal.main_arg14)) (V m c main_arg14)
    ∧ @Eq (FVec Ideal S64x64 .f32) (Ref.fin m' c (Proc.devRef .tc Cert.ReferenceIdeal.main_arg15)) (V m c main_arg15)
    ∧ @Eq (FVec Ideal S64 .f32) (Ref.fin m' c (Proc.devRef .tc Cert.ReferenceIdeal.main_arg16)) (V m c main_arg16)
    ∧ @Eq (FVec Ideal S64x64 .f32) (Ref.fin m' c (Proc.devRef .tc Cert.ReferenceIdeal.main_arg17)) (V m c main_arg17)
    ∧ @Eq (FVec Ideal S64 .f32) (Ref.fin m' c (Proc.devRef .tc Cert.ReferenceIdeal.main_arg18)) (V m c main_arg18)
    ∧ @Eq (FVec Ideal S1x64 .f32) (Ref.fin m' c (Proc.devRef .tc Cert.ReferenceIdeal.main_arg19)) (V m c main_arg19)
    ∧ @Eq (FVec Ideal S1 .f32) (Ref.fin m' c (Proc.devRef .tc Cert.ReferenceIdeal.main_arg20)) (V m c main_arg20)
    ∧ @Eq (FVec Ideal S2x64 .f32) (Ref.fin m' c (Proc.devRef .tc Cert.ReferenceIdeal.main_arg21)) (V m c main_arg21)
    ∧ @Eq (FVec Ideal S2 .f32) (Ref.fin m' c (Proc.devRef .tc Cert.ReferenceIdeal.main_arg22)) (V m c main_arg22)
    ∧ @Eq (FVec Ideal S1x2 .f32) (Ref.fin m' c (Proc.devRef .tc Cert.ReferenceIdeal.main_arg23)) (V m c main_arg23) := by
  obtain ⟨a0, a1, a2, a3, a4, a5, a6, a7, a8, a9, a10, a11, a12, a13, a14, a15, a16, a17, a18, a19, a20, a21, a22, a23⟩ := S
  exact ⟨(Ref.fin_arg m' c _ (by decide)).trans (a0.trans (V_arg m c _ (by decide)).symm),
    (Ref.fin_arg m' c _ (by decide)).trans (a1.trans (V_arg m c _ (by decide)).symm),
    (Ref.fin_arg m' c _ (by decide)).trans (a2.trans (V_arg m c _ (by decide)).symm),
    (Ref.fin_arg m' c _ (by decide)).trans (a3.trans (V_arg m c _ (by decide)).symm),
    (Ref.fin_arg m' c _ (by decide)).trans (a4.trans (V_arg m c _ (by decide)).symm),
    (Ref.fin_arg m' c _ (by decide)).trans (a5.trans (V_arg m c _ (by decide)).symm),
    (Ref.fin_arg m' c _ (by decide)).trans (a6.trans (V_arg m c _ (by decide)).symm),
    (Ref.fin_arg m' c _ (by decide)).trans (a7.trans (V_arg m c _ (by decide)).symm),
    (Ref.fin_arg m' c _ (by decide)).trans (a8.trans (V_arg m c _ (by decide)).symm),
    (Ref.fin_arg m' c _ (by decide)).trans (a9.trans (V_arg m c _ (by decide)).symm),
    (Ref.fin_arg m' c _ (by decide)).trans (a10.trans (V_arg m c _ (by decide)).symm),
    (Ref.fin_arg m' c _ (by decide)).trans (a11.trans (V_arg m c _ (by decide)).symm),
    (Ref.fin_arg m' c _ (by decide)).trans (a12.trans (V_arg m c _ (by decide)).symm),
    (Ref.fin_arg m' c _ (by decide)).trans (a13.trans (V_arg m c _ (by decide)).symm),
    (Ref.fin_arg m' c _ (by decide)).trans (a14.trans (V_arg m c _ (by decide)).symm),
    (Ref.fin_arg m' c _ (by decide)).trans (a15.trans (V_arg m c _ (by decide)).symm),
    (Ref.fin_arg m' c _ (by decide)).trans (a16.trans (V_arg m c _ (by decide)).symm),
    (Ref.fin_arg m' c _ (by decide)).trans (a17.trans (V_arg m c _ (by decide)).symm),
    (Ref.fin_arg m' c _ (by decide)).trans (a18.trans (V_arg m c _ (by decide)).symm),
    (Ref.fin_arg m' c _ (by decide)).trans (a19.trans (V_arg m c _ (by decide)).symm),
    (Ref.fin_arg m' c _ (by decide)).trans (a20.trans (V_arg m c _ (by decide)).symm),
    (Ref.fin_arg m' c _ (by decide)).trans (a21.trans (V_arg m c _ (by decide)).symm),
    (Ref.fin_arg m' c _ (by decide)).trans (a22.trans (V_arg m c _ (by decide)).symm),
    (Ref.fin_arg m' c _ (by decide)).trans (a23.trans (V_arg m c _ (by decide)).symm)⟩

theorem ref_parts : Holds Ref.ops0 (Ref.fin m' c) ∧ Holds Ref.opsKeys (Ref.fin m' c) ∧ Holds Ref.ops1 (Ref.fin m' c) ∧ Holds Ref.ops2 (Ref.fin m' c) ∧ Holds Ref.opsU1 (Ref.fin m' c) ∧ Holds Ref.ops3 (Ref.fin m' c) ∧ Holds Ref.ops4 (Ref.fin m' c) ∧ Holds Ref.opsU2 (Ref.fin m' c) ∧ Holds Ref.ops5 (Ref.fin m' c) ∧ Holds Ref.ops6 (Ref.fin m' c) := by
  have h := Ref.holds m' c
  simp only [Holds.append] at h
  exact h

variable {m m' c} (S : Same m m' c)

include S

theorem ref_features : (Ref.fin m' c (Proc.devRef .tc Cert.ReferenceIdeal.main_v152) : FVec Ideal Cert.ReferenceIdeal.S512x64 .f32) = features m c := by
  obtain ⟨k0, k1, k2, k3, k4, k5, k6, k7, k8, k9, k10, k11, k12, k13, k14⟩ := parts m c
  obtain ⟨r0, rk, r1, r2, ru, r3, r4, rv, r5, r6⟩ := ref_parts m' c
  obtain ⟨a0, a1, a2, a3, a4, a5, a6, a7, a8, a9, a10, a11, a12, a13, a14, a15, a16, a17, a18, a19, a20, a21, a22, a23⟩ := same_last m m' c S
  have e6 := Ref.at_src r0
  have e7 := Ref.at_dst r0
  rw [Ref.at_hidden r5, Ref.at_comm2 r5 e6 e7, Ref.at_kept2 r5, Ref.at_scores2 r3 r4 e6 e7, Ref.at_comm1 r3 e6 e7, Ref.at_kept1 r3,
    Ref.at_scores1 r1 r2 e6 e7, Ref.at_embed r0, ← Noise.draws1 k0 k1 k2 k3 r0 rk r1 r2 ru, ← Noise.draws2 k0 k1 k2 k4 k5 r0 rk r1 r4 rv,
    a0, a1, a2, a3, a4, a5, a6, a7, a8, a9, a10, a11, a12, a13, a14, a15, a16, a17, a18]

theorem means_eq : @Eq (FVec Ideal S1x512x2 .f32) (Pipeline.afterTail₀ cfgs (dats m) 0 (V0 m) [hostOps1] c main_v113) (Ref.fin m' c (Proc.devRef .tc Cert.ReferenceIdeal.main_v163)) := by
  obtain ⟨r0, rk, r1, r2, ru, r3, r4, rv, r5, r6⟩ := ref_parts m' c
  obtain ⟨a0, a1, a2, a3, a4, a5, a6, a7, a8, a9, a10, a11, a12, a13, a14, a15, a16, a17, a18, a19, a20, a21, a22, a23⟩ := same_last m m' c S
  have hm := Ref.at_means r6
  rw [ref_features S, a21, a22] at hm
  refine Eq.trans ?_ hm.symm
  obtain ⟨h112, h113, h114, h115, h116⟩ := last_holds m c
  rw [last_eq]
  refine (eq_reshape h113).trans ?_
  rw [eq_unary h112, last_out]
  funext j
  obtain ⟨z, i, q, rfl⟩ : ∃ (z : Fin 1) (i : Fin 512) (q : Fin 2), j = ix3 z i q := ⟨j 0, j 1, j 2, eq_ix3 j⟩
  exact (head_ap _ z i q).trans (Equal.stored_means (operands m c) z i q)

theorem value_eq : @Eq (FVec Ideal S512x1 .f32) (Pipeline.afterTail₀ cfgs (dats m) 0 (V0 m) [hostOps1] c main_v114) (Ref.fin m' c (Proc.devRef .tc Cert.ReferenceIdeal.main_v157)) := by
  obtain ⟨r0, rk, r1, r2, ru, r3, r4, rv, r5, r6⟩ := ref_parts m' c
  obtain ⟨a0, a1, a2, a3, a4, a5, a6, a7, a8, a9, a10, a11, a12, a13, a14, a15, a16, a17, a18, a19, a20, a21, a22, a23⟩ := same_last m m' c S
  have hm := Ref.at_value r5 r6
  rw [ref_features S, a19, a20] at hm
  refine Eq.trans ?_ hm.symm
  obtain ⟨h112, h113, h114, h115, h116⟩ := last_holds m c
  rw [last_eq]
  refine (eq_unary h114).trans ?_
  rw [last_out]
  funext j
  obtain ⟨i, z, rfl⟩ : ∃ (i : Fin 512) (z : Fin 1), j = ix2 i z := ⟨j 0, j 1, eq_ix2 j⟩
  exact (third_ap _ i z).trans (Equal.stored_value (operands m c) i z)

theorem logStd_eq : @Eq (FVec Ideal S1x512x2 .f32) (Pipeline.afterTail₀ cfgs (dats m) 0 (V0 m) [hostOps1] c main_v115) (Ref.fin m' c (Proc.devRef .tc Cert.ReferenceIdeal.main_v164)) := by
  obtain ⟨r0, rk, r1, r2, ru, r3, r4, rv, r5, r6⟩ := ref_parts m' c
  obtain ⟨a0, a1, a2, a3, a4, a5, a6, a7, a8, a9, a10, a11, a12, a13, a14, a15, a16, a17, a18, a19, a20, a21, a22, a23⟩ := same_last m m' c S
  have hm := Ref.at_logStd r6
  rw [a23] at hm
  refine Eq.trans ?_ hm.symm
  obtain ⟨h112, h113, h114, h115, h116⟩ := last_holds m c
  rw [last_eq]
  refine (eq_unary h115).trans ?_
  rw [last_arg]
  rfl

theorem std_eq : @Eq (FVec Ideal S1x512x2 .f32) (Pipeline.afterTail₀ cfgs (dats m) 0 (V0 m) [hostOps1] c main_v116) (Ref.fin m' c (Proc.devRef .tc Cert.ReferenceIdeal.main_v165)) := by
  obtain ⟨r0, rk, r1, r2, ru, r3, r4, rv, r5, r6⟩ := ref_parts m' c
  obtain ⟨a0, a1, a2, a3, a4, a5, a6, a7, a8, a9, a10, a11, a12, a13, a14, a15, a16, a17, a18, a19, a20, a21, a22, a23⟩ := same_last m m' c S
  have hm := Ref.at_std r6
  rw [a23] at hm
  refine Eq.trans ?_ hm.symm
  obtain ⟨h112, h113, h114, h115, h116⟩ := last_holds m c
  rw [last_eq]
  refine (eq_unary h116).trans ?_
  rw [eq_unary h115, last_arg]
  rfl

end Cert.Results

end
-- ==== Proof.lean ====
/- The certificate: the three frames, the sanctioned idealization, and the equality of kernel and reference over the
   extended reals. -/
module

public import proofs.«01_k».proof.Defs
public import proofs.«01_k».proof.Proof.KernelRun
public import proofs.«01_k».proof.Proof.KernelIdealRun
public import proofs.«01_k».proof.Proof.RefRun
public import proofs.«01_k».proof.Proof.Results
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

set_option maxRecDepth 20000
set_option maxHeartbeats 2000000

noncomputable section

namespace Cert.Proof

open Idealize.ShloMosaic Idealize.SL.Sem

/-- The kernel runs, leaves its arguments unchanged and every counter at zero. -/
theorem kernel_frame : Cert.quiescent_Kernel (hKernel := Cert.Kernel.Gen.facts) := fun m ρ _ => by
  refine (θ_run _ _ _).mono (fun r h => ⟨fun c => ?_, h.2⟩) (Cert.Kernel.Run.frame m ρ)
  refine ⟨?_, ?_, ?_, ?_, ?_, ?_, ?_, ?_, ?_, ?_, ?_, ?_, ?_, ?_, ?_, ?_, ?_, ?_, ?_, ?_, ?_, ?_, ?_, ?_⟩ <;>
    exact h.1 c _ (by decide) rfl

/-- The same of the kernel over the extended reals. -/
theorem kernelIdeal_frame : Cert.quiescent_KernelIdeal (hKernelIdeal := Cert.KernelIdeal.Gen.facts) := fun m ρ _ => by
  refine (θ_run _ _ _).mono (fun r h => ⟨fun c => ?_, h.2⟩) (Cert.KernelIdeal.Run.frame m ρ)
  refine ⟨?_, ?_, ?_, ?_, ?_, ?_, ?_, ?_, ?_, ?_, ?_, ?_, ?_, ?_, ?_, ?_, ?_, ?_, ?_, ?_, ?_, ?_, ?_, ?_⟩ <;>
    exact h.1 c _ (by decide) rfl

/-- The same of the reference. -/
theorem reference_frame : Cert.quiescent_ReferenceIdeal (hReferenceIdeal := Cert.ReferenceIdeal.Gen.facts) := fun m ρ _ => by
  refine (θ_run _ _ _).mono (fun r h => ⟨fun c => ?_, h.2⟩) (Cert.Ref.run m ρ)
  refine ⟨?_, ?_, ?_, ?_, ?_, ?_, ?_, ?_, ?_, ?_, ?_, ?_, ?_, ?_, ?_, ?_, ?_, ?_, ?_, ?_, ?_, ?_, ?_, ?_⟩ <;>
    exact (h.1 c _).trans (Cert.Ref.fin_arg m c _ (by decide))

/-- What the kernel's run leaves in core `c`'s buffer `b`. -/
abbrev result (m : (ℓ : Loc Cert.KernelIdeal.nD Cert.KernelIdeal.τ Cert.KernelIdeal.sig) → Buf (Elt Ideal) ℓ) (c : Dev Cert.KernelIdeal.nD)
    (b : Ref Cert.KernelIdeal.sig .tc) : Buf (Elt Ideal) ((c.tc : Thread Cert.KernelIdeal.nD Cert.KernelIdeal.τ).loc b) :=
  Pipeline.afterTail₀ Cert.KernelIdeal.cfgs (Cert.KernelIdeal.Run.dats m) 0 (Cert.KernelIdeal.Run.V0 m) [Cert.KernelIdeal.Gen.hostOps1] c b

/-- The kernel's run ends with those in its four results, and its arguments unchanged. -/
theorem kernel_results (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        (∀ b ∈ Pipeline.restRefs Cert.KernelIdeal.sig Cert.KernelIdeal.spec0,
          r.2.mem ((c.tc : Thread Cert.KernelIdeal.nD Cert.KernelIdeal.τ).loc b) = result m c b)
        ∧ ∀ b : Ref Cert.KernelIdeal.sig .tc, Cert.Line.key b < 24 → b.isScoped = false →
          r.2.mem ((c.tc : Thread Cert.KernelIdeal.nD Cert.KernelIdeal.τ).loc b) = m ((c.tc : Thread Cert.KernelIdeal.nD Cert.KernelIdeal.τ).loc b) :=
  (θ_run _ _ _).mono (fun _ h c => ⟨(h.1 c).2, fun b hb hs => Cert.KernelIdeal.Run.arg_of m (Cert.KernelIdeal.Run.dats m) (Cert.KernelIdeal.Run.A_eq m) h.1 c b hb hs⟩)
    (Cert.KernelIdeal.Run.run_main_quiescent m ρ)

/-- The kernel and the reference, from the same arguments, end with the same four results and leave their arguments. -/
theorem algebraic : Cert.algebraic_KernelIdeal_ReferenceIdeal (hKernelIdeal := Cert.KernelIdeal.Gen.facts)
    (hReferenceIdeal := Cert.ReferenceIdeal.Gen.facts) := fun m g m' g' _ H => by
  have S : ∀ c, Cert.Results.Same m m' c := H
  refine ⟨fun c => result m c Cert.KernelIdeal.main_v113, fun c => result m c Cert.KernelIdeal.main_v115,
    fun c => result m c Cert.KernelIdeal.main_v116, fun c => result m c Cert.KernelIdeal.main_v114, ?_, ?_⟩
  · refine (θ_run _ _ _).mono (fun r h c => ?_) (kernel_results m g)
    obtain ⟨hr, ha⟩ := h c
    refine ⟨hr _ (Pipeline.mem_restRefs_of _ rfl (by decide)), hr _ (Pipeline.mem_restRefs_of _ rfl (by decide)), hr _ (Pipeline.mem_restRefs_of _ rfl (by decide)), hr _ (Pipeline.mem_restRefs_of _ rfl (by decide)),
      ?_, ?_, ?_, ?_, ?_, ?_, ?_, ?_, ?_, ?_, ?_, ?_, ?_, ?_, ?_, ?_, ?_, ?_, ?_, ?_, ?_, ?_, ?_, ?_⟩ <;> exact ha _ (by decide) rfl
  · refine (θ_run _ _ _).mono (fun r h c => ?_) (Cert.Ref.run m' g')
    refine ⟨(h.1 c _).trans (Cert.Results.means_eq (S c)).symm, (h.1 c _).trans (Cert.Results.logStd_eq (S c)).symm,
      (h.1 c _).trans (Cert.Results.std_eq (S c)).symm, (h.1 c _).trans (Cert.Results.value_eq (S c)).symm, ?_, ?_, ?_, ?_, ?_, ?_, ?_, ?_, ?_, ?_, ?_, ?_, ?_, ?_, ?_, ?_, ?_, ?_, ?_, ?_, ?_, ?_, ?_, ?_⟩ <;>
      exact (h.1 c _).trans (Cert.Ref.fin_arg m' c _ (by decide))

theorem claim : Cert.Claim :=
  ⟨Cert.Kernel.Gen.facts, Cert.KernelIdeal.Gen.facts, Cert.ReferenceIdeal.Gen.facts, kernel_frame, kernelIdeal_frame, reference_frame,
    trivial, algebraic⟩

end Cert.Proof

end
